-- ==== Defs.lean ====
def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxKernelIdeal_dx_finite [hPre_dx_finite : Cert.Pre_dx_finite.Facts] (m : (ℓ : Loc Cert.DxKernelIdeal.nD Cert.DxKernelIdeal.τ Cert.DxKernelIdeal.sig) → Buf (Elt Ideal) ℓ) : Prop :=
  ∀ c : Dev Cert.DxKernelIdeal.nD,
    (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.2.1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.2.2 = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_dx_finite [hPre_dx_finite : Cert.Pre_dx_finite.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.2.1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.2.2 = (fun _ => 1#1)

def Pre_ObKernel (m : (ℓ : Loc Cert.ObKernel.nD Cert.ObKernel.τ Cert.ObKernel.sig) → Buf (Elt Bits) ℓ) : Prop :=
  True

def Pre_ObKernelIdeal (m : (ℓ : Loc Cert.ObKernelIdeal.nD Cert.ObKernelIdeal.τ Cert.ObKernelIdeal.sig) → Buf (Elt Ideal) ℓ) : Prop :=
  True

def Pre_ObKernelIdeal_ob_finite [hPre_ob_finite : Cert.Pre_ob_finite.Facts] (m : (ℓ : Loc Cert.ObKernelIdeal.nD Cert.ObKernelIdeal.τ Cert.ObKernelIdeal.sig) → Buf (Elt Ideal) ℓ) : Prop :=
  ∀ c : Dev Cert.ObKernelIdeal.nD,
    (Cert.Pre_ob_finite.fn (F := Ideal) (m ((c.tc : Thread Cert.ObKernelIdeal.nD Cert.ObKernelIdeal.τ).loc Cert.ObKernelIdeal.main_arg0)) (m ((c.tc : Thread Cert.ObKernelIdeal.nD Cert.ObKernelIdeal.τ).loc Cert.ObKernelIdeal.main_arg1)) (m ((c.tc : Thread Cert.ObKernelIdeal.nD Cert.ObKernelIdeal.τ).loc Cert.ObKernelIdeal.main_arg2)) (m ((c.tc : Thread Cert.ObKernelIdeal.nD Cert.ObKernelIdeal.τ).loc Cert.ObKernelIdeal.main_arg3)) (m ((c.tc : Thread Cert.ObKernelIdeal.nD Cert.ObKernelIdeal.τ).loc Cert.ObKernelIdeal.main_arg4)) (m ((c.tc : Thread Cert.ObKernelIdeal.nD Cert.ObKernelIdeal.τ).loc Cert.ObKernelIdeal.main_arg5)) (m ((c.tc : Thread Cert.ObKernelIdeal.nD Cert.ObKernelIdeal.τ).loc Cert.ObKernelIdeal.main_arg6))).1 = (fun _ => 1#1)
    ∧ (Cert.Pre_ob_finite.fn (F := Ideal) (m ((c.tc : Thread Cert.ObKernelIdeal.nD Cert.ObKernelIdeal.τ).loc Cert.ObKernelIdeal.main_arg0)) (m ((c.tc : Thread Cert.ObKernelIdeal.nD Cert.ObKernelIdeal.τ).loc Cert.ObKernelIdeal.main_arg1)) (m ((c.tc : Thread Cert.ObKernelIdeal.nD Cert.ObKernelIdeal.τ).loc Cert.ObKernelIdeal.main_arg2)) (m ((c.tc : Thread Cert.ObKernelIdeal.nD Cert.ObKernelIdeal.τ).loc Cert.ObKernelIdeal.main_arg3)) (m ((c.tc : Thread Cert.ObKernelIdeal.nD Cert.ObKernelIdeal.τ).loc Cert.ObKernelIdeal.main_arg4)) (m ((c.tc : Thread Cert.ObKernelIdeal.nD Cert.ObKernelIdeal.τ).loc Cert.ObKernelIdeal.main_arg5)) (m ((c.tc : Thread Cert.ObKernelIdeal.nD Cert.ObKernelIdeal.τ).loc Cert.ObKernelIdeal.main_arg6))).2.1 = (fun _ => 1#1)
    ∧ (Cert.Pre_ob_finite.fn (F := Ideal) (m ((c.tc : Thread Cert.ObKernelIdeal.nD Cert.ObKernelIdeal.τ).loc Cert.ObKernelIdeal.main_arg0)) (m ((c.tc : Thread Cert.ObKernelIdeal.nD Cert.ObKernelIdeal.τ).loc Cert.ObKernelIdeal.main_arg1)) (m ((c.tc : Thread Cert.ObKernelIdeal.nD Cert.ObKernelIdeal.τ).loc Cert.ObKernelIdeal.main_arg2)) (m ((c.tc : Thread Cert.ObKernelIdeal.nD Cert.ObKernelIdeal.τ).loc Cert.ObKernelIdeal.main_arg3)) (m ((c.tc : Thread Cert.ObKernelIdeal.nD Cert.ObKernelIdeal.τ).loc Cert.ObKernelIdeal.main_arg4)) (m ((c.tc : Thread Cert.ObKernelIdeal.nD Cert.ObKernelIdeal.τ).loc Cert.ObKernelIdeal.main_arg5)) (m ((c.tc : Thread Cert.ObKernelIdeal.nD Cert.ObKernelIdeal.τ).loc Cert.ObKernelIdeal.main_arg6))).2.2.1 = (fun _ => 1#1)
    ∧ (Cert.Pre_ob_finite.fn (F := Ideal) (m ((c.tc : Thread Cert.ObKernelIdeal.nD Cert.ObKernelIdeal.τ).loc Cert.ObKernelIdeal.main_arg0)) (m ((c.tc : Thread Cert.ObKernelIdeal.nD Cert.ObKernelIdeal.τ).loc Cert.ObKernelIdeal.main_arg1)) (m ((c.tc : Thread Cert.ObKernelIdeal.nD Cert.ObKernelIdeal.τ).loc Cert.ObKernelIdeal.main_arg2)) (m ((c.tc : Thread Cert.ObKernelIdeal.nD Cert.ObKernelIdeal.τ).loc Cert.ObKernelIdeal.main_arg3)) (m ((c.tc : Thread Cert.ObKernelIdeal.nD Cert.ObKernelIdeal.τ).loc Cert.ObKernelIdeal.main_arg4)) (m ((c.tc : Thread Cert.ObKernelIdeal.nD Cert.ObKernelIdeal.τ).loc Cert.ObKernelIdeal.main_arg5)) (m ((c.tc : Thread Cert.ObKernelIdeal.nD Cert.ObKernelIdeal.τ).loc Cert.ObKernelIdeal.main_arg6))).2.2.2.1 = (fun _ => 1#1)
    ∧ (Cert.Pre_ob_finite.fn (F := Ideal) (m ((c.tc : Thread Cert.ObKernelIdeal.nD Cert.ObKernelIdeal.τ).loc Cert.ObKernelIdeal.main_arg0)) (m ((c.tc : Thread Cert.ObKernelIdeal.nD Cert.ObKernelIdeal.τ).loc Cert.ObKernelIdeal.main_arg1)) (m ((c.tc : Thread Cert.ObKernelIdeal.nD Cert.ObKernelIdeal.τ).loc Cert.ObKernelIdeal.main_arg2)) (m ((c.tc : Thread Cert.ObKernelIdeal.nD Cert.ObKernelIdeal.τ).loc Cert.ObKernelIdeal.main_arg3)) (m ((c.tc : Thread Cert.ObKernelIdeal.nD Cert.ObKernelIdeal.τ).loc Cert.ObKernelIdeal.main_arg4)) (m ((c.tc : Thread Cert.ObKernelIdeal.nD Cert.ObKernelIdeal.τ).loc Cert.ObKernelIdeal.main_arg5)) (m ((c.tc : Thread Cert.ObKernelIdeal.nD Cert.ObKernelIdeal.τ).loc Cert.ObKernelIdeal.main_arg6))).2.2.2.2.1 = (fun _ => 1#1)
    ∧ (Cert.Pre_ob_finite.fn (F := Ideal) (m ((c.tc : Thread Cert.ObKernelIdeal.nD Cert.ObKernelIdeal.τ).loc Cert.ObKernelIdeal.main_arg0)) (m ((c.tc : Thread Cert.ObKernelIdeal.nD Cert.ObKernelIdeal.τ).loc Cert.ObKernelIdeal.main_arg1)) (m ((c.tc : Thread Cert.ObKernelIdeal.nD Cert.ObKernelIdeal.τ).loc Cert.ObKernelIdeal.main_arg2)) (m ((c.tc : Thread Cert.ObKernelIdeal.nD Cert.ObKernelIdeal.τ).loc Cert.ObKernelIdeal.main_arg3)) (m ((c.tc : Thread Cert.ObKernelIdeal.nD Cert.ObKernelIdeal.τ).loc Cert.ObKernelIdeal.main_arg4)) (m ((c.tc : Thread Cert.ObKernelIdeal.nD Cert.ObKernelIdeal.τ).loc Cert.ObKernelIdeal.main_arg5)) (m ((c.tc : Thread Cert.ObKernelIdeal.nD Cert.ObKernelIdeal.τ).loc Cert.ObKernelIdeal.main_arg6))).2.2.2.2.2 = (fun _ => 1#1)

def Pre_ObReferenceIdeal (m : (ℓ : Loc Cert.ObReferenceIdeal.nD Cert.ObReferenceIdeal.τ Cert.ObReferenceIdeal.sig) → Buf (Elt Ideal) ℓ) : Prop :=
  True

def Pre_ObReferenceIdeal_ob_finite [hPre_ob_finite : Cert.Pre_ob_finite.Facts] (m : (ℓ : Loc Cert.ObReferenceIdeal.nD Cert.ObReferenceIdeal.τ Cert.ObReferenceIdeal.sig) → Buf (Elt Ideal) ℓ) : Prop :=
  ∀ c : Dev Cert.ObReferenceIdeal.nD,
    (Cert.Pre_ob_finite.fn (F := Ideal) (m ((c.tc : Thread Cert.ObReferenceIdeal.nD Cert.ObReferenceIdeal.τ).loc Cert.ObReferenceIdeal.main_arg0)) (m ((c.tc : Thread Cert.ObReferenceIdeal.nD Cert.ObReferenceIdeal.τ).loc Cert.ObReferenceIdeal.main_arg1)) (m ((c.tc : Thread Cert.ObReferenceIdeal.nD Cert.ObReferenceIdeal.τ).loc Cert.ObReferenceIdeal.main_arg2)) (m ((c.tc : Thread Cert.ObReferenceIdeal.nD Cert.ObReferenceIdeal.τ).loc Cert.ObReferenceIdeal.main_arg3)) (m ((c.tc : Thread Cert.ObReferenceIdeal.nD Cert.ObReferenceIdeal.τ).loc Cert.ObReferenceIdeal.main_arg4)) (m ((c.tc : Thread Cert.ObReferenceIdeal.nD Cert.ObReferenceIdeal.τ).loc Cert.ObReferenceIdeal.main_arg5)) (m ((c.tc : Thread Cert.ObReferenceIdeal.nD Cert.ObReferenceIdeal.τ).loc Cert.ObReferenceIdeal.main_arg6))).1 = (fun _ => 1#1)
    ∧ (Cert.Pre_ob_finite.fn (F := Ideal) (m ((c.tc : Thread Cert.ObReferenceIdeal.nD Cert.ObReferenceIdeal.τ).loc Cert.ObReferenceIdeal.main_arg0)) (m ((c.tc : Thread Cert.ObReferenceIdeal.nD Cert.ObReferenceIdeal.τ).loc Cert.ObReferenceIdeal.main_arg1)) (m ((c.tc : Thread Cert.ObReferenceIdeal.nD Cert.ObReferenceIdeal.τ).loc Cert.ObReferenceIdeal.main_arg2)) (m ((c.tc : Thread Cert.ObReferenceIdeal.nD Cert.ObReferenceIdeal.τ).loc Cert.ObReferenceIdeal.main_arg3)) (m ((c.tc : Thread Cert.ObReferenceIdeal.nD Cert.ObReferenceIdeal.τ).loc Cert.ObReferenceIdeal.main_arg4)) (m ((c.tc : Thread Cert.ObReferenceIdeal.nD Cert.ObReferenceIdeal.τ).loc Cert.ObReferenceIdeal.main_arg5)) (m ((c.tc : Thread Cert.ObReferenceIdeal.nD Cert.ObReferenceIdeal.τ).loc Cert.ObReferenceIdeal.main_arg6))).2.1 = (fun _ => 1#1)
    ∧ (Cert.Pre_ob_finite.fn (F := Ideal) (m ((c.tc : Thread Cert.ObReferenceIdeal.nD Cert.ObReferenceIdeal.τ).loc Cert.ObReferenceIdeal.main_arg0)) (m ((c.tc : Thread Cert.ObReferenceIdeal.nD Cert.ObReferenceIdeal.τ).loc Cert.ObReferenceIdeal.main_arg1)) (m ((c.tc : Thread Cert.ObReferenceIdeal.nD Cert.ObReferenceIdeal.τ).loc Cert.ObReferenceIdeal.main_arg2)) (m ((c.tc : Thread Cert.ObReferenceIdeal.nD Cert.ObReferenceIdeal.τ).loc Cert.ObReferenceIdeal.main_arg3)) (m ((c.tc : Thread Cert.ObReferenceIdeal.nD Cert.ObReferenceIdeal.τ).loc Cert.ObReferenceIdeal.main_arg4)) (m ((c.tc : Thread Cert.ObReferenceIdeal.nD Cert.ObReferenceIdeal.τ).loc Cert.ObReferenceIdeal.main_arg5)) (m ((c.tc : Thread Cert.ObReferenceIdeal.nD Cert.ObReferenceIdeal.τ).loc Cert.ObReferenceIdeal.main_arg6))).2.2.1 = (fun _ => 1#1)
    ∧ (Cert.Pre_ob_finite.fn (F := Ideal) (m ((c.tc : Thread Cert.ObReferenceIdeal.nD Cert.ObReferenceIdeal.τ).loc Cert.ObReferenceIdeal.main_arg0)) (m ((c.tc : Thread Cert.ObReferenceIdeal.nD Cert.ObReferenceIdeal.τ).loc Cert.ObReferenceIdeal.main_arg1)) (m ((c.tc : Thread Cert.ObReferenceIdeal.nD Cert.ObReferenceIdeal.τ).loc Cert.ObReferenceIdeal.main_arg2)) (m ((c.tc : Thread Cert.ObReferenceIdeal.nD Cert.ObReferenceIdeal.τ).loc Cert.ObReferenceIdeal.main_arg3)) (m ((c.tc : Thread Cert.ObReferenceIdeal.nD Cert.ObReferenceIdeal.τ).loc Cert.ObReferenceIdeal.main_arg4)) (m ((c.tc : Thread Cert.ObReferenceIdeal.nD Cert.ObReferenceIdeal.τ).loc Cert.ObReferenceIdeal.main_arg5)) (m ((c.tc : Thread Cert.ObReferenceIdeal.nD Cert.ObReferenceIdeal.τ).loc Cert.ObReferenceIdeal.main_arg6))).2.2.2.1 = (fun _ => 1#1)
    ∧ (Cert.Pre_ob_finite.fn (F := Ideal) (m ((c.tc : Thread Cert.ObReferenceIdeal.nD Cert.ObReferenceIdeal.τ).loc Cert.ObReferenceIdeal.main_arg0)) (m ((c.tc : Thread Cert.ObReferenceIdeal.nD Cert.ObReferenceIdeal.τ).loc Cert.ObReferenceIdeal.main_arg1)) (m ((c.tc : Thread Cert.ObReferenceIdeal.nD Cert.ObReferenceIdeal.τ).loc Cert.ObReferenceIdeal.main_arg2)) (m ((c.tc : Thread Cert.ObReferenceIdeal.nD Cert.ObReferenceIdeal.τ).loc Cert.ObReferenceIdeal.main_arg3)) (m ((c.tc : Thread Cert.ObReferenceIdeal.nD Cert.ObReferenceIdeal.τ).loc Cert.ObReferenceIdeal.main_arg4)) (m ((c.tc : Thread Cert.ObReferenceIdeal.nD Cert.ObReferenceIdeal.τ).loc Cert.ObReferenceIdeal.main_arg5)) (m ((c.tc : Thread Cert.ObReferenceIdeal.nD Cert.ObReferenceIdeal.τ).loc Cert.ObReferenceIdeal.main_arg6))).2.2.2.2.1 = (fun _ => 1#1)
    ∧ (Cert.Pre_ob_finite.fn (F := Ideal) (m ((c.tc : Thread Cert.ObReferenceIdeal.nD Cert.ObReferenceIdeal.τ).loc Cert.ObReferenceIdeal.main_arg0)) (m ((c.tc : Thread Cert.ObReferenceIdeal.nD Cert.ObReferenceIdeal.τ).loc Cert.ObReferenceIdeal.main_arg1)) (m ((c.tc : Thread Cert.ObReferenceIdeal.nD Cert.ObReferenceIdeal.τ).loc Cert.ObReferenceIdeal.main_arg2)) (m ((c.tc : Thread Cert.ObReferenceIdeal.nD Cert.ObReferenceIdeal.τ).loc Cert.ObReferenceIdeal.main_arg3)) (m ((c.tc : Thread Cert.ObReferenceIdeal.nD Cert.ObReferenceIdeal.τ).loc Cert.ObReferenceIdeal.main_arg4)) (m ((c.tc : Thread Cert.ObReferenceIdeal.nD Cert.ObReferenceIdeal.τ).loc Cert.ObReferenceIdeal.main_arg5)) (m ((c.tc : Thread Cert.ObReferenceIdeal.nD Cert.ObReferenceIdeal.τ).loc Cert.ObReferenceIdeal.main_arg6))).2.2.2.2.2 = (fun _ => 1#1)

def Pre_RfKernel (m : (ℓ : Loc Cert.RfKernel.nD Cert.RfKernel.τ Cert.RfKernel.sig) → Buf (Elt Bits) ℓ) : Prop :=
  True

def Pre_RfKernelIdeal (m : (ℓ : Loc Cert.RfKernelIdeal.nD Cert.RfKernelIdeal.τ Cert.RfKernelIdeal.sig) → Buf (Elt Ideal) ℓ) : Prop :=
  True

def Pre_RfReferenceIdeal (m : (ℓ : Loc Cert.RfReferenceIdeal.nD Cert.RfReferenceIdeal.τ Cert.RfReferenceIdeal.sig) → Buf (Elt Ideal) ℓ) : Prop :=
  True

def Pre_SfKernel (m : (ℓ : Loc Cert.SfKernel.nD Cert.SfKernel.τ Cert.SfKernel.sig) → Buf (Elt Bits) ℓ) : Prop :=
  True

def Pre_SfKernelIdeal (m : (ℓ : Loc Cert.SfKernelIdeal.nD Cert.SfKernelIdeal.τ Cert.SfKernelIdeal.sig) → Buf (Elt Ideal) ℓ) : Prop :=
  True

def Pre_SfReferenceIdeal (m : (ℓ : Loc Cert.SfReferenceIdeal.nD Cert.SfReferenceIdeal.τ Cert.SfReferenceIdeal.sig) → Buf (Elt Ideal) ℓ) : Prop :=
  True

def Pre_OlKernel (m : (ℓ : Loc Cert.OlKernel.nD Cert.OlKernel.τ Cert.OlKernel.sig) → Buf (Elt Bits) ℓ) : Prop :=
  True

def Pre_OlKernelIdeal (m : (ℓ : Loc Cert.OlKernelIdeal.nD Cert.OlKernelIdeal.τ Cert.OlKernelIdeal.sig) → Buf (Elt Ideal) ℓ) : Prop :=
  True

def Pre_OlReferenceIdeal (m : (ℓ : Loc Cert.OlReferenceIdeal.nD Cert.OlReferenceIdeal.τ Cert.OlReferenceIdeal.sig) → Buf (Elt Ideal) ℓ) : Prop :=
  True

def Pre_IpKernel (m : (ℓ : Loc Cert.IpKernel.nD Cert.IpKernel.τ Cert.IpKernel.sig) → Buf (Elt Bits) ℓ) : Prop :=
  True

def Pre_IpKernelIdeal (m : (ℓ : Loc Cert.IpKernelIdeal.nD Cert.IpKernelIdeal.τ Cert.IpKernelIdeal.sig) → Buf (Elt Ideal) ℓ) : Prop :=
  True

def Pre_IpReferenceIdeal (m : (ℓ : Loc Cert.IpReferenceIdeal.nD Cert.IpReferenceIdeal.τ Cert.IpReferenceIdeal.sig) → Buf (Elt Ideal) ℓ) : Prop :=
  True

def Pre_OpKernel (m : (ℓ : Loc Cert.OpKernel.nD Cert.OpKernel.τ Cert.OpKernel.sig) → Buf (Elt Bits) ℓ) : Prop :=
  True

def Pre_OpKernelIdeal (m : (ℓ : Loc Cert.OpKernelIdeal.nD Cert.OpKernelIdeal.τ Cert.OpKernelIdeal.sig) → Buf (Elt Ideal) ℓ) : Prop :=
  True

def Pre_OpReferenceIdeal (m : (ℓ : Loc Cert.OpReferenceIdeal.nD Cert.OpReferenceIdeal.τ Cert.OpReferenceIdeal.sig) → Buf (Elt Ideal) ℓ) : Prop :=
  True

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_GbKernel (m : (ℓ : Loc Cert.GbKernel.nD Cert.GbKernel.τ Cert.GbKernel.sig) → Buf (Elt Bits) ℓ) : Prop :=
  True

def Pre_GbKernelIdeal (m : (ℓ : Loc Cert.GbKernelIdeal.nD Cert.GbKernelIdeal.τ Cert.GbKernelIdeal.sig) → Buf (Elt Ideal) ℓ) : Prop :=
  True

def Pre_GfKernel (m : (ℓ : Loc Cert.GfKernel.nD Cert.GfKernel.τ Cert.GfKernel.sig) → Buf (Elt Bits) ℓ) : Prop :=
  True

def Pre_GfKernelIdeal (m : (ℓ : Loc Cert.GfKernelIdeal.nD Cert.GfKernelIdeal.τ Cert.GfKernelIdeal.sig) → Buf (Elt Ideal) ℓ) : Prop :=
  True

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxKernelIdeal_pre_dx_finite [hDxKernelIdeal : Cert.DxKernelIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal_dx_finite m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_DxReferenceIdeal_pre_dx_finite [hDxReferenceIdeal : Cert.DxReferenceIdeal.Facts] [hPre_dx_finite : Cert.Pre_dx_finite.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_dx_finite m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_ObKernel [hObKernel : Cert.ObKernel.Facts] : Prop :=
  ∀ (m : (ℓ : Loc Cert.ObKernel.nD Cert.ObKernel.τ Cert.ObKernel.sig) → Buf (Elt Bits) ℓ) (g : Dev Cert.ObKernel.nD → PrngReg), Pre_ObKernel m →
    θ_run (Cert.ObKernel.defs (F := Bits)) (onTc (τ := Cert.ObKernel.τ) (Cert.ObKernel.main (F := Bits))) ⟨m, fun _ => 0, g⟩ (fun r => (∀ c : Dev Cert.ObKernel.nD,
      r.2.mem ((c.tc : Thread Cert.ObKernel.nD Cert.ObKernel.τ).loc Cert.ObKernel.main_arg0) = m ((c.tc : Thread Cert.ObKernel.nD Cert.ObKernel.τ).loc Cert.ObKernel.main_arg0)
      ∧ r.2.mem ((c.tc : Thread Cert.ObKernel.nD Cert.ObKernel.τ).loc Cert.ObKernel.main_arg1) = m ((c.tc : Thread Cert.ObKernel.nD Cert.ObKernel.τ).loc Cert.ObKernel.main_arg1)
      ∧ r.2.mem ((c.tc : Thread Cert.ObKernel.nD Cert.ObKernel.τ).loc Cert.ObKernel.main_arg2) = m ((c.tc : Thread Cert.ObKernel.nD Cert.ObKernel.τ).loc Cert.ObKernel.main_arg2)
      ∧ r.2.mem ((c.tc : Thread Cert.ObKernel.nD Cert.ObKernel.τ).loc Cert.ObKernel.main_arg3) = m ((c.tc : Thread Cert.ObKernel.nD Cert.ObKernel.τ).loc Cert.ObKernel.main_arg3)
      ∧ r.2.mem ((c.tc : Thread Cert.ObKernel.nD Cert.ObKernel.τ).loc Cert.ObKernel.main_arg4) = m ((c.tc : Thread Cert.ObKernel.nD Cert.ObKernel.τ).loc Cert.ObKernel.main_arg4)
      ∧ r.2.mem ((c.tc : Thread Cert.ObKernel.nD Cert.ObKernel.τ).loc Cert.ObKernel.main_arg5) = m ((c.tc : Thread Cert.ObKernel.nD Cert.ObKernel.τ).loc Cert.ObKernel.main_arg5)
      ∧ r.2.mem ((c.tc : Thread Cert.ObKernel.nD Cert.ObKernel.τ).loc Cert.ObKernel.main_arg6) = m ((c.tc : Thread Cert.ObKernel.nD Cert.ObKernel.τ).loc Cert.ObKernel.main_arg6))
      ∧ r.2.sem = fun _ => 0)

def quiescent_ObKernelIdeal [hObKernelIdeal : Cert.ObKernelIdeal.Facts] : Prop :=
  ∀ (m : (ℓ : Loc Cert.ObKernelIdeal.nD Cert.ObKernelIdeal.τ Cert.ObKernelIdeal.sig) → Buf (Elt Ideal) ℓ) (g : Dev Cert.ObKernelIdeal.nD → PrngReg), Pre_ObKernelIdeal m →
    θ_run (Cert.ObKernelIdeal.defs (F := Ideal)) (onTc (τ := Cert.ObKernelIdeal.τ) (Cert.ObKernelIdeal.main (F := Ideal))) ⟨m, fun _ => 0, g⟩ (fun r => (∀ c : Dev Cert.ObKernelIdeal.nD,
      r.2.mem ((c.tc : Thread Cert.ObKernelIdeal.nD Cert.ObKernelIdeal.τ).loc Cert.ObKernelIdeal.main_arg0) = m ((c.tc : Thread Cert.ObKernelIdeal.nD Cert.ObKernelIdeal.τ).loc Cert.ObKernelIdeal.main_arg0)
      ∧ r.2.mem ((c.tc : Thread Cert.ObKernelIdeal.nD Cert.ObKernelIdeal.τ).loc Cert.ObKernelIdeal.main_arg1) = m ((c.tc : Thread Cert.ObKernelIdeal.nD Cert.ObKernelIdeal.τ).loc Cert.ObKernelIdeal.main_arg1)
      ∧ r.2.mem ((c.tc : Thread Cert.ObKernelIdeal.nD Cert.ObKernelIdeal.τ).loc Cert.ObKernelIdeal.main_arg2) = m ((c.tc : Thread Cert.ObKernelIdeal.nD Cert.ObKernelIdeal.τ).loc Cert.ObKernelIdeal.main_arg2)
      ∧ r.2.mem ((c.tc : Thread Cert.ObKernelIdeal.nD Cert.ObKernelIdeal.τ).loc Cert.ObKernelIdeal.main_arg3) = m ((c.tc : Thread Cert.ObKernelIdeal.nD Cert.ObKernelIdeal.τ).loc Cert.ObKernelIdeal.main_arg3)
      ∧ r.2.mem ((c.tc : Thread Cert.ObKernelIdeal.nD Cert.ObKernelIdeal.τ).loc Cert.ObKernelIdeal.main_arg4) = m ((c.tc : Thread Cert.ObKernelIdeal.nD Cert.ObKernelIdeal.τ).loc Cert.ObKernelIdeal.main_arg4)
      ∧ r.2.mem ((c.tc : Thread Cert.ObKernelIdeal.nD Cert.ObKernelIdeal.τ).loc Cert.ObKernelIdeal.main_arg5) = m ((c.tc : Thread Cert.ObKernelIdeal.nD Cert.ObKernelIdeal.τ).loc Cert.ObKernelIdeal.main_arg5)
      ∧ r.2.mem ((c.tc : Thread Cert.ObKernelIdeal.nD Cert.ObKernelIdeal.τ).loc Cert.ObKernelIdeal.main_arg6) = m ((c.tc : Thread Cert.ObKernelIdeal.nD Cert.ObKernelIdeal.τ).loc Cert.ObKernelIdeal.main_arg6))
      ∧ r.2.sem = fun _ => 0)

def quiescent_ObKernelIdeal_pre_ob_finite [hObKernelIdeal : Cert.ObKernelIdeal.Facts] [hPre_ob_finite : Cert.Pre_ob_finite.Facts] : Prop :=
  ∀ (m : (ℓ : Loc Cert.ObKernelIdeal.nD Cert.ObKernelIdeal.τ Cert.ObKernelIdeal.sig) → Buf (Elt Ideal) ℓ) (g : Dev Cert.ObKernelIdeal.nD → PrngReg), Pre_ObKernelIdeal_ob_finite m →
    θ_run (Cert.ObKernelIdeal.defs (F := Ideal)) (onTc (τ := Cert.ObKernelIdeal.τ) (Cert.ObKernelIdeal.main (F := Ideal))) ⟨m, fun _ => 0, g⟩ (fun r => (∀ c : Dev Cert.ObKernelIdeal.nD,
      r.2.mem ((c.tc : Thread Cert.ObKernelIdeal.nD Cert.ObKernelIdeal.τ).loc Cert.ObKernelIdeal.main_arg0) = m ((c.tc : Thread Cert.ObKernelIdeal.nD Cert.ObKernelIdeal.τ).loc Cert.ObKernelIdeal.main_arg0)
      ∧ r.2.mem ((c.tc : Thread Cert.ObKernelIdeal.nD Cert.ObKernelIdeal.τ).loc Cert.ObKernelIdeal.main_arg1) = m ((c.tc : Thread Cert.ObKernelIdeal.nD Cert.ObKernelIdeal.τ).loc Cert.ObKernelIdeal.main_arg1)
      ∧ r.2.mem ((c.tc : Thread Cert.ObKernelIdeal.nD Cert.ObKernelIdeal.τ).loc Cert.ObKernelIdeal.main_arg2) = m ((c.tc : Thread Cert.ObKernelIdeal.nD Cert.ObKernelIdeal.τ).loc Cert.ObKernelIdeal.main_arg2)
      ∧ r.2.mem ((c.tc : Thread Cert.ObKernelIdeal.nD Cert.ObKernelIdeal.τ).loc Cert.ObKernelIdeal.main_arg3) = m ((c.tc : Thread Cert.ObKernelIdeal.nD Cert.ObKernelIdeal.τ).loc Cert.ObKernelIdeal.main_arg3)
      ∧ r.2.mem ((c.tc : Thread Cert.ObKernelIdeal.nD Cert.ObKernelIdeal.τ).loc Cert.ObKernelIdeal.main_arg4) = m ((c.tc : Thread Cert.ObKernelIdeal.nD Cert.ObKernelIdeal.τ).loc Cert.ObKernelIdeal.main_arg4)
      ∧ r.2.mem ((c.tc : Thread Cert.ObKernelIdeal.nD Cert.ObKernelIdeal.τ).loc Cert.ObKernelIdeal.main_arg5) = m ((c.tc : Thread Cert.ObKernelIdeal.nD Cert.ObKernelIdeal.τ).loc Cert.ObKernelIdeal.main_arg5)
      ∧ r.2.mem ((c.tc : Thread Cert.ObKernelIdeal.nD Cert.ObKernelIdeal.τ).loc Cert.ObKernelIdeal.main_arg6) = m ((c.tc : Thread Cert.ObKernelIdeal.nD Cert.ObKernelIdeal.τ).loc Cert.ObKernelIdeal.main_arg6))
      ∧ r.2.sem = fun _ => 0)

def quiescent_ObReferenceIdeal [hObReferenceIdeal : Cert.ObReferenceIdeal.Facts] : Prop :=
  ∀ (m : (ℓ : Loc Cert.ObReferenceIdeal.nD Cert.ObReferenceIdeal.τ Cert.ObReferenceIdeal.sig) → Buf (Elt Ideal) ℓ) (g : Dev Cert.ObReferenceIdeal.nD → PrngReg), Pre_ObReferenceIdeal m →
    θ_run (Cert.ObReferenceIdeal.defs (F := Ideal)) (onTc (τ := Cert.ObReferenceIdeal.τ) (Cert.ObReferenceIdeal.main (F := Ideal))) ⟨m, fun _ => 0, g⟩ (fun r => (∀ c : Dev Cert.ObReferenceIdeal.nD,
      r.2.mem ((c.tc : Thread Cert.ObReferenceIdeal.nD Cert.ObReferenceIdeal.τ).loc Cert.ObReferenceIdeal.main_arg0) = m ((c.tc : Thread Cert.ObReferenceIdeal.nD Cert.ObReferenceIdeal.τ).loc Cert.ObReferenceIdeal.main_arg0)
      ∧ r.2.mem ((c.tc : Thread Cert.ObReferenceIdeal.nD Cert.ObReferenceIdeal.τ).loc Cert.ObReferenceIdeal.main_arg1) = m ((c.tc : Thread Cert.ObReferenceIdeal.nD Cert.ObReferenceIdeal.τ).loc Cert.ObReferenceIdeal.main_arg1)
      ∧ r.2.mem ((c.tc : Thread Cert.ObReferenceIdeal.nD Cert.ObReferenceIdeal.τ).loc Cert.ObReferenceIdeal.main_arg2) = m ((c.tc : Thread Cert.ObReferenceIdeal.nD Cert.ObReferenceIdeal.τ).loc Cert.ObReferenceIdeal.main_arg2)
      ∧ r.2.mem ((c.tc : Thread Cert.ObReferenceIdeal.nD Cert.ObReferenceIdeal.τ).loc Cert.ObReferenceIdeal.main_arg3) = m ((c.tc : Thread Cert.ObReferenceIdeal.nD Cert.ObReferenceIdeal.τ).loc Cert.ObReferenceIdeal.main_arg3)
      ∧ r.2.mem ((c.tc : Thread Cert.ObReferenceIdeal.nD Cert.ObReferenceIdeal.τ).loc Cert.ObReferenceIdeal.main_arg4) = m ((c.tc : Thread Cert.ObReferenceIdeal.nD Cert.ObReferenceIdeal.τ).loc Cert.ObReferenceIdeal.main_arg4)
      ∧ r.2.mem ((c.tc : Thread Cert.ObReferenceIdeal.nD Cert.ObReferenceIdeal.τ).loc Cert.ObReferenceIdeal.main_arg5) = m ((c.tc : Thread Cert.ObReferenceIdeal.nD Cert.ObReferenceIdeal.τ).loc Cert.ObReferenceIdeal.main_arg5)
      ∧ r.2.mem ((c.tc : Thread Cert.ObReferenceIdeal.nD Cert.ObReferenceIdeal.τ).loc Cert.ObReferenceIdeal.main_arg6) = m ((c.tc : Thread Cert.ObReferenceIdeal.nD Cert.ObReferenceIdeal.τ).loc Cert.ObReferenceIdeal.main_arg6))
      ∧ r.2.sem = fun _ => 0)

def quiescent_ObReferenceIdeal_pre_ob_finite [hObReferenceIdeal : Cert.ObReferenceIdeal.Facts] [hPre_ob_finite : Cert.Pre_ob_finite.Facts] : Prop :=
  ∀ (m : (ℓ : Loc Cert.ObReferenceIdeal.nD Cert.ObReferenceIdeal.τ Cert.ObReferenceIdeal.sig) → Buf (Elt Ideal) ℓ) (g : Dev Cert.ObReferenceIdeal.nD → PrngReg), Pre_ObReferenceIdeal_ob_finite m →
    θ_run (Cert.ObReferenceIdeal.defs (F := Ideal)) (onTc (τ := Cert.ObReferenceIdeal.τ) (Cert.ObReferenceIdeal.main (F := Ideal))) ⟨m, fun _ => 0, g⟩ (fun r => (∀ c : Dev Cert.ObReferenceIdeal.nD,
      r.2.mem ((c.tc : Thread Cert.ObReferenceIdeal.nD Cert.ObReferenceIdeal.τ).loc Cert.ObReferenceIdeal.main_arg0) = m ((c.tc : Thread Cert.ObReferenceIdeal.nD Cert.ObReferenceIdeal.τ).loc Cert.ObReferenceIdeal.main_arg0)
      ∧ r.2.mem ((c.tc : Thread Cert.ObReferenceIdeal.nD Cert.ObReferenceIdeal.τ).loc Cert.ObReferenceIdeal.main_arg1) = m ((c.tc : Thread Cert.ObReferenceIdeal.nD Cert.ObReferenceIdeal.τ).loc Cert.ObReferenceIdeal.main_arg1)
      ∧ r.2.mem ((c.tc : Thread Cert.ObReferenceIdeal.nD Cert.ObReferenceIdeal.τ).loc Cert.ObReferenceIdeal.main_arg2) = m ((c.tc : Thread Cert.ObReferenceIdeal.nD Cert.ObReferenceIdeal.τ).loc Cert.ObReferenceIdeal.main_arg2)
      ∧ r.2.mem ((c.tc : Thread Cert.ObReferenceIdeal.nD Cert.ObReferenceIdeal.τ).loc Cert.ObReferenceIdeal.main_arg3) = m ((c.tc : Thread Cert.ObReferenceIdeal.nD Cert.ObReferenceIdeal.τ).loc Cert.ObReferenceIdeal.main_arg3)
      ∧ r.2.mem ((c.tc : Thread Cert.ObReferenceIdeal.nD Cert.ObReferenceIdeal.τ).loc Cert.ObReferenceIdeal.main_arg4) = m ((c.tc : Thread Cert.ObReferenceIdeal.nD Cert.ObReferenceIdeal.τ).loc Cert.ObReferenceIdeal.main_arg4)
      ∧ r.2.mem ((c.tc : Thread Cert.ObReferenceIdeal.nD Cert.ObReferenceIdeal.τ).loc Cert.ObReferenceIdeal.main_arg5) = m ((c.tc : Thread Cert.ObReferenceIdeal.nD Cert.ObReferenceIdeal.τ).loc Cert.ObReferenceIdeal.main_arg5)
      ∧ r.2.mem ((c.tc : Thread Cert.ObReferenceIdeal.nD Cert.ObReferenceIdeal.τ).loc Cert.ObReferenceIdeal.main_arg6) = m ((c.tc : Thread Cert.ObReferenceIdeal.nD Cert.ObReferenceIdeal.τ).loc Cert.ObReferenceIdeal.main_arg6))
      ∧ r.2.sem = fun _ => 0)

def quiescent_RfKernel [hRfKernel : Cert.RfKernel.Facts] : Prop :=
  ∀ (m : (ℓ : Loc Cert.RfKernel.nD Cert.RfKernel.τ Cert.RfKernel.sig) → Buf (Elt Bits) ℓ) (g : Dev Cert.RfKernel.nD → PrngReg), Pre_RfKernel m →
    θ_run (Cert.RfKernel.defs (F := Bits)) (onTc (τ := Cert.RfKernel.τ) (Cert.RfKernel.main (F := Bits))) ⟨m, fun _ => 0, g⟩ (fun r => (∀ c : Dev Cert.RfKernel.nD,
      r.2.mem ((c.tc : Thread Cert.RfKernel.nD Cert.RfKernel.τ).loc Cert.RfKernel.main_arg0) = m ((c.tc : Thread Cert.RfKernel.nD Cert.RfKernel.τ).loc Cert.RfKernel.main_arg0)
      ∧ r.2.mem ((c.tc : Thread Cert.RfKernel.nD Cert.RfKernel.τ).loc Cert.RfKernel.main_arg1) = m ((c.tc : Thread Cert.RfKernel.nD Cert.RfKernel.τ).loc Cert.RfKernel.main_arg1))
      ∧ r.2.sem = fun _ => 0)

def quiescent_RfKernelIdeal [hRfKernelIdeal : Cert.RfKernelIdeal.Facts] : Prop :=
  ∀ (m : (ℓ : Loc Cert.RfKernelIdeal.nD Cert.RfKernelIdeal.τ Cert.RfKernelIdeal.sig) → Buf (Elt Ideal) ℓ) (g : Dev Cert.RfKernelIdeal.nD → PrngReg), Pre_RfKernelIdeal m →
    θ_run (Cert.RfKernelIdeal.defs (F := Ideal)) (onTc (τ := Cert.RfKernelIdeal.τ) (Cert.RfKernelIdeal.main (F := Ideal))) ⟨m, fun _ => 0, g⟩ (fun r => (∀ c : Dev Cert.RfKernelIdeal.nD,
      r.2.mem ((c.tc : Thread Cert.RfKernelIdeal.nD Cert.RfKernelIdeal.τ).loc Cert.RfKernelIdeal.main_arg0) = m ((c.tc : Thread Cert.RfKernelIdeal.nD Cert.RfKernelIdeal.τ).loc Cert.RfKernelIdeal.main_arg0)
      ∧ r.2.mem ((c.tc : Thread Cert.RfKernelIdeal.nD Cert.RfKernelIdeal.τ).loc Cert.RfKernelIdeal.main_arg1) = m ((c.tc : Thread Cert.RfKernelIdeal.nD Cert.RfKernelIdeal.τ).loc Cert.RfKernelIdeal.main_arg1))
      ∧ r.2.sem = fun _ => 0)

def quiescent_RfReferenceIdeal [hRfReferenceIdeal : Cert.RfReferenceIdeal.Facts] : Prop :=
  ∀ (m : (ℓ : Loc Cert.RfReferenceIdeal.nD Cert.RfReferenceIdeal.τ Cert.RfReferenceIdeal.sig) → Buf (Elt Ideal) ℓ) (g : Dev Cert.RfReferenceIdeal.nD → PrngReg), Pre_RfReferenceIdeal m →
    θ_run (Cert.RfReferenceIdeal.defs (F := Ideal)) (onTc (τ := Cert.RfReferenceIdeal.τ) (Cert.RfReferenceIdeal.main (F := Ideal))) ⟨m, fun _ => 0, g⟩ (fun r => (∀ c : Dev Cert.RfReferenceIdeal.nD,
      r.2.mem ((c.tc : Thread Cert.RfReferenceIdeal.nD Cert.RfReferenceIdeal.τ).loc Cert.RfReferenceIdeal.main_arg0) = m ((c.tc : Thread Cert.RfReferenceIdeal.nD Cert.RfReferenceIdeal.τ).loc Cert.RfReferenceIdeal.main_arg0)
      ∧ r.2.mem ((c.tc : Thread Cert.RfReferenceIdeal.nD Cert.RfReferenceIdeal.τ).loc Cert.RfReferenceIdeal.main_arg1) = m ((c.tc : Thread Cert.RfReferenceIdeal.nD Cert.RfReferenceIdeal.τ).loc Cert.RfReferenceIdeal.main_arg1))
      ∧ r.2.sem = fun _ => 0)

def quiescent_SfKernel [hSfKernel : Cert.SfKernel.Facts] : Prop :=
  ∀ (m : (ℓ : Loc Cert.SfKernel.nD Cert.SfKernel.τ Cert.SfKernel.sig) → Buf (Elt Bits) ℓ) (g : Dev Cert.SfKernel.nD → PrngReg), Pre_SfKernel m →
    θ_run (Cert.SfKernel.defs (F := Bits)) (onTc (τ := Cert.SfKernel.τ) (Cert.SfKernel.main (F := Bits))) ⟨m, fun _ => 0, g⟩ (fun r => (∀ c : Dev Cert.SfKernel.nD,
      r.2.mem ((c.tc : Thread Cert.SfKernel.nD Cert.SfKernel.τ).loc Cert.SfKernel.main_arg0) = m ((c.tc : Thread Cert.SfKernel.nD Cert.SfKernel.τ).loc Cert.SfKernel.main_arg0)
      ∧ r.2.mem ((c.tc : Thread Cert.SfKernel.nD Cert.SfKernel.τ).loc Cert.SfKernel.main_arg1) = m ((c.tc : Thread Cert.SfKernel.nD Cert.SfKernel.τ).loc Cert.SfKernel.main_arg1)
      ∧ r.2.mem ((c.tc : Thread Cert.SfKernel.nD Cert.SfKernel.τ).loc Cert.SfKernel.main_arg2) = m ((c.tc : Thread Cert.SfKernel.nD Cert.SfKernel.τ).loc Cert.SfKernel.main_arg2)
      ∧ r.2.mem ((c.tc : Thread Cert.SfKernel.nD Cert.SfKernel.τ).loc Cert.SfKernel.main_arg3) = m ((c.tc : Thread Cert.SfKernel.nD Cert.SfKernel.τ).loc Cert.SfKernel.main_arg3)
      ∧ r.2.mem ((c.tc : Thread Cert.SfKernel.nD Cert.SfKernel.τ).loc Cert.SfKernel.main_arg4) = m ((c.tc : Thread Cert.SfKernel.nD Cert.SfKernel.τ).loc Cert.SfKernel.main_arg4)
      ∧ r.2.mem ((c.tc : Thread Cert.SfKernel.nD Cert.SfKernel.τ).loc Cert.SfKernel.main_arg5) = m ((c.tc : Thread Cert.SfKernel.nD Cert.SfKernel.τ).loc Cert.SfKernel.main_arg5)
      ∧ r.2.mem ((c.tc : Thread Cert.SfKernel.nD Cert.SfKernel.τ).loc Cert.SfKernel.main_arg6) = m ((c.tc : Thread Cert.SfKernel.nD Cert.SfKernel.τ).loc Cert.SfKernel.main_arg6)
      ∧ r.2.mem ((c.tc : Thread Cert.SfKernel.nD Cert.SfKernel.τ).loc Cert.SfKernel.main_arg7) = m ((c.tc : Thread Cert.SfKernel.nD Cert.SfKernel.τ).loc Cert.SfKernel.main_arg7))
      ∧ r.2.sem = fun _ => 0)

def quiescent_SfKernelIdeal [hSfKernelIdeal : Cert.SfKernelIdeal.Facts] : Prop :=
  ∀ (m : (ℓ : Loc Cert.SfKernelIdeal.nD Cert.SfKernelIdeal.τ Cert.SfKernelIdeal.sig) → Buf (Elt Ideal) ℓ) (g : Dev Cert.SfKernelIdeal.nD → PrngReg), Pre_SfKernelIdeal m →
    θ_run (Cert.SfKernelIdeal.defs (F := Ideal)) (onTc (τ := Cert.SfKernelIdeal.τ) (Cert.SfKernelIdeal.main (F := Ideal))) ⟨m, fun _ => 0, g⟩ (fun r => (∀ c : Dev Cert.SfKernelIdeal.nD,
      r.2.mem ((c.tc : Thread Cert.SfKernelIdeal.nD Cert.SfKernelIdeal.τ).loc Cert.SfKernelIdeal.main_arg0) = m ((c.tc : Thread Cert.SfKernelIdeal.nD Cert.SfKernelIdeal.τ).loc Cert.SfKernelIdeal.main_arg0)
      ∧ r.2.mem ((c.tc : Thread Cert.SfKernelIdeal.nD Cert.SfKernelIdeal.τ).loc Cert.SfKernelIdeal.main_arg1) = m ((c.tc : Thread Cert.SfKernelIdeal.nD Cert.SfKernelIdeal.τ).loc Cert.SfKernelIdeal.main_arg1)
      ∧ r.2.mem ((c.tc : Thread Cert.SfKernelIdeal.nD Cert.SfKernelIdeal.τ).loc Cert.SfKernelIdeal.main_arg2) = m ((c.tc : Thread Cert.SfKernelIdeal.nD Cert.SfKernelIdeal.τ).loc Cert.SfKernelIdeal.main_arg2)
      ∧ r.2.mem ((c.tc : Thread Cert.SfKernelIdeal.nD Cert.SfKernelIdeal.τ).loc Cert.SfKernelIdeal.main_arg3) = m ((c.tc : Thread Cert.SfKernelIdeal.nD Cert.SfKernelIdeal.τ).loc Cert.SfKernelIdeal.main_arg3)
      ∧ r.2.mem ((c.tc : Thread Cert.SfKernelIdeal.nD Cert.SfKernelIdeal.τ).loc Cert.SfKernelIdeal.main_arg4) = m ((c.tc : Thread Cert.SfKernelIdeal.nD Cert.SfKernelIdeal.τ).loc Cert.SfKernelIdeal.main_arg4)
      ∧ r.2.mem ((c.tc : Thread Cert.SfKernelIdeal.nD Cert.SfKernelIdeal.τ).loc Cert.SfKernelIdeal.main_arg5) = m ((c.tc : Thread Cert.SfKernelIdeal.nD Cert.SfKernelIdeal.τ).loc Cert.SfKernelIdeal.main_arg5)
      ∧ r.2.mem ((c.tc : Thread Cert.SfKernelIdeal.nD Cert.SfKernelIdeal.τ).loc Cert.SfKernelIdeal.main_arg6) = m ((c.tc : Thread Cert.SfKernelIdeal.nD Cert.SfKernelIdeal.τ).loc Cert.SfKernelIdeal.main_arg6)
      ∧ r.2.mem ((c.tc : Thread Cert.SfKernelIdeal.nD Cert.SfKernelIdeal.τ).loc Cert.SfKernelIdeal.main_arg7) = m ((c.tc : Thread Cert.SfKernelIdeal.nD Cert.SfKernelIdeal.τ).loc Cert.SfKernelIdeal.main_arg7))
      ∧ r.2.sem = fun _ => 0)

def quiescent_SfReferenceIdeal [hSfReferenceIdeal : Cert.SfReferenceIdeal.Facts] : Prop :=
  ∀ (m : (ℓ : Loc Cert.SfReferenceIdeal.nD Cert.SfReferenceIdeal.τ Cert.SfReferenceIdeal.sig) → Buf (Elt Ideal) ℓ) (g : Dev Cert.SfReferenceIdeal.nD → PrngReg), Pre_SfReferenceIdeal m →
    θ_run (Cert.SfReferenceIdeal.defs (F := Ideal)) (onTc (τ := Cert.SfReferenceIdeal.τ) (Cert.SfReferenceIdeal.main (F := Ideal))) ⟨m, fun _ => 0, g⟩ (fun r => (∀ c : Dev Cert.SfReferenceIdeal.nD,
      r.2.mem ((c.tc : Thread Cert.SfReferenceIdeal.nD Cert.SfReferenceIdeal.τ).loc Cert.SfReferenceIdeal.main_arg0) = m ((c.tc : Thread Cert.SfReferenceIdeal.nD Cert.SfReferenceIdeal.τ).loc Cert.SfReferenceIdeal.main_arg0)
      ∧ r.2.mem ((c.tc : Thread Cert.SfReferenceIdeal.nD Cert.SfReferenceIdeal.τ).loc Cert.SfReferenceIdeal.main_arg1) = m ((c.tc : Thread Cert.SfReferenceIdeal.nD Cert.SfReferenceIdeal.τ).loc Cert.SfReferenceIdeal.main_arg1)
      ∧ r.2.mem ((c.tc : Thread Cert.SfReferenceIdeal.nD Cert.SfReferenceIdeal.τ).loc Cert.SfReferenceIdeal.main_arg2) = m ((c.tc : Thread Cert.SfReferenceIdeal.nD Cert.SfReferenceIdeal.τ).loc Cert.SfReferenceIdeal.main_arg2)
      ∧ r.2.mem ((c.tc : Thread Cert.SfReferenceIdeal.nD Cert.SfReferenceIdeal.τ).loc Cert.SfReferenceIdeal.main_arg3) = m ((c.tc : Thread Cert.SfReferenceIdeal.nD Cert.SfReferenceIdeal.τ).loc Cert.SfReferenceIdeal.main_arg3)
      ∧ r.2.mem ((c.tc : Thread Cert.SfReferenceIdeal.nD Cert.SfReferenceIdeal.τ).loc Cert.SfReferenceIdeal.main_arg4) = m ((c.tc : Thread Cert.SfReferenceIdeal.nD Cert.SfReferenceIdeal.τ).loc Cert.SfReferenceIdeal.main_arg4)
      ∧ r.2.mem ((c.tc : Thread Cert.SfReferenceIdeal.nD Cert.SfReferenceIdeal.τ).loc Cert.SfReferenceIdeal.main_arg5) = m ((c.tc : Thread Cert.SfReferenceIdeal.nD Cert.SfReferenceIdeal.τ).loc Cert.SfReferenceIdeal.main_arg5)
      ∧ r.2.mem ((c.tc : Thread Cert.SfReferenceIdeal.nD Cert.SfReferenceIdeal.τ).loc Cert.SfReferenceIdeal.main_arg6) = m ((c.tc : Thread Cert.SfReferenceIdeal.nD Cert.SfReferenceIdeal.τ).loc Cert.SfReferenceIdeal.main_arg6)
      ∧ r.2.mem ((c.tc : Thread Cert.SfReferenceIdeal.nD Cert.SfReferenceIdeal.τ).loc Cert.SfReferenceIdeal.main_arg7) = m ((c.tc : Thread Cert.SfReferenceIdeal.nD Cert.SfReferenceIdeal.τ).loc Cert.SfReferenceIdeal.main_arg7))
      ∧ r.2.sem = fun _ => 0)

def quiescent_OlKernel [hOlKernel : Cert.OlKernel.Facts] : Prop :=
  ∀ (m : (ℓ : Loc Cert.OlKernel.nD Cert.OlKernel.τ Cert.OlKernel.sig) → Buf (Elt Bits) ℓ) (g : Dev Cert.OlKernel.nD → PrngReg), Pre_OlKernel m →
    θ_run (Cert.OlKernel.defs (F := Bits)) (onTc (τ := Cert.OlKernel.τ) (Cert.OlKernel.main (F := Bits))) ⟨m, fun _ => 0, g⟩ (fun r => (∀ c : Dev Cert.OlKernel.nD,
      r.2.mem ((c.tc : Thread Cert.OlKernel.nD Cert.OlKernel.τ).loc Cert.OlKernel.main_arg0) = m ((c.tc : Thread Cert.OlKernel.nD Cert.OlKernel.τ).loc Cert.OlKernel.main_arg0)
      ∧ r.2.mem ((c.tc : Thread Cert.OlKernel.nD Cert.OlKernel.τ).loc Cert.OlKernel.main_arg1) = m ((c.tc : Thread Cert.OlKernel.nD Cert.OlKernel.τ).loc Cert.OlKernel.main_arg1)
      ∧ r.2.mem ((c.tc : Thread Cert.OlKernel.nD Cert.OlKernel.τ).loc Cert.OlKernel.main_arg2) = m ((c.tc : Thread Cert.OlKernel.nD Cert.OlKernel.τ).loc Cert.OlKernel.main_arg2)
      ∧ r.2.mem ((c.tc : Thread Cert.OlKernel.nD Cert.OlKernel.τ).loc Cert.OlKernel.main_arg3) = m ((c.tc : Thread Cert.OlKernel.nD Cert.OlKernel.τ).loc Cert.OlKernel.main_arg3)
      ∧ r.2.mem ((c.tc : Thread Cert.OlKernel.nD Cert.OlKernel.τ).loc Cert.OlKernel.main_arg4) = m ((c.tc : Thread Cert.OlKernel.nD Cert.OlKernel.τ).loc Cert.OlKernel.main_arg4)
      ∧ r.2.mem ((c.tc : Thread Cert.OlKernel.nD Cert.OlKernel.τ).loc Cert.OlKernel.main_arg5) = m ((c.tc : Thread Cert.OlKernel.nD Cert.OlKernel.τ).loc Cert.OlKernel.main_arg5)
      ∧ r.2.mem ((c.tc : Thread Cert.OlKernel.nD Cert.OlKernel.τ).loc Cert.OlKernel.main_arg6) = m ((c.tc : Thread Cert.OlKernel.nD Cert.OlKernel.τ).loc Cert.OlKernel.main_arg6))
      ∧ r.2.sem = fun _ => 0)

def quiescent_OlKernelIdeal [hOlKernelIdeal : Cert.OlKernelIdeal.Facts] : Prop :=
  ∀ (m : (ℓ : Loc Cert.OlKernelIdeal.nD Cert.OlKernelIdeal.τ Cert.OlKernelIdeal.sig) → Buf (Elt Ideal) ℓ) (g : Dev Cert.OlKernelIdeal.nD → PrngReg), Pre_OlKernelIdeal m →
    θ_run (Cert.OlKernelIdeal.defs (F := Ideal)) (onTc (τ := Cert.OlKernelIdeal.τ) (Cert.OlKernelIdeal.main (F := Ideal))) ⟨m, fun _ => 0, g⟩ (fun r => (∀ c : Dev Cert.OlKernelIdeal.nD,
      r.2.mem ((c.tc : Thread Cert.OlKernelIdeal.nD Cert.OlKernelIdeal.τ).loc Cert.OlKernelIdeal.main_arg0) = m ((c.tc : Thread Cert.OlKernelIdeal.nD Cert.OlKernelIdeal.τ).loc Cert.OlKernelIdeal.main_arg0)
      ∧ r.2.mem ((c.tc : Thread Cert.OlKernelIdeal.nD Cert.OlKernelIdeal.τ).loc Cert.OlKernelIdeal.main_arg1) = m ((c.tc : Thread Cert.OlKernelIdeal.nD Cert.OlKernelIdeal.τ).loc Cert.OlKernelIdeal.main_arg1)
      ∧ r.2.mem ((c.tc : Thread Cert.OlKernelIdeal.nD Cert.OlKernelIdeal.τ).loc Cert.OlKernelIdeal.main_arg2) = m ((c.tc : Thread Cert.OlKernelIdeal.nD Cert.OlKernelIdeal.τ).loc Cert.OlKernelIdeal.main_arg2)
      ∧ r.2.mem ((c.tc : Thread Cert.OlKernelIdeal.nD Cert.OlKernelIdeal.τ).loc Cert.OlKernelIdeal.main_arg3) = m ((c.tc : Thread Cert.OlKernelIdeal.nD Cert.OlKernelIdeal.τ).loc Cert.OlKernelIdeal.main_arg3)
      ∧ r.2.mem ((c.tc : Thread Cert.OlKernelIdeal.nD Cert.OlKernelIdeal.τ).loc Cert.OlKernelIdeal.main_arg4) = m ((c.tc : Thread Cert.OlKernelIdeal.nD Cert.OlKernelIdeal.τ).loc Cert.OlKernelIdeal.main_arg4)
      ∧ r.2.mem ((c.tc : Thread Cert.OlKernelIdeal.nD Cert.OlKernelIdeal.τ).loc Cert.OlKernelIdeal.main_arg5) = m ((c.tc : Thread Cert.OlKernelIdeal.nD Cert.OlKernelIdeal.τ).loc Cert.OlKernelIdeal.main_arg5)
      ∧ r.2.mem ((c.tc : Thread Cert.OlKernelIdeal.nD Cert.OlKernelIdeal.τ).loc Cert.OlKernelIdeal.main_arg6) = m ((c.tc : Thread Cert.OlKernelIdeal.nD Cert.OlKernelIdeal.τ).loc Cert.OlKernelIdeal.main_arg6))
      ∧ r.2.sem = fun _ => 0)

def quiescent_OlReferenceIdeal [hOlReferenceIdeal : Cert.OlReferenceIdeal.Facts] : Prop :=
  ∀ (m : (ℓ : Loc Cert.OlReferenceIdeal.nD Cert.OlReferenceIdeal.τ Cert.OlReferenceIdeal.sig) → Buf (Elt Ideal) ℓ) (g : Dev Cert.OlReferenceIdeal.nD → PrngReg), Pre_OlReferenceIdeal m →
    θ_run (Cert.OlReferenceIdeal.defs (F := Ideal)) (onTc (τ := Cert.OlReferenceIdeal.τ) (Cert.OlReferenceIdeal.main (F := Ideal))) ⟨m, fun _ => 0, g⟩ (fun r => (∀ c : Dev Cert.OlReferenceIdeal.nD,
      r.2.mem ((c.tc : Thread Cert.OlReferenceIdeal.nD Cert.OlReferenceIdeal.τ).loc Cert.OlReferenceIdeal.main_arg0) = m ((c.tc : Thread Cert.OlReferenceIdeal.nD Cert.OlReferenceIdeal.τ).loc Cert.OlReferenceIdeal.main_arg0)
      ∧ r.2.mem ((c.tc : Thread Cert.OlReferenceIdeal.nD Cert.OlReferenceIdeal.τ).loc Cert.OlReferenceIdeal.main_arg1) = m ((c.tc : Thread Cert.OlReferenceIdeal.nD Cert.OlReferenceIdeal.τ).loc Cert.OlReferenceIdeal.main_arg1)
      ∧ r.2.mem ((c.tc : Thread Cert.OlReferenceIdeal.nD Cert.OlReferenceIdeal.τ).loc Cert.OlReferenceIdeal.main_arg2) = m ((c.tc : Thread Cert.OlReferenceIdeal.nD Cert.OlReferenceIdeal.τ).loc Cert.OlReferenceIdeal.main_arg2)
      ∧ r.2.mem ((c.tc : Thread Cert.OlReferenceIdeal.nD Cert.OlReferenceIdeal.τ).loc Cert.OlReferenceIdeal.main_arg3) = m ((c.tc : Thread Cert.OlReferenceIdeal.nD Cert.OlReferenceIdeal.τ).loc Cert.OlReferenceIdeal.main_arg3)
      ∧ r.2.mem ((c.tc : Thread Cert.OlReferenceIdeal.nD Cert.OlReferenceIdeal.τ).loc Cert.OlReferenceIdeal.main_arg4) = m ((c.tc : Thread Cert.OlReferenceIdeal.nD Cert.OlReferenceIdeal.τ).loc Cert.OlReferenceIdeal.main_arg4)
      ∧ r.2.mem ((c.tc : Thread Cert.OlReferenceIdeal.nD Cert.OlReferenceIdeal.τ).loc Cert.OlReferenceIdeal.main_arg5) = m ((c.tc : Thread Cert.OlReferenceIdeal.nD Cert.OlReferenceIdeal.τ).loc Cert.OlReferenceIdeal.main_arg5)
      ∧ r.2.mem ((c.tc : Thread Cert.OlReferenceIdeal.nD Cert.OlReferenceIdeal.τ).loc Cert.OlReferenceIdeal.main_arg6) = m ((c.tc : Thread Cert.OlReferenceIdeal.nD Cert.OlReferenceIdeal.τ).loc Cert.OlReferenceIdeal.main_arg6))
      ∧ r.2.sem = fun _ => 0)

def quiescent_IpKernel [hIpKernel : Cert.IpKernel.Facts] : Prop :=
  ∀ (m : (ℓ : Loc Cert.IpKernel.nD Cert.IpKernel.τ Cert.IpKernel.sig) → Buf (Elt Bits) ℓ) (g : Dev Cert.IpKernel.nD → PrngReg), Pre_IpKernel m →
    θ_run (Cert.IpKernel.defs (F := Bits)) (onTc (τ := Cert.IpKernel.τ) (Cert.IpKernel.main (F := Bits))) ⟨m, fun _ => 0, g⟩ (fun r => (∀ c : Dev Cert.IpKernel.nD,
      r.2.mem ((c.tc : Thread Cert.IpKernel.nD Cert.IpKernel.τ).loc Cert.IpKernel.main_arg0) = m ((c.tc : Thread Cert.IpKernel.nD Cert.IpKernel.τ).loc Cert.IpKernel.main_arg0)
      ∧ r.2.mem ((c.tc : Thread Cert.IpKernel.nD Cert.IpKernel.τ).loc Cert.IpKernel.main_arg1) = m ((c.tc : Thread Cert.IpKernel.nD Cert.IpKernel.τ).loc Cert.IpKernel.main_arg1)
      ∧ r.2.mem ((c.tc : Thread Cert.IpKernel.nD Cert.IpKernel.τ).loc Cert.IpKernel.main_arg2) = m ((c.tc : Thread Cert.IpKernel.nD Cert.IpKernel.τ).loc Cert.IpKernel.main_arg2))
      ∧ r.2.sem = fun _ => 0)

def quiescent_IpKernelIdeal [hIpKernelIdeal : Cert.IpKernelIdeal.Facts] : Prop :=
  ∀ (m : (ℓ : Loc Cert.IpKernelIdeal.nD Cert.IpKernelIdeal.τ Cert.IpKernelIdeal.sig) → Buf (Elt Ideal) ℓ) (g : Dev Cert.IpKernelIdeal.nD → PrngReg), Pre_IpKernelIdeal m →
    θ_run (Cert.IpKernelIdeal.defs (F := Ideal)) (onTc (τ := Cert.IpKernelIdeal.τ) (Cert.IpKernelIdeal.main (F := Ideal))) ⟨m, fun _ => 0, g⟩ (fun r => (∀ c : Dev Cert.IpKernelIdeal.nD,
      r.2.mem ((c.tc : Thread Cert.IpKernelIdeal.nD Cert.IpKernelIdeal.τ).loc Cert.IpKernelIdeal.main_arg0) = m ((c.tc : Thread Cert.IpKernelIdeal.nD Cert.IpKernelIdeal.τ).loc Cert.IpKernelIdeal.main_arg0)
      ∧ r.2.mem ((c.tc : Thread Cert.IpKernelIdeal.nD Cert.IpKernelIdeal.τ).loc Cert.IpKernelIdeal.main_arg1) = m ((c.tc : Thread Cert.IpKernelIdeal.nD Cert.IpKernelIdeal.τ).loc Cert.IpKernelIdeal.main_arg1)
      ∧ r.2.mem ((c.tc : Thread Cert.IpKernelIdeal.nD Cert.IpKernelIdeal.τ).loc Cert.IpKernelIdeal.main_arg2) = m ((c.tc : Thread Cert.IpKernelIdeal.nD Cert.IpKernelIdeal.τ).loc Cert.IpKernelIdeal.main_arg2))
      ∧ r.2.sem = fun _ => 0)

def quiescent_IpReferenceIdeal [hIpReferenceIdeal : Cert.IpReferenceIdeal.Facts] : Prop :=
  ∀ (m : (ℓ : Loc Cert.IpReferenceIdeal.nD Cert.IpReferenceIdeal.τ Cert.IpReferenceIdeal.sig) → Buf (Elt Ideal) ℓ) (g : Dev Cert.IpReferenceIdeal.nD → PrngReg), Pre_IpReferenceIdeal m →
    θ_run (Cert.IpReferenceIdeal.defs (F := Ideal)) (onTc (τ := Cert.IpReferenceIdeal.τ) (Cert.IpReferenceIdeal.main (F := Ideal))) ⟨m, fun _ => 0, g⟩ (fun r => (∀ c : Dev Cert.IpReferenceIdeal.nD,
      r.2.mem ((c.tc : Thread Cert.IpReferenceIdeal.nD Cert.IpReferenceIdeal.τ).loc Cert.IpReferenceIdeal.main_arg0) = m ((c.tc : Thread Cert.IpReferenceIdeal.nD Cert.IpReferenceIdeal.τ).loc Cert.IpReferenceIdeal.main_arg0)
      ∧ r.2.mem ((c.tc : Thread Cert.IpReferenceIdeal.nD Cert.IpReferenceIdeal.τ).loc Cert.IpReferenceIdeal.main_arg1) = m ((c.tc : Thread Cert.IpReferenceIdeal.nD Cert.IpReferenceIdeal.τ).loc Cert.IpReferenceIdeal.main_arg1)
      ∧ r.2.mem ((c.tc : Thread Cert.IpReferenceIdeal.nD Cert.IpReferenceIdeal.τ).loc Cert.IpReferenceIdeal.main_arg2) = m ((c.tc : Thread Cert.IpReferenceIdeal.nD Cert.IpReferenceIdeal.τ).loc Cert.IpReferenceIdeal.main_arg2))
      ∧ r.2.sem = fun _ => 0)

def quiescent_OpKernel [hOpKernel : Cert.OpKernel.Facts] : Prop :=
  ∀ (m : (ℓ : Loc Cert.OpKernel.nD Cert.OpKernel.τ Cert.OpKernel.sig) → Buf (Elt Bits) ℓ) (g : Dev Cert.OpKernel.nD → PrngReg), Pre_OpKernel m →
    θ_run (Cert.OpKernel.defs (F := Bits)) (onTc (τ := Cert.OpKernel.τ) (Cert.OpKernel.main (F := Bits))) ⟨m, fun _ => 0, g⟩ (fun r => (∀ c : Dev Cert.OpKernel.nD,
      r.2.mem ((c.tc : Thread Cert.OpKernel.nD Cert.OpKernel.τ).loc Cert.OpKernel.main_arg0) = m ((c.tc : Thread Cert.OpKernel.nD Cert.OpKernel.τ).loc Cert.OpKernel.main_arg0)
      ∧ r.2.mem ((c.tc : Thread Cert.OpKernel.nD Cert.OpKernel.τ).loc Cert.OpKernel.main_arg1) = m ((c.tc : Thread Cert.OpKernel.nD Cert.OpKernel.τ).loc Cert.OpKernel.main_arg1)
      ∧ r.2.mem ((c.tc : Thread Cert.OpKernel.nD Cert.OpKernel.τ).loc Cert.OpKernel.main_arg2) = m ((c.tc : Thread Cert.OpKernel.nD Cert.OpKernel.τ).loc Cert.OpKernel.main_arg2)
      ∧ r.2.mem ((c.tc : Thread Cert.OpKernel.nD Cert.OpKernel.τ).loc Cert.OpKernel.main_arg3) = m ((c.tc : Thread Cert.OpKernel.nD Cert.OpKernel.τ).loc Cert.OpKernel.main_arg3)
      ∧ r.2.mem ((c.tc : Thread Cert.OpKernel.nD Cert.OpKernel.τ).loc Cert.OpKernel.main_arg4) = m ((c.tc : Thread Cert.OpKernel.nD Cert.OpKernel.τ).loc Cert.OpKernel.main_arg4)
      ∧ r.2.mem ((c.tc : Thread Cert.OpKernel.nD Cert.OpKernel.τ).loc Cert.OpKernel.main_arg5) = m ((c.tc : Thread Cert.OpKernel.nD Cert.OpKernel.τ).loc Cert.OpKernel.main_arg5))
      ∧ r.2.sem = fun _ => 0)

def quiescent_OpKernelIdeal [hOpKernelIdeal : Cert.OpKernelIdeal.Facts] : Prop :=
  ∀ (m : (ℓ : Loc Cert.OpKernelIdeal.nD Cert.OpKernelIdeal.τ Cert.OpKernelIdeal.sig) → Buf (Elt Ideal) ℓ) (g : Dev Cert.OpKernelIdeal.nD → PrngReg), Pre_OpKernelIdeal m →
    θ_run (Cert.OpKernelIdeal.defs (F := Ideal)) (onTc (τ := Cert.OpKernelIdeal.τ) (Cert.OpKernelIdeal.main (F := Ideal))) ⟨m, fun _ => 0, g⟩ (fun r => (∀ c : Dev Cert.OpKernelIdeal.nD,
      r.2.mem ((c.tc : Thread Cert.OpKernelIdeal.nD Cert.OpKernelIdeal.τ).loc Cert.OpKernelIdeal.main_arg0) = m ((c.tc : Thread Cert.OpKernelIdeal.nD Cert.OpKernelIdeal.τ).loc Cert.OpKernelIdeal.main_arg0)
      ∧ r.2.mem ((c.tc : Thread Cert.OpKernelIdeal.nD Cert.OpKernelIdeal.τ).loc Cert.OpKernelIdeal.main_arg1) = m ((c.tc : Thread Cert.OpKernelIdeal.nD Cert.OpKernelIdeal.τ).loc Cert.OpKernelIdeal.main_arg1)
      ∧ r.2.mem ((c.tc : Thread Cert.OpKernelIdeal.nD Cert.OpKernelIdeal.τ).loc Cert.OpKernelIdeal.main_arg2) = m ((c.tc : Thread Cert.OpKernelIdeal.nD Cert.OpKernelIdeal.τ).loc Cert.OpKernelIdeal.main_arg2)
      ∧ r.2.mem ((c.tc : Thread Cert.OpKernelIdeal.nD Cert.OpKernelIdeal.τ).loc Cert.OpKernelIdeal.main_arg3) = m ((c.tc : Thread Cert.OpKernelIdeal.nD Cert.OpKernelIdeal.τ).loc Cert.OpKernelIdeal.main_arg3)
      ∧ r.2.mem ((c.tc : Thread Cert.OpKernelIdeal.nD Cert.OpKernelIdeal.τ).loc Cert.OpKernelIdeal.main_arg4) = m ((c.tc : Thread Cert.OpKernelIdeal.nD Cert.OpKernelIdeal.τ).loc Cert.OpKernelIdeal.main_arg4)
      ∧ r.2.mem ((c.tc : Thread Cert.OpKernelIdeal.nD Cert.OpKernelIdeal.τ).loc Cert.OpKernelIdeal.main_arg5) = m ((c.tc : Thread Cert.OpKernelIdeal.nD Cert.OpKernelIdeal.τ).loc Cert.OpKernelIdeal.main_arg5))
      ∧ r.2.sem = fun _ => 0)

def quiescent_OpReferenceIdeal [hOpReferenceIdeal : Cert.OpReferenceIdeal.Facts] : Prop :=
  ∀ (m : (ℓ : Loc Cert.OpReferenceIdeal.nD Cert.OpReferenceIdeal.τ Cert.OpReferenceIdeal.sig) → Buf (Elt Ideal) ℓ) (g : Dev Cert.OpReferenceIdeal.nD → PrngReg), Pre_OpReferenceIdeal m →
    θ_run (Cert.OpReferenceIdeal.defs (F := Ideal)) (onTc (τ := Cert.OpReferenceIdeal.τ) (Cert.OpReferenceIdeal.main (F := Ideal))) ⟨m, fun _ => 0, g⟩ (fun r => (∀ c : Dev Cert.OpReferenceIdeal.nD,
      r.2.mem ((c.tc : Thread Cert.OpReferenceIdeal.nD Cert.OpReferenceIdeal.τ).loc Cert.OpReferenceIdeal.main_arg0) = m ((c.tc : Thread Cert.OpReferenceIdeal.nD Cert.OpReferenceIdeal.τ).loc Cert.OpReferenceIdeal.main_arg0)
      ∧ r.2.mem ((c.tc : Thread Cert.OpReferenceIdeal.nD Cert.OpReferenceIdeal.τ).loc Cert.OpReferenceIdeal.main_arg1) = m ((c.tc : Thread Cert.OpReferenceIdeal.nD Cert.OpReferenceIdeal.τ).loc Cert.OpReferenceIdeal.main_arg1)
      ∧ r.2.mem ((c.tc : Thread Cert.OpReferenceIdeal.nD Cert.OpReferenceIdeal.τ).loc Cert.OpReferenceIdeal.main_arg2) = m ((c.tc : Thread Cert.OpReferenceIdeal.nD Cert.OpReferenceIdeal.τ).loc Cert.OpReferenceIdeal.main_arg2)
      ∧ r.2.mem ((c.tc : Thread Cert.OpReferenceIdeal.nD Cert.OpReferenceIdeal.τ).loc Cert.OpReferenceIdeal.main_arg3) = m ((c.tc : Thread Cert.OpReferenceIdeal.nD Cert.OpReferenceIdeal.τ).loc Cert.OpReferenceIdeal.main_arg3)
      ∧ r.2.mem ((c.tc : Thread Cert.OpReferenceIdeal.nD Cert.OpReferenceIdeal.τ).loc Cert.OpReferenceIdeal.main_arg4) = m ((c.tc : Thread Cert.OpReferenceIdeal.nD Cert.OpReferenceIdeal.τ).loc Cert.OpReferenceIdeal.main_arg4)
      ∧ r.2.mem ((c.tc : Thread Cert.OpReferenceIdeal.nD Cert.OpReferenceIdeal.τ).loc Cert.OpReferenceIdeal.main_arg5) = m ((c.tc : Thread Cert.OpReferenceIdeal.nD Cert.OpReferenceIdeal.τ).loc Cert.OpReferenceIdeal.main_arg5))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1)
      ∧ r.2.mem ((c.tc : Thread Cert.RetKernel.nD Cert.RetKernel.τ).loc Cert.RetKernel.main_arg2) = m ((c.tc : Thread Cert.RetKernel.nD Cert.RetKernel.τ).loc Cert.RetKernel.main_arg2)
      ∧ r.2.mem ((c.tc : Thread Cert.RetKernel.nD Cert.RetKernel.τ).loc Cert.RetKernel.main_arg3) = m ((c.tc : Thread Cert.RetKernel.nD Cert.RetKernel.τ).loc Cert.RetKernel.main_arg3))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3)
      ∧ r.2.mem ((c.tc : Thread Cert.SbKernel.nD Cert.SbKernel.τ).loc Cert.SbKernel.main_arg4) = m ((c.tc : Thread Cert.SbKernel.nD Cert.SbKernel.τ).loc Cert.SbKernel.main_arg4)
      ∧ r.2.mem ((c.tc : Thread Cert.SbKernel.nD Cert.SbKernel.τ).loc Cert.SbKernel.main_arg5) = m ((c.tc : Thread Cert.SbKernel.nD Cert.SbKernel.τ).loc Cert.SbKernel.main_arg5)
      ∧ r.2.mem ((c.tc : Thread Cert.SbKernel.nD Cert.SbKernel.τ).loc Cert.SbKernel.main_arg6) = m ((c.tc : Thread Cert.SbKernel.nD Cert.SbKernel.τ).loc Cert.SbKernel.main_arg6)
      ∧ r.2.mem ((c.tc : Thread Cert.SbKernel.nD Cert.SbKernel.τ).loc Cert.SbKernel.main_arg7) = m ((c.tc : Thread Cert.SbKernel.nD Cert.SbKernel.τ).loc Cert.SbKernel.main_arg7)
      ∧ r.2.mem ((c.tc : Thread Cert.SbKernel.nD Cert.SbKernel.τ).loc Cert.SbKernel.main_arg8) = m ((c.tc : Thread Cert.SbKernel.nD Cert.SbKernel.τ).loc Cert.SbKernel.main_arg8)
      ∧ r.2.mem ((c.tc : Thread Cert.SbKernel.nD Cert.SbKernel.τ).loc Cert.SbKernel.main_arg9) = m ((c.tc : Thread Cert.SbKernel.nD Cert.SbKernel.τ).loc Cert.SbKernel.main_arg9)
      ∧ r.2.mem ((c.tc : Thread Cert.SbKernel.nD Cert.SbKernel.τ).loc Cert.SbKernel.main_arg10) = m ((c.tc : Thread Cert.SbKernel.nD Cert.SbKernel.τ).loc Cert.SbKernel.main_arg10)
      ∧ r.2.mem ((c.tc : Thread Cert.SbKernel.nD Cert.SbKernel.τ).loc Cert.SbKernel.main_arg11) = m ((c.tc : Thread Cert.SbKernel.nD Cert.SbKernel.τ).loc Cert.SbKernel.main_arg11))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3)
      ∧ r.2.mem ((c.tc : Thread Cert.SbKernelIdeal.nD Cert.SbKernelIdeal.τ).loc Cert.SbKernelIdeal.main_arg4) = m ((c.tc : Thread Cert.SbKernelIdeal.nD Cert.SbKernelIdeal.τ).loc Cert.SbKernelIdeal.main_arg4)
      ∧ r.2.mem ((c.tc : Thread Cert.SbKernelIdeal.nD Cert.SbKernelIdeal.τ).loc Cert.SbKernelIdeal.main_arg5) = m ((c.tc : Thread Cert.SbKernelIdeal.nD Cert.SbKernelIdeal.τ).loc Cert.SbKernelIdeal.main_arg5)
      ∧ r.2.mem ((c.tc : Thread Cert.SbKernelIdeal.nD Cert.SbKernelIdeal.τ).loc Cert.SbKernelIdeal.main_arg6) = m ((c.tc : Thread Cert.SbKernelIdeal.nD Cert.SbKernelIdeal.τ).loc Cert.SbKernelIdeal.main_arg6)
      ∧ r.2.mem ((c.tc : Thread Cert.SbKernelIdeal.nD Cert.SbKernelIdeal.τ).loc Cert.SbKernelIdeal.main_arg7) = m ((c.tc : Thread Cert.SbKernelIdeal.nD Cert.SbKernelIdeal.τ).loc Cert.SbKernelIdeal.main_arg7)
      ∧ r.2.mem ((c.tc : Thread Cert.SbKernelIdeal.nD Cert.SbKernelIdeal.τ).loc Cert.SbKernelIdeal.main_arg8) = m ((c.tc : Thread Cert.SbKernelIdeal.nD Cert.SbKernelIdeal.τ).loc Cert.SbKernelIdeal.main_arg8)
      ∧ r.2.mem ((c.tc : Thread Cert.SbKernelIdeal.nD Cert.SbKernelIdeal.τ).loc Cert.SbKernelIdeal.main_arg9) = m ((c.tc : Thread Cert.SbKernelIdeal.nD Cert.SbKernelIdeal.τ).loc Cert.SbKernelIdeal.main_arg9)
      ∧ r.2.mem ((c.tc : Thread Cert.SbKernelIdeal.nD Cert.SbKernelIdeal.τ).loc Cert.SbKernelIdeal.main_arg10) = m ((c.tc : Thread Cert.SbKernelIdeal.nD Cert.SbKernelIdeal.τ).loc Cert.SbKernelIdeal.main_arg10)
      ∧ r.2.mem ((c.tc : Thread Cert.SbKernelIdeal.nD Cert.SbKernelIdeal.τ).loc Cert.SbKernelIdeal.main_arg11) = m ((c.tc : Thread Cert.SbKernelIdeal.nD Cert.SbKernelIdeal.τ).loc Cert.SbKernelIdeal.main_arg11))
      ∧ r.2.sem = fun _ => 0)

def quiescent_GbKernel [hGbKernel : Cert.GbKernel.Facts] : Prop :=
  ∀ (m : (ℓ : Loc Cert.GbKernel.nD Cert.GbKernel.τ Cert.GbKernel.sig) → Buf (Elt Bits) ℓ) (g : Dev Cert.GbKernel.nD → PrngReg), Pre_GbKernel m →
    θ_run (Cert.GbKernel.defs (F := Bits)) (onTc (τ := Cert.GbKernel.τ) (Cert.GbKernel.main (F := Bits))) ⟨m, fun _ => 0, g⟩ (fun r => (∀ c : Dev Cert.GbKernel.nD,
      r.2.mem ((c.tc : Thread Cert.GbKernel.nD Cert.GbKernel.τ).loc Cert.GbKernel.main_arg0) = m ((c.tc : Thread Cert.GbKernel.nD Cert.GbKernel.τ).loc Cert.GbKernel.main_arg0)
      ∧ r.2.mem ((c.tc : Thread Cert.GbKernel.nD Cert.GbKernel.τ).loc Cert.GbKernel.main_arg1) = m ((c.tc : Thread Cert.GbKernel.nD Cert.GbKernel.τ).loc Cert.GbKernel.main_arg1)
      ∧ r.2.mem ((c.tc : Thread Cert.GbKernel.nD Cert.GbKernel.τ).loc Cert.GbKernel.main_arg2) = m ((c.tc : Thread Cert.GbKernel.nD Cert.GbKernel.τ).loc Cert.GbKernel.main_arg2)
      ∧ r.2.mem ((c.tc : Thread Cert.GbKernel.nD Cert.GbKernel.τ).loc Cert.GbKernel.main_arg3) = m ((c.tc : Thread Cert.GbKernel.nD Cert.GbKernel.τ).loc Cert.GbKernel.main_arg3)
      ∧ r.2.mem ((c.tc : Thread Cert.GbKernel.nD Cert.GbKernel.τ).loc Cert.GbKernel.main_arg4) = m ((c.tc : Thread Cert.GbKernel.nD Cert.GbKernel.τ).loc Cert.GbKernel.main_arg4)
      ∧ r.2.mem ((c.tc : Thread Cert.GbKernel.nD Cert.GbKernel.τ).loc Cert.GbKernel.main_arg5) = m ((c.tc : Thread Cert.GbKernel.nD Cert.GbKernel.τ).loc Cert.GbKernel.main_arg5)
      ∧ r.2.mem ((c.tc : Thread Cert.GbKernel.nD Cert.GbKernel.τ).loc Cert.GbKernel.main_arg6) = m ((c.tc : Thread Cert.GbKernel.nD Cert.GbKernel.τ).loc Cert.GbKernel.main_arg6)
      ∧ r.2.mem ((c.tc : Thread Cert.GbKernel.nD Cert.GbKernel.τ).loc Cert.GbKernel.main_arg7) = m ((c.tc : Thread Cert.GbKernel.nD Cert.GbKernel.τ).loc Cert.GbKernel.main_arg7)
      ∧ r.2.mem ((c.tc : Thread Cert.GbKernel.nD Cert.GbKernel.τ).loc Cert.GbKernel.main_arg8) = m ((c.tc : Thread Cert.GbKernel.nD Cert.GbKernel.τ).loc Cert.GbKernel.main_arg8)
      ∧ r.2.mem ((c.tc : Thread Cert.GbKernel.nD Cert.GbKernel.τ).loc Cert.GbKernel.main_arg9) = m ((c.tc : Thread Cert.GbKernel.nD Cert.GbKernel.τ).loc Cert.GbKernel.main_arg9)
      ∧ r.2.mem ((c.tc : Thread Cert.GbKernel.nD Cert.GbKernel.τ).loc Cert.GbKernel.main_arg10) = m ((c.tc : Thread Cert.GbKernel.nD Cert.GbKernel.τ).loc Cert.GbKernel.main_arg10)
      ∧ r.2.mem ((c.tc : Thread Cert.GbKernel.nD Cert.GbKernel.τ).loc Cert.GbKernel.main_arg11) = m ((c.tc : Thread Cert.GbKernel.nD Cert.GbKernel.τ).loc Cert.GbKernel.main_arg11))
      ∧ r.2.sem = fun _ => 0)

def quiescent_GbKernelIdeal [hGbKernelIdeal : Cert.GbKernelIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg), Pre_GbKernelIdeal m →
    θ_run (Cert.GbKernelIdeal.defs (F := Ideal)) (onTc (τ := Cert.GbKernelIdeal.τ) (Cert.GbKernelIdeal.main (F := Ideal))) ⟨m, fun _ => 0, g⟩ (fun r => (∀ c : Dev Cert.GbKernelIdeal.nD,
      r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
      ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1)
      ∧ r.2.mem ((c.tc : Thread Cert.GbKernelIdeal.nD Cert.GbKernelIdeal.τ).loc Cert.GbKernelIdeal.main_arg2) = m ((c.tc : Thread Cert.GbKernelIdeal.nD Cert.GbKernelIdeal.τ).loc Cert.GbKernelIdeal.main_arg2)
      ∧ r.2.mem ((c.tc : Thread Cert.GbKernelIdeal.nD Cert.GbKernelIdeal.τ).loc Cert.GbKernelIdeal.main_arg3) = m ((c.tc : Thread Cert.GbKernelIdeal.nD Cert.GbKernelIdeal.τ).loc Cert.GbKernelIdeal.main_arg3)
      ∧ r.2.mem ((c.tc : Thread Cert.GbKernelIdeal.nD Cert.GbKernelIdeal.τ).loc Cert.GbKernelIdeal.main_arg4) = m ((c.tc : Thread Cert.GbKernelIdeal.nD Cert.GbKernelIdeal.τ).loc Cert.GbKernelIdeal.main_arg4)
      ∧ r.2.mem ((c.tc : Thread Cert.GbKernelIdeal.nD Cert.GbKernelIdeal.τ).loc Cert.GbKernelIdeal.main_arg5) = m ((c.tc : Thread Cert.GbKernelIdeal.nD Cert.GbKernelIdeal.τ).loc Cert.GbKernelIdeal.main_arg5)
      ∧ r.2.mem ((c.tc : Thread Cert.GbKernelIdeal.nD Cert.GbKernelIdeal.τ).loc Cert.GbKernelIdeal.main_arg6) = m ((c.tc : Thread Cert.GbKernelIdeal.nD Cert.GbKernelIdeal.τ).loc Cert.GbKernelIdeal.main_arg6)
      ∧ r.2.mem ((c.tc : Thread Cert.GbKernelIdeal.nD Cert.GbKernelIdeal.τ).loc Cert.GbKernelIdeal.main_arg7) = m ((c.tc : Thread Cert.GbKernelIdeal.nD Cert.GbKernelIdeal.τ).loc Cert.GbKernelIdeal.main_arg7)
      ∧ r.2.mem ((c.tc : Thread Cert.GbKernelIdeal.nD Cert.GbKernelIdeal.τ).loc Cert.GbKernelIdeal.main_arg8) = m ((c.tc : Thread Cert.GbKernelIdeal.nD Cert.GbKernelIdeal.τ).loc Cert.GbKernelIdeal.main_arg8)
      ∧ r.2.mem ((c.tc : Thread Cert.GbKernelIdeal.nD Cert.GbKernelIdeal.τ).loc Cert.GbKernelIdeal.main_arg9) = m ((c.tc : Thread Cert.GbKernelIdeal.nD Cert.GbKernelIdeal.τ).loc Cert.GbKernelIdeal.main_arg9)
      ∧ r.2.mem ((c.tc : Thread Cert.GbKernelIdeal.nD Cert.GbKernelIdeal.τ).loc Cert.GbKernelIdeal.main_arg10) = m ((c.tc : Thread Cert.GbKernelIdeal.nD Cert.GbKernelIdeal.τ).loc Cert.GbKernelIdeal.main_arg10)
      ∧ r.2.mem ((c.tc : Thread Cert.GbKernelIdeal.nD Cert.GbKernelIdeal.τ).loc Cert.GbKernelIdeal.main_arg11) = m ((c.tc : Thread Cert.GbKernelIdeal.nD Cert.GbKernelIdeal.τ).loc Cert.GbKernelIdeal.main_arg11))
      ∧ r.2.sem = fun _ => 0)

def quiescent_GfKernel [hGfKernel : Cert.GfKernel.Facts] : Prop :=
  ∀ (m : (ℓ : Loc Cert.GfKernel.nD Cert.GfKernel.τ Cert.GfKernel.sig) → Buf (Elt Bits) ℓ) (g : Dev Cert.GfKernel.nD → PrngReg), Pre_GfKernel m →
    θ_run (Cert.GfKernel.defs (F := Bits)) (onTc (τ := Cert.GfKernel.τ) (Cert.GfKernel.main (F := Bits))) ⟨m, fun _ => 0, g⟩ (fun r => (∀ c : Dev Cert.GfKernel.nD,
      r.2.mem ((c.tc : Thread Cert.GfKernel.nD Cert.GfKernel.τ).loc Cert.GfKernel.main_arg0) = m ((c.tc : Thread Cert.GfKernel.nD Cert.GfKernel.τ).loc Cert.GfKernel.main_arg0)
      ∧ r.2.mem ((c.tc : Thread Cert.GfKernel.nD Cert.GfKernel.τ).loc Cert.GfKernel.main_arg1) = m ((c.tc : Thread Cert.GfKernel.nD Cert.GfKernel.τ).loc Cert.GfKernel.main_arg1)
      ∧ r.2.mem ((c.tc : Thread Cert.GfKernel.nD Cert.GfKernel.τ).loc Cert.GfKernel.main_arg2) = m ((c.tc : Thread Cert.GfKernel.nD Cert.GfKernel.τ).loc Cert.GfKernel.main_arg2)
      ∧ r.2.mem ((c.tc : Thread Cert.GfKernel.nD Cert.GfKernel.τ).loc Cert.GfKernel.main_arg3) = m ((c.tc : Thread Cert.GfKernel.nD Cert.GfKernel.τ).loc Cert.GfKernel.main_arg3)
      ∧ r.2.mem ((c.tc : Thread Cert.GfKernel.nD Cert.GfKernel.τ).loc Cert.GfKernel.main_arg4) = m ((c.tc : Thread Cert.GfKernel.nD Cert.GfKernel.τ).loc Cert.GfKernel.main_arg4)
      ∧ r.2.mem ((c.tc : Thread Cert.GfKernel.nD Cert.GfKernel.τ).loc Cert.GfKernel.main_arg5) = m ((c.tc : Thread Cert.GfKernel.nD Cert.GfKernel.τ).loc Cert.GfKernel.main_arg5)
      ∧ r.2.mem ((c.tc : Thread Cert.GfKernel.nD Cert.GfKernel.τ).loc Cert.GfKernel.main_arg6) = m ((c.tc : Thread Cert.GfKernel.nD Cert.GfKernel.τ).loc Cert.GfKernel.main_arg6))
      ∧ r.2.sem = fun _ => 0)

def quiescent_GfKernelIdeal [hGfKernelIdeal : Cert.GfKernelIdeal.Facts] : Prop :=
  ∀ (m : (ℓ : Loc Cert.GfKernelIdeal.nD Cert.GfKernelIdeal.τ Cert.GfKernelIdeal.sig) → Buf (Elt Ideal) ℓ) (g : Dev Cert.GfKernelIdeal.nD → PrngReg), Pre_GfKernelIdeal m →
    θ_run (Cert.GfKernelIdeal.defs (F := Ideal)) (onTc (τ := Cert.GfKernelIdeal.τ) (Cert.GfKernelIdeal.main (F := Ideal))) ⟨m, fun _ => 0, g⟩ (fun r => (∀ c : Dev Cert.GfKernelIdeal.nD,
      r.2.mem ((c.tc : Thread Cert.GfKernelIdeal.nD Cert.GfKernelIdeal.τ).loc Cert.GfKernelIdeal.main_arg0) = m ((c.tc : Thread Cert.GfKernelIdeal.nD Cert.GfKernelIdeal.τ).loc Cert.GfKernelIdeal.main_arg0)
      ∧ r.2.mem ((c.tc : Thread Cert.GfKernelIdeal.nD Cert.GfKernelIdeal.τ).loc Cert.GfKernelIdeal.main_arg1) = m ((c.tc : Thread Cert.GfKernelIdeal.nD Cert.GfKernelIdeal.τ).loc Cert.GfKernelIdeal.main_arg1)
      ∧ r.2.mem ((c.tc : Thread Cert.GfKernelIdeal.nD Cert.GfKernelIdeal.τ).loc Cert.GfKernelIdeal.main_arg2) = m ((c.tc : Thread Cert.GfKernelIdeal.nD Cert.GfKernelIdeal.τ).loc Cert.GfKernelIdeal.main_arg2)
      ∧ r.2.mem ((c.tc : Thread Cert.GfKernelIdeal.nD Cert.GfKernelIdeal.τ).loc Cert.GfKernelIdeal.main_arg3) = m ((c.tc : Thread Cert.GfKernelIdeal.nD Cert.GfKernelIdeal.τ).loc Cert.GfKernelIdeal.main_arg3)
      ∧ r.2.mem ((c.tc : Thread Cert.GfKernelIdeal.nD Cert.GfKernelIdeal.τ).loc Cert.GfKernelIdeal.main_arg4) = m ((c.tc : Thread Cert.GfKernelIdeal.nD Cert.GfKernelIdeal.τ).loc Cert.GfKernelIdeal.main_arg4)
      ∧ r.2.mem ((c.tc : Thread Cert.GfKernelIdeal.nD Cert.GfKernelIdeal.τ).loc Cert.GfKernelIdeal.main_arg5) = m ((c.tc : Thread Cert.GfKernelIdeal.nD Cert.GfKernelIdeal.τ).loc Cert.GfKernelIdeal.main_arg5)
      ∧ r.2.mem ((c.tc : Thread Cert.GfKernelIdeal.nD Cert.GfKernelIdeal.τ).loc Cert.GfKernelIdeal.main_arg6) = m ((c.tc : Thread Cert.GfKernelIdeal.nD Cert.GfKernelIdeal.τ).loc Cert.GfKernelIdeal.main_arg6))
      ∧ r.2.sem = fun _ => 0)

def preserves_DxKernel_DxKernelIdeal : Prop :=
  True

def algebraic_DxKernelIdeal_DxReferenceIdeal_pre_dx_finite [hDxKernelIdeal : Cert.DxKernelIdeal.Facts] [hDxReferenceIdeal : Cert.DxReferenceIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal_dx_finite m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)) →
    ∃ (v0 : (c : Dev Cert.DxKernelIdeal.nD) → Buf (Elt Ideal) ((c.tc : Thread Cert.DxKernelIdeal.nD Cert.DxKernelIdeal.τ).loc Cert.DxKernelIdeal.main_v25_0)) (v1 : (c : Dev Cert.DxKernelIdeal.nD) → Buf (Elt Ideal) ((c.tc : Thread Cert.DxKernelIdeal.nD Cert.DxKernelIdeal.τ).loc Cert.DxKernelIdeal.main_v25_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v25_0) = v0 c
          ∧ r.2.mem ((c.tc : Thread Cert.DxKernelIdeal.nD Cert.DxKernelIdeal.τ).loc Cert.DxKernelIdeal.main_v25_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v38) = v0 c
          ∧ r.2.mem ((c.tc : Thread Cert.DxReferenceIdeal.nD Cert.DxReferenceIdeal.τ).loc Cert.DxReferenceIdeal.main_v40) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_ObKernel_ObKernelIdeal : Prop :=
  True

def algebraic_ObKernelIdeal_ObReferenceIdeal_pre_ob_finite [hObKernelIdeal : Cert.ObKernelIdeal.Facts] [hObReferenceIdeal : Cert.ObReferenceIdeal.Facts] [hPre_ob_finite : Cert.Pre_ob_finite.Facts] : Prop :=
  ∀ (m : (ℓ : Loc Cert.ObKernelIdeal.nD Cert.ObKernelIdeal.τ Cert.ObKernelIdeal.sig) → Buf (Elt Ideal) ℓ) (g : Dev Cert.ObKernelIdeal.nD → PrngReg)
    (m' : (ℓ : Loc Cert.ObReferenceIdeal.nD Cert.ObReferenceIdeal.τ Cert.ObReferenceIdeal.sig) → Buf (Elt Ideal) ℓ) (g' : Dev Cert.ObReferenceIdeal.nD → PrngReg), Pre_ObKernelIdeal_ob_finite m →
    (∀ c : Dev Cert.ObKernelIdeal.nD,
      m' ((c.tc : Thread Cert.ObReferenceIdeal.nD Cert.ObReferenceIdeal.τ).loc Cert.ObReferenceIdeal.main_arg0) = m ((c.tc : Thread Cert.ObKernelIdeal.nD Cert.ObKernelIdeal.τ).loc Cert.ObKernelIdeal.main_arg0)
      ∧ m' ((c.tc : Thread Cert.ObReferenceIdeal.nD Cert.ObReferenceIdeal.τ).loc Cert.ObReferenceIdeal.main_arg1) = m ((c.tc : Thread Cert.ObKernelIdeal.nD Cert.ObKernelIdeal.τ).loc Cert.ObKernelIdeal.main_arg1)
      ∧ m' ((c.tc : Thread Cert.ObReferenceIdeal.nD Cert.ObReferenceIdeal.τ).loc Cert.ObReferenceIdeal.main_arg2) = m ((c.tc : Thread Cert.ObKernelIdeal.nD Cert.ObKernelIdeal.τ).loc Cert.ObKernelIdeal.main_arg2)
      ∧ m' ((c.tc : Thread Cert.ObReferenceIdeal.nD Cert.ObReferenceIdeal.τ).loc Cert.ObReferenceIdeal.main_arg3) = m ((c.tc : Thread Cert.ObKernelIdeal.nD Cert.ObKernelIdeal.τ).loc Cert.ObKernelIdeal.main_arg3)
      ∧ m' ((c.tc : Thread Cert.ObReferenceIdeal.nD Cert.ObReferenceIdeal.τ).loc Cert.ObReferenceIdeal.main_arg4) = m ((c.tc : Thread Cert.ObKernelIdeal.nD Cert.ObKernelIdeal.τ).loc Cert.ObKernelIdeal.main_arg4)
      ∧ m' ((c.tc : Thread Cert.ObReferenceIdeal.nD Cert.ObReferenceIdeal.τ).loc Cert.ObReferenceIdeal.main_arg5) = m ((c.tc : Thread Cert.ObKernelIdeal.nD Cert.ObKernelIdeal.τ).loc Cert.ObKernelIdeal.main_arg5)
      ∧ m' ((c.tc : Thread Cert.ObReferenceIdeal.nD Cert.ObReferenceIdeal.τ).loc Cert.ObReferenceIdeal.main_arg6) = m ((c.tc : Thread Cert.ObKernelIdeal.nD Cert.ObKernelIdeal.τ).loc Cert.ObKernelIdeal.main_arg6)) →
    ∃ (v0 : (c : Dev Cert.ObKernelIdeal.nD) → Buf (Elt Ideal) ((c.tc : Thread Cert.ObKernelIdeal.nD Cert.ObKernelIdeal.τ).loc Cert.ObKernelIdeal.main_v9_0)) (v1 : (c : Dev Cert.ObKernelIdeal.nD) → Buf (Elt Ideal) ((c.tc : Thread Cert.ObKernelIdeal.nD Cert.ObKernelIdeal.τ).loc Cert.ObKernelIdeal.main_v9_1)) (v2 : (c : Dev Cert.ObKernelIdeal.nD) → Buf (Elt Ideal) ((c.tc : Thread Cert.ObKernelIdeal.nD Cert.ObKernelIdeal.τ).loc Cert.ObKernelIdeal.main_v9_2)) (v3 : (c : Dev Cert.ObKernelIdeal.nD) → Buf (Elt Ideal) ((c.tc : Thread Cert.ObKernelIdeal.nD Cert.ObKernelIdeal.τ).loc Cert.ObKernelIdeal.main_v9_3)) (v4 : (c : Dev Cert.ObKernelIdeal.nD) → Buf (Elt Ideal) ((c.tc : Thread Cert.ObKernelIdeal.nD Cert.ObKernelIdeal.τ).loc Cert.ObKernelIdeal.main_v9_4)) (v5 : (c : Dev Cert.ObKernelIdeal.nD) → Buf (Elt Ideal) ((c.tc : Thread Cert.ObKernelIdeal.nD Cert.ObKernelIdeal.τ).loc Cert.ObKernelIdeal.main_v9_5)),
      θ_run (Cert.ObKernelIdeal.defs (F := Ideal)) (onTc (τ := Cert.ObKernelIdeal.τ) (Cert.ObKernelIdeal.main (F := Ideal))) ⟨m, fun _ => 0, g⟩ (fun r => ∀ c : Dev Cert.ObKernelIdeal.nD,
          r.2.mem ((c.tc : Thread Cert.ObKernelIdeal.nD Cert.ObKernelIdeal.τ).loc Cert.ObKernelIdeal.main_v9_0) = v0 c
          ∧ r.2.mem ((c.tc : Thread Cert.ObKernelIdeal.nD Cert.ObKernelIdeal.τ).loc Cert.ObKernelIdeal.main_v9_1) = v1 c
          ∧ r.2.mem ((c.tc : Thread Cert.ObKernelIdeal.nD Cert.ObKernelIdeal.τ).loc Cert.ObKernelIdeal.main_v9_2) = v2 c
          ∧ r.2.mem ((c.tc : Thread Cert.ObKernelIdeal.nD Cert.ObKernelIdeal.τ).loc Cert.ObKernelIdeal.main_v9_3) = v3 c
          ∧ r.2.mem ((c.tc : Thread Cert.ObKernelIdeal.nD Cert.ObKernelIdeal.τ).loc Cert.ObKernelIdeal.main_v9_4) = v4 c
          ∧ r.2.mem ((c.tc : Thread Cert.ObKernelIdeal.nD Cert.ObKernelIdeal.τ).loc Cert.ObKernelIdeal.main_v9_5) = v5 c
          ∧ r.2.mem ((c.tc : Thread Cert.ObKernelIdeal.nD Cert.ObKernelIdeal.τ).loc Cert.ObKernelIdeal.main_arg0) = m ((c.tc : Thread Cert.ObKernelIdeal.nD Cert.ObKernelIdeal.τ).loc Cert.ObKernelIdeal.main_arg0)
          ∧ r.2.mem ((c.tc : Thread Cert.ObKernelIdeal.nD Cert.ObKernelIdeal.τ).loc Cert.ObKernelIdeal.main_arg1) = m ((c.tc : Thread Cert.ObKernelIdeal.nD Cert.ObKernelIdeal.τ).loc Cert.ObKernelIdeal.main_arg1)
          ∧ r.2.mem ((c.tc : Thread Cert.ObKernelIdeal.nD Cert.ObKernelIdeal.τ).loc Cert.ObKernelIdeal.main_arg2) = m ((c.tc : Thread Cert.ObKernelIdeal.nD Cert.ObKernelIdeal.τ).loc Cert.ObKernelIdeal.main_arg2)
          ∧ r.2.mem ((c.tc : Thread Cert.ObKernelIdeal.nD Cert.ObKernelIdeal.τ).loc Cert.ObKernelIdeal.main_arg3) = m ((c.tc : Thread Cert.ObKernelIdeal.nD Cert.ObKernelIdeal.τ).loc Cert.ObKernelIdeal.main_arg3)
          ∧ r.2.mem ((c.tc : Thread Cert.ObKernelIdeal.nD Cert.ObKernelIdeal.τ).loc Cert.ObKernelIdeal.main_arg4) = m ((c.tc : Thread Cert.ObKernelIdeal.nD Cert.ObKernelIdeal.τ).loc Cert.ObKernelIdeal.main_arg4)
          ∧ r.2.mem ((c.tc : Thread Cert.ObKernelIdeal.nD Cert.ObKernelIdeal.τ).loc Cert.ObKernelIdeal.main_arg5) = m ((c.tc : Thread Cert.ObKernelIdeal.nD Cert.ObKernelIdeal.τ).loc Cert.ObKernelIdeal.main_arg5)
          ∧ r.2.mem ((c.tc : Thread Cert.ObKernelIdeal.nD Cert.ObKernelIdeal.τ).loc Cert.ObKernelIdeal.main_arg6) = m ((c.tc : Thread Cert.ObKernelIdeal.nD Cert.ObKernelIdeal.τ).loc Cert.ObKernelIdeal.main_arg6))
      ∧ θ_run (Cert.ObReferenceIdeal.defs (F := Ideal)) (onTc (τ := Cert.ObReferenceIdeal.τ) (Cert.ObReferenceIdeal.main (F := Ideal))) ⟨m', fun _ => 0, g'⟩ (fun r => ∀ c : Dev Cert.ObReferenceIdeal.nD,
          r.2.mem ((c.tc : Thread Cert.ObReferenceIdeal.nD Cert.ObReferenceIdeal.τ).loc Cert.ObReferenceIdeal.main_v45) = v0 c
          ∧ r.2.mem ((c.tc : Thread Cert.ObReferenceIdeal.nD Cert.ObReferenceIdeal.τ).loc Cert.ObReferenceIdeal.main_v46) = v1 c
          ∧ r.2.mem ((c.tc : Thread Cert.ObReferenceIdeal.nD Cert.ObReferenceIdeal.τ).loc Cert.ObReferenceIdeal.main_v47) = v2 c
          ∧ r.2.mem ((c.tc : Thread Cert.ObReferenceIdeal.nD Cert.ObReferenceIdeal.τ).loc Cert.ObReferenceIdeal.main_v49) = v3 c
          ∧ r.2.mem ((c.tc : Thread Cert.ObReferenceIdeal.nD Cert.ObReferenceIdeal.τ).loc Cert.ObReferenceIdeal.main_v40) = v4 c
          ∧ r.2.mem ((c.tc : Thread Cert.ObReferenceIdeal.nD Cert.ObReferenceIdeal.τ).loc Cert.ObReferenceIdeal.main_v50) = v5 c
          ∧ r.2.mem ((c.tc : Thread Cert.ObReferenceIdeal.nD Cert.ObReferenceIdeal.τ).loc Cert.ObReferenceIdeal.main_arg0) = m' ((c.tc : Thread Cert.ObReferenceIdeal.nD Cert.ObReferenceIdeal.τ).loc Cert.ObReferenceIdeal.main_arg0)
          ∧ r.2.mem ((c.tc : Thread Cert.ObReferenceIdeal.nD Cert.ObReferenceIdeal.τ).loc Cert.ObReferenceIdeal.main_arg1) = m' ((c.tc : Thread Cert.ObReferenceIdeal.nD Cert.ObReferenceIdeal.τ).loc Cert.ObReferenceIdeal.main_arg1)
          ∧ r.2.mem ((c.tc : Thread Cert.ObReferenceIdeal.nD Cert.ObReferenceIdeal.τ).loc Cert.ObReferenceIdeal.main_arg2) = m' ((c.tc : Thread Cert.ObReferenceIdeal.nD Cert.ObReferenceIdeal.τ).loc Cert.ObReferenceIdeal.main_arg2)
          ∧ r.2.mem ((c.tc : Thread Cert.ObReferenceIdeal.nD Cert.ObReferenceIdeal.τ).loc Cert.ObReferenceIdeal.main_arg3) = m' ((c.tc : Thread Cert.ObReferenceIdeal.nD Cert.ObReferenceIdeal.τ).loc Cert.ObReferenceIdeal.main_arg3)
          ∧ r.2.mem ((c.tc : Thread Cert.ObReferenceIdeal.nD Cert.ObReferenceIdeal.τ).loc Cert.ObReferenceIdeal.main_arg4) = m' ((c.tc : Thread Cert.ObReferenceIdeal.nD Cert.ObReferenceIdeal.τ).loc Cert.ObReferenceIdeal.main_arg4)
          ∧ r.2.mem ((c.tc : Thread Cert.ObReferenceIdeal.nD Cert.ObReferenceIdeal.τ).loc Cert.ObReferenceIdeal.main_arg5) = m' ((c.tc : Thread Cert.ObReferenceIdeal.nD Cert.ObReferenceIdeal.τ).loc Cert.ObReferenceIdeal.main_arg5)
          ∧ r.2.mem ((c.tc : Thread Cert.ObReferenceIdeal.nD Cert.ObReferenceIdeal.τ).loc Cert.ObReferenceIdeal.main_arg6) = m' ((c.tc : Thread Cert.ObReferenceIdeal.nD Cert.ObReferenceIdeal.τ).loc Cert.ObReferenceIdeal.main_arg6))

def preserves_RfKernel_RfKernelIdeal : Prop :=
  IdealRules.named_const.Statement Cert.RfKernelIdeal.κ "lg0" .f32 0xBD020AEC#32 ((Real.log (31 / 32) : ℝ) : EReal)
  ∧ IdealRules.named_const.Statement Cert.RfKernelIdeal.κ "lg1" .f32 0xBC8102B3#32 ((Real.log (63 / 64) : ℝ) : EReal)
  ∧ IdealRules.named_const.Statement Cert.RfKernelIdeal.κ "lg2" .f32 0xBC0080AC#32 ((Real.log (127 / 128) : ℝ) : EReal)
  ∧ IdealRules.named_const.Statement Cert.RfKernelIdeal.κ "lg3" .f32 0xBB80402B#32 ((Real.log (255 / 256) : ℝ) : EReal)
  ∧ IdealRules.named_const.Statement Cert.RfKernelIdeal.κ "cd0" .f32 0x3E063AE5#32 ((279993793990258235750468749959300213014699042596341116563305503247751586492770004816505534904321 / 2135987035920910082395021706169552114602704522356652769947041607822219725780640550022962086936576 : ℝ) : EReal)
  ∧ IdealRules.named_const.Statement Cert.RfKernelIdeal.κ "cd1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.RfKernelIdeal.κ "cd2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.RfKernelIdeal.κ "cd3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_RfKernelIdeal_RfReferenceIdeal [hRfKernelIdeal : Cert.RfKernelIdeal.Facts] [hRfReferenceIdeal : Cert.RfReferenceIdeal.Facts] : Prop :=
  ∀ (m : (ℓ : Loc Cert.RfKernelIdeal.nD Cert.RfKernelIdeal.τ Cert.RfKernelIdeal.sig) → Buf (Elt Ideal) ℓ) (g : Dev Cert.RfKernelIdeal.nD → PrngReg)
    (m' : (ℓ : Loc Cert.RfReferenceIdeal.nD Cert.RfReferenceIdeal.τ Cert.RfReferenceIdeal.sig) → Buf (Elt Ideal) ℓ) (g' : Dev Cert.RfReferenceIdeal.nD → PrngReg), Pre_RfKernelIdeal m →
    (∀ c : Dev Cert.RfKernelIdeal.nD,
      m' ((c.tc : Thread Cert.RfReferenceIdeal.nD Cert.RfReferenceIdeal.τ).loc Cert.RfReferenceIdeal.main_arg0) = m ((c.tc : Thread Cert.RfKernelIdeal.nD Cert.RfKernelIdeal.τ).loc Cert.RfKernelIdeal.main_arg0)
      ∧ m' ((c.tc : Thread Cert.RfReferenceIdeal.nD Cert.RfReferenceIdeal.τ).loc Cert.RfReferenceIdeal.main_arg1) = m ((c.tc : Thread Cert.RfKernelIdeal.nD Cert.RfKernelIdeal.τ).loc Cert.RfKernelIdeal.main_arg1)) →
    ∃ (v0 : (c : Dev Cert.RfKernelIdeal.nD) → Buf (Elt Ideal) ((c.tc : Thread Cert.RfKernelIdeal.nD Cert.RfKernelIdeal.τ).loc Cert.RfKernelIdeal.main_v53_0)) (v1 : (c : Dev Cert.RfKernelIdeal.nD) → Buf (Elt Ideal) ((c.tc : Thread Cert.RfKernelIdeal.nD Cert.RfKernelIdeal.τ).loc Cert.RfKernelIdeal.main_v53_1)),
      θ_run (Cert.RfKernelIdeal.defs (F := Ideal)) (onTc (τ := Cert.RfKernelIdeal.τ) (Cert.RfKernelIdeal.main (F := Ideal))) ⟨m, fun _ => 0, g⟩ (fun r => ∀ c : Dev Cert.RfKernelIdeal.nD,
          r.2.mem ((c.tc : Thread Cert.RfKernelIdeal.nD Cert.RfKernelIdeal.τ).loc Cert.RfKernelIdeal.main_v53_0) = v0 c
          ∧ r.2.mem ((c.tc : Thread Cert.RfKernelIdeal.nD Cert.RfKernelIdeal.τ).loc Cert.RfKernelIdeal.main_v53_1) = v1 c
          ∧ r.2.mem ((c.tc : Thread Cert.RfKernelIdeal.nD Cert.RfKernelIdeal.τ).loc Cert.RfKernelIdeal.main_arg0) = m ((c.tc : Thread Cert.RfKernelIdeal.nD Cert.RfKernelIdeal.τ).loc Cert.RfKernelIdeal.main_arg0)
          ∧ r.2.mem ((c.tc : Thread Cert.RfKernelIdeal.nD Cert.RfKernelIdeal.τ).loc Cert.RfKernelIdeal.main_arg1) = m ((c.tc : Thread Cert.RfKernelIdeal.nD Cert.RfKernelIdeal.τ).loc Cert.RfKernelIdeal.main_arg1))
      ∧ θ_run (Cert.RfReferenceIdeal.defs (F := Ideal)) (onTc (τ := Cert.RfReferenceIdeal.τ) (Cert.RfReferenceIdeal.main (F := Ideal))) ⟨m', fun _ => 0, g'⟩ (fun r => ∀ c : Dev Cert.RfReferenceIdeal.nD,
          r.2.mem ((c.tc : Thread Cert.RfReferenceIdeal.nD Cert.RfReferenceIdeal.τ).loc Cert.RfReferenceIdeal.main_v146) = v0 c
          ∧ r.2.mem ((c.tc : Thread Cert.RfReferenceIdeal.nD Cert.RfReferenceIdeal.τ).loc Cert.RfReferenceIdeal.main_v147) = v1 c
          ∧ r.2.mem ((c.tc : Thread Cert.RfReferenceIdeal.nD Cert.RfReferenceIdeal.τ).loc Cert.RfReferenceIdeal.main_arg0) = m' ((c.tc : Thread Cert.RfReferenceIdeal.nD Cert.RfReferenceIdeal.τ).loc Cert.RfReferenceIdeal.main_arg0)
          ∧ r.2.mem ((c.tc : Thread Cert.RfReferenceIdeal.nD Cert.RfReferenceIdeal.τ).loc Cert.RfReferenceIdeal.main_arg1) = m' ((c.tc : Thread Cert.RfReferenceIdeal.nD Cert.RfReferenceIdeal.τ).loc Cert.RfReferenceIdeal.main_arg1))

def preserves_SfKernel_SfKernelIdeal : Prop :=
  IdealRules.named_const.Statement Cert.SfKernelIdeal.κ "mask" .f32 0xF149F2CA#32 ⊥

def algebraic_SfKernelIdeal_SfReferenceIdeal [hSfKernelIdeal : Cert.SfKernelIdeal.Facts] [hSfReferenceIdeal : Cert.SfReferenceIdeal.Facts] : Prop :=
  ∀ (m : (ℓ : Loc Cert.SfKernelIdeal.nD Cert.SfKernelIdeal.τ Cert.SfKernelIdeal.sig) → Buf (Elt Ideal) ℓ) (g : Dev Cert.SfKernelIdeal.nD → PrngReg)
    (m' : (ℓ : Loc Cert.SfReferenceIdeal.nD Cert.SfReferenceIdeal.τ Cert.SfReferenceIdeal.sig) → Buf (Elt Ideal) ℓ) (g' : Dev Cert.SfReferenceIdeal.nD → PrngReg), Pre_SfKernelIdeal m →
    (∀ c : Dev Cert.SfKernelIdeal.nD,
      m' ((c.tc : Thread Cert.SfReferenceIdeal.nD Cert.SfReferenceIdeal.τ).loc Cert.SfReferenceIdeal.main_arg0) = m ((c.tc : Thread Cert.SfKernelIdeal.nD Cert.SfKernelIdeal.τ).loc Cert.SfKernelIdeal.main_arg0)
      ∧ m' ((c.tc : Thread Cert.SfReferenceIdeal.nD Cert.SfReferenceIdeal.τ).loc Cert.SfReferenceIdeal.main_arg1) = m ((c.tc : Thread Cert.SfKernelIdeal.nD Cert.SfKernelIdeal.τ).loc Cert.SfKernelIdeal.main_arg1)
      ∧ m' ((c.tc : Thread Cert.SfReferenceIdeal.nD Cert.SfReferenceIdeal.τ).loc Cert.SfReferenceIdeal.main_arg2) = m ((c.tc : Thread Cert.SfKernelIdeal.nD Cert.SfKernelIdeal.τ).loc Cert.SfKernelIdeal.main_arg2)
      ∧ m' ((c.tc : Thread Cert.SfReferenceIdeal.nD Cert.SfReferenceIdeal.τ).loc Cert.SfReferenceIdeal.main_arg3) = m ((c.tc : Thread Cert.SfKernelIdeal.nD Cert.SfKernelIdeal.τ).loc Cert.SfKernelIdeal.main_arg3)
      ∧ m' ((c.tc : Thread Cert.SfReferenceIdeal.nD Cert.SfReferenceIdeal.τ).loc Cert.SfReferenceIdeal.main_arg4) = m ((c.tc : Thread Cert.SfKernelIdeal.nD Cert.SfKernelIdeal.τ).loc Cert.SfKernelIdeal.main_arg4)
      ∧ m' ((c.tc : Thread Cert.SfReferenceIdeal.nD Cert.SfReferenceIdeal.τ).loc Cert.SfReferenceIdeal.main_arg5) = m ((c.tc : Thread Cert.SfKernelIdeal.nD Cert.SfKernelIdeal.τ).loc Cert.SfKernelIdeal.main_arg5)
      ∧ m' ((c.tc : Thread Cert.SfReferenceIdeal.nD Cert.SfReferenceIdeal.τ).loc Cert.SfReferenceIdeal.main_arg6) = m ((c.tc : Thread Cert.SfKernelIdeal.nD Cert.SfKernelIdeal.τ).loc Cert.SfKernelIdeal.main_arg6)
      ∧ m' ((c.tc : Thread Cert.SfReferenceIdeal.nD Cert.SfReferenceIdeal.τ).loc Cert.SfReferenceIdeal.main_arg7) = m ((c.tc : Thread Cert.SfKernelIdeal.nD Cert.SfKernelIdeal.τ).loc Cert.SfKernelIdeal.main_arg7)) →
    ∃ (v0 : (c : Dev Cert.SfKernelIdeal.nD) → Buf (Elt Ideal) ((c.tc : Thread Cert.SfKernelIdeal.nD Cert.SfKernelIdeal.τ).loc Cert.SfKernelIdeal.main_v21_0)) (v1 : (c : Dev Cert.SfKernelIdeal.nD) → Buf (Elt Ideal) ((c.tc : Thread Cert.SfKernelIdeal.nD Cert.SfKernelIdeal.τ).loc Cert.SfKernelIdeal.main_v21_1)) (v2 : (c : Dev Cert.SfKernelIdeal.nD) → Buf (Elt Ideal) ((c.tc : Thread Cert.SfKernelIdeal.nD Cert.SfKernelIdeal.τ).loc Cert.SfKernelIdeal.main_v21_2)) (v3 : (c : Dev Cert.SfKernelIdeal.nD) → Buf (Elt Ideal) ((c.tc : Thread Cert.SfKernelIdeal.nD Cert.SfKernelIdeal.τ).loc Cert.SfKernelIdeal.main_v21_3)),
      θ_run (Cert.SfKernelIdeal.defs (F := Ideal)) (onTc (τ := Cert.SfKernelIdeal.τ) (Cert.SfKernelIdeal.main (F := Ideal))) ⟨m, fun _ => 0, g⟩ (fun r => ∀ c : Dev Cert.SfKernelIdeal.nD,
          r.2.mem ((c.tc : Thread Cert.SfKernelIdeal.nD Cert.SfKernelIdeal.τ).loc Cert.SfKernelIdeal.main_v21_0) = v0 c
          ∧ r.2.mem ((c.tc : Thread Cert.SfKernelIdeal.nD Cert.SfKernelIdeal.τ).loc Cert.SfKernelIdeal.main_v21_1) = v1 c
          ∧ r.2.mem ((c.tc : Thread Cert.SfKernelIdeal.nD Cert.SfKernelIdeal.τ).loc Cert.SfKernelIdeal.main_v21_2) = v2 c
          ∧ r.2.mem ((c.tc : Thread Cert.SfKernelIdeal.nD Cert.SfKernelIdeal.τ).loc Cert.SfKernelIdeal.main_v21_3) = v3 c
          ∧ r.2.mem ((c.tc : Thread Cert.SfKernelIdeal.nD Cert.SfKernelIdeal.τ).loc Cert.SfKernelIdeal.main_arg0) = m ((c.tc : Thread Cert.SfKernelIdeal.nD Cert.SfKernelIdeal.τ).loc Cert.SfKernelIdeal.main_arg0)
          ∧ r.2.mem ((c.tc : Thread Cert.SfKernelIdeal.nD Cert.SfKernelIdeal.τ).loc Cert.SfKernelIdeal.main_arg1) = m ((c.tc : Thread Cert.SfKernelIdeal.nD Cert.SfKernelIdeal.τ).loc Cert.SfKernelIdeal.main_arg1)
          ∧ r.2.mem ((c.tc : Thread Cert.SfKernelIdeal.nD Cert.SfKernelIdeal.τ).loc Cert.SfKernelIdeal.main_arg2) = m ((c.tc : Thread Cert.SfKernelIdeal.nD Cert.SfKernelIdeal.τ).loc Cert.SfKernelIdeal.main_arg2)
          ∧ r.2.mem ((c.tc : Thread Cert.SfKernelIdeal.nD Cert.SfKernelIdeal.τ).loc Cert.SfKernelIdeal.main_arg3) = m ((c.tc : Thread Cert.SfKernelIdeal.nD Cert.SfKernelIdeal.τ).loc Cert.SfKernelIdeal.main_arg3)
          ∧ r.2.mem ((c.tc : Thread Cert.SfKernelIdeal.nD Cert.SfKernelIdeal.τ).loc Cert.SfKernelIdeal.main_arg4) = m ((c.tc : Thread Cert.SfKernelIdeal.nD Cert.SfKernelIdeal.τ).loc Cert.SfKernelIdeal.main_arg4)
          ∧ r.2.mem ((c.tc : Thread Cert.SfKernelIdeal.nD Cert.SfKernelIdeal.τ).loc Cert.SfKernelIdeal.main_arg5) = m ((c.tc : Thread Cert.SfKernelIdeal.nD Cert.SfKernelIdeal.τ).loc Cert.SfKernelIdeal.main_arg5)
          ∧ r.2.mem ((c.tc : Thread Cert.SfKernelIdeal.nD Cert.SfKernelIdeal.τ).loc Cert.SfKernelIdeal.main_arg6) = m ((c.tc : Thread Cert.SfKernelIdeal.nD Cert.SfKernelIdeal.τ).loc Cert.SfKernelIdeal.main_arg6)
          ∧ r.2.mem ((c.tc : Thread Cert.SfKernelIdeal.nD Cert.SfKernelIdeal.τ).loc Cert.SfKernelIdeal.main_arg7) = m ((c.tc : Thread Cert.SfKernelIdeal.nD Cert.SfKernelIdeal.τ).loc Cert.SfKernelIdeal.main_arg7))
      ∧ θ_run (Cert.SfReferenceIdeal.defs (F := Ideal)) (onTc (τ := Cert.SfReferenceIdeal.τ) (Cert.SfReferenceIdeal.main (F := Ideal))) ⟨m', fun _ => 0, g'⟩ (fun r => ∀ c : Dev Cert.SfReferenceIdeal.nD,
          r.2.mem ((c.tc : Thread Cert.SfReferenceIdeal.nD Cert.SfReferenceIdeal.τ).loc Cert.SfReferenceIdeal.main_v149) = v0 c
          ∧ r.2.mem ((c.tc : Thread Cert.SfReferenceIdeal.nD Cert.SfReferenceIdeal.τ).loc Cert.SfReferenceIdeal.main_v147) = v1 c
          ∧ r.2.mem ((c.tc : Thread Cert.SfReferenceIdeal.nD Cert.SfReferenceIdeal.τ).loc Cert.SfReferenceIdeal.main_v150) = v2 c
          ∧ r.2.mem ((c.tc : Thread Cert.SfReferenceIdeal.nD Cert.SfReferenceIdeal.τ).loc Cert.SfReferenceIdeal.main_v151) = v3 c
          ∧ r.2.mem ((c.tc : Thread Cert.SfReferenceIdeal.nD Cert.SfReferenceIdeal.τ).loc Cert.SfReferenceIdeal.main_arg0) = m' ((c.tc : Thread Cert.SfReferenceIdeal.nD Cert.SfReferenceIdeal.τ).loc Cert.SfReferenceIdeal.main_arg0)
          ∧ r.2.mem ((c.tc : Thread Cert.SfReferenceIdeal.nD Cert.SfReferenceIdeal.τ).loc Cert.SfReferenceIdeal.main_arg1) = m' ((c.tc : Thread Cert.SfReferenceIdeal.nD Cert.SfReferenceIdeal.τ).loc Cert.SfReferenceIdeal.main_arg1)
          ∧ r.2.mem ((c.tc : Thread Cert.SfReferenceIdeal.nD Cert.SfReferenceIdeal.τ).loc Cert.SfReferenceIdeal.main_arg2) = m' ((c.tc : Thread Cert.SfReferenceIdeal.nD Cert.SfReferenceIdeal.τ).loc Cert.SfReferenceIdeal.main_arg2)
          ∧ r.2.mem ((c.tc : Thread Cert.SfReferenceIdeal.nD Cert.SfReferenceIdeal.τ).loc Cert.SfReferenceIdeal.main_arg3) = m' ((c.tc : Thread Cert.SfReferenceIdeal.nD Cert.SfReferenceIdeal.τ).loc Cert.SfReferenceIdeal.main_arg3)
          ∧ r.2.mem ((c.tc : Thread Cert.SfReferenceIdeal.nD Cert.SfReferenceIdeal.τ).loc Cert.SfReferenceIdeal.main_arg4) = m' ((c.tc : Thread Cert.SfReferenceIdeal.nD Cert.SfReferenceIdeal.τ).loc Cert.SfReferenceIdeal.main_arg4)
          ∧ r.2.mem ((c.tc : Thread Cert.SfReferenceIdeal.nD Cert.SfReferenceIdeal.τ).loc Cert.SfReferenceIdeal.main_arg5) = m' ((c.tc : Thread Cert.SfReferenceIdeal.nD Cert.SfReferenceIdeal.τ).loc Cert.SfReferenceIdeal.main_arg5)
          ∧ r.2.mem ((c.tc : Thread Cert.SfReferenceIdeal.nD Cert.SfReferenceIdeal.τ).loc Cert.SfReferenceIdeal.main_arg6) = m' ((c.tc : Thread Cert.SfReferenceIdeal.nD Cert.SfReferenceIdeal.τ).loc Cert.SfReferenceIdeal.main_arg6)
          ∧ r.2.mem ((c.tc : Thread Cert.SfReferenceIdeal.nD Cert.SfReferenceIdeal.τ).loc Cert.SfReferenceIdeal.main_arg7) = m' ((c.tc : Thread Cert.SfReferenceIdeal.nD Cert.SfReferenceIdeal.τ).loc Cert.SfReferenceIdeal.main_arg7))

def preserves_OlKernel_OlKernelIdeal : Prop :=
  True

def algebraic_OlKernelIdeal_OlReferenceIdeal [hOlKernelIdeal : Cert.OlKernelIdeal.Facts] [hOlReferenceIdeal : Cert.OlReferenceIdeal.Facts] : Prop :=
  ∀ (m : (ℓ : Loc Cert.OlKernelIdeal.nD Cert.OlKernelIdeal.τ Cert.OlKernelIdeal.sig) → Buf (Elt Ideal) ℓ) (g : Dev Cert.OlKernelIdeal.nD → PrngReg)
    (m' : (ℓ : Loc Cert.OlReferenceIdeal.nD Cert.OlReferenceIdeal.τ Cert.OlReferenceIdeal.sig) → Buf (Elt Ideal) ℓ) (g' : Dev Cert.OlReferenceIdeal.nD → PrngReg), Pre_OlKernelIdeal m →
    (∀ c : Dev Cert.OlKernelIdeal.nD,
      m' ((c.tc : Thread Cert.OlReferenceIdeal.nD Cert.OlReferenceIdeal.τ).loc Cert.OlReferenceIdeal.main_arg0) = m ((c.tc : Thread Cert.OlKernelIdeal.nD Cert.OlKernelIdeal.τ).loc Cert.OlKernelIdeal.main_arg0)
      ∧ m' ((c.tc : Thread Cert.OlReferenceIdeal.nD Cert.OlReferenceIdeal.τ).loc Cert.OlReferenceIdeal.main_arg1) = m ((c.tc : Thread Cert.OlKernelIdeal.nD Cert.OlKernelIdeal.τ).loc Cert.OlKernelIdeal.main_arg1)
      ∧ m' ((c.tc : Thread Cert.OlReferenceIdeal.nD Cert.OlReferenceIdeal.τ).loc Cert.OlReferenceIdeal.main_arg2) = m ((c.tc : Thread Cert.OlKernelIdeal.nD Cert.OlKernelIdeal.τ).loc Cert.OlKernelIdeal.main_arg2)
      ∧ m' ((c.tc : Thread Cert.OlReferenceIdeal.nD Cert.OlReferenceIdeal.τ).loc Cert.OlReferenceIdeal.main_arg3) = m ((c.tc : Thread Cert.OlKernelIdeal.nD Cert.OlKernelIdeal.τ).loc Cert.OlKernelIdeal.main_arg3)
      ∧ m' ((c.tc : Thread Cert.OlReferenceIdeal.nD Cert.OlReferenceIdeal.τ).loc Cert.OlReferenceIdeal.main_arg4) = m ((c.tc : Thread Cert.OlKernelIdeal.nD Cert.OlKernelIdeal.τ).loc Cert.OlKernelIdeal.main_arg4)
      ∧ m' ((c.tc : Thread Cert.OlReferenceIdeal.nD Cert.OlReferenceIdeal.τ).loc Cert.OlReferenceIdeal.main_arg5) = m ((c.tc : Thread Cert.OlKernelIdeal.nD Cert.OlKernelIdeal.τ).loc Cert.OlKernelIdeal.main_arg5)
      ∧ m' ((c.tc : Thread Cert.OlReferenceIdeal.nD Cert.OlReferenceIdeal.τ).loc Cert.OlReferenceIdeal.main_arg6) = m ((c.tc : Thread Cert.OlKernelIdeal.nD Cert.OlKernelIdeal.τ).loc Cert.OlKernelIdeal.main_arg6)) →
    ∃ (v0 : (c : Dev Cert.OlKernelIdeal.nD) → Buf (Elt Ideal) ((c.tc : Thread Cert.OlKernelIdeal.nD Cert.OlKernelIdeal.τ).loc Cert.OlKernelIdeal.main_v8_0)) (v1 : (c : Dev Cert.OlKernelIdeal.nD) → Buf (Elt Ideal) ((c.tc : Thread Cert.OlKernelIdeal.nD Cert.OlKernelIdeal.τ).loc Cert.OlKernelIdeal.main_v8_1)) (v2 : (c : Dev Cert.OlKernelIdeal.nD) → Buf (Elt Ideal) ((c.tc : Thread Cert.OlKernelIdeal.nD Cert.OlKernelIdeal.τ).loc Cert.OlKernelIdeal.main_v8_2)),
      θ_run (Cert.OlKernelIdeal.defs (F := Ideal)) (onTc (τ := Cert.OlKernelIdeal.τ) (Cert.OlKernelIdeal.main (F := Ideal))) ⟨m, fun _ => 0, g⟩ (fun r => ∀ c : Dev Cert.OlKernelIdeal.nD,
          r.2.mem ((c.tc : Thread Cert.OlKernelIdeal.nD Cert.OlKernelIdeal.τ).loc Cert.OlKernelIdeal.main_v8_0) = v0 c
          ∧ r.2.mem ((c.tc : Thread Cert.OlKernelIdeal.nD Cert.OlKernelIdeal.τ).loc Cert.OlKernelIdeal.main_v8_1) = v1 c
          ∧ r.2.mem ((c.tc : Thread Cert.OlKernelIdeal.nD Cert.OlKernelIdeal.τ).loc Cert.OlKernelIdeal.main_v8_2) = v2 c
          ∧ r.2.mem ((c.tc : Thread Cert.OlKernelIdeal.nD Cert.OlKernelIdeal.τ).loc Cert.OlKernelIdeal.main_arg0) = m ((c.tc : Thread Cert.OlKernelIdeal.nD Cert.OlKernelIdeal.τ).loc Cert.OlKernelIdeal.main_arg0)
          ∧ r.2.mem ((c.tc : Thread Cert.OlKernelIdeal.nD Cert.OlKernelIdeal.τ).loc Cert.OlKernelIdeal.main_arg1) = m ((c.tc : Thread Cert.OlKernelIdeal.nD Cert.OlKernelIdeal.τ).loc Cert.OlKernelIdeal.main_arg1)
          ∧ r.2.mem ((c.tc : Thread Cert.OlKernelIdeal.nD Cert.OlKernelIdeal.τ).loc Cert.OlKernelIdeal.main_arg2) = m ((c.tc : Thread Cert.OlKernelIdeal.nD Cert.OlKernelIdeal.τ).loc Cert.OlKernelIdeal.main_arg2)
          ∧ r.2.mem ((c.tc : Thread Cert.OlKernelIdeal.nD Cert.OlKernelIdeal.τ).loc Cert.OlKernelIdeal.main_arg3) = m ((c.tc : Thread Cert.OlKernelIdeal.nD Cert.OlKernelIdeal.τ).loc Cert.OlKernelIdeal.main_arg3)
          ∧ r.2.mem ((c.tc : Thread Cert.OlKernelIdeal.nD Cert.OlKernelIdeal.τ).loc Cert.OlKernelIdeal.main_arg4) = m ((c.tc : Thread Cert.OlKernelIdeal.nD Cert.OlKernelIdeal.τ).loc Cert.OlKernelIdeal.main_arg4)
          ∧ r.2.mem ((c.tc : Thread Cert.OlKernelIdeal.nD Cert.OlKernelIdeal.τ).loc Cert.OlKernelIdeal.main_arg5) = m ((c.tc : Thread Cert.OlKernelIdeal.nD Cert.OlKernelIdeal.τ).loc Cert.OlKernelIdeal.main_arg5)
          ∧ r.2.mem ((c.tc : Thread Cert.OlKernelIdeal.nD Cert.OlKernelIdeal.τ).loc Cert.OlKernelIdeal.main_arg6) = m ((c.tc : Thread Cert.OlKernelIdeal.nD Cert.OlKernelIdeal.τ).loc Cert.OlKernelIdeal.main_arg6))
      ∧ θ_run (Cert.OlReferenceIdeal.defs (F := Ideal)) (onTc (τ := Cert.OlReferenceIdeal.τ) (Cert.OlReferenceIdeal.main (F := Ideal))) ⟨m', fun _ => 0, g'⟩ (fun r => ∀ c : Dev Cert.OlReferenceIdeal.nD,
          r.2.mem ((c.tc : Thread Cert.OlReferenceIdeal.nD Cert.OlReferenceIdeal.τ).loc Cert.OlReferenceIdeal.main_v1) = v0 c
          ∧ r.2.mem ((c.tc : Thread Cert.OlReferenceIdeal.nD Cert.OlReferenceIdeal.τ).loc Cert.OlReferenceIdeal.main_v30) = v1 c
          ∧ r.2.mem ((c.tc : Thread Cert.OlReferenceIdeal.nD Cert.OlReferenceIdeal.τ).loc Cert.OlReferenceIdeal.main_v32) = v2 c
          ∧ r.2.mem ((c.tc : Thread Cert.OlReferenceIdeal.nD Cert.OlReferenceIdeal.τ).loc Cert.OlReferenceIdeal.main_arg0) = m' ((c.tc : Thread Cert.OlReferenceIdeal.nD Cert.OlReferenceIdeal.τ).loc Cert.OlReferenceIdeal.main_arg0)
          ∧ r.2.mem ((c.tc : Thread Cert.OlReferenceIdeal.nD Cert.OlReferenceIdeal.τ).loc Cert.OlReferenceIdeal.main_arg1) = m' ((c.tc : Thread Cert.OlReferenceIdeal.nD Cert.OlReferenceIdeal.τ).loc Cert.OlReferenceIdeal.main_arg1)
          ∧ r.2.mem ((c.tc : Thread Cert.OlReferenceIdeal.nD Cert.OlReferenceIdeal.τ).loc Cert.OlReferenceIdeal.main_arg2) = m' ((c.tc : Thread Cert.OlReferenceIdeal.nD Cert.OlReferenceIdeal.τ).loc Cert.OlReferenceIdeal.main_arg2)
          ∧ r.2.mem ((c.tc : Thread Cert.OlReferenceIdeal.nD Cert.OlReferenceIdeal.τ).loc Cert.OlReferenceIdeal.main_arg3) = m' ((c.tc : Thread Cert.OlReferenceIdeal.nD Cert.OlReferenceIdeal.τ).loc Cert.OlReferenceIdeal.main_arg3)
          ∧ r.2.mem ((c.tc : Thread Cert.OlReferenceIdeal.nD Cert.OlReferenceIdeal.τ).loc Cert.OlReferenceIdeal.main_arg4) = m' ((c.tc : Thread Cert.OlReferenceIdeal.nD Cert.OlReferenceIdeal.τ).loc Cert.OlReferenceIdeal.main_arg4)
          ∧ r.2.mem ((c.tc : Thread Cert.OlReferenceIdeal.nD Cert.OlReferenceIdeal.τ).loc Cert.OlReferenceIdeal.main_arg5) = m' ((c.tc : Thread Cert.OlReferenceIdeal.nD Cert.OlReferenceIdeal.τ).loc Cert.OlReferenceIdeal.main_arg5)
          ∧ r.2.mem ((c.tc : Thread Cert.OlReferenceIdeal.nD Cert.OlReferenceIdeal.τ).loc Cert.OlReferenceIdeal.main_arg6) = m' ((c.tc : Thread Cert.OlReferenceIdeal.nD Cert.OlReferenceIdeal.τ).loc Cert.OlReferenceIdeal.main_arg6))

def preserves_IpKernel_IpKernelIdeal : Prop :=
  True

def algebraic_IpKernelIdeal_IpReferenceIdeal [hIpKernelIdeal : Cert.IpKernelIdeal.Facts] [hIpReferenceIdeal : Cert.IpReferenceIdeal.Facts] : Prop :=
  ∀ (m : (ℓ : Loc Cert.IpKernelIdeal.nD Cert.IpKernelIdeal.τ Cert.IpKernelIdeal.sig) → Buf (Elt Ideal) ℓ) (g : Dev Cert.IpKernelIdeal.nD → PrngReg)
    (m' : (ℓ : Loc Cert.IpReferenceIdeal.nD Cert.IpReferenceIdeal.τ Cert.IpReferenceIdeal.sig) → Buf (Elt Ideal) ℓ) (g' : Dev Cert.IpReferenceIdeal.nD → PrngReg), Pre_IpKernelIdeal m →
    (∀ c : Dev Cert.IpKernelIdeal.nD,
      m' ((c.tc : Thread Cert.IpReferenceIdeal.nD Cert.IpReferenceIdeal.τ).loc Cert.IpReferenceIdeal.main_arg0) = m ((c.tc : Thread Cert.IpKernelIdeal.nD Cert.IpKernelIdeal.τ).loc Cert.IpKernelIdeal.main_arg0)
      ∧ m' ((c.tc : Thread Cert.IpReferenceIdeal.nD Cert.IpReferenceIdeal.τ).loc Cert.IpReferenceIdeal.main_arg1) = m ((c.tc : Thread Cert.IpKernelIdeal.nD Cert.IpKernelIdeal.τ).loc Cert.IpKernelIdeal.main_arg1)
      ∧ m' ((c.tc : Thread Cert.IpReferenceIdeal.nD Cert.IpReferenceIdeal.τ).loc Cert.IpReferenceIdeal.main_arg2) = m ((c.tc : Thread Cert.IpKernelIdeal.nD Cert.IpKernelIdeal.τ).loc Cert.IpKernelIdeal.main_arg2)) →
    ∃ (v0 : (c : Dev Cert.IpKernelIdeal.nD) → Buf (Elt Ideal) ((c.tc : Thread Cert.IpKernelIdeal.nD Cert.IpKernelIdeal.τ).loc Cert.IpKernelIdeal.main_v13_0)) (v1 : (c : Dev Cert.IpKernelIdeal.nD) → Buf (Elt Ideal) ((c.tc : Thread Cert.IpKernelIdeal.nD Cert.IpKernelIdeal.τ).loc Cert.IpKernelIdeal.main_v13_1)) (v2 : (c : Dev Cert.IpKernelIdeal.nD) → Buf (Elt Ideal) ((c.tc : Thread Cert.IpKernelIdeal.nD Cert.IpKernelIdeal.τ).loc Cert.IpKernelIdeal.main_v13_2)) (v3 : (c : Dev Cert.IpKernelIdeal.nD) → Buf (Elt Ideal) ((c.tc : Thread Cert.IpKernelIdeal.nD Cert.IpKernelIdeal.τ).loc Cert.IpKernelIdeal.main_v13_3)) (v4 : (c : Dev Cert.IpKernelIdeal.nD) → Buf (Elt Ideal) ((c.tc : Thread Cert.IpKernelIdeal.nD Cert.IpKernelIdeal.τ).loc Cert.IpKernelIdeal.main_v13_4)) (v5 : (c : Dev Cert.IpKernelIdeal.nD) → Buf (Elt Ideal) ((c.tc : Thread Cert.IpKernelIdeal.nD Cert.IpKernelIdeal.τ).loc Cert.IpKernelIdeal.main_v13_5)),
      θ_run (Cert.IpKernelIdeal.defs (F := Ideal)) (onTc (τ := Cert.IpKernelIdeal.τ) (Cert.IpKernelIdeal.main (F := Ideal))) ⟨m, fun _ => 0, g⟩ (fun r => ∀ c : Dev Cert.IpKernelIdeal.nD,
          r.2.mem ((c.tc : Thread Cert.IpKernelIdeal.nD Cert.IpKernelIdeal.τ).loc Cert.IpKernelIdeal.main_v13_0) = v0 c
          ∧ r.2.mem ((c.tc : Thread Cert.IpKernelIdeal.nD Cert.IpKernelIdeal.τ).loc Cert.IpKernelIdeal.main_v13_1) = v1 c
          ∧ r.2.mem ((c.tc : Thread Cert.IpKernelIdeal.nD Cert.IpKernelIdeal.τ).loc Cert.IpKernelIdeal.main_v13_2) = v2 c
          ∧ r.2.mem ((c.tc : Thread Cert.IpKernelIdeal.nD Cert.IpKernelIdeal.τ).loc Cert.IpKernelIdeal.main_v13_3) = v3 c
          ∧ r.2.mem ((c.tc : Thread Cert.IpKernelIdeal.nD Cert.IpKernelIdeal.τ).loc Cert.IpKernelIdeal.main_v13_4) = v4 c
          ∧ r.2.mem ((c.tc : Thread Cert.IpKernelIdeal.nD Cert.IpKernelIdeal.τ).loc Cert.IpKernelIdeal.main_v13_5) = v5 c
          ∧ r.2.mem ((c.tc : Thread Cert.IpKernelIdeal.nD Cert.IpKernelIdeal.τ).loc Cert.IpKernelIdeal.main_arg0) = m ((c.tc : Thread Cert.IpKernelIdeal.nD Cert.IpKernelIdeal.τ).loc Cert.IpKernelIdeal.main_arg0)
          ∧ r.2.mem ((c.tc : Thread Cert.IpKernelIdeal.nD Cert.IpKernelIdeal.τ).loc Cert.IpKernelIdeal.main_arg1) = m ((c.tc : Thread Cert.IpKernelIdeal.nD Cert.IpKernelIdeal.τ).loc Cert.IpKernelIdeal.main_arg1)
          ∧ r.2.mem ((c.tc : Thread Cert.IpKernelIdeal.nD Cert.IpKernelIdeal.τ).loc Cert.IpKernelIdeal.main_arg2) = m ((c.tc : Thread Cert.IpKernelIdeal.nD Cert.IpKernelIdeal.τ).loc Cert.IpKernelIdeal.main_arg2))
      ∧ θ_run (Cert.IpReferenceIdeal.defs (F := Ideal)) (onTc (τ := Cert.IpReferenceIdeal.τ) (Cert.IpReferenceIdeal.main (F := Ideal))) ⟨m', fun _ => 0, g'⟩ (fun r => ∀ c : Dev Cert.IpReferenceIdeal.nD,
          r.2.mem ((c.tc : Thread Cert.IpReferenceIdeal.nD Cert.IpReferenceIdeal.τ).loc Cert.IpReferenceIdeal.main_v14) = v0 c
          ∧ r.2.mem ((c.tc : Thread Cert.IpReferenceIdeal.nD Cert.IpReferenceIdeal.τ).loc Cert.IpReferenceIdeal.main_v15) = v1 c
          ∧ r.2.mem ((c.tc : Thread Cert.IpReferenceIdeal.nD Cert.IpReferenceIdeal.τ).loc Cert.IpReferenceIdeal.main_v16) = v2 c
          ∧ r.2.mem ((c.tc : Thread Cert.IpReferenceIdeal.nD Cert.IpReferenceIdeal.τ).loc Cert.IpReferenceIdeal.main_v18) = v3 c
          ∧ r.2.mem ((c.tc : Thread Cert.IpReferenceIdeal.nD Cert.IpReferenceIdeal.τ).loc Cert.IpReferenceIdeal.main_v20) = v4 c
          ∧ r.2.mem ((c.tc : Thread Cert.IpReferenceIdeal.nD Cert.IpReferenceIdeal.τ).loc Cert.IpReferenceIdeal.main_v22) = v5 c
          ∧ r.2.mem ((c.tc : Thread Cert.IpReferenceIdeal.nD Cert.IpReferenceIdeal.τ).loc Cert.IpReferenceIdeal.main_arg0) = m' ((c.tc : Thread Cert.IpReferenceIdeal.nD Cert.IpReferenceIdeal.τ).loc Cert.IpReferenceIdeal.main_arg0)
          ∧ r.2.mem ((c.tc : Thread Cert.IpReferenceIdeal.nD Cert.IpReferenceIdeal.τ).loc Cert.IpReferenceIdeal.main_arg1) = m' ((c.tc : Thread Cert.IpReferenceIdeal.nD Cert.IpReferenceIdeal.τ).loc Cert.IpReferenceIdeal.main_arg1)
          ∧ r.2.mem ((c.tc : Thread Cert.IpReferenceIdeal.nD Cert.IpReferenceIdeal.τ).loc Cert.IpReferenceIdeal.main_arg2) = m' ((c.tc : Thread Cert.IpReferenceIdeal.nD Cert.IpReferenceIdeal.τ).loc Cert.IpReferenceIdeal.main_arg2))

def preserves_OpKernel_OpKernelIdeal : Prop :=
  True

def algebraic_OpKernelIdeal_OpReferenceIdeal [hOpKernelIdeal : Cert.OpKernelIdeal.Facts] [hOpReferenceIdeal : Cert.OpReferenceIdeal.Facts] : Prop :=
  ∀ (m : (ℓ : Loc Cert.OpKernelIdeal.nD Cert.OpKernelIdeal.τ Cert.OpKernelIdeal.sig) → Buf (Elt Ideal) ℓ) (g : Dev Cert.OpKernelIdeal.nD → PrngReg)
    (m' : (ℓ : Loc Cert.OpReferenceIdeal.nD Cert.OpReferenceIdeal.τ Cert.OpReferenceIdeal.sig) → Buf (Elt Ideal) ℓ) (g' : Dev Cert.OpReferenceIdeal.nD → PrngReg), Pre_OpKernelIdeal m →
    (∀ c : Dev Cert.OpKernelIdeal.nD,
      m' ((c.tc : Thread Cert.OpReferenceIdeal.nD Cert.OpReferenceIdeal.τ).loc Cert.OpReferenceIdeal.main_arg0) = m ((c.tc : Thread Cert.OpKernelIdeal.nD Cert.OpKernelIdeal.τ).loc Cert.OpKernelIdeal.main_arg0)
      ∧ m' ((c.tc : Thread Cert.OpReferenceIdeal.nD Cert.OpReferenceIdeal.τ).loc Cert.OpReferenceIdeal.main_arg1) = m ((c.tc : Thread Cert.OpKernelIdeal.nD Cert.OpKernelIdeal.τ).loc Cert.OpKernelIdeal.main_arg1)
      ∧ m' ((c.tc : Thread Cert.OpReferenceIdeal.nD Cert.OpReferenceIdeal.τ).loc Cert.OpReferenceIdeal.main_arg2) = m ((c.tc : Thread Cert.OpKernelIdeal.nD Cert.OpKernelIdeal.τ).loc Cert.OpKernelIdeal.main_arg2)
      ∧ m' ((c.tc : Thread Cert.OpReferenceIdeal.nD Cert.OpReferenceIdeal.τ).loc Cert.OpReferenceIdeal.main_arg3) = m ((c.tc : Thread Cert.OpKernelIdeal.nD Cert.OpKernelIdeal.τ).loc Cert.OpKernelIdeal.main_arg3)
      ∧ m' ((c.tc : Thread Cert.OpReferenceIdeal.nD Cert.OpReferenceIdeal.τ).loc Cert.OpReferenceIdeal.main_arg4) = m ((c.tc : Thread Cert.OpKernelIdeal.nD Cert.OpKernelIdeal.τ).loc Cert.OpKernelIdeal.main_arg4)
      ∧ m' ((c.tc : Thread Cert.OpReferenceIdeal.nD Cert.OpReferenceIdeal.τ).loc Cert.OpReferenceIdeal.main_arg5) = m ((c.tc : Thread Cert.OpKernelIdeal.nD Cert.OpKernelIdeal.τ).loc Cert.OpKernelIdeal.main_arg5)) →
    ∃ (v0 : (c : Dev Cert.OpKernelIdeal.nD) → Buf (Elt Ideal) ((c.tc : Thread Cert.OpKernelIdeal.nD Cert.OpKernelIdeal.τ).loc Cert.OpKernelIdeal.main_v8_0)) (v1 : (c : Dev Cert.OpKernelIdeal.nD) → Buf (Elt Ideal) ((c.tc : Thread Cert.OpKernelIdeal.nD Cert.OpKernelIdeal.τ).loc Cert.OpKernelIdeal.main_v8_1)),
      θ_run (Cert.OpKernelIdeal.defs (F := Ideal)) (onTc (τ := Cert.OpKernelIdeal.τ) (Cert.OpKernelIdeal.main (F := Ideal))) ⟨m, fun _ => 0, g⟩ (fun r => ∀ c : Dev Cert.OpKernelIdeal.nD,
          r.2.mem ((c.tc : Thread Cert.OpKernelIdeal.nD Cert.OpKernelIdeal.τ).loc Cert.OpKernelIdeal.main_v8_0) = v0 c
          ∧ r.2.mem ((c.tc : Thread Cert.OpKernelIdeal.nD Cert.OpKernelIdeal.τ).loc Cert.OpKernelIdeal.main_v8_1) = v1 c
          ∧ r.2.mem ((c.tc : Thread Cert.OpKernelIdeal.nD Cert.OpKernelIdeal.τ).loc Cert.OpKernelIdeal.main_arg0) = m ((c.tc : Thread Cert.OpKernelIdeal.nD Cert.OpKernelIdeal.τ).loc Cert.OpKernelIdeal.main_arg0)
          ∧ r.2.mem ((c.tc : Thread Cert.OpKernelIdeal.nD Cert.OpKernelIdeal.τ).loc Cert.OpKernelIdeal.main_arg1) = m ((c.tc : Thread Cert.OpKernelIdeal.nD Cert.OpKernelIdeal.τ).loc Cert.OpKernelIdeal.main_arg1)
          ∧ r.2.mem ((c.tc : Thread Cert.OpKernelIdeal.nD Cert.OpKernelIdeal.τ).loc Cert.OpKernelIdeal.main_arg2) = m ((c.tc : Thread Cert.OpKernelIdeal.nD Cert.OpKernelIdeal.τ).loc Cert.OpKernelIdeal.main_arg2)
          ∧ r.2.mem ((c.tc : Thread Cert.OpKernelIdeal.nD Cert.OpKernelIdeal.τ).loc Cert.OpKernelIdeal.main_arg3) = m ((c.tc : Thread Cert.OpKernelIdeal.nD Cert.OpKernelIdeal.τ).loc Cert.OpKernelIdeal.main_arg3)
          ∧ r.2.mem ((c.tc : Thread Cert.OpKernelIdeal.nD Cert.OpKernelIdeal.τ).loc Cert.OpKernelIdeal.main_arg4) = m ((c.tc : Thread Cert.OpKernelIdeal.nD Cert.OpKernelIdeal.τ).loc Cert.OpKernelIdeal.main_arg4)
          ∧ r.2.mem ((c.tc : Thread Cert.OpKernelIdeal.nD Cert.OpKernelIdeal.τ).loc Cert.OpKernelIdeal.main_arg5) = m ((c.tc : Thread Cert.OpKernelIdeal.nD Cert.OpKernelIdeal.τ).loc Cert.OpKernelIdeal.main_arg5))
      ∧ θ_run (Cert.OpReferenceIdeal.defs (F := Ideal)) (onTc (τ := Cert.OpReferenceIdeal.τ) (Cert.OpReferenceIdeal.main (F := Ideal))) ⟨m', fun _ => 0, g'⟩ (fun r => ∀ c : Dev Cert.OpReferenceIdeal.nD,
          r.2.mem ((c.tc : Thread Cert.OpReferenceIdeal.nD Cert.OpReferenceIdeal.τ).loc Cert.OpReferenceIdeal.main_v1) = v0 c
          ∧ r.2.mem ((c.tc : Thread Cert.OpReferenceIdeal.nD Cert.OpReferenceIdeal.τ).loc Cert.OpReferenceIdeal.main_v15) = v1 c
          ∧ r.2.mem ((c.tc : Thread Cert.OpReferenceIdeal.nD Cert.OpReferenceIdeal.τ).loc Cert.OpReferenceIdeal.main_arg0) = m' ((c.tc : Thread Cert.OpReferenceIdeal.nD Cert.OpReferenceIdeal.τ).loc Cert.OpReferenceIdeal.main_arg0)
          ∧ r.2.mem ((c.tc : Thread Cert.OpReferenceIdeal.nD Cert.OpReferenceIdeal.τ).loc Cert.OpReferenceIdeal.main_arg1) = m' ((c.tc : Thread Cert.OpReferenceIdeal.nD Cert.OpReferenceIdeal.τ).loc Cert.OpReferenceIdeal.main_arg1)
          ∧ r.2.mem ((c.tc : Thread Cert.OpReferenceIdeal.nD Cert.OpReferenceIdeal.τ).loc Cert.OpReferenceIdeal.main_arg2) = m' ((c.tc : Thread Cert.OpReferenceIdeal.nD Cert.OpReferenceIdeal.τ).loc Cert.OpReferenceIdeal.main_arg2)
          ∧ r.2.mem ((c.tc : Thread Cert.OpReferenceIdeal.nD Cert.OpReferenceIdeal.τ).loc Cert.OpReferenceIdeal.main_arg3) = m' ((c.tc : Thread Cert.OpReferenceIdeal.nD Cert.OpReferenceIdeal.τ).loc Cert.OpReferenceIdeal.main_arg3)
          ∧ r.2.mem ((c.tc : Thread Cert.OpReferenceIdeal.nD Cert.OpReferenceIdeal.τ).loc Cert.OpReferenceIdeal.main_arg4) = m' ((c.tc : Thread Cert.OpReferenceIdeal.nD Cert.OpReferenceIdeal.τ).loc Cert.OpReferenceIdeal.main_arg4)
          ∧ r.2.mem ((c.tc : Thread Cert.OpReferenceIdeal.nD Cert.OpReferenceIdeal.τ).loc Cert.OpReferenceIdeal.main_arg5) = m' ((c.tc : Thread Cert.OpReferenceIdeal.nD Cert.OpReferenceIdeal.τ).loc Cert.OpReferenceIdeal.main_arg5))

def preserves_RetKernel_RetKernelIdeal : Prop :=
  True

def preserves_SbKernel_SbKernelIdeal : Prop :=
  True

def preserves_GbKernel_GbKernelIdeal : Prop :=
  True

def preserves_GfKernel_GfKernelIdeal : Prop :=
  True

def Claim : Prop :=
  ∃ (hDxKernel : Cert.DxKernel.Facts) (hDxKernelIdeal : Cert.DxKernelIdeal.Facts) (hDxReferenceIdeal : Cert.DxReferenceIdeal.Facts) (hObKernel : Cert.ObKernel.Facts) (hObKernelIdeal : Cert.ObKernelIdeal.Facts) (hObReferenceIdeal : Cert.ObReferenceIdeal.Facts) (hRfKernel : Cert.RfKernel.Facts) (hRfKernelIdeal : Cert.RfKernelIdeal.Facts) (hRfReferenceIdeal : Cert.RfReferenceIdeal.Facts) (hSfKernel : Cert.SfKernel.Facts) (hSfKernelIdeal : Cert.SfKernelIdeal.Facts) (hSfReferenceIdeal : Cert.SfReferenceIdeal.Facts) (hOlKernel : Cert.OlKernel.Facts) (hOlKernelIdeal : Cert.OlKernelIdeal.Facts) (hOlReferenceIdeal : Cert.OlReferenceIdeal.Facts) (hIpKernel : Cert.IpKernel.Facts) (hIpKernelIdeal : Cert.IpKernelIdeal.Facts) (hIpReferenceIdeal : Cert.IpReferenceIdeal.Facts) (hOpKernel : Cert.OpKernel.Facts) (hOpKernelIdeal : Cert.OpKernelIdeal.Facts) (hOpReferenceIdeal : Cert.OpReferenceIdeal.Facts) (hRetKernel : Cert.RetKernel.Facts) (hRetKernelIdeal : Cert.RetKernelIdeal.Facts) (hSbKernel : Cert.SbKernel.Facts) (hSbKernelIdeal : Cert.SbKernelIdeal.Facts) (hGbKernel : Cert.GbKernel.Facts) (hGbKernelIdeal : Cert.GbKernelIdeal.Facts) (hGfKernel : Cert.GfKernel.Facts) (hGfKernelIdeal : Cert.GfKernelIdeal.Facts) (hPre_dx_finite : Cert.Pre_dx_finite.Facts) (hPre_ob_finite : Cert.Pre_ob_finite.Facts),
    quiescent_DxKernel (hDxKernel := hDxKernel)
    ∧ quiescent_DxKernelIdeal (hDxKernelIdeal := hDxKernelIdeal)
    ∧ quiescent_DxKernelIdeal_pre_dx_finite (hDxKernelIdeal := hDxKernelIdeal) (hPre_dx_finite := hPre_dx_finite)
    ∧ quiescent_DxReferenceIdeal (hDxReferenceIdeal := hDxReferenceIdeal)
    ∧ quiescent_DxReferenceIdeal_pre_dx_finite (hDxReferenceIdeal := hDxReferenceIdeal) (hPre_dx_finite := hPre_dx_finite)
    ∧ quiescent_ObKernel (hObKernel := hObKernel)
    ∧ quiescent_ObKernelIdeal (hObKernelIdeal := hObKernelIdeal)
    ∧ quiescent_ObKernelIdeal_pre_ob_finite (hObKernelIdeal := hObKernelIdeal) (hPre_ob_finite := hPre_ob_finite)
    ∧ quiescent_ObReferenceIdeal (hObReferenceIdeal := hObReferenceIdeal)
    ∧ quiescent_ObReferenceIdeal_pre_ob_finite (hObReferenceIdeal := hObReferenceIdeal) (hPre_ob_finite := hPre_ob_finite)
    ∧ quiescent_RfKernel (hRfKernel := hRfKernel)
    ∧ quiescent_RfKernelIdeal (hRfKernelIdeal := hRfKernelIdeal)
    ∧ quiescent_RfReferenceIdeal (hRfReferenceIdeal := hRfReferenceIdeal)
    ∧ quiescent_SfKernel (hSfKernel := hSfKernel)
    ∧ quiescent_SfKernelIdeal (hSfKernelIdeal := hSfKernelIdeal)
    ∧ quiescent_SfReferenceIdeal (hSfReferenceIdeal := hSfReferenceIdeal)
    ∧ quiescent_OlKernel (hOlKernel := hOlKernel)
    ∧ quiescent_OlKernelIdeal (hOlKernelIdeal := hOlKernelIdeal)
    ∧ quiescent_OlReferenceIdeal (hOlReferenceIdeal := hOlReferenceIdeal)
    ∧ quiescent_IpKernel (hIpKernel := hIpKernel)
    ∧ quiescent_IpKernelIdeal (hIpKernelIdeal := hIpKernelIdeal)
    ∧ quiescent_IpReferenceIdeal (hIpReferenceIdeal := hIpReferenceIdeal)
    ∧ quiescent_OpKernel (hOpKernel := hOpKernel)
    ∧ quiescent_OpKernelIdeal (hOpKernelIdeal := hOpKernelIdeal)
    ∧ quiescent_OpReferenceIdeal (hOpReferenceIdeal := hOpReferenceIdeal)
    ∧ quiescent_RetKernel (hRetKernel := hRetKernel)
    ∧ quiescent_RetKernelIdeal (hRetKernelIdeal := hRetKernelIdeal)
    ∧ quiescent_SbKernel (hSbKernel := hSbKernel)
    ∧ quiescent_SbKernelIdeal (hSbKernelIdeal := hSbKernelIdeal)
    ∧ quiescent_GbKernel (hGbKernel := hGbKernel)
    ∧ quiescent_GbKernelIdeal (hGbKernelIdeal := hGbKernelIdeal)
    ∧ quiescent_GfKernel (hGfKernel := hGfKernel)
    ∧ quiescent_GfKernelIdeal (hGfKernelIdeal := hGfKernelIdeal)
    ∧ preserves_DxKernel_DxKernelIdeal
    ∧ algebraic_DxKernelIdeal_DxReferenceIdeal_pre_dx_finite (hDxKernelIdeal := hDxKernelIdeal) (hDxReferenceIdeal := hDxReferenceIdeal) (hPre_dx_finite := hPre_dx_finite)
    ∧ preserves_ObKernel_ObKernelIdeal
    ∧ algebraic_ObKernelIdeal_ObReferenceIdeal_pre_ob_finite (hObKernelIdeal := hObKernelIdeal) (hObReferenceIdeal := hObReferenceIdeal) (hPre_ob_finite := hPre_ob_finite)
    ∧ preserves_RfKernel_RfKernelIdeal
    ∧ algebraic_RfKernelIdeal_RfReferenceIdeal (hRfKernelIdeal := hRfKernelIdeal) (hRfReferenceIdeal := hRfReferenceIdeal)
    ∧ preserves_SfKernel_SfKernelIdeal
    ∧ algebraic_SfKernelIdeal_SfReferenceIdeal (hSfKernelIdeal := hSfKernelIdeal) (hSfReferenceIdeal := hSfReferenceIdeal)
    ∧ preserves_OlKernel_OlKernelIdeal
    ∧ algebraic_OlKernelIdeal_OlReferenceIdeal (hOlKernelIdeal := hOlKernelIdeal) (hOlReferenceIdeal := hOlReferenceIdeal)
    ∧ preserves_IpKernel_IpKernelIdeal
    ∧ algebraic_IpKernelIdeal_IpReferenceIdeal (hIpKernelIdeal := hIpKernelIdeal) (hIpReferenceIdeal := hIpReferenceIdeal)
    ∧ preserves_OpKernel_OpKernelIdeal
    ∧ algebraic_OpKernelIdeal_OpReferenceIdeal (hOpKernelIdeal := hOpKernelIdeal) (hOpReferenceIdeal := hOpReferenceIdeal)
    ∧ preserves_RetKernel_RetKernelIdeal
    ∧ preserves_SbKernel_SbKernelIdeal
    ∧ preserves_GbKernel_GbKernelIdeal
    ∧ preserves_GfKernel_GfKernelIdeal
-- ==== Pre_dx_finite.lean ====
abbrev S8192x1024 : Shape := ⟨2, ![8192, 1024]⟩
abbrev S1024 : Shape := ⟨1, ![1024]⟩
abbrev S1024x6680 : Shape := ⟨2, ![1024, 6680]⟩
abbrev S8192x6680 : Shape := ⟨2, ![8192, 6680]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x6680 : S_.BroadcastsInDim S1024x6680 (![] : Fin 0 → Fin S1024x6680.rank)
  bcast_S_S8192x6680 : S_.BroadcastsInDim S8192x6680 (![] : Fin 0 → Fin S8192x6680.rank)

variable [Facts]

def fn {F : FTy → Type} [FloatOps F] (main_arg0 : FVec F S8192x1024 .f32) (main_arg1 : FVec F S1024 .f32) (main_arg2 : FVec F S1024x6680 .f32) (main_arg3 : FVec F S8192x6680 .f32) (main_arg4 : FVec F S8192x1024 .f32) : IVec S8192x1024 1 × IVec S1024 1 × IVec S1024x6680 1 × IVec S8192x6680 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6680 .f32 := Host.absf main_arg2
  let main_cst_1 : FVec F S_ .f32 := constant S_ .f32 0x7F800000#32
  let main_v7 : FVec F S1024x6680 .f32 := broadcastInDim S1024x6680 ![] bcast_S_S1024x6680 main_cst_1
  let main_v8 : IVec S1024x6680 1 := cmpf .olt main_v6 main_v7
  let main_v9 : FVec F S8192x6680 .f32 := Host.absf main_arg3
  let main_cst_2 : FVec F S_ .f32 := constant S_ .f32 0x7F800000#32
  let main_v10 : FVec F S8192x6680 .f32 := broadcastInDim S8192x6680 ![] bcast_S_S8192x6680 main_cst_2
  let main_v11 : IVec S8192x6680 1 := cmpf .olt main_v9 main_v10
  (main_v2, main_v5, main_v8, main_v11)
-- ==== Pre_ob_finite.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  bcast_S_S8192x1024 : S_.BroadcastsInDim S8192x1024 (![] : Fin 0 → Fin S8192x1024.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x512 .f32) (main_arg2 : FVec F S8192x1024 .f32) (main_arg3 : FVec F S8192x512 .f32) (main_arg4 : FVec F S2048x1024 .f32) (main_arg5 : FVec F S1024 .f32) (main_arg6 : FVec F S8192x1024 .f32) : IVec S8192x512 1 × IVec S8192x1024 1 × IVec S8192x512 1 × IVec S2048x1024 1 × IVec S1024 1 × IVec S8192x1024 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg3
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8192x1024 .f32 := Host.absf main_arg6
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== DxKernel.lean ====
abbrev S8192x1024 : Shape := ⟨2, ![8192, 1024]⟩
abbrev S1024 : Shape := ⟨1, ![1024]⟩
abbrev S1024x6680 : Shape := ⟨2, ![1024, 6680]⟩
abbrev S8192x6680 : Shape := ⟨2, ![8192, 6680]⟩
abbrev S1024x2048 : Shape := ⟨2, ![1024, 2048]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S1024x16 : Shape := ⟨2, ![1024, 16]⟩
abbrev S1024x6912 : Shape := ⟨2, ![1024, 6912]⟩
abbrev S8192x2048 : Shape := ⟨2, ![8192, 2048]⟩
abbrev S8192x2560 : Shape := ⟨2, ![8192, 2560]⟩
abbrev S8192x8 : Shape := ⟨2, ![8192, 8]⟩
abbrev S8192x128 : Shape := ⟨2, ![8192, 128]⟩
abbrev S8192x16 : Shape := ⟨2, ![8192, 16]⟩
abbrev S1x1024 : Shape := ⟨2, ![1, 1024]⟩
abbrev S8x1024 : Shape := ⟨2, ![8, 1024]⟩
abbrev S1 : Shape := ⟨1, ![1]⟩
abbrev S512x2048 : Shape := ⟨2, ![512, 2048]⟩
abbrev S512x2560 : Shape := ⟨2, ![512, 2560]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 42
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6680, .f32⟩
  | .hbm, ⟨3, _⟩ => ⟨S8192x6680, .f32⟩
  | .hbm, ⟨4, _⟩ => ⟨S8192x1024, .f32⟩
  | .hbm, ⟨5, _⟩ => ⟨S1024x2048, .f32⟩
  | .hbm, ⟨6, _⟩ => ⟨S1024x2560, .f32⟩
  | .hbm, ⟨7, _⟩ => ⟨S1024x2048, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x6912, .f32⟩
  | .hbm, ⟨17, _⟩ => ⟨S1024x6912, .bf16⟩
  | .hbm, ⟨18, _⟩ => ⟨S8192x2048, .f32⟩
  | .hbm, ⟨19, _⟩ => ⟨S8192x2560, .f32⟩
  | .hbm, ⟨20, _⟩ => ⟨S8192x2048, .f32⟩
  | .hbm, ⟨21, _⟩ => ⟨S8192x8, .f32⟩
  | .hbm, ⟨22, _⟩ => ⟨S_, .i32⟩
  | .hbm, ⟨23, _⟩ => ⟨S_, .f32⟩
  | .hbm, ⟨24, _⟩ => ⟨S8192x128, .f32⟩
  | .hbm, ⟨25, _⟩ => ⟨S8192x16, .f32⟩
  | .hbm, ⟨26, _⟩ => ⟨S_, .i32⟩
  | .hbm, ⟨27, _⟩ => ⟨S_, .f32⟩
  | .hbm, ⟨28, _⟩ => ⟨S8192x128, .f32⟩
  | .hbm, ⟨29, _⟩ => ⟨S8192x2048, .bf16⟩
  | .hbm, ⟨30, _⟩ => ⟨S8192x2560, .bf16⟩
  | .hbm, ⟨31, _⟩ => ⟨S8192x2048, .bf16⟩
  | .hbm, ⟨32, _⟩ => ⟨S8192x128, .bf16⟩
  | .hbm, ⟨33, _⟩ => ⟨S8192x128, .bf16⟩
  | .hbm, ⟨34, _⟩ => ⟨S1x1024, .f32⟩
  | .hbm, ⟨35, _⟩ => ⟨S_, .f32⟩
  | .hbm, ⟨36, _⟩ => ⟨S8x1024, .f32⟩
  | .hbm, ⟨37, _⟩ => ⟨S_, .i32⟩
  | .hbm, ⟨38, _⟩ => ⟨S1, .i32⟩
  | .hbm, ⟨39, _⟩ => ⟨S8x1024, .f32⟩
  | .hbm, ⟨40, _⟩ => ⟨S8192x1024, .f32⟩
  | .hbm, ⟨41, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2560, .bf16⟩
  | .local _ .vmem, ⟨3, _⟩ => ⟨S512x2560, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S1024x6912, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DxReferenceIdeal.lean ====
abbrev S8192x1024 : Shape := ⟨2, ![8192, 1024]⟩
abbrev S1024 : Shape := ⟨1, ![1024]⟩
abbrev S1024x6680 : Shape := ⟨2, ![1024, 6680]⟩
abbrev S8192x6680 : Shape := ⟨2, ![8192, 6680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6680, .f32⟩
  | .hbm, ⟨3, _⟩ => ⟨S8192x6680, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6680, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .i32⟩
  | .hbm, ⟨55, _⟩ => ⟨S_, .f32⟩
  | .hbm, ⟨56, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== ObKernel.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S1024x512 : Shape := ⟨2, ![1024, 512]⟩
abbrev S1024x1024 : Shape := ⟨2, ![1024, 1024]⟩
abbrev S512x1024 : Shape := ⟨2, ![512, 1024]⟩
abbrev S1024x1 : Shape := ⟨2, ![1024, 1]⟩

abbrev nBuf : Space → Nat
  | .hbm => 25
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S2048x1024, .f32⟩
  | .hbm, ⟨5, _⟩ => ⟨S1024, .f32⟩
  | .hbm, ⟨6, _⟩ => ⟨S8192x1024, .f32⟩
  | .hbm, ⟨7, _⟩ => ⟨S8192x512, .bf16⟩
  | .hbm, ⟨8, _⟩ => ⟨S8192x1024, .bf16⟩
  | .hbm, ⟨9, _⟩ => ⟨S8192x512, .bf16⟩
  | .hbm, ⟨10, _⟩ => ⟨S2048x1024, .bf16⟩
  | .hbm, ⟨11, _⟩ => ⟨S1x1024, .f32⟩
  | .hbm, ⟨12, _⟩ => ⟨S_, .f32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S8192x1024, .f32⟩
  | .hbm, ⟨18, _⟩ => ⟨S8192x1024, .f32⟩
  | .hbm, ⟨19, _⟩ => ⟨S8192x512, .bf16⟩
  | .hbm, ⟨20, _⟩ => ⟨S8192x1024, .bf16⟩
  | .hbm, ⟨21, _⟩ => ⟨S8192x512, .bf16⟩
  | .hbm, ⟨22, _⟩ => ⟨S8x1024, .f32⟩
  | .hbm, ⟨23, _⟩ => ⟨S2048x1024, .f32⟩
  | .hbm, ⟨24, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x512, .bf16⟩
  | .local _ .vmem, ⟨19, _⟩ => ⟨S1024x512, .bf16⟩
  | .local _ .vmem, ⟨20, _⟩ => ⟨S1024x1024, .bf16⟩
  | .local _ .vmem, ⟨21, _⟩ => ⟨S1024x1024, .bf16⟩
  | .local _ .vmem, ⟨22, _⟩ => ⟨S1024x512, .bf16⟩
  | .local _ .vmem, ⟨23, _⟩ => ⟨S1024x512, .bf16⟩
  | .local _ .vmem, ⟨24, _⟩ => ⟨S2048x1024, .bf16⟩
  | .local _ .vmem, ⟨25, _⟩ => ⟨S8x1024, .f32⟩
  | .local _ .vmem, ⟨26, _⟩ => ⟨S1024x512, .bf16⟩
  | .local _ .vmem, ⟨27, _⟩ => ⟨S1024x512, .bf16⟩
  | .local _ .vmem, ⟨28, _⟩ => ⟨S1024x1024, .bf16⟩
  | .local _ .vmem, ⟨29, _⟩ => ⟨S1024x1024, .bf16⟩
  | .local _ .vmem, ⟨30, _⟩ => ⟨S1024x512, .bf16⟩
  | .local _ .vmem, ⟨31, _⟩ => ⟨S1024x512, .bf16⟩
  | .local _ .vmem, ⟨32, _⟩ => ⟨S8x1024, .f32⟩
  | .local _ .vmem, ⟨33, _⟩ => ⟨S2048x1024, .f32⟩
  | .local _ .vmem, ⟨34, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem11_0 : DmaSem sig := 33
abbrev cc1_sem12_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_51 : BitVec 32 := 0#32
  let v83 : BitVec 1 := Scalar.cmpi .ne v82 c0_i32_51
  v83

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2048x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ObReferenceIdeal.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S2048x1024, .f32⟩
  | .hbm, ⟨5, _⟩ => ⟨S1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x2048, .f32⟩
  | .hbm, ⟨56, _⟩ => ⟨S2048x1024, .f32⟩
  | .hbm, ⟨57, _⟩ => ⟨S8192x2048, .f32⟩
  | .hbm, ⟨58, _⟩ => ⟨S8192x512, .f32⟩
  | .hbm, ⟨59, _⟩ => ⟨S8192x1024, .f32⟩
  | .hbm, ⟨60, _⟩ => ⟨S8192x512, .f32⟩
  | .hbm, ⟨61, _⟩ => ⟨S8192x512, .bf16⟩
  | .hbm, ⟨62, _⟩ => ⟨S8192x1024, .bf16⟩
  | .hbm, ⟨63, _⟩ => ⟨S8192x512, .bf16⟩
  | .hbm, ⟨64, _⟩ => ⟨S1x1024, .f32⟩
  | .hbm, ⟨65, _⟩ => ⟨S_, .i32⟩
  | .hbm, ⟨66, _⟩ => ⟨S_, .f32⟩
  | .hbm, ⟨67, _⟩ => ⟨S8x1024, .f32⟩
  | .hbm, ⟨68, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_call0_v0 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== RfKernel.lean ====
abbrev S8192x2048 : Shape := ⟨2, ![8192, 2048]⟩
abbrev S128 : Shape := ⟨1, ![128]⟩
abbrev S64 : Shape := ⟨1, ![64]⟩
abbrev S_ : Shape := ⟨0, ![]⟩
abbrev S128x1 : Shape := ⟨2, ![128, 1]⟩
abbrev S1x64 : Shape := ⟨2, ![1, 64]⟩
abbrev S128x64 : Shape := ⟨2, ![128, 64]⟩
abbrev S64x1 : Shape := ⟨2, ![64, 1]⟩
abbrev S64x64 : Shape := ⟨2, ![64, 64]⟩
abbrev S128x1x64 : Shape := ⟨3, ![128, 1, 64]⟩
abbrev S1x64x64 : Shape := ⟨3, ![1, 64, 64]⟩
abbrev S128x64x64 : Shape := ⟨3, ![128, 64, 64]⟩
abbrev S8192x64 : Shape := ⟨2, ![8192, 64]⟩
abbrev S8192x128 : Shape := ⟨2, ![8192, 128]⟩
abbrev S1x128 : Shape := ⟨2, ![1, 128]⟩
abbrev S8x128 : Shape := ⟨2, ![8, 128]⟩
abbrev S1 : Shape := ⟨1, ![1]⟩
abbrev S8192x512 : Shape := ⟨2, ![8192, 512]⟩
abbrev S128x4x128x128 : Shape := ⟨4, ![128, 4, 128, 128]⟩
abbrev S512x2048 : Shape := ⟨2, ![512, 2048]⟩
abbrev S512x128 : Shape := ⟨2, ![512, 128]⟩
abbrev S512x512 : Shape := ⟨2, ![512, 512]⟩
abbrev S8x4x128x128 : Shape := ⟨4, ![8, 4, 128, 128]⟩
abbrev S4x128x128 : Shape := ⟨3, ![4, 128, 128]⟩
abbrev S64x128 : Shape := ⟨2, ![64, 128]⟩
abbrev S1x64x128 : Shape := ⟨3, ![1, 64, 128]⟩
abbrev S32x64x128 : Shape := ⟨3, ![32, 64, 128]⟩
abbrev S32x64x64 : Shape := ⟨3, ![32, 64, 64]⟩
abbrev S1x64x1 : Shape := ⟨3, ![1, 64, 1]⟩
abbrev S32x64x1 : Shape := ⟨3, ![32, 64, 1]⟩
abbrev S1x1 : Shape := ⟨2, ![1, 1]⟩
abbrev S1x1x1 : Shape := ⟨3, ![1, 1, 1]⟩
abbrev S4x1x1 : Shape := ⟨3, ![4, 1, 1]⟩
abbrev S1x4x128x128 : Shape := ⟨4, ![1, 4, 128, 128]⟩
abbrev S4x64x128 : Shape := ⟨3, ![4, 64, 128]⟩
abbrev S32x128x128 : Shape := ⟨3, ![32, 128, 128]⟩
abbrev S32x64 : Shape := ⟨2, ![32, 64]⟩
abbrev S1x1x128 : Shape := ⟨3, ![1, 1, 128]⟩

abbrev nBuf : Space → Nat
  | .hbm => 62
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S128, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .f32⟩
  | .hbm, ⟨15, _⟩ => ⟨S128x1, .f32⟩
  | .hbm, ⟨16, _⟩ => ⟨S1x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S64, .i32⟩
  | .hbm, ⟨21, _⟩ => ⟨S64, .f32⟩
  | .hbm, ⟨22, _⟩ => ⟨S64x1, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S128x64, .f32⟩
  | .hbm, ⟨28, _⟩ => ⟨S128x1x64, .f32⟩
  | .hbm, ⟨29, _⟩ => ⟨S128x64, .f32⟩
  | .hbm, ⟨30, _⟩ => ⟨S128x1x64, .f32⟩
  | .hbm, ⟨31, _⟩ => ⟨S64x64, .f32⟩
  | .hbm, ⟨32, _⟩ => ⟨S1x64x64, .f32⟩
  | .hbm, ⟨33, _⟩ => ⟨S64x64, .f32⟩
  | .hbm, ⟨34, _⟩ => ⟨S1x64x64, .f32⟩
  | .hbm, ⟨35, _⟩ => ⟨S128x64x64, .f32⟩
  | .hbm, ⟨36, _⟩ => ⟨S128x64x64, .f32⟩
  | .hbm, ⟨37, _⟩ => ⟨S128x64x64, .f32⟩
  | .hbm, ⟨38, _⟩ => ⟨S128x64x64, .f32⟩
  | .hbm, ⟨39, _⟩ => ⟨S128x64x64, .f32⟩
  | .hbm, ⟨40, _⟩ => ⟨S128x64x64, .f32⟩
  | .hbm, ⟨41, _⟩ => ⟨S128x64x64, .f32⟩
  | .hbm, ⟨42, _⟩ => ⟨S8192x64, .f32⟩
  | .hbm, ⟨43, _⟩ => ⟨S128x64x64, .f32⟩
  | .hbm, ⟨44, _⟩ => ⟨S128x64x64, .f32⟩
  | .hbm, ⟨45, _⟩ => ⟨S128x64x64, .f32⟩
  | .hbm, ⟨46, _⟩ => ⟨S128x64x64, .f32⟩
  | .hbm, ⟨47, _⟩ => ⟨S128x64x64, .f32⟩
  | .hbm, ⟨48, _⟩ => ⟨S128x64x64, .f32⟩
  | .hbm, ⟨49, _⟩ => ⟨S128x64x64, .f32⟩
  | .hbm, ⟨50, _⟩ => ⟨S8192x64, .f32⟩
  | .hbm, ⟨51, _⟩ => ⟨S8192x128, .f32⟩
  | .hbm, ⟨52, _⟩ => ⟨S8192x64, .f32⟩
  | .hbm, ⟨53, _⟩ => ⟨S8192x128, .f32⟩
  | .hbm, ⟨54, _⟩ => ⟨S1x128, .f32⟩
  | .hbm, ⟨55, _⟩ => ⟨S_, .f32⟩
  | .hbm, ⟨56, _⟩ => ⟨S8x128, .f32⟩
  | .hbm, ⟨57, _⟩ => ⟨S_, .i32⟩
  | .hbm, ⟨58, _⟩ => ⟨S1, .i32⟩
  | .hbm, ⟨59, _⟩ => ⟨S8x128, .f32⟩
  | .hbm, ⟨60, _⟩ => ⟨S8192x512, .bf16⟩
  | .hbm, ⟨61, _⟩ => ⟨S128x4x128x128, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x128, .f32⟩
  | .local _ .vmem, ⟨7, _⟩ => ⟨S512x512, .bf16⟩
  | .local _ .vmem, ⟨8, _⟩ => ⟨S512x512, .bf16⟩
  | .local _ .vmem, ⟨9, _⟩ => ⟨S8x4x128x128, .f32⟩
  | .local _ .vmem, ⟨10, _⟩ => ⟨S8x4x128x128, .f32⟩
  | .local _ .vmem, ⟨11, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_1 : Ref sig .tc := ⟨.hbm, 55, rfl⟩
abbrev main_v50 : Ref sig .tc := ⟨.hbm, 56, rfl⟩
abbrev main_c_2 : Ref sig .tc := ⟨.hbm, 57, rfl⟩
abbrev main_v51 : Ref sig .tc := ⟨.hbm, 58, rfl⟩
abbrev main_v52 : Ref sig .tc := ⟨.hbm, 59, rfl⟩
abbrev main_v53_0 : Ref sig .tc := ⟨.hbm, 60, rfl⟩
abbrev main_v53_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RfKernelIdeal.lean ====
variable {F : FTy → Type} [FloatOps F] [Named F]
def κ : String → Option EReal := fun
  | "cd0" => some ((279993793990258235750468749959300213014699042596341116563305503247751586492770004816505534904321 / 2135987035920910082395021706169552114602704522356652769947041607822219725780640550022962086936576 : ℝ) : EReal)
  | "cd1" => some ((14381201289858923833733732277241427911251598557516928831287151963615866190845260542210496569296551598609485715599361 / 39402006196394479212279040100143613805079739270465446667948293404245721771497210611414266254884915640806627990306816 : ℝ) : EReal)
  | "cd2" => some ((439985273984774139364885786774155225074372621425249766976946157772109425125407741241214744259687760072793219732307971501512893104906241 / 726838724295606890549323807888004534353641360687318060281490199180639288113397923326191050713763565560762521606266177933534601628614656 : ℝ) : EReal)
  | "cd3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== RfReferenceIdeal.lean ====
abbrev S8192x2048 : Shape := ⟨2, ![8192, 2048]⟩
abbrev S128 : Shape := ⟨1, ![128]⟩
abbrev S8192x512 : Shape := ⟨2, ![8192, 512]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S4 : Shape := ⟨1, ![4]⟩
abbrev S64x1 : Shape := ⟨2, ![64, 1]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S1x4x128x128 : Shape := ⟨4, ![1, 4, 128, 128]⟩
abbrev S1x128x64x4x128 : Shape := ⟨5, ![1, 128, 64, 4, 128]⟩
abbrev S128x1x64x4x128 : Shape := ⟨5, ![128, 1, 64, 4, 128]⟩
abbrev S128x1x4x128x128 : Shape := ⟨5, ![128, 1, 4, 128, 128]⟩
abbrev S1x1x64x4x128 : Shape := ⟨5, ![1, 1, 64, 4, 128]⟩
abbrev S1x64x4x128 : Shape := ⟨4, ![1, 64, 4, 128]⟩
abbrev S1x4x64x64 : Shape := ⟨4, ![1, 4, 64, 64]⟩
abbrev S1x4x128x64 : Shape := ⟨4, ![1, 4, 128, 64]⟩
abbrev S1x64x4x1 : Shape := ⟨4, ![1, 64, 4, 1]⟩
abbrev S1x4x1x1 : Shape := ⟨4, ![1, 4, 1, 1]⟩
abbrev S1x1x4x128x128 : Shape := ⟨5, ![1, 1, 4, 128, 128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S128x4x128x128 : Shape := ⟨4, ![128, 4, 128, 128]⟩

abbrev nBuf : Space → Nat
  | .hbm => 245
  | .vmem => 0
  | .smem => 0
  | _ => 0

abbrev hbmTy0_0 (i : Nat) : BufTy := match i % 128 with
  | 0 => ⟨S8192x2048, .f32⟩
  | 1 => ⟨S128, .f32⟩
  | 2 => ⟨S8192x512, .f32⟩
  | 3 => ⟨S1x8192x512, .f32⟩
  | 4 => ⟨S8192x512, .f32⟩
  | 5 => ⟨S1x8192x512, .f32⟩
  | 6 => ⟨S8192x512, .f32⟩
  | 7 => ⟨S1x8192x512, .f32⟩
  | 8 => ⟨S8192, .i32⟩
  | 9 => ⟨S1x8192x4x128, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S8192, .f32⟩
  | 19 => ⟨S8192x1, .f32⟩
  | 20 => ⟨S1x64, .f32⟩
  | 21 => ⟨S8192x64, .f32⟩
  | 22 => ⟨S8192x64, .f32⟩
  | 23 => ⟨S8192x64, .f32⟩
  | 24 => ⟨S8192x64, .f32⟩
  | 25 => ⟨S1x8192x1x64, .f32⟩
  | 26 => ⟨S8192x64, .f32⟩
  | 27 => ⟨S1x8192x1x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x128, .f32⟩
  | 41 => ⟨S1x8192x4x128, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S8192, .f32⟩
  | 51 => ⟨S8192x1, .f32⟩
  | 52 => ⟨S1x64, .f32⟩
  | 53 => ⟨S8192x64, .f32⟩
  | 54 => ⟨S8192x64, .f32⟩
  | 55 => ⟨S8192x64, .f32⟩
  | 56 => ⟨S8192x64, .f32⟩
  | 57 => ⟨S1x8192x1x64, .f32⟩
  | 58 => ⟨S8192x64, .f32⟩
  | 59 => ⟨S1x8192x1x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x128, .f32⟩
  | 73 => ⟨S1x8192x4x128, .f32⟩
  | 74 => ⟨S4, .f32⟩
  | 75 => ⟨S_, .f32⟩
  | 76 => ⟨S4, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S64, .f32⟩
  | 86 => ⟨S64x1, .f32⟩
  | 87 => ⟨S1x64, .f32⟩
  | 88 => ⟨S64x64, .f32⟩
  | 89 => ⟨S64x64, .f32⟩
  | 90 => ⟨S64x64, .f32⟩
  | 91 => ⟨S1x64x64, .f32⟩
  | 92 => ⟨S_, .f32⟩
  | 93 => ⟨S1x64x64, .f32⟩
  | 94 => ⟨S1x64x64, .i1⟩
  | 95 => ⟨S_, .f32⟩
  | 96 => ⟨S64x64, .f32⟩
  | 97 => ⟨S64x64, .f32⟩
  | 98 => ⟨S1x64x64, .f32⟩
  | 99 => ⟨S4x1x1, .f32⟩
  | 100 => ⟨S4x64x64, .f32⟩
  | 101 => ⟨S4x64x64, .f32⟩
  | 102 => ⟨S4x64x64, .f32⟩
  | 103 => ⟨S4x64x64, .f32⟩
  | 104 => ⟨S_, .f32⟩
  | 105 => ⟨S_, .f32⟩
  | 106 => ⟨S4x64x64, .i1⟩
  | 107 => ⟨S4x64x64, .f32⟩
  | 108 => ⟨S4x64x64, .f32⟩
  | 109 => ⟨S64x1, .f32⟩
  | 110 => ⟨S_, .f32⟩
  | 111 => ⟨S64x1, .f32⟩
  | 112 => ⟨S64x1, .f32⟩
  | 113 => ⟨S1x4, .f32⟩
  | 114 => ⟨S64x4, .f32⟩
  | 115 => ⟨S64x4, .f32⟩
  | 116 => ⟨S64x4, .f32⟩
  | 117 => ⟨S64x4, .f32⟩
  | 118 => ⟨S_, .f32⟩
  | 119 => ⟨S64, .f32⟩
  | 120 => ⟨S64, .f32⟩
  | 121 => ⟨S64x1, .f32⟩
  | 122 => ⟨S1x4, .f32⟩
  | 123 => ⟨S64x4, .f32⟩
  | 124 => ⟨S64x4, .f32⟩
  | 125 => ⟨S64x4, .f32⟩
  | 126 => ⟨S64x4, .f32⟩
  | 127 => ⟨S_, .f32⟩
  | _ => ⟨S8192x2048, .f32⟩

abbrev hbmTy0_1 (i : Nat) : BufTy := match i % 128 with
  | 0 => ⟨S4, .f32⟩
  | 1 => ⟨S4, .f32⟩
  | 2 => ⟨S4, .f32⟩
  | 3 => ⟨S_, .f32⟩
  | 4 => ⟨S1x8192x4x128, .f32⟩
  | 5 => ⟨S1x8192x4x128, .f32⟩
  | 6 => ⟨S_, .f32⟩
  | 7 => ⟨S1x4x128x128, .f32⟩
  | 8 => ⟨S1x128x64x4x128, .f32⟩
  | 9 => ⟨S128x1x64x4x128, .f32⟩
  | 10 => ⟨S1x128x64x4x128, .f32⟩
  | 11 => ⟨S128x1x64x4x128, .f32⟩
  | 12 => ⟨S1x128x64x4x128, .f32⟩
  | 13 => ⟨S128x1x64x4x128, .f32⟩
  | 14 => ⟨S_, .f32⟩
  | 15 => ⟨S128x1x64x4x128, .f32⟩
  | 16 => ⟨S_, .f32⟩
  | 17 => ⟨S128x1x4x128x128, .f32⟩
  | 18 => ⟨S_, .i32⟩
  | 19 => ⟨S128x1x64x4x128, .f32⟩
  | 20 => ⟨S128x1x64x4x128, .f32⟩
  | 21 => ⟨S128x1x64x4x128, .f32⟩
  | 22 => ⟨S4x64x64, .f32⟩
  | 23 => ⟨S64x4, .f32⟩
  | 24 => ⟨S4, .f32⟩
  | 25 => ⟨S64x4, .f32⟩
  | 26 => ⟨S_, .i32⟩
  | 27 => ⟨S1x4x128x128, .f32⟩
  | 28 => ⟨S128x1x64x4x128, .f32⟩
  | 29 => ⟨S128x1x4x128x128, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S1x1x64x4x128, .f32⟩
  | 37 => ⟨S1x64x4x128, .f32⟩
  | 38 => ⟨S_, .i32⟩
  | 39 => ⟨S_, .i32⟩
  | 40 => ⟨S_, .i32⟩
  | 41 => ⟨S_, .i32⟩
  | 42 => ⟨S1x1x64x4x128, .f32⟩
  | 43 => ⟨S1x64x4x128, .f32⟩
  | 44 => ⟨S_, .i32⟩
  | 45 => ⟨S_, .i32⟩
  | 46 => ⟨S_, .i32⟩
  | 47 => ⟨S_, .i32⟩
  | 48 => ⟨S1x1x64x4x128, .f32⟩
  | 49 => ⟨S1x64x4x128, .f32⟩
  | 50 => ⟨S1x4x64x64, .f32⟩
  | 51 => ⟨S1x4x64x64, .f32⟩
  | 52 => ⟨S1x4x64x64, .f32⟩
  | 53 => ⟨S1x4x128x64, .f32⟩
  | 54 => ⟨S1x64x4x128, .f32⟩
  | 55 => ⟨S1x4x128x64, .f32⟩
  | 56 => ⟨S1x64x4x128, .f32⟩
  | 57 => ⟨S1x64x4x1, .f32⟩
  | 58 => ⟨S1x64x4x128, .f32⟩
  | 59 => ⟨S1x64x4x128, .f32⟩
  | 60 => ⟨S1x64x4x128, .f32⟩
  | 61 => ⟨S1x4x1x1, .f32⟩
  | 62 => ⟨S1x4x128x128, .f32⟩
  | 63 => ⟨S1x4x128x128, .f32⟩
  | 64 => ⟨S1x64x4x1, .f32⟩
  | 65 => ⟨S1x64x4x128, .f32⟩
  | 66 => ⟨S1x64x4x128, .f32⟩
  | 67 => ⟨S1x4x128x128, .f32⟩
  | 68 => ⟨S1x4x128x128, .f32⟩
  | 69 => ⟨S1x1x64x4x128, .f32⟩
  | 70 => ⟨S_, .i32⟩
  | 71 => ⟨S_, .i32⟩
  | 72 => ⟨S_, .i32⟩
  | 73 => ⟨S_, .i32⟩
  | 74 => ⟨S128x1x64x4x128, .f32⟩
  | 75 => ⟨S1x1x4x128x128, .f32⟩
  | 76 => ⟨S_, .i32⟩
  | 77 => ⟨S_, .i32⟩
  | 78 => ⟨S_, .i32⟩
  | 79 => ⟨S_, .i32⟩
  | 80 => ⟨S128x1x4x128x128, .f32⟩
  | 81 => ⟨S_, .i32⟩
  | 82 => ⟨S_, .i32⟩
  | 83 => ⟨S1x128x64x4x128, .f32⟩
  | 84 => ⟨S1x8192x4x128, .f32⟩
  | 85 => ⟨S8192x512, .f32⟩
  | 86 => ⟨S1x8192x512, .f32⟩
  | 87 => ⟨S1x8192x4x128, .f32⟩
  | 88 => ⟨S_, .f32⟩
  | 89 => ⟨S1x8192x4, .f32⟩
  | 90 => ⟨S1x8192x4x1, .f32⟩
  | 91 => ⟨S_, .f32⟩
  | 92 => ⟨S1x8192x4x1, .f32⟩
  | 93 => ⟨S1x8192x4x1, .f32⟩
  | 94 => ⟨S_, .f32⟩
  | 95 => ⟨S1x8192x4x1, .f32⟩
  | 96 => ⟨S1x8192x4x1, .f32⟩
  | 97 => ⟨S1x8192x4x1, .f32⟩
  | 98 => ⟨S1x8192x4x128, .f32⟩
  | 99 => ⟨S1x8192x4x128, .f32⟩
  | 100 => ⟨S1x1x1x128, .f32⟩
  | 101 => ⟨S1x8192x4x128, .f32⟩
  | 102 => ⟨S1x8192x4x128, .f32⟩
  | 103 => ⟨S1x8192x4x128, .f32⟩
  | 104 => ⟨S1x8192x4x128, .f32⟩
  | 105 => ⟨S1x8192x4x128, .f32⟩
  | 106 => ⟨S_, .f32⟩
  | 107 => ⟨S1x8192x4x128, .f32⟩
  | 108 => ⟨S1x8192x4x128, .f32⟩
  | 109 => ⟨S_, .f32⟩
  | 110 => ⟨S1x8192x4x128, .f32⟩
  | 111 => ⟨S1x8192x4x128, .f32⟩
  | 112 => ⟨S1x8192x4x128, .f32⟩
  | 113 => ⟨S1x8192x4x128, .f32⟩
  | 114 => ⟨S8192x512, .f32⟩
  | 115 => ⟨S8192x512, .bf16⟩
  | 116 => ⟨S128x4x128x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_3 : Ref sig .tc := ⟨.hbm, 75, rfl⟩
abbrev main_v69 : Ref sig .tc := ⟨.hbm, 76, rfl⟩
abbrev main_v70 : Ref sig .tc := ⟨.hbm, 77, rfl⟩
abbrev main_cst_4 : Ref sig .tc := ⟨.hbm, 78, rfl⟩
abbrev main_v71 : Ref sig .tc := ⟨.hbm, 79, rfl⟩
abbrev main_v72 : Ref sig .tc := ⟨.hbm, 80, rfl⟩
abbrev main_cst_5 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_6 : Ref sig .tc := ⟨.hbm, 92, rfl⟩
abbrev main_v83 : Ref sig .tc := ⟨.hbm, 93, rfl⟩
abbrev main_v84 : Ref sig .tc := ⟨.hbm, 94, rfl⟩
abbrev main_cst_7 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v93 : Ref sig .tc := ⟨.hbm, 108, rfl⟩
abbrev main_v94 : Ref sig .tc := ⟨.hbm, 109, rfl⟩
abbrev main_cst_9 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_10 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_11 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_12 : Ref sig .tc := ⟨.hbm, 131, rfl⟩
abbrev main_v113 : Ref sig .tc := ⟨.hbm, 132, rfl⟩
abbrev main_v114 : Ref sig .tc := ⟨.hbm, 133, rfl⟩
abbrev main_cst_13 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_14 : Ref sig .tc := ⟨.hbm, 142, rfl⟩
abbrev main_v122 : Ref sig .tc := ⟨.hbm, 143, rfl⟩
abbrev main_cst_15 : Ref sig .tc := ⟨.hbm, 144, rfl⟩
abbrev main_v123 : Ref sig .tc := ⟨.hbm, 145, rfl⟩
abbrev main_c : Ref sig .tc := ⟨.hbm, 146, rfl⟩
abbrev main_v124_0 : Ref sig .tc := ⟨.hbm, 147, rfl⟩
abbrev main_v124_1 : Ref sig .tc := ⟨.hbm, 148, rfl⟩
abbrev main_v124_2 : Ref sig .tc := ⟨.hbm, 149, rfl⟩
abbrev main_v124_3 : Ref sig .tc := ⟨.hbm, 150, rfl⟩
abbrev main_v124_4 : Ref sig .tc := ⟨.hbm, 151, rfl⟩
abbrev main_v124_5 : Ref sig .tc := ⟨.hbm, 152, rfl⟩
abbrev main_v124_6 : Ref sig .tc := ⟨.hbm, 153, rfl⟩
abbrev main_v124_7 : Ref sig .tc := ⟨.hbm, 154, rfl⟩
abbrev main_v124_8 : Ref sig .tc := ⟨.hbm, 155, rfl⟩
abbrev main_v124_9 : Ref sig .tc := ⟨.hbm, 156, rfl⟩
abbrev main_v124_10 : Ref sig .tc := ⟨.hbm, 157, rfl⟩
abbrev main_while0c_c_29 : Ref sig .tc := ⟨.hbm, 158, rfl⟩
abbrev main_while0c_v148 : Ref sig .tc := ⟨.hbm, 159, rfl⟩
abbrev main_while0b_call1_c : Ref sig .tc := ⟨.hbm, 160, rfl⟩
abbrev main_while0b_call1_c_0 : Ref sig .tc := ⟨.hbm, 161, rfl⟩
abbrev main_while0b_call1_c_1 : Ref sig .tc := ⟨.hbm, 162, rfl⟩
abbrev main_while0b_call1_c_2 : Ref sig .tc := ⟨.hbm, 163, rfl⟩
abbrev main_while0b_call1_v0 : Ref sig .tc := ⟨.hbm, 164, rfl⟩
abbrev main_while0b_v148 : Ref sig .tc := ⟨.hbm, 165, rfl⟩
abbrev main_while0b_call2_c : Ref sig .tc := ⟨.hbm, 166, rfl⟩
abbrev main_while0b_call2_c_0 : Ref sig .tc := ⟨.hbm, 167, rfl⟩
abbrev main_while0b_call2_c_1 : Ref sig .tc := ⟨.hbm, 168, rfl⟩
abbrev main_while0b_call2_c_2 : Ref sig .tc := ⟨.hbm, 169, rfl⟩
abbrev main_while0b_call2_v0 : Ref sig .tc := ⟨.hbm, 170, rfl⟩
abbrev main_while0b_v149 : Ref sig .tc := ⟨.hbm, 171, rfl⟩
abbrev main_while0b_call3_c : Ref sig .tc := ⟨.hbm, 172, rfl⟩
abbrev main_while0b_call3_c_0 : Ref sig .tc := ⟨.hbm, 173, rfl⟩
abbrev main_while0b_call3_c_1 : Ref sig .tc := ⟨.hbm, 174, rfl⟩
abbrev main_while0b_call3_c_2 : Ref sig .tc := ⟨.hbm, 175, rfl⟩
abbrev main_while0b_call3_v0 : Ref sig .tc := ⟨.hbm, 176, rfl⟩
abbrev main_while0b_v150 : Ref sig .tc := ⟨.hbm, 177, rfl⟩
abbrev main_while0b_v151 : Ref sig .tc := ⟨.hbm, 178, rfl⟩
abbrev main_while0b_v152 : Ref sig .tc := ⟨.hbm, 179, rfl⟩
abbrev main_while0b_v153 : Ref sig .tc := ⟨.hbm, 180, rfl⟩
abbrev main_while0b_v154 : Ref sig .tc := ⟨.hbm, 181, rfl⟩
abbrev main_while0b_v155 : Ref sig .tc := ⟨.hbm, 182, rfl⟩
abbrev main_while0b_v156 : Ref sig .tc := ⟨.hbm, 183, rfl⟩
abbrev main_while0b_v157 : Ref sig .tc := ⟨.hbm, 184, rfl⟩
abbrev main_while0b_v158 : Ref sig .tc := ⟨.hbm, 185, rfl⟩
abbrev main_while0b_v159 : Ref sig .tc := ⟨.hbm, 186, rfl⟩
abbrev main_while0b_v160 : Ref sig .tc := ⟨.hbm, 187, rfl⟩
abbrev main_while0b_v161 : Ref sig .tc := ⟨.hbm, 188, rfl⟩
abbrev main_while0b_v162 : Ref sig .tc := ⟨.hbm, 189, rfl⟩
abbrev main_while0b_v163 : Ref sig .tc := ⟨.hbm, 190, rfl⟩
abbrev main_while0b_v164 : Ref sig .tc := ⟨.hbm, 191, rfl⟩
abbrev main_while0b_v165 : Ref sig .tc := ⟨.hbm, 192, rfl⟩
abbrev main_while0b_v166 : Ref sig .tc := ⟨.hbm, 193, rfl⟩
abbrev main_while0b_v167 : Ref sig .tc := ⟨.hbm, 194, rfl⟩
abbrev main_while0b_v168 : Ref sig .tc := ⟨.hbm, 195, rfl⟩
abbrev main_while0b_v169 : Ref sig .tc := ⟨.hbm, 196, rfl⟩
abbrev main_while0b_call4_v0 : Ref sig .tc := ⟨.hbm, 197, rfl⟩
abbrev main_while0b_call4_c : Ref sig .tc := ⟨.hbm, 198, rfl⟩
abbrev main_while0b_call4_c_0 : Ref sig .tc := ⟨.hbm, 199, rfl⟩
abbrev main_while0b_call4_c_1 : Ref sig .tc := ⟨.hbm, 200, rfl⟩
abbrev main_while0b_call4_c_2 : Ref sig .tc := ⟨.hbm, 201, rfl⟩
abbrev main_while0b_v170 : Ref sig .tc := ⟨.hbm, 202, rfl⟩
abbrev main_while0b_call5_v0 : Ref sig .tc := ⟨.hbm, 203, rfl⟩
abbrev main_while0b_call5_c : Ref sig .tc := ⟨.hbm, 204, rfl⟩
abbrev main_while0b_call5_c_0 : Ref sig .tc := ⟨.hbm, 205, rfl⟩
abbrev main_while0b_call5_c_1 : Ref sig .tc := ⟨.hbm, 206, rfl⟩
abbrev main_while0b_call5_c_2 : Ref sig .tc := ⟨.hbm, 207, rfl⟩
abbrev main_while0b_v171 : Ref sig .tc := ⟨.hbm, 208, rfl⟩
abbrev main_while0b_c_29 : Ref sig .tc := ⟨.hbm, 209, rfl⟩
abbrev main_while0b_v172 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_cst_16 : Ref sig .tc := ⟨.hbm, 216, rfl⟩
abbrev main_v130 : Ref sig .tc := ⟨.hbm, 217, rfl⟩
abbrev main_v131 : Ref sig .tc := ⟨.hbm, 218, rfl⟩
abbrev main_cst_17 : Ref sig .tc := ⟨.hbm, 219, rfl⟩
abbrev main_v132 : Ref sig .tc := ⟨.hbm, 220, rfl⟩
abbrev main_v133 : Ref sig .tc := ⟨.hbm, 221, rfl⟩
abbrev main_cst_18 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_call6_v0 : Ref sig .tc := ⟨.hbm, 232, rfl⟩
abbrev main_call6_v1 : Ref sig .tc := ⟨.hbm, 233, rfl⟩
abbrev main_call6_cst : Ref sig .tc := ⟨.hbm, 234, rfl⟩
abbrev main_call6_v2 : Ref sig .tc := ⟨.hbm, 235, rfl⟩
abbrev main_call6_v3 : Ref sig .tc := ⟨.hbm, 236, rfl⟩
abbrev main_call6_cst_0 : Ref sig .tc := ⟨.hbm, 237, rfl⟩
abbrev main_call6_v4 : Ref sig .tc := ⟨.hbm, 238, rfl⟩
abbrev main_call6_v5 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩

abbrev nD : Nat := 1
abbrev τ : Topo := Topo.v7x

variable {F : FTy → Type} [FloatOps F]

abbrev main_while0_count : Scf.Loop 32 := ⟨0#32, 128#32, 1#32⟩
-- ==== SfKernel.lean ====
abbrev S8192x2560 : Shape := ⟨2, ![8192, 2560]⟩
abbrev S8192x16 : Shape := ⟨2, ![8192, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x16 : Shape := ⟨2, ![1, 16]⟩
abbrev S3x16 : Shape := ⟨2, ![3, 16]⟩
abbrev S_ : Shape := ⟨0, ![]⟩
abbrev S8x128 : Shape := ⟨2, ![8, 128]⟩
abbrev S1 : Shape := ⟨1, ![1]⟩
abbrev S2 : Shape := ⟨1, ![2]⟩
abbrev S8192x128 : Shape := ⟨2, ![8192, 128]⟩
abbrev S8x1536 : Shape := ⟨2, ![8, 1536]⟩
abbrev S1x1536 : Shape := ⟨2, ![1, 1536]⟩
abbrev S1x1024 : Shape := ⟨2, ![1, 1024]⟩
abbrev S8x1024 : Shape := ⟨2, ![8, 1024]⟩
abbrev S8192x1024 : Shape := ⟨2, ![8192, 1024]⟩
abbrev S128x128x1024 : Shape := ⟨3, ![128, 128, 1024]⟩
abbrev S8192x1536 : Shape := ⟨2, ![8192, 1536]⟩
abbrev S256x2560 : Shape := ⟨2, ![256, 2560]⟩
abbrev S256x128 : Shape := ⟨2, ![256, 128]⟩
abbrev S256x1024 : Shape := ⟨2, ![256, 1024]⟩
abbrev S4x128x1024 : Shape := ⟨3, ![4, 128, 1024]⟩
abbrev S256x1536 : Shape := ⟨2, ![256, 1536]⟩
abbrev S128x1024 : Shape := ⟨2, ![128, 1024]⟩
abbrev S64x64 : Shape := ⟨2, ![64, 64]⟩
abbrev S264x1536 : Shape := ⟨2, ![264, 1536]⟩
abbrev S1x128 : Shape := ⟨2, ![1, 128]⟩
abbrev S256x256 : Shape := ⟨2, ![256, 256]⟩
abbrev S128x256 : Shape := ⟨2, ![128, 256]⟩
abbrev S64x128 : Shape := ⟨2, ![64, 128]⟩
abbrev S64x1024 : Shape := ⟨2, ![64, 1024]⟩
abbrev S1x128x1024 : Shape := ⟨3, ![1, 128, 1024]⟩
abbrev S128x512 : Shape := ⟨2, ![128, 512]⟩
abbrev S64x512 : Shape := ⟨2, ![64, 512]⟩
abbrev S64x1 : Shape := ⟨2, ![64, 1]⟩
abbrev S1x64 : Shape := ⟨2, ![1, 64]⟩
abbrev S1x512 : Shape := ⟨2, ![1, 512]⟩
abbrev S64 : Shape := ⟨1, ![64]⟩

abbrev nBuf : Space → Nat
  | .hbm => 44
  | .vmem => 18
  | .smem => 0
  | _ => 0

abbrev bufTy : (tb : Table) → Fin (tcTables nBuf tb) → BufTy
  | .hbm, ⟨0, _⟩ => ⟨S8192x2560, .f32⟩
  | .hbm, ⟨1, _⟩ => ⟨S8192x16, .f32⟩
  | .hbm, ⟨2, _⟩ => ⟨S4x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S3x16, .f32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x128, .f32⟩
  | .hbm, ⟨20, _⟩ => ⟨S_, .i32⟩
  | .hbm, ⟨21, _⟩ => ⟨S_, .f32⟩
  | .hbm, ⟨22, _⟩ => ⟨S8192x128, .f32⟩
  | .hbm, ⟨23, _⟩ => ⟨S_, .f32⟩
  | .hbm, ⟨24, _⟩ => ⟨S8x1536, .f32⟩
  | .hbm, ⟨25, _⟩ => ⟨S_, .i32⟩
  | .hbm, ⟨26, _⟩ => ⟨S1, .i32⟩
  | .hbm, ⟨27, _⟩ => ⟨S8x1536, .f32⟩
  | .hbm, ⟨28, _⟩ => ⟨S1x1536, .f32⟩
  | .hbm, ⟨29, _⟩ => ⟨S_, .f32⟩
  | .hbm, ⟨30, _⟩ => ⟨S8x1536, .f32⟩
  | .hbm, ⟨31, _⟩ => ⟨S_, .i32⟩
  | .hbm, ⟨32, _⟩ => ⟨S1, .i32⟩
  | .hbm, ⟨33, _⟩ => ⟨S8x1536, .f32⟩
  | .hbm, ⟨34, _⟩ => ⟨S1x1024, .f32⟩
  | .hbm, ⟨35, _⟩ => ⟨S_, .f32⟩
  | .hbm, ⟨36, _⟩ => ⟨S8x1024, .f32⟩
  | .hbm, ⟨37, _⟩ => ⟨S_, .i32⟩
  | .hbm, ⟨38, _⟩ => ⟨S1, .i32⟩
  | .hbm, ⟨39, _⟩ => ⟨S8x1024, .f32⟩
  | .hbm, ⟨40, _⟩ => ⟨S8192x1024, .bf16⟩
  | .hbm, ⟨41, _⟩ => ⟨S128x128x1024, .f32⟩
  | .hbm, ⟨42, _⟩ => ⟨S8192x1536, .f32⟩
  | .hbm, ⟨43, _⟩ => ⟨S8192x1024, .f32⟩
  | .local _ .vmem, ⟨0, _⟩ => ⟨S256x2560, .f32⟩
  | .local _ .vmem, ⟨1, _⟩ => ⟨S256x2560, .f32⟩
  | .local _ .vmem, ⟨2, _⟩ => ⟨S256x128, .f32⟩
  | .local _ .vmem, ⟨3, _⟩ => ⟨S256x128, .f32⟩
  | .local _ .vmem, ⟨4, _⟩ => ⟨S8x1536, .f32⟩
  | .local _ .vmem, ⟨5, _⟩ => ⟨S8x1536, .f32⟩
  | .local _ .vmem, ⟨6, _⟩ => ⟨S8x128, .f32⟩
  | .local _ .vmem, ⟨7, _⟩ => ⟨S8x1024, .f32⟩
  | .local _ .vmem, ⟨8, _⟩ => ⟨S256x1024, .bf16⟩
  | .local _ .vmem, ⟨9, _⟩ => ⟨S256x1024, .bf16⟩
  | .local _ .vmem, ⟨10, _⟩ => ⟨S4x128x1024, .f32⟩
  | .local _ .vmem, ⟨11, _⟩ => ⟨S4x128x1024, .f32⟩
  | .local _ .vmem, ⟨12, _⟩ => ⟨S256x1536, .f32⟩
  | .local _ .vmem, ⟨13, _⟩ => ⟨S256x1536, .f32⟩
  | .local _ .vmem, ⟨14, _⟩ => ⟨S256x1024, .f32⟩
  | .local _ .vmem, ⟨15, _⟩ => ⟨S256x1024, .f32⟩
  | .local _ .vmem, ⟨16, _⟩ => ⟨S128x1024, .f32⟩
  | .local _ .vmem, ⟨17, _⟩ => ⟨S8x1536, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call0_v0 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_c_7 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SfKernelIdeal.lean ====
variable {F : FTy → Type} [FloatOps F] [Named F]
def κ : String → Option EReal := fun
  | "mask" => some ⊥
  | _ => none
-- ==== SfReferenceIdeal.lean ====
abbrev S8192x2560 : Shape := ⟨2, ![8192, 2560]⟩
abbrev S8192x16 : Shape := ⟨2, ![8192, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x8192x2560 : Shape := ⟨3, ![1, 8192, 2560]⟩
abbrev S1x8192x1024 : Shape := ⟨3, ![1, 8192, 1024]⟩
abbrev S1x8192x256 : Shape := ⟨3, ![1, 8192, 256]⟩
abbrev S1x8192x1536 : Shape := ⟨3, ![1, 8192, 1536]⟩
abbrev S_ : Shape := ⟨0, ![]⟩
abbrev S1x8195x1536 : Shape := ⟨3, ![1, 8195, 1536]⟩
abbrev S1x1536 : Shape := ⟨2, ![1, 1536]⟩
abbrev S1x1x1536 : Shape := ⟨3, ![1, 1, 1536]⟩
abbrev S1x8192x16x64 : Shape := ⟨4, ![1, 8192, 16, 64]⟩
abbrev S1x8192x2x128 : Shape := ⟨4, ![1, 8192, 2, 128]⟩
abbrev S1x8192x16 : Shape := ⟨3, ![1, 8192, 16]⟩
abbrev S1x1x16 : Shape := ⟨3, ![1, 1, 16]⟩
abbrev S1x8192x2x8 : Shape := ⟨4, ![1, 8192, 2, 8]⟩
abbrev S1x8192x16x1 : Shape := ⟨4, ![1, 8192, 16, 1]⟩
abbrev S1x8192x2x8x64 : Shape := ⟨5, ![1, 8192, 2, 8, 64]⟩
abbrev S64x64 : Shape := ⟨2, ![64, 64]⟩
abbrev S1x2x8x64x128 : Shape := ⟨5, ![1, 2, 8, 64, 128]⟩
abbrev S1x128x64x2x8x64 : Shape := ⟨6, ![1, 128, 64, 2, 8, 64]⟩
abbrev S128x1x64x2x8x64 : Shape := ⟨6, ![128, 1, 64, 2, 8, 64]⟩
abbrev S1x128x64x2x128 : Shape := ⟨5, ![1, 128, 64, 2, 128]⟩
abbrev S128x1x64x2x128 : Shape := ⟨5, ![128, 1, 64, 2, 128]⟩
abbrev S1x128x64x2x8 : Shape := ⟨5, ![1, 128, 64, 2, 8]⟩
abbrev S128x1x64x2x8 : Shape := ⟨5, ![128, 1, 64, 2, 8]⟩
abbrev S128x1x2x8x64x128 : Shape := ⟨6, ![128, 1, 2, 8, 64, 128]⟩
abbrev S1x1x64x2x8x64 : Shape := ⟨6, ![1, 1, 64, 2, 8, 64]⟩
abbrev S1x64x2x8x64 : Shape := ⟨5, ![1, 64, 2, 8, 64]⟩
abbrev S1x1x64x2x128 : Shape := ⟨5, ![1, 1, 64, 2, 128]⟩
abbrev S1x64x2x128 : Shape := ⟨4, ![1, 64, 2, 128]⟩
abbrev S1x1x64x2x8 : Shape := ⟨5, ![1, 1, 64, 2, 8]⟩
abbrev S1x64x2x8 : Shape := ⟨4, ![1, 64, 2, 8]⟩
abbrev S1x64x1x2x8 : Shape := ⟨5, ![1, 64, 1, 2, 8]⟩
abbrev S1x64x64x2x8 : Shape := ⟨5, ![1, 64, 64, 2, 8]⟩
abbrev S1x64x64x1x1 : Shape := ⟨5, ![1, 64, 64, 1, 1]⟩
abbrev S1x2x64x64 : Shape := ⟨4, ![1, 2, 64, 64]⟩
abbrev S1x64x64x2 : Shape := ⟨4, ![1, 64, 64, 2]⟩
abbrev S1x64x64x2x1 : Shape := ⟨5, ![1, 64, 64, 2, 1]⟩
abbrev S1x2x8x64x64 : Shape := ⟨5, ![1, 2, 8, 64, 64]⟩
abbrev S1x64x2x8x1 : Shape := ⟨5, ![1, 64, 2, 8, 1]⟩
abbrev S1x1x2x8 : Shape := ⟨4, ![1, 1, 2, 8]⟩
abbrev S1x2x8 : Shape := ⟨3, ![1, 2, 8]⟩
abbrev S1x2x8x1x1 : Shape := ⟨5, ![1, 2, 8, 1, 1]⟩
abbrev S1x1x2x8x64x128 : Shape := ⟨6, ![1, 1, 2, 8, 64, 128]⟩
abbrev S16x1 : Shape := ⟨2, ![16, 1]⟩
abbrev S1x1x16x1 : Shape := ⟨4, ![1, 1, 16, 1]⟩
abbrev S1x8192x2x512 : Shape := ⟨4, ![1, 8192, 2, 512]⟩
abbrev S2x512 : Shape := ⟨2, ![2, 512]⟩
abbrev S1x8192x2 : Shape := ⟨3, ![1, 8192, 2]⟩
abbrev S1x8192x2x1 : Shape := ⟨4, ![1, 8192, 2, 1]⟩
abbrev S1x1x2x512 : Shape := ⟨4, ![1, 1, 2, 512]⟩
abbrev S128x2x8x64x128 : Shape := ⟨5, ![128, 2, 8, 64, 128]⟩
abbrev S128x128x2x8x64 : Shape := ⟨5, ![128, 128, 2, 8, 64]⟩
abbrev S128x128x1024 : Shape := ⟨3, ![128, 128, 1024]⟩
abbrev S8192x1024 : Shape := ⟨2, ![8192, 1024]⟩
abbrev S8192x1536 : Shape := ⟨2, ![8192, 1536]⟩

abbrev nBuf : Space → Nat
  | .hbm => 314
  | .vmem => 0
  | .smem => 0
  | _ => 0

abbrev hbmTy0_0 (i : Nat) : BufTy := match i % 128 with
  | 0 => ⟨S8192x2560, .f32⟩
  | 1 => ⟨S8192x16, .f32⟩
  | 2 => ⟨S4x1536, .f32⟩
  | 3 => ⟨S1536, .f32⟩
  | 4 => ⟨S16, .f32⟩
  | 5 => ⟨S16, .f32⟩
  | 6 => ⟨S16, .f32⟩
  | 7 => ⟨S1024, .f32⟩
  | 8 => ⟨S1x8192x2560, .f32⟩
  | 9 => ⟨S1x8192x1024, .f32⟩
  | 10 => ⟨S1x8192x256, .f32⟩
  | 11 => ⟨S1x8192x256, .f32⟩
  | 12 => ⟨S1x8192x1024, .f32⟩
  | 13 => ⟨S1x8192x1536, .f32⟩
  | 14 => ⟨S_, .i32⟩
  | 15 => ⟨S_, .f32⟩
  | 16 => ⟨S1x8195x1536, .f32⟩
  | 17 => ⟨S1x8192x1536, .f32⟩
  | 18 => ⟨S1x1536, .f32⟩
  | 19 => ⟨S1536, .f32⟩
  | 20 => ⟨S1x1x1536, .f32⟩
  | 21 => ⟨S1x8192x1536, .f32⟩
  | 22 => ⟨S1x8192x1536, .f32⟩
  | 23 => ⟨S_, .f32⟩
  | 24 => ⟨S1x8192x1536, .f32⟩
  | 25 => ⟨S1x8192x1536, .f32⟩
  | 26 => ⟨S1x8192x1536, .f32⟩
  | 27 => ⟨S1x1536, .f32⟩
  | 28 => ⟨S1536, .f32⟩
  | 29 => ⟨S1x1x1536, .f32⟩
  | 30 => ⟨S1x8192x1536, .f32⟩
  | 31 => ⟨S1x8192x1536, .f32⟩
  | 32 => ⟨S1x8192x1536, .f32⟩
  | 33 => ⟨S1x8192x1536, .f32⟩
  | 34 => ⟨S1x1536, .f32⟩
  | 35 => ⟨S1536, .f32⟩
  | 36 => ⟨S1x1x1536, .f32⟩
  | 37 => ⟨S1x8192x1536, .f32⟩
  | 38 => ⟨S1x8192x1536, .f32⟩
  | 39 => ⟨S1x8192x1536, .f32⟩
  | 40 => ⟨S1x8192x1536, .f32⟩
  | 41 => ⟨S1x1536, .f32⟩
  | 42 => ⟨S1536, .f32⟩
  | 43 => ⟨S1x1x1536, .f32⟩
  | 44 => ⟨S1x8192x1536, .f32⟩
  | 45 => ⟨S1x8192x1536, .f32⟩
  | 46 => ⟨S1x8192x1536, .f32⟩
  | 47 => ⟨S1x1x1536, .f32⟩
  | 48 => ⟨S1x8192x1536, .f32⟩
  | 49 => ⟨S1x8192x1536, .f32⟩
  | 50 => ⟨S1x8192x1536, .f32⟩
  | 51 => ⟨S1x8192x1536, .f32⟩
  | 52 => ⟨S_, .f32⟩
  | 53 => ⟨S1x8192x1536, .f32⟩
  | 54 => ⟨S1x8192x1536, .f32⟩
  | 55 => ⟨S_, .f32⟩
  | 56 => ⟨S1x8192x1536, .f32⟩
  | 57 => ⟨S1x8192x1536, .f32⟩
  | 58 => ⟨S1x8192x1536, .f32⟩
  | 59 => ⟨S1x8192x1024, .f32⟩
  | 60 => ⟨S1x8192x256, .f32⟩
  | 61 => ⟨S1x8192x256, .f32⟩
  | 62 => ⟨S1x8192x16x64, .f32⟩
  | 63 => ⟨S1x8192x2x128, .f32⟩
  | 64 => ⟨S1x8192x2x128, .f32⟩
  | 65 => ⟨S1x8192x16, .f32⟩
  | 66 => ⟨S1x1x16, .f32⟩
  | 67 => ⟨S1x8192x16, .f32⟩
  | 68 => ⟨S1x8192x16, .f32⟩
  | 69 => ⟨S_, .f32⟩
  | 70 => ⟨S1x8192x16, .f32⟩
  | 71 => ⟨S1x8192x16, .f32⟩
  | 72 => ⟨S1x8192x16, .f32⟩
  | 73 => ⟨S1x8192x16, .f32⟩
  | 74 => ⟨S1x8192x16, .i1⟩
  | 75 => ⟨S1x8192x16, .f32⟩
  | 76 => ⟨S1x8192x16, .f32⟩
  | 77 => ⟨S1x8192x16, .f32⟩
  | 78 => ⟨S1x8192x16, .f32⟩
  | 79 => ⟨S1x8192x16, .f32⟩
  | 80 => ⟨S1x8192x16, .f32⟩
  | 81 => ⟨S1x8192x16, .f32⟩
  | 82 => ⟨S1x8192x16, .f32⟩
  | 83 => ⟨S16, .f32⟩
  | 84 => ⟨S16, .f32⟩
  | 85 => ⟨S1x1x16, .f32⟩
  | 86 => ⟨S1x8192x16, .f32⟩
  | 87 => ⟨S1x8192x16, .f32⟩
  | 88 => ⟨S1x8192x2x8, .f32⟩
  | 89 => ⟨S1x8192x16x1, .f32⟩
  | 90 => ⟨S1x8192x16x64, .f32⟩
  | 91 => ⟨S1x8192x16x64, .f32⟩
  | 92 => ⟨S1x8192x2x8x64, .f32⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S_, .f32⟩
  | 105 => ⟨S1x2x8x64x128, .f32⟩
  | 106 => ⟨S1x128x64x2x8x64, .f32⟩
  | 107 => ⟨S128x1x64x2x8x64, .f32⟩
  | 108 => ⟨S1x128x64x2x128, .f32⟩
  | 109 => ⟨S128x1x64x2x128, .f32⟩
  | 110 => ⟨S1x128x64x2x128, .f32⟩
  | 111 => ⟨S128x1x64x2x128, .f32⟩
  | 112 => ⟨S1x128x64x2x8, .f32⟩
  | 113 => ⟨S128x1x64x2x8, .f32⟩
  | 114 => ⟨S_, .f32⟩
  | 115 => ⟨S128x1x64x2x8x64, .f32⟩
  | 116 => ⟨S_, .f32⟩
  | 117 => ⟨S128x1x2x8x64x128, .f32⟩
  | 118 => ⟨S_, .i32⟩
  | 119 => ⟨S128x1x64x2x8x64, .f32⟩
  | 120 => ⟨S128x1x64x2x128, .f32⟩
  | 121 => ⟨S128x1x64x2x128, .f32⟩
  | 122 => ⟨S128x1x64x2x8, .f32⟩
  | 123 => ⟨S64x64, .i1⟩
  | 124 => ⟨S_, .i32⟩
  | 125 => ⟨S1x2x8x64x128, .f32⟩
  | 126 => ⟨S128x1x64x2x8x64, .f32⟩
  | 127 => ⟨S128x1x2x8x64x128, .f32⟩
  | _ => ⟨S8192x2560, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S1x1x64x2x8x64, .f32⟩
  | 8 => ⟨S1x64x2x8x64, .f32⟩
  | 9 => ⟨S_, .i32⟩
  | 10 => ⟨S_, .i32⟩
  | 11 => ⟨S_, .i32⟩
  | 12 => ⟨S_, .i32⟩
  | 13 => ⟨S1x1x64x2x128, .f32⟩
  | 14 => ⟨S1x64x2x128, .f32⟩
  | 15 => ⟨S_, .i32⟩
  | 16 => ⟨S_, .i32⟩
  | 17 => ⟨S_, .i32⟩
  | 18 => ⟨S_, .i32⟩
  | 19 => ⟨S1x1x64x2x128, .f32⟩
  | 20 => ⟨S1x64x2x128, .f32⟩
  | 21 => ⟨S_, .i32⟩
  | 22 => ⟨S_, .i32⟩
  | 23 => ⟨S_, .i32⟩
  | 24 => ⟨S_, .i32⟩
  | 25 => ⟨S1x1x64x2x8, .f32⟩
  | 26 => ⟨S1x64x2x8, .f32⟩
  | 27 => ⟨S_, .f32⟩
  | 28 => ⟨S_, .f32⟩
  | 29 => ⟨S1x64x2x8, .f32⟩
  | 30 => ⟨S1x64x1x2x8, .f32⟩
  | 31 => ⟨S1x1x64x2x8, .f32⟩
  | 32 => ⟨S1x64x64x2x8, .f32⟩
  | 33 => ⟨S1x64x64x2x8, .f32⟩
  | 34 => ⟨S1x64x64x2x8, .f32⟩
  | 35 => ⟨S1x64x64x1x1, .i1⟩
  | 36 => ⟨S_, .f32⟩
  | 37 => ⟨S_, .f32⟩
  | 38 => ⟨S1x64x64x2x8, .i1⟩
  | 39 => ⟨S1x64x64x2x8, .f32⟩
  | 40 => ⟨S1x64x64x2x8, .f32⟩
  | 41 => ⟨S1x64x64x2x8, .f32⟩
  | 42 => ⟨S1x2x64x64, .f32⟩
  | 43 => ⟨S1x64x64x2, .f32⟩
  | 44 => ⟨S1x64x64x2x1, .f32⟩
  | 45 => ⟨S1x64x64x2x8, .f32⟩
  | 46 => ⟨S1x64x64x2x8, .f32⟩
  | 47 => ⟨S1x2x8x64x64, .f32⟩
  | 48 => ⟨S1x64x2x8x64, .f32⟩
  | 49 => ⟨S1x2x8x64x64, .f32⟩
  | 50 => ⟨S1x64x2x8x64, .f32⟩
  | 51 => ⟨S1x64x2x8, .f32⟩
  | 52 => ⟨S1x64x2x8x1, .f32⟩
  | 53 => ⟨S1x64x2x8x64, .f32⟩
  | 54 => ⟨S1x64x2x8x64, .f32⟩
  | 55 => ⟨S1x64x2x8x64, .f32⟩
  | 56 => ⟨S1x1x2x8, .f32⟩
  | 57 => ⟨S1x2x8, .f32⟩
  | 58 => ⟨S1x1x2x8, .f32⟩
  | 59 => ⟨S1x64x2x8, .f32⟩
  | 60 => ⟨S1x64x2x8, .f32⟩
  | 61 => ⟨S1x64x2x8, .f32⟩
  | 62 => ⟨S1x2x8, .f32⟩
  | 63 => ⟨S1x2x8x1x1, .f32⟩
  | 64 => ⟨S1x2x8x64x128, .f32⟩
  | 65 => ⟨S1x2x8x64x128, .f32⟩
  | 66 => ⟨S1x64x2x8x1, .f32⟩
  | 67 => ⟨S1x64x2x8x64, .f32⟩
  | 68 => ⟨S1x64x2x8x64, .f32⟩
  | 69 => ⟨S1x2x8x64x128, .f32⟩
  | 70 => ⟨S1x2x8x64x128, .f32⟩
  | 71 => ⟨S1x1x64x2x8x64, .f32⟩
  | 72 => ⟨S_, .i32⟩
  | 73 => ⟨S_, .i32⟩
  | 74 => ⟨S_, .i32⟩
  | 75 => ⟨S_, .i32⟩
  | 76 => ⟨S_, .i32⟩
  | 77 => ⟨S128x1x64x2x8x64, .f32⟩
  | 78 => ⟨S1x1x2x8x64x128, .f32⟩
  | 79 => ⟨S_, .i32⟩
  | 80 => ⟨S_, .i32⟩
  | 81 => ⟨S_, .i32⟩
  | 82 => ⟨S_, .i32⟩
  | 83 => ⟨S_, .i32⟩
  | 84 => ⟨S128x1x2x8x64x128, .f32⟩
  | 85 => ⟨S_, .i32⟩
  | 86 => ⟨S_, .i32⟩
  | 87 => ⟨S1x128x64x2x8x64, .f32⟩
  | 88 => ⟨S1x8192x2x8x64, .f32⟩
  | 89 => ⟨S1x8192x16x64, .f32⟩
  | 90 => ⟨S1x8192x2560, .f32⟩
  | 91 => ⟨S1x8192x1024, .f32⟩
  | 92 => ⟨S1x8192x256, .f32⟩
  | 93 => ⟨S1x8192x256, .f32⟩
  | 94 => ⟨S1x8192x1024, .f32⟩
  | 95 => ⟨S1x8192x1536, .f32⟩
  | 96 => ⟨S_, .i32⟩
  | 97 => ⟨S_, .f32⟩
  | 98 => ⟨S1x8195x1536, .f32⟩
  | 99 => ⟨S1x8192x1536, .f32⟩
  | 100 => ⟨S1x1536, .f32⟩
  | 101 => ⟨S1536, .f32⟩
  | 102 => ⟨S1x1x1536, .f32⟩
  | 103 => ⟨S1x8192x1536, .f32⟩
  | 104 => ⟨S1x8192x1536, .f32⟩
  | 105 => ⟨S_, .f32⟩
  | 106 => ⟨S1x8192x1536, .f32⟩
  | 107 => ⟨S1x8192x1536, .f32⟩
  | 108 => ⟨S1x8192x1536, .f32⟩
  | 109 => ⟨S1x1536, .f32⟩
  | 110 => ⟨S1536, .f32⟩
  | 111 => ⟨S1x1x1536, .f32⟩
  | 112 => ⟨S1x8192x1536, .f32⟩
  | 113 => ⟨S1x8192x1536, .f32⟩
  | 114 => ⟨S1x8192x1536, .f32⟩
  | 115 => ⟨S1x8192x1536, .f32⟩
  | 116 => ⟨S1x1536, .f32⟩
  | 117 => ⟨S1536, .f32⟩
  | 118 => ⟨S1x1x1536, .f32⟩
  | 119 => ⟨S1x8192x1536, .f32⟩
  | 120 => ⟨S1x8192x1536, .f32⟩
  | 121 => ⟨S1x8192x1536, .f32⟩
  | 122 => ⟨S1x8192x1536, .f32⟩
  | 123 => ⟨S1x1536, .f32⟩
  | 124 => ⟨S1536, .f32⟩
  | 125 => ⟨S1x1x1536, .f32⟩
  | 126 => ⟨S1x8192x1536, .f32⟩
  | 127 => ⟨S1x8192x1536, .f32⟩
  | _ => ⟨S8192x2560, .f32⟩

abbrev hbmTy0_2 (i : Nat) : BufTy := match i % 128 with
  | 0 => ⟨S1x8192x1536, .f32⟩
  | 1 => ⟨S1x1x1536, .f32⟩
  | 2 => ⟨S1x8192x1536, .f32⟩
  | 3 => ⟨S1x8192x1536, .f32⟩
  | 4 => ⟨S1x8192x1536, .f32⟩
  | 5 => ⟨S1x8192x1536, .f32⟩
  | 6 => ⟨S_, .f32⟩
  | 7 => ⟨S1x8192x1536, .f32⟩
  | 8 => ⟨S1x8192x1536, .f32⟩
  | 9 => ⟨S_, .f32⟩
  | 10 => ⟨S1x8192x1536, .f32⟩
  | 11 => ⟨S1x8192x1536, .f32⟩
  | 12 => ⟨S1x8192x1536, .f32⟩
  | 13 => ⟨S1x8192x1024, .f32⟩
  | 14 => ⟨S1x8192x256, .f32⟩
  | 15 => ⟨S1x8192x256, .f32⟩
  | 16 => ⟨S1x8192x16x64, .f32⟩
  | 17 => ⟨S16x1, .f32⟩
  | 18 => ⟨S1x1x16x1, .f32⟩
  | 19 => ⟨S1x8192x16x64, .f32⟩
  | 20 => ⟨S1x8192x16x64, .f32⟩
  | 21 => ⟨S1x8192x16x64, .f32⟩
  | 22 => ⟨S1x8192x16x64, .f32⟩
  | 23 => ⟨S1x8192x16x64, .f32⟩
  | 24 => ⟨S1x8192x16x64, .f32⟩
  | 25 => ⟨S_, .f32⟩
  | 26 => ⟨S1x8192x16x64, .f32⟩
  | 27 => ⟨S1x8192x16x64, .f32⟩
  | 28 => ⟨S_, .f32⟩
  | 29 => ⟨S1x8192x16x64, .f32⟩
  | 30 => ⟨S1x8192x16x64, .f32⟩
  | 31 => ⟨S1x8192x16x64, .f32⟩
  | 32 => ⟨S1x8192x16x64, .f32⟩
  | 33 => ⟨S1x8192x2x512, .f32⟩
  | 34 => ⟨S2x512, .f32⟩
  | 35 => ⟨S1x8192x2x512, .f32⟩
  | 36 => ⟨S_, .f32⟩
  | 37 => ⟨S1x8192x2, .f32⟩
  | 38 => ⟨S1x8192x2x1, .f32⟩
  | 39 => ⟨S_, .f32⟩
  | 40 => ⟨S1x8192x2x1, .f32⟩
  | 41 => ⟨S1x8192x2x1, .f32⟩
  | 42 => ⟨S_, .f32⟩
  | 43 => ⟨S1x8192x2x1, .f32⟩
  | 44 => ⟨S1x8192x2x1, .f32⟩
  | 45 => ⟨S1x8192x2x1, .f32⟩
  | 46 => ⟨S1x8192x2x512, .f32⟩
  | 47 => ⟨S1x8192x2x512, .f32⟩
  | 48 => ⟨S1x1x2x512, .f32⟩
  | 49 => ⟨S1x8192x2x512, .f32⟩
  | 50 => ⟨S1x8192x2x512, .f32⟩
  | 51 => ⟨S128x2x8x64x128, .f32⟩
  | 52 => ⟨S128x128x2x8x64, .f32⟩
  | 53 => ⟨S128x128x1024, .f32⟩
  | 54 => ⟨S8192x1024, .f32⟩
  | 55 => ⟨S8192x1024, .bf16⟩
  | 56 => ⟨S8192x1536, .f32⟩
  | 57 => ⟨S8192x1024, .f32⟩
  | _ => ⟨S8192x2560, .f32⟩

abbrev hbmTy (i : Nat) : BufTy := match i / 128 with
  | 0 => hbmTy0_0 i
  | 1 => hbmTy0_1 i
  | 2 => hbmTy0_2 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_0 : Ref sig .tc := ⟨.hbm, 93, rfl⟩
abbrev main_v61 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_c_0 : Ref sig .tc := ⟨.hbm, 101, rfl⟩
abbrev main_call3_v5 : Ref sig .tc := ⟨.hbm, 102, rfl⟩
abbrev main_v62 : Ref sig .tc := ⟨.hbm, 103, rfl⟩
abbrev main_cst_1 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_2 : Ref sig .tc := ⟨.hbm, 114, rfl⟩
abbrev main_v72 : Ref sig .tc := ⟨.hbm, 115, rfl⟩
abbrev main_cst_3 : Ref sig .tc := ⟨.hbm, 116, rfl⟩
abbrev main_v73 : Ref sig .tc := ⟨.hbm, 117, rfl⟩
abbrev main_c_4 : Ref sig .tc := ⟨.hbm, 118, rfl⟩
abbrev main_v74_0 : Ref sig .tc := ⟨.hbm, 119, rfl⟩
abbrev main_v74_1 : Ref sig .tc := ⟨.hbm, 120, rfl⟩
abbrev main_v74_2 : Ref sig .tc := ⟨.hbm, 121, rfl⟩
abbrev main_v74_3 : Ref sig .tc := ⟨.hbm, 122, rfl⟩
abbrev main_v74_4 : Ref sig .tc := ⟨.hbm, 123, rfl⟩
abbrev main_v74_5 : Ref sig .tc := ⟨.hbm, 124, rfl⟩
abbrev main_v74_6 : Ref sig .tc := ⟨.hbm, 125, rfl⟩
abbrev main_v74_7 : Ref sig .tc := ⟨.hbm, 126, rfl⟩
abbrev main_v74_8 : Ref sig .tc := ⟨.hbm, 127, rfl⟩
abbrev main_while0c_c_18 : Ref sig .tc := ⟨.hbm, 128, rfl⟩
abbrev main_while0c_v152 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_call4_c_3 : Ref sig .tc := ⟨.hbm, 134, rfl⟩
abbrev main_while0b_call4_v0 : Ref sig .tc := ⟨.hbm, 135, rfl⟩
abbrev main_while0b_v152 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_c_2 : Ref sig .tc := ⟨.hbm, 140, rfl⟩
abbrev main_while0b_call5_v0 : Ref sig .tc := ⟨.hbm, 141, rfl⟩
abbrev main_while0b_v153 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_c_2 : Ref sig .tc := ⟨.hbm, 146, rfl⟩
abbrev main_while0b_call6_v0 : Ref sig .tc := ⟨.hbm, 147, rfl⟩
abbrev main_while0b_v154 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_c_2 : Ref sig .tc := ⟨.hbm, 152, rfl⟩
abbrev main_while0b_call7_v0 : Ref sig .tc := ⟨.hbm, 153, rfl⟩
abbrev main_while0b_v155 : Ref sig .tc := ⟨.hbm, 154, rfl⟩
abbrev main_while0b_call8_call0_cst : Ref sig .tc := ⟨.hbm, 155, rfl⟩
abbrev main_while0b_call8_call0_v0 : Ref sig .tc := ⟨.hbm, 156, rfl⟩
abbrev main_while0b_v156 : Ref sig .tc := ⟨.hbm, 157, rfl⟩
abbrev main_while0b_v157 : Ref sig .tc := ⟨.hbm, 158, rfl⟩
abbrev main_while0b_v158 : Ref sig .tc := ⟨.hbm, 159, rfl⟩
abbrev main_while0b_v159 : Ref sig .tc := ⟨.hbm, 160, rfl⟩
abbrev main_while0b_v160 : Ref sig .tc := ⟨.hbm, 161, rfl⟩
abbrev main_while0b_v161 : Ref sig .tc := ⟨.hbm, 162, rfl⟩
abbrev main_while0b_v162 : Ref sig .tc := ⟨.hbm, 163, rfl⟩
abbrev main_while0b_cst_18 : Ref sig .tc := ⟨.hbm, 164, rfl⟩
abbrev main_while0b_call9_v0 : Ref sig .tc := ⟨.hbm, 165, rfl⟩
abbrev main_while0b_call9_v1 : Ref sig .tc := ⟨.hbm, 166, rfl⟩
abbrev main_while0b_call9_v2 : Ref sig .tc := ⟨.hbm, 167, rfl⟩
abbrev main_while0b_v163 : Ref sig .tc := ⟨.hbm, 168, rfl⟩
abbrev main_while0b_v164 : Ref sig .tc := ⟨.hbm, 169, rfl⟩
abbrev main_while0b_v165 : Ref sig .tc := ⟨.hbm, 170, rfl⟩
abbrev main_while0b_v166 : Ref sig .tc := ⟨.hbm, 171, rfl⟩
abbrev main_while0b_v167 : Ref sig .tc := ⟨.hbm, 172, rfl⟩
abbrev main_while0b_v168 : Ref sig .tc := ⟨.hbm, 173, rfl⟩
abbrev main_while0b_v169 : Ref sig .tc := ⟨.hbm, 174, rfl⟩
abbrev main_while0b_v170 : Ref sig .tc := ⟨.hbm, 175, rfl⟩
abbrev main_while0b_v171 : Ref sig .tc := ⟨.hbm, 176, rfl⟩
abbrev main_while0b_v172 : Ref sig .tc := ⟨.hbm, 177, rfl⟩
abbrev main_while0b_v173 : Ref sig .tc := ⟨.hbm, 178, rfl⟩
abbrev main_while0b_v174 : Ref sig .tc := ⟨.hbm, 179, rfl⟩
abbrev main_while0b_v175 : Ref sig .tc := ⟨.hbm, 180, rfl⟩
abbrev main_while0b_v176 : Ref sig .tc := ⟨.hbm, 181, rfl⟩
abbrev main_while0b_v177 : Ref sig .tc := ⟨.hbm, 182, rfl⟩
abbrev main_while0b_v178 : Ref sig .tc := ⟨.hbm, 183, rfl⟩
abbrev main_while0b_v179 : Ref sig .tc := ⟨.hbm, 184, rfl⟩
abbrev main_while0b_v180 : Ref sig .tc := ⟨.hbm, 185, rfl⟩
abbrev main_while0b_v181 : Ref sig .tc := ⟨.hbm, 186, rfl⟩
abbrev main_while0b_v182 : Ref sig .tc := ⟨.hbm, 187, rfl⟩
abbrev main_while0b_v183 : Ref sig .tc := ⟨.hbm, 188, rfl⟩
abbrev main_while0b_v184 : Ref sig .tc := ⟨.hbm, 189, rfl⟩
abbrev main_while0b_v185 : Ref sig .tc := ⟨.hbm, 190, rfl⟩
abbrev main_while0b_v186 : Ref sig .tc := ⟨.hbm, 191, rfl⟩
abbrev main_while0b_v187 : Ref sig .tc := ⟨.hbm, 192, rfl⟩
abbrev main_while0b_v188 : Ref sig .tc := ⟨.hbm, 193, rfl⟩
abbrev main_while0b_v189 : Ref sig .tc := ⟨.hbm, 194, rfl⟩
abbrev main_while0b_v190 : Ref sig .tc := ⟨.hbm, 195, rfl⟩
abbrev main_while0b_v191 : Ref sig .tc := ⟨.hbm, 196, rfl⟩
abbrev main_while0b_v192 : Ref sig .tc := ⟨.hbm, 197, rfl⟩
abbrev main_while0b_v193 : Ref sig .tc := ⟨.hbm, 198, rfl⟩
abbrev main_while0b_call10_v0 : Ref sig .tc := ⟨.hbm, 199, rfl⟩
abbrev main_while0b_call10_c : Ref sig .tc := ⟨.hbm, 200, rfl⟩
abbrev main_while0b_call10_c_0 : Ref sig .tc := ⟨.hbm, 201, rfl⟩
abbrev main_while0b_call10_c_1 : Ref sig .tc := ⟨.hbm, 202, rfl⟩
abbrev main_while0b_call10_c_2 : Ref sig .tc := ⟨.hbm, 203, rfl⟩
abbrev main_while0b_call10_c_3 : Ref sig .tc := ⟨.hbm, 204, rfl⟩
abbrev main_while0b_v194 : Ref sig .tc := ⟨.hbm, 205, rfl⟩
abbrev main_while0b_call11_v0 : Ref sig .tc := ⟨.hbm, 206, rfl⟩
abbrev main_while0b_call11_c : Ref sig .tc := ⟨.hbm, 207, rfl⟩
abbrev main_while0b_call11_c_0 : Ref sig .tc := ⟨.hbm, 208, rfl⟩
abbrev main_while0b_call11_c_1 : Ref sig .tc := ⟨.hbm, 209, rfl⟩
abbrev main_while0b_call11_c_2 : Ref sig .tc := ⟨.hbm, 210, rfl⟩
abbrev main_while0b_call11_c_3 : Ref sig .tc := ⟨.hbm, 211, rfl⟩
abbrev main_while0b_v195 : Ref sig .tc := ⟨.hbm, 212, rfl⟩
abbrev main_while0b_c_19 : Ref sig .tc := ⟨.hbm, 213, rfl⟩
abbrev main_while0b_v196 : Ref sig .tc := ⟨.hbm, 214, rfl⟩
abbrev main_v75 : Ref sig .tc := ⟨.hbm, 215, rfl⟩
abbrev main_v76 : Ref sig .tc := ⟨.hbm, 216, rfl⟩
abbrev main_v77 : Ref sig .tc := ⟨.hbm, 217, rfl⟩
abbrev main_v78 : Ref sig .tc := ⟨.hbm, 218, rfl⟩
abbrev main_v79 : Ref sig .tc := ⟨.hbm, 219, rfl⟩
abbrev main_v80 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_c_5 : Ref sig .tc := ⟨.hbm, 224, rfl⟩
abbrev main_call12_v0 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_cst_6 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_v110 : Ref sig .tc := ⟨.hbm, 253, rfl⟩
abbrev main_v111 : Ref sig .tc := ⟨.hbm, 254, rfl⟩
abbrev main_v112 : Ref sig .tc := ⟨.hbm, 255, rfl⟩
abbrev main_v113 : Ref sig .tc := ⟨.hbm, 256, rfl⟩
abbrev main_v114 : Ref sig .tc := ⟨.hbm, 257, rfl⟩
abbrev main_v115 : Ref sig .tc := ⟨.hbm, 258, rfl⟩
abbrev main_v116 : Ref sig .tc := ⟨.hbm, 259, rfl⟩
abbrev main_call13_v0 : Ref sig .tc := ⟨.hbm, 260, rfl⟩
abbrev main_call13_v1 : Ref sig .tc := ⟨.hbm, 261, rfl⟩
abbrev main_call13_cst : Ref sig .tc := ⟨.hbm, 262, rfl⟩
abbrev main_call13_v2 : Ref sig .tc := ⟨.hbm, 263, rfl⟩
abbrev main_call13_v3 : Ref sig .tc := ⟨.hbm, 264, rfl⟩
abbrev main_call13_cst_0 : Ref sig .tc := ⟨.hbm, 265, rfl⟩
abbrev main_call13_v4 : Ref sig .tc := ⟨.hbm, 266, rfl⟩
abbrev main_call13_v5 : Ref sig .tc := ⟨.hbm, 267, rfl⟩
abbrev main_v117 : Ref sig .tc := ⟨.hbm, 268, rfl⟩
abbrev main_v118 : Ref sig .tc := ⟨.hbm, 269, rfl⟩
abbrev main_v119 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_v124 : Ref sig .tc := ⟨.hbm, 275, rfl⟩
abbrev main_v125 : Ref sig .tc := ⟨.hbm, 276, rfl⟩
abbrev main_v126 : Ref sig .tc := ⟨.hbm, 277, rfl⟩
abbrev main_v127 : Ref sig .tc := ⟨.hbm, 278, rfl⟩
abbrev main_call14_v0 : Ref sig .tc := ⟨.hbm, 279, rfl⟩
abbrev main_call14_v1 : Ref sig .tc := ⟨.hbm, 280, rfl⟩
abbrev main_call14_cst : Ref sig .tc := ⟨.hbm, 281, rfl⟩
abbrev main_call14_v2 : Ref sig .tc := ⟨.hbm, 282, rfl⟩
abbrev main_call14_v3 : Ref sig .tc := ⟨.hbm, 283, rfl⟩
abbrev main_call14_cst_0 : Ref sig .tc := ⟨.hbm, 284, rfl⟩
abbrev main_call14_v4 : Ref sig .tc := ⟨.hbm, 285, rfl⟩
abbrev main_call14_v5 : Ref sig .tc := ⟨.hbm, 286, rfl⟩
abbrev main_v128 : Ref sig .tc := ⟨.hbm, 287, rfl⟩
abbrev main_v129 : Ref sig .tc := ⟨.hbm, 288, rfl⟩
abbrev main_v130 : Ref sig .tc := ⟨.hbm, 289, rfl⟩
abbrev main_v131 : Ref sig .tc := ⟨.hbm, 290, rfl⟩
abbrev main_v132 : Ref sig .tc := ⟨.hbm, 291, rfl⟩
abbrev main_cst_7 : Ref sig .tc := ⟨.hbm, 292, rfl⟩
abbrev main_v133 : Ref sig .tc := ⟨.hbm, 293, rfl⟩
abbrev main_v134 : Ref sig .tc := ⟨.hbm, 294, rfl⟩
abbrev main_cst_8 : Ref sig .tc := ⟨.hbm, 295, rfl⟩
abbrev main_v135 : Ref sig .tc := ⟨.hbm, 296, rfl⟩
abbrev main_v136 : Ref sig .tc := ⟨.hbm, 297, rfl⟩
abbrev main_cst_9 : Ref sig .tc := ⟨.hbm, 298, rfl⟩
abbrev main_v137 : Ref sig .tc := ⟨.hbm, 299, rfl⟩
abbrev main_v138 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_v142 : Ref sig .tc := ⟨.hbm, 304, rfl⟩
abbrev main_v143 : Ref sig .tc := ⟨.hbm, 305, rfl⟩
abbrev main_v144 : Ref sig .tc := ⟨.hbm, 306, rfl⟩
abbrev main_v145 : Ref sig .tc := ⟨.hbm, 307, rfl⟩
abbrev main_v146 : Ref sig .tc := ⟨.hbm, 308, rfl⟩
abbrev main_v147 : Ref sig .tc := ⟨.hbm, 309, rfl⟩
abbrev main_v148 : Ref sig .tc := ⟨.hbm, 310, rfl⟩
abbrev main_v149 : Ref sig .tc := ⟨.hbm, 311, rfl⟩
abbrev main_v150 : Ref sig .tc := ⟨.hbm, 312, rfl⟩
abbrev main_v151 : Ref sig .tc := ⟨.hbm, 313, rfl⟩

abbrev nD : Nat := 1
abbrev τ : Topo := Topo.v7x

variable {F : FTy → Type} [FloatOps F]

abbrev main_while0_count : Scf.Loop 32 := ⟨0#32, 128#32, 1#32⟩
-- ==== OlKernel.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S8x128 : Shape := ⟨2, ![8, 128]⟩
abbrev S1024x512 : Shape := ⟨2, ![1024, 512]⟩
abbrev S1024x1024 : Shape := ⟨2, ![1024, 1024]⟩
abbrev S512x1024 : Shape := ⟨2, ![512, 1024]⟩
abbrev S1024x1 : Shape := ⟨2, ![1024, 1]⟩
abbrev S1x1 : Shape := ⟨2, ![1, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S2048x1024, .f32⟩
  | .hbm, ⟨5, _⟩ => ⟨S1024, .f32⟩
  | .hbm, ⟨6, _⟩ => ⟨S8192x1024, .f32⟩
  | .hbm, ⟨7, _⟩ => ⟨S8192x512, .bf16⟩
  | .hbm, ⟨8, _⟩ => ⟨S8192x1024, .bf16⟩
  | .hbm, ⟨9, _⟩ => ⟨S8192x512, .bf16⟩
  | .hbm, ⟨10, _⟩ => ⟨S2048x1024, .bf16⟩
  | .hbm, ⟨11, _⟩ => ⟨S1x1024, .f32⟩
  | .hbm, ⟨12, _⟩ => ⟨S_, .f32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S8192x1024, .f32⟩
  | .hbm, ⟨18, _⟩ => ⟨S8192x1024, .f32⟩
  | .hbm, ⟨19, _⟩ => ⟨S8x128, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OlReferenceIdeal.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩
abbrev S8x128 : Shape := ⟨2, ![8, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S2048x1024, .f32⟩
  | .hbm, ⟨5, _⟩ => ⟨S1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S1x1, .f32⟩
  | .hbm, ⟨50, _⟩ => ⟨S_, .i32⟩
  | .hbm, ⟨51, _⟩ => ⟨S_, .f32⟩
  | .hbm, ⟨52, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_call0_v0 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== IpKernel.lean ====
abbrev S8192x1024 : Shape := ⟨2, ![8192, 1024]⟩
abbrev S1024 : Shape := ⟨1, ![1024]⟩
abbrev S1024x6680 : Shape := ⟨2, ![1024, 6680]⟩
abbrev S1024x2048 : Shape := ⟨2, ![1024, 2048]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S1024x16 : Shape := ⟨2, ![1024, 16]⟩
abbrev S1024x6912 : Shape := ⟨2, ![1024, 6912]⟩
abbrev S1x1024 : Shape := ⟨2, ![1, 1024]⟩
abbrev S8x1024 : Shape := ⟨2, ![8, 1024]⟩
abbrev S1 : Shape := ⟨1, ![1]⟩
abbrev S8192x2048 : Shape := ⟨2, ![8192, 2048]⟩
abbrev S8192x2560 : Shape := ⟨2, ![8192, 2560]⟩
abbrev S8192x128 : Shape := ⟨2, ![8192, 128]⟩
abbrev S1024x8192 : Shape := ⟨2, ![1024, 8192]⟩
abbrev S512x1024 : Shape := ⟨2, ![512, 1024]⟩
abbrev S512x2048 : Shape := ⟨2, ![512, 2048]⟩
abbrev S512x2560 : Shape := ⟨2, ![512, 2560]⟩
abbrev S512x128 : Shape := ⟨2, ![512, 128]⟩
abbrev S1024x512 : Shape := ⟨2, ![1024, 512]⟩
abbrev S512 : Shape := ⟨1, ![512]⟩
abbrev S512x1 : Shape := ⟨2, ![512, 1]⟩

abbrev nBuf : Space → Nat
  | .hbm => 28
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6680, .f32⟩
  | .hbm, ⟨3, _⟩ => ⟨S1024x2048, .f32⟩
  | .hbm, ⟨4, _⟩ => ⟨S1024x2560, .f32⟩
  | .hbm, ⟨5, _⟩ => ⟨S1024x2048, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x6912, .f32⟩
  | .hbm, ⟨15, _⟩ => ⟨S1x1024, .f32⟩
  | .hbm, ⟨16, _⟩ => ⟨S_, .f32⟩
  | .hbm, ⟨17, _⟩ => ⟨S8x1024, .f32⟩
  | .hbm, ⟨18, _⟩ => ⟨S_, .i32⟩
  | .hbm, ⟨19, _⟩ => ⟨S1, .i32⟩
  | .hbm, ⟨20, _⟩ => ⟨S8x1024, .f32⟩
  | .hbm, ⟨21, _⟩ => ⟨S1024x6912, .bf16⟩
  | .hbm, ⟨22, _⟩ => ⟨S8192x2048, .f32⟩
  | .hbm, ⟨23, _⟩ => ⟨S8192x2560, .f32⟩
  | .hbm, ⟨24, _⟩ => ⟨S8192x2048, .f32⟩
  | .hbm, ⟨25, _⟩ => ⟨S8192x128, .f32⟩
  | .hbm, ⟨26, _⟩ => ⟨S8192x128, .f32⟩
  | .hbm, ⟨27, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x6912, .bf16⟩
  | .local _ .vmem, ⟨4, _⟩ => ⟨S512x2048, .f32⟩
  | .local _ .vmem, ⟨5, _⟩ => ⟨S512x2048, .f32⟩
  | .local _ .vmem, ⟨6, _⟩ => ⟨S512x2560, .f32⟩
  | .local _ .vmem, ⟨7, _⟩ => ⟨S512x2560, .f32⟩
  | .local _ .vmem, ⟨8, _⟩ => ⟨S512x2048, .f32⟩
  | .local _ .vmem, ⟨9, _⟩ => ⟨S512x2048, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1024x512, .bf16⟩
  | .local _ .vmem, ⟨15, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== IpReferenceIdeal.lean ====
abbrev S8192x1024 : Shape := ⟨2, ![8192, 1024]⟩
abbrev S1024 : Shape := ⟨1, ![1024]⟩
abbrev S1024x6680 : Shape := ⟨2, ![1024, 6680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6680 : Shape := ⟨2, ![8192, 6680]⟩
abbrev S8192x2048 : Shape := ⟨2, ![8192, 2048]⟩
abbrev S8192x2560 : Shape := ⟨2, ![8192, 2560]⟩
abbrev S8192x8 : Shape := ⟨2, ![8192, 8]⟩
abbrev S8192x128 : Shape := ⟨2, ![8192, 128]⟩
abbrev S8192x16 : Shape := ⟨2, ![8192, 16]⟩
abbrev S1024x8192 : Shape := ⟨2, ![1024, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6680, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6680, .f32⟩
  | .hbm, ⟨20, _⟩ => ⟨S8192x2048, .f32⟩
  | .hbm, ⟨21, _⟩ => ⟨S8192x2560, .f32⟩
  | .hbm, ⟨22, _⟩ => ⟨S8192x2048, .f32⟩
  | .hbm, ⟨23, _⟩ => ⟨S8192x8, .f32⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S8192x16, .f32⟩
  | .hbm, ⟨28, _⟩ => ⟨S_, .i32⟩
  | .hbm, ⟨29, _⟩ => ⟨S_, .f32⟩
  | .hbm, ⟨30, _⟩ => ⟨S8192x128, .f32⟩
  | .hbm, ⟨31, _⟩ => ⟨S1024x8192, .f32⟩
  | .hbm, ⟨32, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== OpKernel.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S1024x512 : Shape := ⟨2, ![1024, 512]⟩
abbrev S1024x1024 : Shape := ⟨2, ![1024, 1024]⟩
abbrev S512x1024 : Shape := ⟨2, ![512, 1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S2048x1024, .f32⟩
  | .hbm, ⟨5, _⟩ => ⟨S1024, .f32⟩
  | .hbm, ⟨6, _⟩ => ⟨S8192x512, .bf16⟩
  | .hbm, ⟨7, _⟩ => ⟨S8192x1024, .bf16⟩
  | .hbm, ⟨8, _⟩ => ⟨S8192x512, .bf16⟩
  | .hbm, ⟨9, _⟩ => ⟨S2048x1024, .bf16⟩
  | .hbm, ⟨10, _⟩ => ⟨S1x1024, .f32⟩
  | .hbm, ⟨11, _⟩ => ⟨S_, .f32⟩
  | .hbm, ⟨12, _⟩ => ⟨S8x1024, .f32⟩
  | .hbm, ⟨13, _⟩ => ⟨S_, .i32⟩
  | .hbm, ⟨14, _⟩ => ⟨S1, .i32⟩
  | .hbm, ⟨15, _⟩ => ⟨S8x1024, .f32⟩
  | .hbm, ⟨16, _⟩ => ⟨S8192x1024, .f32⟩
  | .hbm, ⟨17, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OpReferenceIdeal.lean ====
abbrev S8192x1024 : Shape := ⟨2, ![8192, 1024]⟩
abbrev S8192x512 : Shape := ⟨2, ![8192, 512]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S2048x1024, .f32⟩
  | .hbm, ⟨5, _⟩ => ⟨S1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== RetKernel.lean ====
abbrev S8192x2048 : Shape := ⟨2, ![8192, 2048]⟩
abbrev S128 : Shape := ⟨1, ![128]⟩
abbrev S128x4x128x128 : Shape := ⟨4, ![128, 4, 128, 128]⟩
abbrev S8192x512 : Shape := ⟨2, ![8192, 512]⟩
abbrev S64 : Shape := ⟨1, ![64]⟩
abbrev S_ : Shape := ⟨0, ![]⟩
abbrev S128x1 : Shape := ⟨2, ![128, 1]⟩
abbrev S1x64 : Shape := ⟨2, ![1, 64]⟩
abbrev S128x64 : Shape := ⟨2, ![128, 64]⟩
abbrev S64x1 : Shape := ⟨2, ![64, 1]⟩
abbrev S64x64 : Shape := ⟨2, ![64, 64]⟩
abbrev S128x1x64 : Shape := ⟨3, ![128, 1, 64]⟩
abbrev S1x64x64 : Shape := ⟨3, ![1, 64, 64]⟩
abbrev S128x64x64 : Shape := ⟨3, ![128, 64, 64]⟩
abbrev S8192x64 : Shape := ⟨2, ![8192, 64]⟩
abbrev S8192x128 : Shape := ⟨2, ![8192, 128]⟩
abbrev S1x128 : Shape := ⟨2, ![1, 128]⟩
abbrev S8x128 : Shape := ⟨2, ![8, 128]⟩
abbrev S1 : Shape := ⟨1, ![1]⟩
abbrev S512x2048 : Shape := ⟨2, ![512, 2048]⟩
abbrev S512x128 : Shape := ⟨2, ![512, 128]⟩
abbrev S8x4x128x128 : Shape := ⟨4, ![8, 4, 128, 128]⟩
abbrev S512x512 : Shape := ⟨2, ![512, 512]⟩
abbrev S4x128x128 : Shape := ⟨3, ![4, 128, 128]⟩
abbrev S64x128 : Shape := ⟨2, ![64, 128]⟩
abbrev S1x64x128 : Shape := ⟨3, ![1, 64, 128]⟩
abbrev S32x64x128 : Shape := ⟨3, ![32, 64, 128]⟩
abbrev S32x64x64 : Shape := ⟨3, ![32, 64, 64]⟩
abbrev S1x64x1 : Shape := ⟨3, ![1, 64, 1]⟩
abbrev S32x64x1 : Shape := ⟨3, ![32, 64, 1]⟩
abbrev S1x1 : Shape := ⟨2, ![1, 1]⟩
abbrev S1x1x1 : Shape := ⟨3, ![1, 1, 1]⟩
abbrev S4x1x1 : Shape := ⟨3, ![4, 1, 1]⟩
abbrev S32x128x128 : Shape := ⟨3, ![32, 128, 128]⟩
abbrev S32x64 : Shape := ⟨2, ![32, 64]⟩
abbrev S1x1x128 : Shape := ⟨3, ![1, 1, 128]⟩

abbrev nBuf : Space → Nat
  | .hbm => 65
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S128, .f32⟩
  | .hbm, ⟨2, _⟩ => ⟨S128x4x128x128, .f32⟩
  | .hbm, ⟨3, _⟩ => ⟨S8192x512, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .f32⟩
  | .hbm, ⟨17, _⟩ => ⟨S128x1, .f32⟩
  | .hbm, ⟨18, _⟩ => ⟨S1x64, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S64, .i32⟩
  | .hbm, ⟨23, _⟩ => ⟨S64, .f32⟩
  | .hbm, ⟨24, _⟩ => ⟨S64x1, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S128x64, .f32⟩
  | .hbm, ⟨30, _⟩ => ⟨S128x1x64, .f32⟩
  | .hbm, ⟨31, _⟩ => ⟨S128x64, .f32⟩
  | .hbm, ⟨32, _⟩ => ⟨S128x1x64, .f32⟩
  | .hbm, ⟨33, _⟩ => ⟨S64x64, .f32⟩
  | .hbm, ⟨34, _⟩ => ⟨S1x64x64, .f32⟩
  | .hbm, ⟨35, _⟩ => ⟨S64x64, .f32⟩
  | .hbm, ⟨36, _⟩ => ⟨S1x64x64, .f32⟩
  | .hbm, ⟨37, _⟩ => ⟨S128x64x64, .f32⟩
  | .hbm, ⟨38, _⟩ => ⟨S128x64x64, .f32⟩
  | .hbm, ⟨39, _⟩ => ⟨S128x64x64, .f32⟩
  | .hbm, ⟨40, _⟩ => ⟨S128x64x64, .f32⟩
  | .hbm, ⟨41, _⟩ => ⟨S128x64x64, .f32⟩
  | .hbm, ⟨42, _⟩ => ⟨S128x64x64, .f32⟩
  | .hbm, ⟨43, _⟩ => ⟨S128x64x64, .f32⟩
  | .hbm, ⟨44, _⟩ => ⟨S8192x64, .f32⟩
  | .hbm, ⟨45, _⟩ => ⟨S128x64x64, .f32⟩
  | .hbm, ⟨46, _⟩ => ⟨S128x64x64, .f32⟩
  | .hbm, ⟨47, _⟩ => ⟨S128x64x64, .f32⟩
  | .hbm, ⟨48, _⟩ => ⟨S128x64x64, .f32⟩
  | .hbm, ⟨49, _⟩ => ⟨S128x64x64, .f32⟩
  | .hbm, ⟨50, _⟩ => ⟨S128x64x64, .f32⟩
  | .hbm, ⟨51, _⟩ => ⟨S128x64x64, .f32⟩
  | .hbm, ⟨52, _⟩ => ⟨S8192x64, .f32⟩
  | .hbm, ⟨53, _⟩ => ⟨S8192x128, .f32⟩
  | .hbm, ⟨54, _⟩ => ⟨S8192x64, .f32⟩
  | .hbm, ⟨55, _⟩ => ⟨S8192x128, .f32⟩
  | .hbm, ⟨56, _⟩ => ⟨S1x128, .f32⟩
  | .hbm, ⟨57, _⟩ => ⟨S_, .f32⟩
  | .hbm, ⟨58, _⟩ => ⟨S8x128, .f32⟩
  | .hbm, ⟨59, _⟩ => ⟨S_, .i32⟩
  | .hbm, ⟨60, _⟩ => ⟨S1, .i32⟩
  | .hbm, ⟨61, _⟩ => ⟨S8x128, .f32⟩
  | .hbm, ⟨62, _⟩ => ⟨S8192x512, .bf16⟩
  | .hbm, ⟨63, _⟩ => ⟨S8192x2048, .bf16⟩
  | .hbm, ⟨64, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x128, .f32⟩
  | .local _ .vmem, ⟨7, _⟩ => ⟨S8x4x128x128, .f32⟩
  | .local _ .vmem, ⟨8, _⟩ => ⟨S8x4x128x128, .f32⟩
  | .local _ .vmem, ⟨9, _⟩ => ⟨S512x512, .bf16⟩
  | .local _ .vmem, ⟨10, _⟩ => ⟨S512x512, .bf16⟩
  | .local _ .vmem, ⟨11, _⟩ => ⟨S512x2048, .bf16⟩
  | .local _ .vmem, ⟨12, _⟩ => ⟨S512x2048, .bf16⟩
  | .local _ .vmem, ⟨13, _⟩ => ⟨S8x128, .f32⟩
  | .local _ .vmem, ⟨14, _⟩ => ⟨S4x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_1 : Ref sig .tc := ⟨.hbm, 57, rfl⟩
abbrev main_v50 : Ref sig .tc := ⟨.hbm, 58, rfl⟩
abbrev main_c_2 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54_0 : Ref sig .tc := ⟨.hbm, 63, rfl⟩
abbrev main_v54_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SbKernel.lean ====
abbrev S8192x2560 : Shape := ⟨2, ![8192, 2560]⟩
abbrev S8192x16 : Shape := ⟨2, ![8192, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x128x1024 : Shape := ⟨3, ![128, 128, 1024]⟩
abbrev S8192x1536 : Shape := ⟨2, ![8192, 1536]⟩
abbrev S8192x1024 : Shape := ⟨2, ![8192, 1024]⟩
abbrev S1x16 : Shape := ⟨2, ![1, 16]⟩
abbrev S3x16 : Shape := ⟨2, ![3, 16]⟩
abbrev S_ : Shape := ⟨0, ![]⟩
abbrev S8x128 : Shape := ⟨2, ![8, 128]⟩
abbrev S1 : Shape := ⟨1, ![1]⟩
abbrev S2 : Shape := ⟨1, ![2]⟩
abbrev S8192x128 : Shape := ⟨2, ![8192, 128]⟩
abbrev S8x1536 : Shape := ⟨2, ![8, 1536]⟩
abbrev S1x1536 : Shape := ⟨2, ![1, 1536]⟩
abbrev S1x1024 : Shape := ⟨2, ![1, 1024]⟩
abbrev S8x1024 : Shape := ⟨2, ![8, 1024]⟩
abbrev S256x2560 : Shape := ⟨2, ![256, 2560]⟩
abbrev S256x1536 : Shape := ⟨2, ![256, 1536]⟩
abbrev S256x1024 : Shape := ⟨2, ![256, 1024]⟩
abbrev S256x128 : Shape := ⟨2, ![256, 128]⟩
abbrev S4x128x1024 : Shape := ⟨3, ![4, 128, 1024]⟩
abbrev S128x1024 : Shape := ⟨2, ![128, 1024]⟩
abbrev S64x64 : Shape := ⟨2, ![64, 64]⟩
abbrev S1x128 : Shape := ⟨2, ![1, 128]⟩
abbrev S256x256 : Shape := ⟨2, ![256, 256]⟩
abbrev S128x256 : Shape := ⟨2, ![128, 256]⟩
abbrev S64x128 : Shape := ⟨2, ![64, 128]⟩
abbrev S64x512 : Shape := ⟨2, ![64, 512]⟩
abbrev S64x1024 : Shape := ⟨2, ![64, 1024]⟩
abbrev S1x128x512 : Shape := ⟨3, ![1, 128, 512]⟩
abbrev S128x512 : Shape := ⟨2, ![128, 512]⟩
abbrev S64x1 : Shape := ⟨2, ![64, 1]⟩
abbrev S1x64 : Shape := ⟨2, ![1, 64]⟩
abbrev S64 : Shape := ⟨1, ![64]⟩
abbrev S1x512 : Shape := ⟨2, ![1, 512]⟩
abbrev S512 : Shape := ⟨1, ![512]⟩
abbrev S64x256 : Shape := ⟨2, ![64, 256]⟩
abbrev S128 : Shape := ⟨1, ![128]⟩
abbrev S264x1536 : Shape := ⟨2, ![264, 1536]⟩

abbrev nBuf : Space → Nat
  | .hbm => 51
  | .vmem => 26
  | .smem => 0
  | _ => 0

abbrev bufTy : (tb : Table) → Fin (tcTables nBuf tb) → BufTy
  | .hbm, ⟨0, _⟩ => ⟨S8192x2560, .f32⟩
  | .hbm, ⟨1, _⟩ => ⟨S8192x16, .f32⟩
  | .hbm, ⟨2, _⟩ => ⟨S4x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S128x128x1024, .f32⟩
  | .hbm, ⟨9, _⟩ => ⟨S8192x1536, .f32⟩
  | .hbm, ⟨10, _⟩ => ⟨S8192x1024, .f32⟩
  | .hbm, ⟨11, _⟩ => ⟨S8192x1024, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S3x16, .f32⟩
  | .hbm, ⟨16, _⟩ => ⟨S_, .f32⟩
  | .hbm, ⟨17, _⟩ => ⟨S8x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S8x128, .f32⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S_, .f32⟩
  | .hbm, ⟨28, _⟩ => ⟨S8x1536, .f32⟩
  | .hbm, ⟨29, _⟩ => ⟨S_, .i32⟩
  | .hbm, ⟨30, _⟩ => ⟨S1, .i32⟩
  | .hbm, ⟨31, _⟩ => ⟨S8x1536, .f32⟩
  | .hbm, ⟨32, _⟩ => ⟨S1x1536, .f32⟩
  | .hbm, ⟨33, _⟩ => ⟨S_, .f32⟩
  | .hbm, ⟨34, _⟩ => ⟨S8x1536, .f32⟩
  | .hbm, ⟨35, _⟩ => ⟨S_, .i32⟩
  | .hbm, ⟨36, _⟩ => ⟨S1, .i32⟩
  | .hbm, ⟨37, _⟩ => ⟨S8x1536, .f32⟩
  | .hbm, ⟨38, _⟩ => ⟨S1x1024, .f32⟩
  | .hbm, ⟨39, _⟩ => ⟨S_, .f32⟩
  | .hbm, ⟨40, _⟩ => ⟨S8x1024, .f32⟩
  | .hbm, ⟨41, _⟩ => ⟨S_, .i32⟩
  | .hbm, ⟨42, _⟩ => ⟨S1, .i32⟩
  | .hbm, ⟨43, _⟩ => ⟨S8x1024, .f32⟩
  | .hbm, ⟨44, _⟩ => ⟨S8192x1024, .bf16⟩
  | .hbm, ⟨45, _⟩ => ⟨S8192x2560, .bf16⟩
  | .hbm, ⟨46, _⟩ => ⟨S8192x128, .bf16⟩
  | .hbm, ⟨47, _⟩ => ⟨S8x1536, .f32⟩
  | .hbm, ⟨48, _⟩ => ⟨S8x1536, .f32⟩
  | .hbm, ⟨49, _⟩ => ⟨S8x128, .f32⟩
  | .hbm, ⟨50, _⟩ => ⟨S8x1024, .f32⟩
  | .local _ .vmem, ⟨0, _⟩ => ⟨S256x2560, .f32⟩
  | .local _ .vmem, ⟨1, _⟩ => ⟨S256x2560, .f32⟩
  | .local _ .vmem, ⟨2, _⟩ => ⟨S256x1536, .f32⟩
  | .local _ .vmem, ⟨3, _⟩ => ⟨S256x1536, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S8x1536, .f32⟩
  | .local _ .vmem, ⟨9, _⟩ => ⟨S8x1536, .f32⟩
  | .local _ .vmem, ⟨10, _⟩ => ⟨S8x128, .f32⟩
  | .local _ .vmem, ⟨11, _⟩ => ⟨S8x1024, .f32⟩
  | .local _ .vmem, ⟨12, _⟩ => ⟨S4x128x1024, .f32⟩
  | .local _ .vmem, ⟨13, _⟩ => ⟨S4x128x1024, .f32⟩
  | .local _ .vmem, ⟨14, _⟩ => ⟨S256x1024, .bf16⟩
  | .local _ .vmem, ⟨15, _⟩ => ⟨S256x1024, .bf16⟩
  | .local _ .vmem, ⟨16, _⟩ => ⟨S256x2560, .bf16⟩
  | .local _ .vmem, ⟨17, _⟩ => ⟨S256x2560, .bf16⟩
  | .local _ .vmem, ⟨18, _⟩ => ⟨S256x128, .bf16⟩
  | .local _ .vmem, ⟨19, _⟩ => ⟨S256x128, .bf16⟩
  | .local _ .vmem, ⟨20, _⟩ => ⟨S8x1536, .f32⟩
  | .local _ .vmem, ⟨21, _⟩ => ⟨S8x1536, .f32⟩
  | .local _ .vmem, ⟨22, _⟩ => ⟨S8x128, .f32⟩
  | .local _ .vmem, ⟨23, _⟩ => ⟨S8x1024, .f32⟩
  | .local _ .vmem, ⟨24, _⟩ => ⟨S128x1024, .f32⟩
  | .local _ .vmem, ⟨25, _⟩ => ⟨S8x1536, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_call0_v0 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_c_7 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev main_v22_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GbKernel.lean ====
abbrev S8192x2048 : Shape := ⟨2, ![8192, 2048]⟩
abbrev S8192x4 : Shape := ⟨2, ![8192, 4]⟩
abbrev S4x1536 : Shape := ⟨2, ![4, 1536]⟩
abbrev S4 : Shape := ⟨1, ![4]⟩
abbrev S128 : Shape := ⟨1, ![128]⟩
abbrev S128x4x128x128 : Shape := ⟨4, ![128, 4, 128, 128]⟩
abbrev S128x4x64x64 : Shape := ⟨4, ![128, 4, 64, 64]⟩
abbrev S128x4x64x256 : Shape := ⟨4, ![128, 4, 64, 256]⟩
abbrev S8192x1536 : Shape := ⟨2, ![8192, 1536]⟩
abbrev S8192x512 : Shape := ⟨2, ![8192, 512]⟩
abbrev S8192x8 : Shape := ⟨2, ![8192, 8]⟩
abbrev S_ : Shape := ⟨0, ![]⟩
abbrev S8192x128 : Shape := ⟨2, ![8192, 128]⟩
abbrev S8x1536 : Shape := ⟨2, ![8, 1536]⟩
abbrev S1 : Shape := ⟨1, ![1]⟩
abbrev S1x4 : Shape := ⟨2, ![1, 4]⟩
abbrev S2x4 : Shape := ⟨2, ![2, 4]⟩
abbrev S8x128 : Shape := ⟨2, ![8, 128]⟩
abbrev S2 : Shape := ⟨1, ![2]⟩
abbrev S1x128 : Shape := ⟨2, ![1, 128]⟩
abbrev S256x2048 : Shape := ⟨2, ![256, 2048]⟩
abbrev S256x1536 : Shape := ⟨2, ![256, 1536]⟩
abbrev S256x128 : Shape := ⟨2, ![256, 128]⟩
abbrev S4x4x128x128 : Shape := ⟨4, ![4, 4, 128, 128]⟩
abbrev S4x4x64x64 : Shape := ⟨4, ![4, 4, 64, 64]⟩
abbrev S4x4x64x256 : Shape := ⟨4, ![4, 4, 64, 256]⟩
abbrev S256x512 : Shape := ⟨2, ![256, 512]⟩
abbrev S4x128x128 : Shape := ⟨3, ![4, 128, 128]⟩
abbrev S64x64 : Shape := ⟨2, ![64, 64]⟩
abbrev S256x256 : Shape := ⟨2, ![256, 256]⟩
abbrev S64x1 : Shape := ⟨2, ![64, 1]⟩
abbrev S128x256 : Shape := ⟨2, ![128, 256]⟩
abbrev S64x128 : Shape := ⟨2, ![64, 128]⟩
abbrev S1x64x128 : Shape := ⟨3, ![1, 64, 128]⟩
abbrev S16x64x128 : Shape := ⟨3, ![16, 64, 128]⟩
abbrev S1x64x1 : Shape := ⟨3, ![1, 64, 1]⟩
abbrev S16x64x1 : Shape := ⟨3, ![16, 64, 1]⟩
abbrev S1x64 : Shape := ⟨2, ![1, 64]⟩
abbrev S1x1x64 : Shape := ⟨3, ![1, 1, 64]⟩
abbrev S16x1x64 : Shape := ⟨3, ![16, 1, 64]⟩
abbrev S1x1 : Shape := ⟨2, ![1, 1]⟩
abbrev S1x1x1 : Shape := ⟨3, ![1, 1, 1]⟩
abbrev S16x1x1 : Shape := ⟨3, ![16, 1, 1]⟩
abbrev S16x64 : Shape := ⟨2, ![16, 64]⟩
abbrev S16x64x64 : Shape := ⟨3, ![16, 64, 64]⟩
abbrev S1x64x64 : Shape := ⟨3, ![1, 64, 64]⟩
abbrev S16x64x256 : Shape := ⟨3, ![16, 64, 256]⟩
abbrev S16x128x128 : Shape := ⟨3, ![16, 128, 128]⟩
abbrev S1x1x128 : Shape := ⟨3, ![1, 1, 128]⟩
abbrev S4x64x128 : Shape := ⟨3, ![4, 64, 128]⟩
abbrev S4x1x1 : Shape := ⟨3, ![4, 1, 1]⟩
abbrev S4x128 : Shape := ⟨2, ![4, 128]⟩
abbrev S4x128x1 : Shape := ⟨3, ![4, 128, 1]⟩
abbrev S4x1 : Shape := ⟨2, ![4, 1]⟩
abbrev S16x1 : Shape := ⟨2, ![16, 1]⟩
abbrev S64x512 : Shape := ⟨2, ![64, 512]⟩
abbrev S264x1536 : Shape := ⟨2, ![264, 1536]⟩
abbrev S1x1536 : Shape := ⟨2, ![1, 1536]⟩
abbrev S1536 : Shape := ⟨1, ![1536]⟩

abbrev nBuf : Space → Nat
  | .hbm => 44
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x4, .f32⟩
  | .hbm, ⟨2, _⟩ => ⟨S8192x4, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S128x4x128x128, .f32⟩
  | .hbm, ⟨8, _⟩ => ⟨S128x4x64x64, .f32⟩
  | .hbm, ⟨9, _⟩ => ⟨S128x4x64x256, .f32⟩
  | .hbm, ⟨10, _⟩ => ⟨S8192x1536, .f32⟩
  | .hbm, ⟨11, _⟩ => ⟨S8192x512, .f32⟩
  | .hbm, ⟨12, _⟩ => ⟨S8192x8, .f32⟩
  | .hbm, ⟨13, _⟩ => ⟨S_, .i32⟩
  | .hbm, ⟨14, _⟩ => ⟨S_, .f32⟩
  | .hbm, ⟨15, _⟩ => ⟨S8192x128, .f32⟩
  | .hbm, ⟨16, _⟩ => ⟨S_, .f32⟩
  | .hbm, ⟨17, _⟩ => ⟨S8x1536, .f32⟩
  | .hbm, ⟨18, _⟩ => ⟨S_, .i32⟩
  | .hbm, ⟨19, _⟩ => ⟨S1, .i32⟩
  | .hbm, ⟨20, _⟩ => ⟨S8x1536, .f32⟩
  | .hbm, ⟨21, _⟩ => ⟨S1x4, .f32⟩
  | .hbm, ⟨22, _⟩ => ⟨S1x4, .f32⟩
  | .hbm, ⟨23, _⟩ => ⟨S2x4, .f32⟩
  | .hbm, ⟨24, _⟩ => ⟨S_, .f32⟩
  | .hbm, ⟨25, _⟩ => ⟨S8x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S8x128, .f32⟩
  | .hbm, ⟨32, _⟩ => ⟨S1x128, .f32⟩
  | .hbm, ⟨33, _⟩ => ⟨S_, .f32⟩
  | .hbm, ⟨34, _⟩ => ⟨S8x128, .f32⟩
  | .hbm, ⟨35, _⟩ => ⟨S_, .i32⟩
  | .hbm, ⟨36, _⟩ => ⟨S1, .i32⟩
  | .hbm, ⟨37, _⟩ => ⟨S8x128, .f32⟩
  | .hbm, ⟨38, _⟩ => ⟨S8192x512, .bf16⟩
  | .hbm, ⟨39, _⟩ => ⟨S8192x2048, .bf16⟩
  | .hbm, ⟨40, _⟩ => ⟨S8192x128, .bf16⟩
  | .hbm, ⟨41, _⟩ => ⟨S8x1536, .f32⟩
  | .hbm, ⟨42, _⟩ => ⟨S8x128, .f32⟩
  | .hbm, ⟨43, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x1536, .f32⟩
  | .local _ .vmem, ⟨3, _⟩ => ⟨S256x1536, .f32⟩
  | .local _ .vmem, ⟨4, _⟩ => ⟨S256x128, .f32⟩
  | .local _ .vmem, ⟨5, _⟩ => ⟨S256x128, .f32⟩
  | .local _ .vmem, ⟨6, _⟩ => ⟨S8x1536, .f32⟩
  | .local _ .vmem, ⟨7, _⟩ => ⟨S8x128, .f32⟩
  | .local _ .vmem, ⟨8, _⟩ => ⟨S8x128, .f32⟩
  | .local _ .vmem, ⟨9, _⟩ => ⟨S4x4x128x128, .f32⟩
  | .local _ .vmem, ⟨10, _⟩ => ⟨S4x4x128x128, .f32⟩
  | .local _ .vmem, ⟨11, _⟩ => ⟨S4x4x64x64, .f32⟩
  | .local _ .vmem, ⟨12, _⟩ => ⟨S4x4x64x64, .f32⟩
  | .local _ .vmem, ⟨13, _⟩ => ⟨S4x4x64x256, .f32⟩
  | .local _ .vmem, ⟨14, _⟩ => ⟨S4x4x64x256, .f32⟩
  | .local _ .vmem, ⟨15, _⟩ => ⟨S256x512, .bf16⟩
  | .local _ .vmem, ⟨16, _⟩ => ⟨S256x512, .bf16⟩
  | .local _ .vmem, ⟨17, _⟩ => ⟨S256x2048, .bf16⟩
  | .local _ .vmem, ⟨18, _⟩ => ⟨S256x2048, .bf16⟩
  | .local _ .vmem, ⟨19, _⟩ => ⟨S256x128, .bf16⟩
  | .local _ .vmem, ⟨20, _⟩ => ⟨S256x128, .bf16⟩
  | .local _ .vmem, ⟨21, _⟩ => ⟨S8x1536, .f32⟩
  | .local _ .vmem, ⟨22, _⟩ => ⟨S8x128, .f32⟩
  | .local _ .vmem, ⟨23, _⟩ => ⟨S8x128, .f32⟩
  | .local _ .vmem, ⟨24, _⟩ => ⟨S4x128x128, .f32⟩
  | .local _ .vmem, ⟨25, _⟩ => ⟨S8x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v18_3 : Ref sig .tc := ⟨.hbm, 42, rfl⟩
abbrev main_v18_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GfKernel.lean ====
abbrev S8192x2048 : Shape := ⟨2, ![8192, 2048]⟩
abbrev S8192x4 : Shape := ⟨2, ![8192, 4]⟩
abbrev S4x1536 : Shape := ⟨2, ![4, 1536]⟩
abbrev S4 : Shape := ⟨1, ![4]⟩
abbrev S128 : Shape := ⟨1, ![128]⟩
abbrev S8192x8 : Shape := ⟨2, ![8192, 8]⟩
abbrev S_ : Shape := ⟨0, ![]⟩
abbrev S8192x128 : Shape := ⟨2, ![8192, 128]⟩
abbrev S8x1536 : Shape := ⟨2, ![8, 1536]⟩
abbrev S1 : Shape := ⟨1, ![1]⟩
abbrev S1x4 : Shape := ⟨2, ![1, 4]⟩
abbrev S2x4 : Shape := ⟨2, ![2, 4]⟩
abbrev S8x128 : Shape := ⟨2, ![8, 128]⟩
abbrev S2 : Shape := ⟨1, ![2]⟩
abbrev S1x128 : Shape := ⟨2, ![1, 128]⟩
abbrev S8192x512 : Shape := ⟨2, ![8192, 512]⟩
abbrev S128x4x128x128 : Shape := ⟨4, ![128, 4, 128, 128]⟩
abbrev S128x4x64x64 : Shape := ⟨4, ![128, 4, 64, 64]⟩
abbrev S128x4x64x256 : Shape := ⟨4, ![128, 4, 64, 256]⟩
abbrev S8192x1536 : Shape := ⟨2, ![8192, 1536]⟩
abbrev S256x2048 : Shape := ⟨2, ![256, 2048]⟩
abbrev S256x128 : Shape := ⟨2, ![256, 128]⟩
abbrev S256x512 : Shape := ⟨2, ![256, 512]⟩
abbrev S4x4x128x128 : Shape := ⟨4, ![4, 4, 128, 128]⟩
abbrev S4x4x64x64 : Shape := ⟨4, ![4, 4, 64, 64]⟩
abbrev S4x4x64x256 : Shape := ⟨4, ![4, 4, 64, 256]⟩
abbrev S256x1536 : Shape := ⟨2, ![256, 1536]⟩
abbrev S4x128x128 : Shape := ⟨3, ![4, 128, 128]⟩
abbrev S64x64 : Shape := ⟨2, ![64, 64]⟩
abbrev S264x1536 : Shape := ⟨2, ![264, 1536]⟩
abbrev S1x1536 : Shape := ⟨2, ![1, 1536]⟩
abbrev S256x256 : Shape := ⟨2, ![256, 256]⟩
abbrev S128x256 : Shape := ⟨2, ![128, 256]⟩
abbrev S64x128 : Shape := ⟨2, ![64, 128]⟩
abbrev S1x64x128 : Shape := ⟨3, ![1, 64, 128]⟩
abbrev S16x64x128 : Shape := ⟨3, ![16, 64, 128]⟩
abbrev S64x1 : Shape := ⟨2, ![64, 1]⟩
abbrev S1x64x1 : Shape := ⟨3, ![1, 64, 1]⟩
abbrev S16x64x1 : Shape := ⟨3, ![16, 64, 1]⟩
abbrev S1x64 : Shape := ⟨2, ![1, 64]⟩
abbrev S1x1x64 : Shape := ⟨3, ![1, 1, 64]⟩
abbrev S16x1x64 : Shape := ⟨3, ![16, 1, 64]⟩
abbrev S1x1 : Shape := ⟨2, ![1, 1]⟩
abbrev S1x1x1 : Shape := ⟨3, ![1, 1, 1]⟩
abbrev S16x1x1 : Shape := ⟨3, ![16, 1, 1]⟩
abbrev S16x64 : Shape := ⟨2, ![16, 64]⟩
abbrev S16x64x64 : Shape := ⟨3, ![16, 64, 64]⟩
abbrev S1x64x64 : Shape := ⟨3, ![1, 64, 64]⟩
abbrev S16x64x256 : Shape := ⟨3, ![16, 64, 256]⟩
abbrev S1x4x128x128 : Shape := ⟨4, ![1, 4, 128, 128]⟩
abbrev S4x64x128 : Shape := ⟨3, ![4, 64, 128]⟩
abbrev S4x1x1 : Shape := ⟨3, ![4, 1, 1]⟩
abbrev S16x128x128 : Shape := ⟨3, ![16, 128, 128]⟩
abbrev S1x1x128 : Shape := ⟨3, ![1, 1, 128]⟩

abbrev nBuf : Space → Nat
  | .hbm => 38
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x4, .f32⟩
  | .hbm, ⟨2, _⟩ => ⟨S8192x4, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S8192x8, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S_, .f32⟩
  | .hbm, ⟨12, _⟩ => ⟨S8x1536, .f32⟩
  | .hbm, ⟨13, _⟩ => ⟨S_, .i32⟩
  | .hbm, ⟨14, _⟩ => ⟨S1, .i32⟩
  | .hbm, ⟨15, _⟩ => ⟨S8x1536, .f32⟩
  | .hbm, ⟨16, _⟩ => ⟨S1x4, .f32⟩
  | .hbm, ⟨17, _⟩ => ⟨S1x4, .f32⟩
  | .hbm, ⟨18, _⟩ => ⟨S2x4, .f32⟩
  | .hbm, ⟨19, _⟩ => ⟨S_, .f32⟩
  | .hbm, ⟨20, _⟩ => ⟨S8x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x128, .f32⟩
  | .hbm, ⟨27, _⟩ => ⟨S1x128, .f32⟩
  | .hbm, ⟨28, _⟩ => ⟨S_, .f32⟩
  | .hbm, ⟨29, _⟩ => ⟨S8x128, .f32⟩
  | .hbm, ⟨30, _⟩ => ⟨S_, .i32⟩
  | .hbm, ⟨31, _⟩ => ⟨S1, .i32⟩
  | .hbm, ⟨32, _⟩ => ⟨S8x128, .f32⟩
  | .hbm, ⟨33, _⟩ => ⟨S8192x512, .bf16⟩
  | .hbm, ⟨34, _⟩ => ⟨S128x4x128x128, .f32⟩
  | .hbm, ⟨35, _⟩ => ⟨S128x4x64x64, .f32⟩
  | .hbm, ⟨36, _⟩ => ⟨S128x4x64x256, .f32⟩
  | .hbm, ⟨37, _⟩ => ⟨S8192x1536, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S8x1536, .f32⟩
  | .local _ .vmem, ⟨5, _⟩ => ⟨S8x128, .f32⟩
  | .local _ .vmem, ⟨6, _⟩ => ⟨S8x128, .f32⟩
  | .local _ .vmem, ⟨7, _⟩ => ⟨S256x512, .bf16⟩
  | .local _ .vmem, ⟨8, _⟩ => ⟨S256x512, .bf16⟩
  | .local _ .vmem, ⟨9, _⟩ => ⟨S4x4x128x128, .f32⟩
  | .local _ .vmem, ⟨10, _⟩ => ⟨S4x4x128x128, .f32⟩
  | .local _ .vmem, ⟨11, _⟩ => ⟨S4x4x64x64, .f32⟩
  | .local _ .vmem, ⟨12, _⟩ => ⟨S4x4x64x64, .f32⟩
  | .local _ .vmem, ⟨13, _⟩ => ⟨S4x4x64x256, .f32⟩
  | .local _ .vmem, ⟨14, _⟩ => ⟨S4x4x64x256, .f32⟩
  | .local _ .vmem, ⟨15, _⟩ => ⟨S256x1536, .f32⟩
  | .local _ .vmem, ⟨16, _⟩ => ⟨S256x1536, .f32⟩
  | .local _ .vmem, ⟨17, _⟩ => ⟨S4x128x128, .f32⟩
  | .local _ .vmem, ⟨18, _⟩ => ⟨S8x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.Reals.lean ====
module

public import Idealize.ShloMosaic.Lib.Pointwise
public import Idealize.ShloMosaic.Lib.Pipeline.ValueKit
public import Mathlib.Analysis.SpecialFunctions.Pow.Real

/-!
Real numbers inside the ideal floats: pushing the embedding of the reals through the operations the kernels use,
the values of the float literals, and what an entry being smaller than infinity in absolute value says.
-/

@[expose] public section

noncomputable section

namespace Step

open Idealize.ShloMosaic
open scoped BigOperators

/-- a finite sum of embedded reals is the embedded sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- a quotient by an embedded real other than zero. -/
theorem div_real (x y : ℝ) (h : y ≠ 0) : Ideal.div (x : EReal) (y : EReal) = ((x / y : ℝ) : EReal) := by
  rw [Ideal.div_coe h, ← EReal.coe_mul, mul_one_div]

/-- the reciprocal square root of a positive real. -/
theorem rsqrt_real (x : ℝ) (h : 0 < x) : Ideal.rsqrt (x : EReal) = (((Real.sqrt x)⁻¹ : ℝ) : EReal) := by
  rw [Ideal.rsqrt_coe, if_neg h.not_gt, if_neg h.ne']

/-- the float nearest to `1e-6`. -/
def eps : ℝ := 8796093 / 8796093022208

theorem eps_pos : 0 < eps := by unfold eps; norm_num

theorem lit_eps : Ideal.ofBits .f32 0x358637BD#32 = (eps : EReal) := by
  unfold eps; simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_neg_half : Ideal.ofBits .f32 0xBF000000#32 = ((-1 / 2 : ℝ) : EReal) := by
  simp [Ideal.ofBits, Ideal.ieee, -EReal.coe_mul]; norm_num

/-- an entry whose absolute value compares below infinity is a real number. -/
theorem real_of_lt {φ : FTy} (x : EReal) (h : BitVec.ofBool (decide (FloatOps.absf (F := Ideal) (φ := φ) x < Ideal.ofBits FTy.f32 0x7F800000#32)) = 1#1) :
    ∃ r : ℝ, x = r := by
  have e : Ideal.ofBits FTy.f32 0x7F800000#32 = ⊤ := by simp [Ideal.ofBits, Ideal.ieee]
  have h' : max x (-x) < (⊤ : EReal) := by
    rw [e] at h
    by_contra hc
    have : decide (FloatOps.absf (F := Ideal) (φ := φ) x < (⊤ : EReal)) = false := decide_eq_false hc
    rw [this] at h
    exact absurd h (by decide)
  induction x with
  | coe r => exact ⟨r, rfl⟩
  | top => exact absurd h' (by simp)
  | bot => exact absurd h' (by simp)

/-- the whole zero of a converted integer zero. -/
theorem sitofp_zero (φ : FTy) : FloatOps.sitofp (F := Ideal) φ 0#32 = (0 : EReal) := by
  show (((0#32).toInt : ℝ) : EReal) = 0
  simp

end Step

end
-- ==== Proof.Pad8.lean ====
module

public import Idealize.ShloMosaic.Lib.Routing.OpsOne

/-!
Rows written into the first rows of a larger array of zeros (`zeros.at[:n].set(v)` with a constant start), read at an entry.
-/

@[expose] public section

namespace Step

open Idealize.ShloMosaic Idealize.ShloMosaic.Routing Idealize.ShloMosaic.ValueIdx

/-- where an update of whole rows lands when the one start word is zero: at its own row and lane. -/
theorem lands_rows {A N R : Nat} (d : ScatterDims (shape2 A N) (shape1 1) (shape2 R N)) (huw : d.updateWindowDims = [0, 1]) (hiw : d.insertedWindowDims = [])
    (hsd : d.scatterDimsToOperandDims = [0]) (idx : IVec (shape1 1) 32) (hidx : ∀ i, idx i = 0#32)
    (r : Fin R) (l : Fin N) (w : Fin A) (e : Fin N) : d.resultIdx? (ix2 r l) idx = some (ix2 w e) ↔ r.val = w.val ∧ l = e := by
  have hkept : d.sKept = [0, 1] := by
    show (shape2 A N).kept d.insertedWindowDims = _
    rw [hiw]
    rfl
  have hwin0 : d.window (ix2 r l) 0 = r.val := by
    unfold ScatterDims.window
    rw [dif_pos (by rw [hkept]; simp)]
    have : ∀ (L : List (Fin 2)) (hL : L = [0, 1]) (K : List (Fin 2)) (hK : K = [0, 1]) (h : K.idxOf 0 < L.length),
        ((ix2 r l) (L[K.idxOf 0]'h)).val = r.val := by
      intro L hL K hK h
      subst hL hK
      rfl
    exact this _ huw _ hkept _
  have hwin1 : d.window (ix2 r l) 1 = l.val := by
    unfold ScatterDims.window
    rw [dif_pos (by rw [hkept]; simp)]
    have : ∀ (L : List (Fin 2)) (hL : L = [0, 1]) (K : List (Fin 2)) (hK : K = [0, 1]) (h : K.idxOf 1 < L.length),
        ((ix2 r l) (L[K.idxOf 1]'h)).val = l.val := by
      intro L hL K hK h
      subst hL hK
      rfl
    exact this _ huw _ hkept _
  have hstart1 : d.start (ix2 r l) idx 1 = 0 := by
    unfold ScatterDims.start
    rw [dif_neg fun h => by rw [hsd] at h; exact absurd (List.mem_singleton.1 h) (by decide : (1 : Fin 2) ≠ 0)]
  have hstart0 : d.start (ix2 r l) idx 0 = 0 := by
    unfold ScatterDims.start
    rw [dif_pos (by rw [hsd]; exact List.mem_singleton.2 rfl), hidx]
    rfl
  rw [Fin.ext_iff, resultIdx?_ix2, hstart0, hwin0, hstart1, hwin1]
  omega

/-- the rows written, read at one of them. -/
theorem scatter_rows {α : Type} {A N R : Nat} (d : ScatterDims (shape2 A N) (shape1 1) (shape2 R N)) (huw : d.updateWindowDims = [0, 1])
    (hiw : d.insertedWindowDims = []) (hsd : d.scatterDimsToOperandDims = [0]) (idx : IVec (shape1 1) 32) (hidx : ∀ i, idx i = 0#32)
    (x : (shape2 A N).Idx → α) (upd : (shape2 R N).Idx → α) (r : Fin R) (w : Fin A) (e : Fin N) (h : r.val = w.val) :
    Host.scatter d (fun _ b => b) x idx upd (ix2 w e) = upd (ix2 r e) := by
  refine scatter_set_hit d x idx upd _ _ (fun j hj => ?_) (ix2 r e) ((lands_rows d huw hiw hsd idx hidx r e w e).2 ⟨h, rfl⟩)
  have hj' := (lands_rows d huw hiw hsd idx hidx (j 0) (j 1) w e).1 ((congrArg (fun t => d.resultIdx? t idx) (eq_ix2 j).symm).trans hj)
  rw [eq_ix2 j]
  congr 1
  have : j 0 = r := Fin.ext (hj'.1.trans h.symm)
  have h1 : j 1 = e := hj'.2
  rw [this, h1]
  rfl

/-- where an update of a corner lands when both start words are zero: at its own row and lane. -/
theorem lands_corner {A N R L : Nat} (d : ScatterDims (shape2 A N) (shape1 2) (shape2 R L)) (huw : d.updateWindowDims = [0, 1]) (hiw : d.insertedWindowDims = [])
    (hsd : d.scatterDimsToOperandDims = [0, 1]) (idx : IVec (shape1 2) 32) (hidx : ∀ i, idx i = 0#32)
    (r : Fin R) (l : Fin L) (w : Fin A) (e : Fin N) : d.resultIdx? (ix2 r l) idx = some (ix2 w e) ↔ r.val = w.val ∧ l.val = e.val := by
  have hkept : d.sKept = [0, 1] := by
    show (shape2 A N).kept d.insertedWindowDims = _
    rw [hiw]
    rfl
  have hwin0 : d.window (ix2 r l) 0 = r.val := by
    unfold ScatterDims.window
    rw [dif_pos (by rw [hkept]; simp)]
    have : ∀ (L' : List (Fin 2)) (hL : L' = [0, 1]) (K : List (Fin 2)) (hK : K = [0, 1]) (h : K.idxOf 0 < L'.length),
        ((ix2 r l) (L'[K.idxOf 0]'h)).val = r.val := by
      intro L' hL K hK h
      subst hL hK
      rfl
    exact this _ huw _ hkept _
  have hwin1 : d.window (ix2 r l) 1 = l.val := by
    unfold ScatterDims.window
    rw [dif_pos (by rw [hkept]; simp)]
    have : ∀ (L' : List (Fin 2)) (hL : L' = [0, 1]) (K : List (Fin 2)) (hK : K = [0, 1]) (h : K.idxOf 1 < L'.length),
        ((ix2 r l) (L'[K.idxOf 1]'h)).val = l.val := by
      intro L' hL K hK h
      subst hL hK
      rfl
    exact this _ huw _ hkept _
  have hstart0 : d.start (ix2 r l) idx 0 = 0 := by
    unfold ScatterDims.start
    rw [dif_pos (by rw [hsd]; simp), hidx]
    rfl
  have hstart1 : d.start (ix2 r l) idx 1 = 0 := by
    unfold ScatterDims.start
    rw [dif_pos (by rw [hsd]; simp), hidx]
    rfl
  rw [resultIdx?_ix2, hstart0, hwin0, hstart1, hwin1]
  omega

/-- the corner written, read at one of its entries. -/
theorem scatter_corner {α : Type} {A N R L : Nat} (d : ScatterDims (shape2 A N) (shape1 2) (shape2 R L)) (huw : d.updateWindowDims = [0, 1])
    (hiw : d.insertedWindowDims = []) (hsd : d.scatterDimsToOperandDims = [0, 1]) (idx : IVec (shape1 2) 32) (hidx : ∀ i, idx i = 0#32)
    (x : (shape2 A N).Idx → α) (upd : (shape2 R L).Idx → α) (r : Fin R) (l : Fin L) (w : Fin A) (e : Fin N) (h : r.val = w.val) (h' : l.val = e.val) :
    Host.scatter d (fun _ b => b) x idx upd (ix2 w e) = upd (ix2 r l) := by
  refine scatter_set_hit d x idx upd _ _ (fun j hj => ?_) (ix2 r l) ((lands_corner d huw hiw hsd idx hidx r l w e).2 ⟨h, h'⟩)
  have hj' := (lands_corner d huw hiw hsd idx hidx (j 0) (j 1) w e).1 ((congrArg (fun t => d.resultIdx? t idx) (eq_ix2 j).symm).trans hj)
  rw [eq_ix2 j]
  congr 1
  have : j 0 = r := Fin.ext (hj'.1.trans h.symm)
  have h1 : j 1 = l := Fin.ext (hj'.2.trans h'.symm)
  rw [this, h1]
  rfl

end Step
-- ==== Proof.Dx.Inputs.lean ====
module

public import proofs.«01_k».proof.Proof.Gen.DxKernelIdeal.Value
public import proofs.«01_k».proof.Proof.Reals
public import proofs.«01_k».proof.Proof.Pad8
public import Idealize.ShloMosaic.Lib.Pointwise
public import Idealize.ShloMosaic.Lib.Claim
public import Idealize.ShloMosaic.Lib.StableHlo.RunRead
public import Idealize.ShloMosaic.Lib.Pipeline.ValueKit

/-! The blocks that the call `inproj_bwd_dx` reads, in the arguments of the program. -/

@[expose] public section

set_option maxRecDepth 16384

noncomputable section

open Idealize.ShloMosaic Idealize.ShloMosaic.TcCoe Idealize.SL.Sem
open Idealize.ShloMosaic.Pipeline (Dat)
open scoped BigOperators

namespace Cert.DxKernelIdeal.Dx

open Cert.DxKernelIdeal Cert.DxKernelIdeal.Gen

variable (m : (ℓ : Loc nD τ sig) → Buf (Elt Ideal) ℓ)

/-- every window's block index, in the point's number. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![0, 0]
    ∧ win0_8.index t = ![t.val, 0]
    ∧ win0_9.index t = ![t.val, 0]
    ∧ win0_10.index t = ![0, 0] :=
  (by decide +kernel : ∀ t : Fin grid0.N, _)

theorem tlt (t : Fin cfg0.N) : t.val < 16 := lt_of_lt_of_eq t.isLt N_0

/-- the row of the whole array that row `r` of point `t`'s block is. -/
abbrev row (t : Fin cfg0.N) (r : Fin 512) : Fin 8192 := ⟨t.val * 512 + r, by have := tlt t; omega⟩

/-! The program's arguments, entry by entry. -/

abbrev X (c : Dev nD) (r : Fin 8192) (l : Fin 1024) : EReal := (m ((c : Thread nD τ).loc main_arg0) : FVec Ideal S8192x1024 .f32) (ix2 r l)
abbrev PN (c : Dev nD) (l : Fin 1024) : EReal := (m ((c : Thread nD τ).loc main_arg1) : FVec Ideal S1024 .f32) (ix1 l)
abbrev W (c : Dev nD) (l : Fin 1024) (k : Fin 6680) : EReal := (m ((c : Thread nD τ).loc main_arg2) : FVec Ideal S1024x6680 .f32) (ix2 l k)
abbrev DP (c : Dev nD) (r : Fin 8192) (k : Fin 6680) : EReal := (m ((c : Thread nD τ).loc main_arg3) : FVec Ideal S8192x6680 .f32) (ix2 r k)
abbrev DXN (c : Dev nD) (r : Fin 8192) (l : Fin 1024) : EReal := (m ((c : Thread nD τ).loc main_arg4) : FVec Ideal S8192x1024 .f32) (ix2 r l)

/-! What the host lines before the call leave in the call's operands. -/

theorem v16 (c : Dev nD) : V m c main_v16 = truncf (F := Ideal) .bf16 (extractStridedSlice S8192x2048 ![0, 0] (m ((c : Thread nD τ).loc main_arg3)) slices_S8192x6680_S8192x2048_0_0) bitsLt_bf16_f32 := by
  show StableHlo.after _ _ _ = _
  after_reads_simp

theorem v17 (c : Dev nD) : V m c main_v17 = truncf (F := Ideal) .bf16 (extractStridedSlice S8192x2560 ![0, 2056] (m ((c : Thread nD τ).loc main_arg3)) slices_S8192x6680_S8192x2560_0_2056) bitsLt_bf16_f32 := by
  show StableHlo.after _ _ _ = _
  after_reads_simp

theorem v18 (c : Dev nD) : V m c main_v18 = truncf (F := Ideal) .bf16 (extractStridedSlice S8192x2048 ![0, 4632] (m ((c : Thread nD τ).loc main_arg3)) slices_S8192x6680_S8192x2048_0_4632) bitsLt_bf16_f32 := by
  show StableHlo.after _ _ _ = _
  after_reads_simp

theorem v19 (c : Dev nD) : V m c main_v19 = truncf (F := Ideal) .bf16 (pad S8192x128 ![0, 0] ![0, 120] ![0, 0] (extractStridedSlice S8192x8 ![0, 2048] (m ((c : Thread nD τ).loc main_arg3)) slices_S8192x6680_S8192x8_0_2048) (sitofp .f32 (constantI S_ 32 0#32)) pads_S8192x8_S8192x128_000_01200 h_S_) bitsLt_bf16_f32 := by
  show StableHlo.after _ _ _ = _
  after_reads_simp
  rfl

theorem v20 (c : Dev nD) : V m c main_v20 = truncf (F := Ideal) .bf16 (pad S8192x128 ![0, 0] ![0, 112] ![0, 0] (extractStridedSlice S8192x16 ![0, 4616] (m ((c : Thread nD τ).loc main_arg3)) slices_S8192x6680_S8192x16_0_4616) (sitofp .f32 (constantI S_ 32 0#32)) pads_S8192x16_S8192x128_000_01120 h_S_) bitsLt_bf16_f32 := by
  show StableHlo.after _ _ _ = _
  after_reads_simp
  rfl

theorem v8 (c : Dev nD) : V m c main_v8 = truncf (F := Ideal) .bf16 (concatenate S1024x6912 1 [
    ⟨S1024x2048, extractStridedSlice S1024x2048 ![0, 0] (m ((c : Thread nD τ).loc main_arg2)) slices_S1024x6680_S1024x2048_0_0⟩,
    ⟨S1024x2560, extractStridedSlice S1024x2560 ![0, 2056] (m ((c : Thread nD τ).loc main_arg2)) slices_S1024x6680_S1024x2560_0_2056⟩,
    ⟨S1024x2048, extractStridedSlice S1024x2048 ![0, 4632] (m ((c : Thread nD τ).loc main_arg2)) slices_S1024x6680_S1024x2048_0_4632⟩,
    ⟨S1024x128, pad S1024x128 ![0, 0] ![0, 120] ![0, 0] (extractStridedSlice S1024x8 ![0, 2048] (m ((c : Thread nD τ).loc main_arg2)) slices_S1024x6680_S1024x8_0_2048) (sitofp .f32 (constantI S_ 32 0#32)) pads_S1024x8_S1024x128_000_01200 h_S_⟩,
    ⟨S1024x128, pad S1024x128 ![0, 0] ![0, 112] ![0, 0] (extractStridedSlice S1024x16 ![0, 4616] (m ((c : Thread nD τ).loc main_arg2)) slices_S1024x6680_S1024x16_0_4616) (sitofp .f32 (constantI S_ 32 0#32)) pads_S1024x16_S1024x128_000_01120 h_S_⟩]
    concatenates_S1024x2048_S1024x2560_S1024x2048_S1024x128_S1024x128_S1024x6912_d1) bitsLt_bf16_f32 := by
  show StableHlo.after _ _ _ = _
  after_reads_simp
  congr 7

theorem v24 (c : Dev nD) : V m c main_v24 = Host.scatter scatter_S8x1024_S1_S1x1024_01_n_0_0 (fun _ b => b)
      (broadcastInDim S8x1024 ![] bcast_S_S8x1024 (constant (F := Ideal) S_ FTy.f32 0x00000000#32))
      (broadcastInDim S1 ![] bcast_S_S1 (constantI S_ 32 0#32)) (shapeCast S1x1024 (m ((c : Thread nD τ).loc main_arg1)) shapeCasts_S1024_S1x1024) := by
  show StableHlo.after _ _ _ = _
  after_reads_simp
  rfl

/-! The blocks a point reads, in the program's arguments. -/

theorem b0 (c : Dev nD) (t : Fin cfg0.N) (r : Fin 512) (k : Fin 2048) : iblk m c 0 t (ix2 r k) = DP m c (row t r) ⟨k, by omega⟩ := by
  blk_simp [iblk, idx t]
  rw [v16]
  pointwise
  blk_ext [idx t]

theorem b1 (c : Dev nD) (t : Fin cfg0.N) (r : Fin 512) (k : Fin 2560) : iblk m c 1 t (ix2 r k) = DP m c (row t r) ⟨2056 + k, by omega⟩ := by
  blk_simp [iblk, idx t]
  rw [v17]
  pointwise
  blk_ext [idx t]

theorem b2 (c : Dev nD) (t : Fin cfg0.N) (r : Fin 512) (k : Fin 2048) : iblk m c 2 t (ix2 r k) = DP m c (row t r) ⟨4632 + k, by omega⟩ := by
  blk_simp [iblk, idx t]
  rw [v18]
  pointwise
  blk_ext [idx t]

theorem v19_at (c : Dev nD) (R : Fin 8192) (k : Fin 128) :
    (V m c main_v19 : FVec Ideal S8192x128 .bf16) (ix2 R k) = if h : (k : ℕ) < 8 then DP m c R ⟨2048 + k, by omega⟩ else 0 := by
  rw [v19]
  pointwise
  rw [Step.sitofp_zero]

theorem v20_at (c : Dev nD) (R : Fin 8192) (k : Fin 128) :
    (V m c main_v20 : FVec Ideal S8192x128 .bf16) (ix2 R k) = if h : (k : ℕ) < 16 then DP m c R ⟨4616 + k, by omega⟩ else 0 := by
  rw [v20]
  pointwise
  rw [Step.sitofp_zero]

theorem b3 (c : Dev nD) (t : Fin cfg0.N) (r : Fin 512) (k : Fin 128) :
    iblk m c 3 t (ix2 r k) = if h : (k : ℕ) < 8 then DP m c (row t r) ⟨2048 + k, by omega⟩ else 0 := by
  rw [← v19_at]
  blk_simp [iblk, idx t]
  blk_ext [idx t]

theorem b4 (c : Dev nD) (t : Fin cfg0.N) (r : Fin 512) (k : Fin 128) :
    iblk m c 4 t (ix2 r k) = if h : (k : ℕ) < 16 then DP m c (row t r) ⟨4616 + k, by omega⟩ else 0 := by
  rw [← v20_at]
  blk_simp [iblk, idx t]
  blk_ext [idx t]

theorem b5_eq (c : Dev nD) (t : Fin cfg0.N) (l : Fin 1024) (k : Fin 6912) : iblk m c 5 t (ix2 l k) = (V m c main_v8 : FVec Ideal S1024x6912 .bf16) (ix2 l k) := by
  blk_simp [iblk, idx t]
  blk_ext [idx t]

theorem b5_0 (c : Dev nD) (t : Fin cfg0.N) (l : Fin 1024) (k : Fin 2048) : iblk m c 5 t (ix2 l ⟨k, by omega⟩) = W m c l ⟨k, by omega⟩ := by
  rw [b5_eq, v8]
  pointwise

theorem b5_1 (c : Dev nD) (t : Fin cfg0.N) (l : Fin 1024) (k : Fin 2560) : iblk m c 5 t (ix2 l ⟨2048 + k, by omega⟩) = W m c l ⟨2056 + k, by omega⟩ := by
  rw [b5_eq, v8]
  pointwise

theorem b5_2 (c : Dev nD) (t : Fin cfg0.N) (l : Fin 1024) (k : Fin 2048) : iblk m c 5 t (ix2 l ⟨4608 + k, by omega⟩) = W m c l ⟨4632 + k, by omega⟩ := by
  rw [b5_eq, v8]
  pointwise
  rw [dif_neg (by omega), dif_neg (by omega), dif_pos (by omega)]
  blk_ext

theorem v8_3 (c : Dev nD) (l : Fin 1024) (k : Fin 128) :
    (V m c main_v8 : FVec Ideal S1024x6912 .bf16) (ix2 l ⟨6656 + k, by omega⟩) = if h : (k : ℕ) < 8 then W m c l ⟨2048 + k, by omega⟩ else 0 := by
  rw [v8]
  pointwise
  rw [dif_neg (show ¬ 6656 + (k : ℕ) < 2048 by omega), dif_neg (show ¬ 6656 + (k : ℕ) - 2048 < 2560 by omega),
    dif_neg (show ¬ 6656 + (k : ℕ) - 2048 - 2560 < 2048 by omega), dif_pos (show 6656 + (k : ℕ) - 2048 - 2560 - 2048 < 128 by omega)]
  by_cases h : (k : ℕ) < 8
  · refine (dif_pos (show 6656 + (k : ℕ) - 2048 - 2560 - 2048 < 8 by omega)).trans (Eq.trans ?_ (dif_pos h).symm)
    blk_ext
  · exact (dif_neg (show ¬ 6656 + (k : ℕ) - 2048 - 2560 - 2048 < 8 by omega)).trans ((Step.sitofp_zero _).trans (dif_neg (e := fun _ => (0 : EReal)) h).symm)

theorem b5_3 (c : Dev nD) (t : Fin cfg0.N) (l : Fin 1024) (k : Fin 128) : iblk m c 5 t (ix2 l ⟨6656 + k, by omega⟩) = if h : (k : ℕ) < 8 then W m c l ⟨2048 + k, by omega⟩ else (0 : EReal) := by
  rw [← v8_3, b5_eq]

theorem v8_4 (c : Dev nD) (l : Fin 1024) (k : Fin 128) :
    (V m c main_v8 : FVec Ideal S1024x6912 .bf16) (ix2 l ⟨6784 + k, by omega⟩) = if h : (k : ℕ) < 16 then W m c l ⟨4616 + k, by omega⟩ else 0 := by
  rw [v8]
  pointwise
  rw [dif_neg (show ¬ 6784 + (k : ℕ) < 2048 by omega), dif_neg (show ¬ 6784 + (k : ℕ) - 2048 < 2560 by omega),
    dif_neg (show ¬ 6784 + (k : ℕ) - 2048 - 2560 < 2048 by omega), dif_neg (show ¬ 6784 + (k : ℕ) - 2048 - 2560 - 2048 < 128 by omega)]
  by_cases h : (k : ℕ) < 16
  · refine (dif_pos (show 6784 + (k : ℕ) - 2048 - 2560 - 2048 - 128 < 16 by omega)).trans (Eq.trans ?_ (dif_pos h).symm)
    blk_ext
  · exact (dif_neg (show ¬ 6784 + (k : ℕ) - 2048 - 2560 - 2048 - 128 < 16 by omega)).trans ((Step.sitofp_zero _).trans (dif_neg (e := fun _ => (0 : EReal)) h).symm)

theorem b5_4 (c : Dev nD) (t : Fin cfg0.N) (l : Fin 1024) (k : Fin 128) : iblk m c 5 t (ix2 l ⟨6784 + k, by omega⟩) = if h : (k : ℕ) < 16 then W m c l ⟨4616 + k, by omega⟩ else (0 : EReal) := by
  rw [← v8_4, b5_eq]

theorem b6 (c : Dev nD) (t : Fin cfg0.N) (r : Fin 512) (k : Fin 1024) : iblk m c 6 t (ix2 r k) = X m c (row t r) k := by
  blk_simp [iblk, idx t]
  blk_ext [V, idx t]

theorem b7 (c : Dev nD) (t : Fin cfg0.N) (k : Fin 1024) : iblk m c 7 t (ix2 (0 : Fin 8) k) = PN m c k := by
  have e : iblk m c 7 t (ix2 (0 : Fin 8) k) = (V m c main_v24 : FVec Ideal S8x1024 .f32) (ix2 (0 : Fin 8) k) := by
    blk_simp [iblk, idx t]
    blk_ext [idx t]
  rw [e, v24]
  refine (Step.scatter_rows scatter_S8x1024_S1_S1x1024_01_n_0_0 rfl rfl rfl _ (fun _ => rfl) _ _ (0 : Fin 1) _ _ rfl).trans ?_
  pointwise

theorem b8 (c : Dev nD) (t : Fin cfg0.N) (r : Fin 512) (k : Fin 1024) : iblk m c 8 t (ix2 r k) = DXN m c (row t r) k := by
  blk_simp [iblk, idx t]
  blk_ext [V, idx t]

end Cert.DxKernelIdeal.Dx

end
-- ==== Proof.Rms.lean ====
module

public import proofs.«01_k».proof.Proof.Reals

/-!
The gradient of a root-mean-square normalisation of one row of 1024 entries: the form the kernels compute, the form that
differentiating the forward lines gives, and their equality where the row, the weight and the incoming gradient are real.
-/

@[expose] public section

noncomputable section

namespace Step

open Idealize.ShloMosaic
open scoped BigOperators

/-- one over the root mean square of a row. -/
def rs (x : Fin 1024 → EReal) : EReal := Ideal.rsqrt ((∑ k, x k * x k) * Ideal.ofBits .f32 0x3A800000#32 + Ideal.ofBits .f32 0x358637BD#32)

/-- the gradient as the kernels compute it. -/
def kdx (x pn d : Fin 1024 → EReal) (l : Fin 1024) : EReal :=
  rs x * (d l * pn l - x l * rs x * ((∑ k, d k * pn k * (x k * rs x)) * Ideal.ofBits .f32 0x3A800000#32))

/-- the mean square plus the small constant, as the forward lines compute it. -/
def ms (x : Fin 1024 → EReal) : EReal := Ideal.div (∑ k, x k * x k) (Ideal.ofBits .f32 0x44800000#32) + Ideal.ofBits .f32 0x358637BD#32

/-- the gradient through the mean square. -/
def gms (x pn d : Fin 1024 → EReal) : EReal :=
  ∑ _ : Fin 1, Ideal.div ((∑ k, x k * (d k * pn k)) * (Ideal.ofBits .f32 0xBF000000#32 * Ideal.div (Ideal.rsqrt (ms x)) (ms x))) (Ideal.ofBits .f32 0x44800000#32)

/-- the gradient as differentiating the forward lines gives it. -/
def rdx (x pn d : Fin 1024 → EReal) (l : Fin 1024) : EReal :=
  d l * pn l * Ideal.rsqrt (ms x) + x l * gms x pn d + gms x pn d * x l

/-- a division by 1024 is the product with its reciprocal, infinite or not. -/
theorem rs_eq (x : Fin 1024 → EReal) : rs x = Ideal.rsqrt (ms x) := by
  unfold rs ms
  rw [lit_1024, lit_inv1024, Ideal.div_coe (by norm_num)]

/-- the mean square of a real row. -/
def msr (x : Fin 1024 → ℝ) : ℝ := (∑ k, x k * x k) / 1024 + eps

theorem msr_pos (x : Fin 1024 → ℝ) : 0 < msr x :=
  add_pos_of_nonneg_of_pos (div_nonneg (Finset.sum_nonneg fun k _ => mul_self_nonneg _) (by norm_num)) eps_pos

theorem ms_coe (x : Fin 1024 → ℝ) : ms (fun k => (x k : EReal)) = ((msr x : ℝ) : EReal) := by
  unfold ms msr
  simp only [← EReal.coe_mul, coe_sum, lit_1024, lit_eps]
  rw [div_real _ _ (by norm_num), ← EReal.coe_add]

/-- the two forms agree on real rows. -/
theorem kdx_eq_rdx (x pn d : Fin 1024 → ℝ) (l : Fin 1024) :
    kdx (fun k => (x k : EReal)) (fun k => (pn k : EReal)) (fun k => (d k : EReal)) l
      = rdx (fun k => (x k : EReal)) (fun k => (pn k : EReal)) (fun k => (d k : EReal)) l := by
  unfold kdx rdx gms
  rw [rs_eq, ms_coe, rsqrt_real _ (msr_pos x), lit_inv1024, lit_1024, lit_neg_half, Fin.sum_univ_one, div_real _ _ (msr_pos x).ne']
  simp only [← EReal.coe_mul, coe_sum, ← EReal.coe_sub]
  rw [div_real _ _ (by norm_num)]
  simp only [← EReal.coe_mul, ← EReal.coe_add]
  refine congrArg _ ?_
  have hs := msr_pos x
  set s := msr x
  have hq : Real.sqrt s * Real.sqrt s = s := Real.mul_self_sqrt hs.le
  have hq0 : Real.sqrt s ≠ 0 := (Real.sqrt_pos.2 hs).ne'
  set q := Real.sqrt s
  have hsum : ∑ k, d k * pn k * (x k * q⁻¹) = (∑ k, x k * (d k * pn k)) * q⁻¹ := by
    rw [Finset.sum_mul]
    exact Finset.sum_congr rfl fun k _ => by ring
  rw [hsum, ← hq]
  field_simp
  ring

end Step

end
-- ==== Proof.Dx.Kernel.lean ====
module

public import proofs.«01_k».proof.Proof.Dx.Inputs
public import proofs.«01_k».proof.Proof.Rms

/-! What the call `inproj_bwd_dx` leaves in its two results, entry by entry, in the arguments of the program. -/

@[expose] public section

set_option maxRecDepth 16384

noncomputable section

open Idealize.ShloMosaic Idealize.ShloMosaic.TcCoe Idealize.SL.Sem
open Idealize.ShloMosaic.Pipeline (Dat)
open scoped BigOperators

namespace Step

/-- a sum over 6680 columns taken in the order of the kernel's segments, the two short ones padded to 128 lanes. -/
theorem sum_segments (f g : Fin 6680 → EReal) :
    (∑ k : Fin 2048, f ⟨k, by omega⟩ * g ⟨k, by omega⟩) + (∑ k : Fin 2560, f ⟨2056 + k, by omega⟩ * g ⟨2056 + k, by omega⟩)
      + (∑ k : Fin 2048, f ⟨4632 + k, by omega⟩ * g ⟨4632 + k, by omega⟩)
      + (∑ k : Fin 128, (if h : (k : ℕ) < 8 then f ⟨2048 + k, by omega⟩ else 0) * (if h : (k : ℕ) < 8 then g ⟨2048 + k, by omega⟩ else 0))
      + (∑ k : Fin 128, (if h : (k : ℕ) < 16 then f ⟨4616 + k, by omega⟩ else 0) * (if h : (k : ℕ) < 16 then g ⟨4616 + k, by omega⟩ else 0))
      = ∑ k, f k * g k := by
  let F : ℕ → EReal := fun k => if h : k < 6680 then f ⟨k, h⟩ * g ⟨k, h⟩ else 0
  have hF : ∀ k (h : k < 6680), f ⟨k, h⟩ * g ⟨k, h⟩ = F k := fun k h => by simp only [F, dif_pos h]
  have e3 : (∑ k : Fin 128, (if h : (k : ℕ) < 8 then f ⟨2048 + k, by omega⟩ else 0) * (if h : (k : ℕ) < 8 then g ⟨2048 + k, by omega⟩ else 0))
      = ∑ k ∈ Finset.range 8, F (2048 + k) := by
    rw [Fin.sum_univ_eq_sum_range (fun k => (if h : k < 8 then f ⟨2048 + k, by omega⟩ else 0) * (if h : k < 8 then g ⟨2048 + k, by omega⟩ else 0)) 128]
    rw [← Finset.sum_subset (Finset.range_subset_range.2 (by decide : 8 ≤ 128)) fun k _ hk => ?_]
    · refine Finset.sum_congr rfl fun k hk => ?_
      have hk' := Finset.mem_range.1 hk
      rw [dif_pos hk', dif_pos hk', hF]
    · have hk' : ¬ k < 8 := fun h => hk (Finset.mem_range.2 h)
      rw [dif_neg hk', zero_mul]
  have e4 : (∑ k : Fin 128, (if h : (k : ℕ) < 16 then f ⟨4616 + k, by omega⟩ else 0) * (if h : (k : ℕ) < 16 then g ⟨4616 + k, by omega⟩ else 0))
      = ∑ k ∈ Finset.range 16, F (4616 + k) := by
    rw [Fin.sum_univ_eq_sum_range (fun k => (if h : k < 16 then f ⟨4616 + k, by omega⟩ else 0) * (if h : k < 16 then g ⟨4616 + k, by omega⟩ else 0)) 128]
    rw [← Finset.sum_subset (Finset.range_subset_range.2 (by decide : 16 ≤ 128)) fun k _ hk => ?_]
    · refine Finset.sum_congr rfl fun k hk => ?_
      have hk' := Finset.mem_range.1 hk
      rw [dif_pos hk', dif_pos hk', hF]
    · have hk' : ¬ k < 16 := fun h => hk (Finset.mem_range.2 h)
      rw [dif_neg hk', zero_mul]
  rw [e3, e4]
  simp only [hF]
  rw [Fin.sum_univ_eq_sum_range (fun k => F k), Fin.sum_univ_eq_sum_range (fun k => F (2056 + k)), Fin.sum_univ_eq_sum_range (fun k => F (4632 + k)),
    Fin.sum_univ_eq_sum_range (fun k => F k) 6680, Finset.sum_range_add F 4632 2048, Finset.sum_range_add F 4616 16, Finset.sum_range_add F 2056 2560,
    Finset.sum_range_add F 2048 8]
  abel

/-- row 0 of eight written, zeros below. -/
theorem select_row (q : Fin 8) (a b : EReal) : Scalar.select (IntOp.cmpi CmpIPredicate.eq (BitVec.ofNat 32 q) 0#32) a b = if (q : ℕ) = 0 then a else b := by
  fin_cases q <;> rfl

end Step

namespace Cert.DxKernelIdeal.Dx

open Cert.DxKernelIdeal Cert.DxKernelIdeal.Gen
open Step (rs kdx)

variable (m : (ℓ : Loc nD τ sig) → Buf (Elt Ideal) ℓ)

/-- the gradient of a normalised row: `dproj · w_inᵀ`. -/
def dh (c : Dev nD) (R : Fin 8192) (l : Fin 1024) : EReal := ∑ k : Fin 6680, DP m c R k * W m c l k

theorem point9 (c : Dev nD) (t : Fin cfg0.N) (r : Fin 512) (l : Fin 1024) :
    (dats m 0 c).after 9 t (ix2 r l) = kdx (X m c (row t r)) (PN m c) (dh m c (row t r)) l + DXN m c (row t r) l := by
  rw [after0_9]
  by_cases h : t.val % 16 = 0
  · rw [outsAt0_A m c t h]
    frame_out
    pointwise [k0_pay1, k0_pay3, k0_pay4, k0_pay5, k0_pay6, k0_pay7, k0_pay8, k0_pay9, k0_pay11, dot_S512x2048_S1024x2048_S512x1024_1_1_0_0_n_n]
    simp only [b0, b1, b2, b3, b4, b5_0, b5_1, b5_2, b5_3, b5_4, b6, b7, b8, Step.sum_segments]
    rfl
  · rw [outsAt0_B m c t h]
    frame_out
    pointwise [k0_pay1, k0_pay3, k0_pay4, k0_pay5, k0_pay6, k0_pay7, k0_pay8, k0_pay9, k0_pay11, dot_S512x2048_S1024x2048_S512x1024_1_1_0_0_n_n]
    simp only [b0, b1, b2, b3, b4, b5_0, b5_1, b5_2, b5_3, b5_4, b6, b7, b8, Step.sum_segments]
    rfl

/-- the first result: every row's gradient. -/
theorem final9 (c : Dev nD) : (dats m 0 c).arrAt 9 (cfgs 0).N = (fun i : S8192x1024.Idx => kdx (X m c (i 0)) (PN m c) (dh m c (i 0)) (i 1) + DXN m c (i 0) (i 1)) := by
  refine (dats m 0 c).arrAt_eq_of_covers 9 _ (by decide +kernel) fun t hf y => ?_
  blk_simp
  obtain ⟨r, l, rfl⟩ : ∃ (r : Fin 512) (l : Fin 1024), y = ix2 r l := ⟨y 0, y 1, by funext a; fin_cases a <;> rfl⟩
  rw [point9]
  have e0 : (((cfg0.win 9).blk t).view.emb (ix2 r l)) 0 = row t r := by
    apply Fin.ext
    blk_simp [idx t]
  have e1 : (((cfg0.win 9).blk t).view.emb (ix2 r l)) 1 = l := by
    apply Fin.ext
    blk_simp [idx t]
  rw [e0, e1]

/-- what one point adds to the gradient of the norm's weight. -/
def part (c : Dev nD) (t : Fin cfg0.N) (l : Fin 1024) : EReal :=
  ∑ r : Fin 512, dh m c (row t r) l * (X m c (row t r) l * rs (X m c (row t r)))

/-- the second result: row 0 the gradient of the norm's weight, the other rows zero. -/
theorem final10 (c : Dev nD) : (dats m 0 c).arrAt 10 (cfgs 0).N =
    (fun i : S8x1024.Idx => if (i 0 : ℕ) = 0 then ∑ R : Fin 8192, dh m c R (i 1) * (X m c R (i 1) * rs (X m c R)) else 0) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0)
    (fun t (j : S8x1024.Idx) => if (j 0 : ℕ) = 0 then part m c t (j 1) else (0 : EReal))
    (fun t h j => by
      rw [outsAt0_A m c t h]
      obtain ⟨q, l, rfl⟩ : ∃ (q : Fin 8) (l : Fin 1024), j = ix2 q l := ⟨j 0, j 1, by funext a; fin_cases a <;> rfl⟩
      frame_out
      pointwise [k0_pay1, k0_pay2, k0_pay3, k0_pay4, k0_pay5, k0_pay6, k0_pay7, k0_pay8, k0_pay9, k0_pay10, k0_pay11, dot_S512x2048_S1024x2048_S512x1024_1_1_0_0_n_n]
      simp only [b0, b1, b2, b3, b4, b5_0, b5_1, b5_2, b5_3, b5_4, b6, b7, b8, Step.sum_segments, Step.select_row]
      rfl)
    (fun t h j => by
      rw [outsAt0_B m c t h]
      obtain ⟨q, l, rfl⟩ : ∃ (q : Fin 8) (l : Fin 1024), j = ix2 q l := ⟨j 0, j 1, by funext a; fin_cases a <;> rfl⟩
      frame_out
      pointwise [k0_pay1, k0_pay3, k0_pay4, k0_pay5, k0_pay6, k0_pay7, k0_pay8, k0_pay9, k0_pay10, k0_pay11, dot_S512x2048_S1024x2048_S512x1024_1_1_0_0_n_n]
      simp only [b0, b1, b2, b3, b4, b5_0, b5_1, b5_2, b5_3, b5_4, b6, b7, b8, Step.sum_segments, Step.select_row]
      rfl)
    (le_of_eq N_0) t0_15 rfl j, zero_add]
  by_cases h : (j 0 : ℕ) = 0
  · simp only [if_pos h]
    unfold part
    refine Eq.trans ?_ (if_pos h).symm
    exact Fin.sum_mul_add_congr fun s k hl => rfl
  · simp only [if_neg h]
    exact (Finset.sum_const_zero (M := EReal)).trans (if_neg h).symm

end Cert.DxKernelIdeal.Dx

end
-- ==== Proof.Dx.Reference.lean ====
module

public import proofs.«01_k».proof.Proof.Gen.DxReferenceIdeal.Run
public import proofs.«01_k».proof.Proof.Rms
public import Idealize.ShloMosaic.Lib.Pointwise
public import Idealize.ShloMosaic.Lib.Pipeline.ValueKit

/-! The two results of the reference of `inproj_bwd_dx`, entry by entry, in its arguments. -/

@[expose] public section

set_option maxRecDepth 16384

noncomputable section

open Idealize.ShloMosaic Idealize.ShloMosaic.TcCoe Idealize.SL.Sem
open Idealize.ShloMosaic.Pipeline (Dat)
open scoped BigOperators

namespace Cert.DxReferenceIdeal.Dx

open Cert.DxReferenceIdeal Cert.DxReferenceIdeal.Gen
open Step (rdx ms sitofp_zero)

variable (m : (ℓ : Loc nD τ sig) → Buf (Elt Ideal) ℓ) (ρ : Dev nD → PrngReg)

abbrev X (c : Dev nD) (r : Fin 8192) (l : Fin 1024) : EReal := (m ((c : Thread nD τ).loc main_arg0) : FVec Ideal S8192x1024 .f32) (ix2 r l)
abbrev PN (c : Dev nD) (l : Fin 1024) : EReal := (m ((c : Thread nD τ).loc main_arg1) : FVec Ideal S1024 .f32) (ix1 l)
abbrev W (c : Dev nD) (l : Fin 1024) (k : Fin 6680) : EReal := (m ((c : Thread nD τ).loc main_arg2) : FVec Ideal S1024x6680 .f32) (ix2 l k)
abbrev DP (c : Dev nD) (r : Fin 8192) (k : Fin 6680) : EReal := (m ((c : Thread nD τ).loc main_arg3) : FVec Ideal S8192x6680 .f32) (ix2 r k)
abbrev DXN (c : Dev nD) (r : Fin 8192) (l : Fin 1024) : EReal := (m ((c : Thread nD τ).loc main_arg4) : FVec Ideal S8192x1024 .f32) (ix2 r l)

/-- the gradient reaching the normalised rows. -/
def dh (c : Dev nD) (r : Fin 8192) (l : Fin 1024) : EReal := ∑ k : Fin 6680, DP m c r k * W m c l k

theorem result0 (c : Dev nD) : (Value.res_main_v38 m c : FVec Ideal S8192x1024 .f32) = fun i : S8192x1024.Idx => rdx (X m c (i 0)) (PN m c) (dh m c (i 0)) (i 1) + DXN m c (i 0) (i 1) := by
  funext i
  obtain ⟨r, l, rfl⟩ : ∃ (r : Fin 8192) (l : Fin 1024), i = ix2 r l := ⟨i 0, i 1, by funext a; fin_cases a <;> rfl⟩
  unfold Value.res_main_v38
  pointwise
  rfl

theorem run : θ_run (defs (F := Ideal)) (onTc (τ := τ) (main (F := Ideal))) ⟨m, fun _ => 0, ρ⟩ fun r => ∀ c : Dev nD,
    r.2.mem ((c.tc : Thread nD τ).loc main_v38) = (fun i : S8192x1024.Idx => rdx (X m c (i 0)) (PN m c) (dh m c (i 0)) (i 1) + DXN m c (i 0) (i 1))
    ∧ r.2.mem ((c.tc : Thread nD τ).loc main_v40) = (fun i : S8x1024.Idx => if (i 0 : ℕ) = 0 then ∑ R : Fin 8192, X m c R (i 1) * Ideal.rsqrt (ms (X m c R)) * dh m c R (i 1) else 0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run _ _ _).mono (fun r h c => ⟨(h c).1.trans (result0 m c), (h c).2.1.trans ?_, (h c).2.2⟩) (Value.run m ρ)
  funext i
  obtain ⟨q, l, rfl⟩ : ∃ (q : Fin 8) (l : Fin 1024), i = ix2 q l := ⟨i 0, i 1, by funext a; fin_cases a <;> rfl⟩
  pointwise
  by_cases hq : (q : ℕ) = 0
  · refine (dif_pos (show (q : ℕ) < 1 by omega)).trans (Eq.trans ?_ (if_pos hq).symm)
    rw [Fin.sum_univ_one]
    rfl
  · exact (dif_neg (show ¬ (q : ℕ) < 1 by omega)).trans ((sitofp_zero _).trans (if_neg hq).symm)

end Cert.DxReferenceIdeal.Dx

end
-- ==== Proof.Dx.Equal.lean ====
module

public import proofs.«01_k».proof.Defs
public import proofs.«01_k».proof.Proof.Dx.Kernel
public import proofs.«01_k».proof.Proof.Dx.Reference

/-! The kernel of `inproj_bwd_dx` and its reference leave the same two arrays. -/

@[expose] public section

set_option maxRecDepth 16384

noncomputable section

open Idealize.ShloMosaic Idealize.ShloMosaic.TcCoe Idealize.SL.Sem
open scoped BigOperators

namespace Dx

open Cert.DxKernelIdeal
open Step (rs kdx rdx ms)

variable (m : (ℓ : Loc nD τ sig) → Buf (Elt Ideal) ℓ)

/-- the four arrays the precondition speaks of are arrays of reals. -/
theorem reals [Cert.Pre_dx_finite.Facts] (h : Cert.Pre_DxKernelIdeal_dx_finite m) (c : Dev nD) :
    (∃ x : Fin 8192 → Fin 1024 → ℝ, ∀ r l, Dx.X m c r l = (x r l : EReal))
    ∧ (∃ p : Fin 1024 → ℝ, ∀ l, Dx.PN m c l = (p l : EReal))
    ∧ (∃ w : Fin 1024 → Fin 6680 → ℝ, ∀ l k, Dx.W m c l k = (w l k : EReal))
    ∧ (∃ d : Fin 8192 → Fin 6680 → ℝ, ∀ r k, Dx.DP m c r k = (d r k : EReal)) := by
  obtain ⟨h0, h1, h2, h3⟩ := h c
  refine ⟨?_, ?_, ?_, ?_⟩
  · have : ∀ r l, ∃ x : ℝ, Dx.X m c r l = (x : EReal) := by
      intro r l
      have := congrFun h0 (ix2 r l)
      unfold Cert.Pre_dx_finite.fn at this
      pointwise at this
      exact Step.real_of_lt _ this
    choose x hx using this
    exact ⟨x, hx⟩
  · have : ∀ l, ∃ x : ℝ, Dx.PN m c l = (x : EReal) := by
      intro l
      have := congrFun h1 (ix1 l)
      unfold Cert.Pre_dx_finite.fn at this
      pointwise at this
      exact Step.real_of_lt _ this
    choose x hx using this
    exact ⟨x, hx⟩
  · have : ∀ l k, ∃ x : ℝ, Dx.W m c l k = (x : EReal) := by
      intro l k
      have := congrFun h2 (ix2 l k)
      unfold Cert.Pre_dx_finite.fn at this
      pointwise at this
      exact Step.real_of_lt _ this
    choose x hx using this
    exact ⟨x, hx⟩
  · have : ∀ r k, ∃ x : ℝ, Dx.DP m c r k = (x : EReal) := by
      intro r k
      have := congrFun h3 (ix2 r k)
      unfold Cert.Pre_dx_finite.fn at this
      pointwise at this
      exact Step.real_of_lt _ this
    choose x hx using this
    exact ⟨x, hx⟩

theorem grad_x [Cert.Pre_dx_finite.Facts] (h : Cert.Pre_DxKernelIdeal_dx_finite m) (c : Dev nD) (r : Fin 8192) (l : Fin 1024) :
    kdx (Dx.X m c r) (Dx.PN m c) (Dx.dh m c r) l = rdx (Dx.X m c r) (Dx.PN m c) (Dx.dh m c r) l := by
  obtain ⟨⟨x, hx⟩, ⟨p, hp⟩, ⟨w, hw⟩, ⟨d, hd⟩⟩ := reals m h c
  rw [show Dx.X m c r = fun k => (x r k : EReal) from funext (hx r), show Dx.PN m c = fun k => (p k : EReal) from funext hp,
    show Dx.dh m c r = fun l => ((∑ k, d r k * w l k : ℝ) : EReal) from funext fun l => by
      unfold Dx.dh
      simp only [hd, hw, ← EReal.coe_mul, Step.coe_sum]]
  exact Step.kdx_eq_rdx _ _ _ l

theorem grad_norm (c : Dev nD) (l : Fin 1024) :
    ∑ R : Fin 8192, Dx.dh m c R l * (Dx.X m c R l * rs (Dx.X m c R)) = ∑ R : Fin 8192, Dx.X m c R l * Ideal.rsqrt (ms (Dx.X m c R)) * Dx.dh m c R l :=
  Finset.sum_congr rfl fun R _ => by rw [Step.rs_eq, mul_comm]

/-- on the same arguments the reference's pieces are the kernel's. -/
theorem same (m' : (ℓ : Loc Cert.DxReferenceIdeal.nD Cert.DxReferenceIdeal.τ Cert.DxReferenceIdeal.sig) → Buf (Elt Ideal) ℓ) (c : Dev nD)
    (e : m' ((c.tc : Thread Cert.DxReferenceIdeal.nD Cert.DxReferenceIdeal.τ).loc Cert.DxReferenceIdeal.main_arg0) = m ((c.tc : Thread nD τ).loc main_arg0)
      ∧ m' ((c.tc : Thread Cert.DxReferenceIdeal.nD Cert.DxReferenceIdeal.τ).loc Cert.DxReferenceIdeal.main_arg1) = m ((c.tc : Thread nD τ).loc main_arg1)
      ∧ m' ((c.tc : Thread Cert.DxReferenceIdeal.nD Cert.DxReferenceIdeal.τ).loc Cert.DxReferenceIdeal.main_arg2) = m ((c.tc : Thread nD τ).loc main_arg2)
      ∧ m' ((c.tc : Thread Cert.DxReferenceIdeal.nD Cert.DxReferenceIdeal.τ).loc Cert.DxReferenceIdeal.main_arg3) = m ((c.tc : Thread nD τ).loc main_arg3)
      ∧ m' ((c.tc : Thread Cert.DxReferenceIdeal.nD Cert.DxReferenceIdeal.τ).loc Cert.DxReferenceIdeal.main_arg4) = m ((c.tc : Thread nD τ).loc main_arg4)) :
    Cert.DxReferenceIdeal.Dx.X m' c = Dx.X m c ∧ Cert.DxReferenceIdeal.Dx.PN m' c = Dx.PN m c
      ∧ Cert.DxReferenceIdeal.Dx.dh m' c = Dx.dh m c ∧ Cert.DxReferenceIdeal.Dx.DXN m' c = Dx.DXN m c := by
  obtain ⟨e0, e1, e2, e3, e4⟩ := e
  refine ⟨?_, ?_, ?_, ?_⟩
  · exact funext fun r => funext fun l => congrFun e0 (ix2 r l)
  · exact funext fun l => congrFun e1 (ix1 l)
  · exact funext fun r => funext fun l => Finset.sum_congr rfl fun k _ => congrArg₂ (fun a b : EReal => a * b) (congrFun e3 (ix2 r k)) (congrFun e2 (ix2 l k))
  · exact funext fun r => funext fun l => congrFun e4 (ix2 r l)

theorem algebraic [Cert.DxKernelIdeal.Facts] [Cert.DxReferenceIdeal.Facts] [Cert.Pre_dx_finite.Facts] :
    Cert.algebraic_DxKernelIdeal_DxReferenceIdeal_pre_dx_finite := by
  intro m g m' g' hpre hm
  refine ⟨_, _, Cert.DxKernelIdeal.Value.run_blocks m g, ?_⟩
  refine (θ_run _ _ _).mono (fun r h c => ⟨(h c).1.trans ?_, (h c).2.1.trans ?_, (h c).2.2⟩) (Cert.DxReferenceIdeal.Dx.run m' g')
  · obtain ⟨e0, e1, e2, e3⟩ := same m m' c (hm c)
    rw [Dx.final9, e0, e1, e2, e3]
    funext i
    exact congrArg (· + Dx.DXN m c (i 0) (i 1)) (grad_x m hpre c (i 0) (i 1)).symm
  · obtain ⟨e0, e1, e2, e3⟩ := same m m' c (hm c)
    rw [Dx.final10, e0, e2]
    funext i
    exact congrArg (fun v => if (i 0 : ℕ) = 0 then v else (0 : EReal)) (grad_norm m c (i 1)).symm

end Dx

end
-- ==== Proof.Ob.Columns.lean ====
module

public import proofs.«01_k».proof.Proof.Reals
public import Idealize.ShloMosaic.Lib.Pointwise
public import Idealize.ShloMosaic.Lib.Pipeline.ValueKit

/-! The 2048 columns that the output projection takes: the results of the three mixers side by side. -/

@[expose] public section

set_option maxRecDepth 16384

noncomputable section

open Idealize.ShloMosaic Idealize.ShloMosaic.TcCoe Idealize.SL.Sem
open Idealize.ShloMosaic.Pipeline (Dat)
open scoped BigOperators

namespace Step

/-- three groups of columns side by side. -/
def mix {α : Type} (a : Fin 512 → α) (b : Fin 1024 → α) (o : Fin 512 → α) (k : Fin 2048) : α :=
  if h : (k : ℕ) < 512 then a ⟨k, h⟩ else if h' : (k : ℕ) - 512 < 1024 then b ⟨k - 512, h'⟩ else o ⟨k - 512 - 1024, by omega⟩

/-- where each of the three groups lies among the 2048 columns. -/
def colA (k : Fin 512) : Fin 2048 := ⟨k, by omega⟩
def colB (k : Fin 1024) : Fin 2048 := ⟨512 + k, by omega⟩
def colO (k : Fin 512) : Fin 2048 := ⟨1536 + k, by omega⟩

theorem mix_colA {α : Type} (a : Fin 512 → α) (b : Fin 1024 → α) (o : Fin 512 → α) (k : Fin 512) : mix a b o (colA k) = a k :=
  dif_pos k.isLt

theorem mix_colB {α : Type} (a : Fin 512 → α) (b : Fin 1024 → α) (o : Fin 512 → α) (k : Fin 1024) : mix a b o (colB k) = b k := by
  have h : ¬ ((colB k : Fin 2048) : ℕ) < 512 := by simp [colB]
  have h' : ((colB k : Fin 2048) : ℕ) - 512 < 1024 := by simp [colB]
  refine (dif_neg h).trans ((dif_pos h').trans (congrArg b (Fin.ext ?_)))
  simp [colB]

theorem mix_colO {α : Type} (a : Fin 512 → α) (b : Fin 1024 → α) (o : Fin 512 → α) (k : Fin 512) : mix a b o (colO k) = o k := by
  have h : ¬ ((colO k : Fin 2048) : ℕ) < 512 := by simp only [colO]; omega
  have h' : ¬ ((colO k : Fin 2048) : ℕ) - 512 < 1024 := by simp only [colO]; omega
  refine (dif_neg h).trans ((dif_neg h').trans (congrArg o (Fin.ext ?_)))
  simp only [colO]
  omega

/-- a sum over the 2048 columns, group by group. -/
theorem sum_groups (f : Fin 2048 → EReal) : (∑ k, f (colA k)) + (∑ k, f (colB k)) + (∑ k, f (colO k)) = ∑ k, f k := by
  let F : ℕ → EReal := fun k => if h : k < 2048 then f ⟨k, h⟩ else 0
  have hF : ∀ k (h : k < 2048), f ⟨k, h⟩ = F k := fun k h => by simp only [F, dif_pos h]
  simp only [colA, colB, colO, hF]
  rw [Fin.sum_univ_eq_sum_range (fun k => F k), Fin.sum_univ_eq_sum_range (fun k => F (512 + k)), Fin.sum_univ_eq_sum_range (fun k => F (1536 + k)),
    Fin.sum_univ_eq_sum_range (fun k => F k) 2048, Finset.sum_range_add F 1536 512, Finset.sum_range_add F 512 1024]

theorem sum_mix (a : Fin 512 → EReal) (b : Fin 1024 → EReal) (o : Fin 512 → EReal) (g : Fin 2048 → EReal) :
    (∑ k, a k * g (colA k)) + (∑ k, b k * g (colB k)) + (∑ k, o k * g (colO k)) = ∑ k, mix a b o k * g k := by
  rw [← sum_groups]
  simp only [mix_colA, mix_colB, mix_colO]

end Step

end
-- ==== Proof.Ob.Inputs.lean ====
module

public import proofs.«01_k».proof.Proof.Gen.ObKernelIdeal.Frame
public import proofs.«01_k».proof.Proof.Ob.Columns
public import proofs.«01_k».proof.Proof.Rms
public import proofs.«01_k».proof.Proof.Pad8
public import Idealize.ShloMosaic.Lib.Pointwise
public import Idealize.ShloMosaic.Lib.Claim
public import Idealize.ShloMosaic.Lib.StableHlo.RunRead
public import Idealize.ShloMosaic.Lib.Pipeline.ValueKit

/-! The blocks that `outproj` and `outproj_bwd` read, in the arguments of the program, and the rows `out` that the
    first call leaves to the second. -/

@[expose] public section

set_option maxRecDepth 16384

noncomputable section

open Idealize.ShloMosaic Idealize.ShloMosaic.TcCoe Idealize.SL.Sem
open Idealize.ShloMosaic.Pipeline (Dat)
open scoped BigOperators

namespace Cert.ObKernelIdeal.Ob

open Cert.ObKernelIdeal Cert.ObKernelIdeal.Gen
open Step (mix colA colB colO)

variable (m : (ℓ : Loc nD τ sig) → Buf (Elt Ideal) ℓ) (ρ : Dev nD → PrngReg)

/-- every window's block index of the first call. -/
theorem idx0 : ∀ t : Fin cfg0.N, win0_0.index t = ![t.val, 0]
    ∧ win0_1.index t = ![t.val, 0]
    ∧ win0_2.index t = ![t.val, 0]
    ∧ win0_3.index t = ![0, 0]
    ∧ win0_6.index t = ![t.val, 0] :=
  (by decide +kernel : ∀ t : Fin grid0.N, _)

/-- every window's block index of the second call. -/
theorem idx1 : ∀ t : Fin cfg1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![0, 0]
    ∧ win1_6.index t = ![0, 0]
    ∧ win1_7.index t = ![t.val, 0]
    ∧ win1_8.index t = ![t.val, 0]
    ∧ win1_9.index t = ![t.val, 0]
    ∧ win1_10.index t = ![0, 0]
    ∧ win1_11.index t = ![0, 0]
    ∧ win1_12.index t = ![0, 0] :=
  (by decide +kernel : ∀ t : Fin grid1.N, _)

theorem tlt0 (t : Fin cfg0.N) : t.val < 8 := lt_of_lt_of_eq t.isLt N_0
theorem tlt (t : Fin cfg1.N) : t.val < 8 := lt_of_lt_of_eq t.isLt N_1

/-- the row of the whole array that row `r` of point `t`'s block is. -/
abbrev row0 (t : Fin cfg0.N) (r : Fin 1024) : Fin 8192 := ⟨t.val * 1024 + r, by have := tlt0 t; omega⟩
abbrev row (t : Fin cfg1.N) (r : Fin 1024) : Fin 8192 := ⟨t.val * 1024 + r, by have := tlt t; omega⟩

/-! The program's arguments, entry by entry. -/

abbrev A (c : Dev nD) (r : Fin 8192) (k : Fin 512) : EReal := (m ((c : Thread nD τ).loc main_arg1) : FVec Ideal S8192x512 .f32) (ix2 r k)
abbrev B (c : Dev nD) (r : Fin 8192) (k : Fin 1024) : EReal := (m ((c : Thread nD τ).loc main_arg2) : FVec Ideal S8192x1024 .f32) (ix2 r k)
abbrev O (c : Dev nD) (r : Fin 8192) (k : Fin 512) : EReal := (m ((c : Thread nD τ).loc main_arg3) : FVec Ideal S8192x512 .f32) (ix2 r k)
abbrev W (c : Dev nD) (k : Fin 2048) (l : Fin 1024) : EReal := (m ((c : Thread nD τ).loc main_arg4) : FVec Ideal S2048x1024 .f32) (ix2 k l)
abbrev PN (c : Dev nD) (l : Fin 1024) : EReal := (m ((c : Thread nD τ).loc main_arg5) : FVec Ideal S1024 .f32) (ix1 l)
abbrev DXN (c : Dev nD) (r : Fin 8192) (l : Fin 1024) : EReal := (m ((c : Thread nD τ).loc main_arg6) : FVec Ideal S8192x1024 .f32) (ix2 r l)

/-- the mixers' results side by side. -/
def mixed (c : Dev nD) (r : Fin 8192) : Fin 2048 → EReal := mix (A m c r) (B m c r) (O m c r)

/-- the rows that the norm takes. -/
def out (c : Dev nD) (r : Fin 8192) (l : Fin 1024) : EReal := ∑ k, mixed m c r k * W m c k l

/-! What the host lines leave in the calls' operands. -/

theorem v0 (c : Dev nD) : V1 m ρ c main_v0 = truncf (F := Ideal) .bf16 (m ((c : Thread nD τ).loc main_arg1)) bitsLt_bf16_f32 := by
  show StableHlo.after _ _ _ = _
  after_reads_simp

theorem v1 (c : Dev nD) : V1 m ρ c main_v1 = truncf (F := Ideal) .bf16 (m ((c : Thread nD τ).loc main_arg2)) bitsLt_bf16_f32 := by
  show StableHlo.after _ _ _ = _
  after_reads_simp

theorem v2 (c : Dev nD) : V1 m ρ c main_v2 = truncf (F := Ideal) .bf16 (m ((c : Thread nD τ).loc main_arg3)) bitsLt_bf16_f32 := by
  show StableHlo.after _ _ _ = _
  after_reads_simp

theorem v3 (c : Dev nD) : V1 m ρ c main_v3 = truncf (F := Ideal) .bf16 (m ((c : Thread nD τ).loc main_arg4)) bitsLt_bf16_f32 := by
  show StableHlo.after _ _ _ = _
  after_reads_simp

theorem v7 (c : Dev nD) : V1 m ρ c main_v7 = Host.scatter scatter_S8x1024_S1_S1x1024_01_n_0_0 (fun _ b => b)
      (broadcastInDim S8x1024 ![] bcast_S_S8x1024 (constant (F := Ideal) S_ FTy.f32 0x00000000#32))
      (broadcastInDim S1 ![] bcast_S_S1 (constantI S_ 32 0#32)) (shapeCast S1x1024 (m ((c : Thread nD τ).loc main_arg5)) shapeCasts_S1024_S1x1024) := by
  show StableHlo.after _ _ _ = _
  after_reads_simp
  rfl

theorem arg6 (c : Dev nD) : V1 m ρ c main_arg6 = m ((c : Thread nD τ).loc main_arg6) := by
  show StableHlo.after _ _ _ = _
  after_reads_simp

/-! The first call's blocks. -/

theorem a0 (c : Dev nD) (t : Fin cfg0.N) (r : Fin 1024) (k : Fin 512) : iblk0 (V1 m ρ) c 0 t (ix2 r k) = A m c (row0 t r) k := by
  blk_simp [iblk0, idx0 t]
  rw [v0]
  pointwise
  blk_ext [idx0 t]

theorem a1 (c : Dev nD) (t : Fin cfg0.N) (r : Fin 1024) (k : Fin 1024) : iblk0 (V1 m ρ) c 1 t (ix2 r k) = B m c (row0 t r) k := by
  blk_simp [iblk0, idx0 t]
  rw [v1]
  pointwise
  blk_ext [idx0 t]

theorem a2 (c : Dev nD) (t : Fin cfg0.N) (r : Fin 1024) (k : Fin 512) : iblk0 (V1 m ρ) c 2 t (ix2 r k) = O m c (row0 t r) k := by
  blk_simp [iblk0, idx0 t]
  rw [v2]
  pointwise
  blk_ext [idx0 t]

theorem a3 (c : Dev nD) (t : Fin cfg0.N) (k : Fin 2048) (l : Fin 1024) : iblk0 (V1 m ρ) c 3 t (ix2 k l) = W m c k l := by
  blk_simp [iblk0, idx0 t]
  rw [v3]
  pointwise
  blk_ext [idx0 t]

/-! What the first call leaves, and what the second one finds. -/

theorem point6 (c : Dev nD) (t : Fin cfg0.N) (r : Fin 1024) (l : Fin 1024) :
    (dat0 (V1 m ρ) c).after 6 t (ix2 r l) = out m c (row0 t r) l := by
  rw [after0_6]
  unfold out0_6
  frame_out
  pointwise [k0_pay1, dot_S1024x512_S512x1024_S1024x1024_1_0_0_1_n_n]
  simp only [a0, a1, a2, a3]
  exact Step.sum_mix (A m c (row0 t r)) (B m c (row0 t r)) (O m c (row0 t r)) fun k => W m c k l

theorem final6 (c : Dev nD) : (dat0 (V1 m ρ) c).arrAt 6 cfg0.N = (fun i : S8192x1024.Idx => out m c (i 0) (i 1)) := by
  refine (dat0 (V1 m ρ) c).arrAt_eq_of_covers 6 _ (by decide +kernel) fun t hf y => ?_
  blk_simp
  obtain ⟨r, l, rfl⟩ : ∃ (r : Fin 1024) (l : Fin 1024), y = ix2 r l := ⟨y 0, y 1, by funext a; fin_cases a <;> rfl⟩
  rw [point6]
  have e0 : (((cfg0.win 6).blk t).view.emb (ix2 r l)) 0 = row0 t r := by
    apply Fin.ext
    blk_simp [idx0 t]
  have e1 : (((cfg0.win 6).blk t).view.emb (ix2 r l)) 1 = l := by
    apply Fin.ext
    blk_simp [idx0 t]
  rw [e0, e1]

theorem u0 (c : Dev nD) : V2 m ρ c main_v0 = V1 m ρ c main_v0 := W2_of m ρ c main_v0 (by decide)
theorem u1 (c : Dev nD) : V2 m ρ c main_v1 = V1 m ρ c main_v1 := W2_of m ρ c main_v1 (by decide)
theorem u2 (c : Dev nD) : V2 m ρ c main_v2 = V1 m ρ c main_v2 := W2_of m ρ c main_v2 (by decide)
theorem u3 (c : Dev nD) : V2 m ρ c main_v3 = V1 m ρ c main_v3 := W2_of m ρ c main_v3 (by decide)
theorem u7 (c : Dev nD) : V2 m ρ c main_v7 = V1 m ρ c main_v7 := W2_of m ρ c main_v7 (by decide)
theorem u6 (c : Dev nD) : V2 m ρ c main_arg6 = V1 m ρ c main_arg6 := W2_of m ρ c main_arg6 (by decide)
theorem u8 (c : Dev nD) : V2 m ρ c main_v8_0 = (fun i : S8192x1024.Idx => out m c (i 0) (i 1)) :=
  (W2_arr m ρ c 6).trans (final6 m ρ c)

/-! The second call's blocks. -/

theorem b0 (c : Dev nD) (t : Fin cfg1.N) (r : Fin 1024) (l : Fin 1024) : iblk1 (V2 m ρ) c 0 t (ix2 r l) = DXN m c (row t r) l := by
  blk_simp [iblk1, idx1 t]
  rw [u6, arg6]
  blk_ext [idx1 t]

theorem b1 (c : Dev nD) (t : Fin cfg1.N) (r : Fin 1024) (l : Fin 1024) : iblk1 (V2 m ρ) c 1 t (ix2 r l) = out m c (row t r) l := by
  blk_simp [iblk1, idx1 t]
  rw [u8]
  have e0 : (((cfg1.win 1).blk t).view.emb (ix2 r l)) 0 = row t r := by
    apply Fin.ext
    blk_simp [idx1 t]
  have e1 : (((cfg1.win 1).blk t).view.emb (ix2 r l)) 1 = l := by
    apply Fin.ext
    blk_simp [idx1 t]
  exact congrArg₂ (out m c) e0 e1

theorem b2 (c : Dev nD) (t : Fin cfg1.N) (r : Fin 1024) (k : Fin 512) : iblk1 (V2 m ρ) c 2 t (ix2 r k) = A m c (row t r) k := by
  blk_simp [iblk1, idx1 t]
  rw [u0, v0]
  pointwise
  blk_ext [idx1 t]

theorem b3 (c : Dev nD) (t : Fin cfg1.N) (r : Fin 1024) (k : Fin 1024) : iblk1 (V2 m ρ) c 3 t (ix2 r k) = B m c (row t r) k := by
  blk_simp [iblk1, idx1 t]
  rw [u1, v1]
  pointwise
  blk_ext [idx1 t]

theorem b4 (c : Dev nD) (t : Fin cfg1.N) (r : Fin 1024) (k : Fin 512) : iblk1 (V2 m ρ) c 4 t (ix2 r k) = O m c (row t r) k := by
  blk_simp [iblk1, idx1 t]
  rw [u2, v2]
  pointwise
  blk_ext [idx1 t]

theorem b5 (c : Dev nD) (t : Fin cfg1.N) (k : Fin 2048) (l : Fin 1024) : iblk1 (V2 m ρ) c 5 t (ix2 k l) = W m c k l := by
  blk_simp [iblk1, idx1 t]
  rw [u3, v3]
  pointwise
  blk_ext [idx1 t]

theorem v7_at (c : Dev nD) (l : Fin 1024) : (V1 m ρ c main_v7 : FVec Ideal S8x1024 .f32) (ix2 0 l) = PN m c l := by
  rw [v7]
  refine (Step.scatter_rows scatter_S8x1024_S1_S1x1024_01_n_0_0 rfl rfl rfl _ (fun _ => rfl) _ _ (0 : Fin 1) _ _ rfl).trans ?_
  pointwise

theorem b6 (c : Dev nD) (t : Fin cfg1.N) (l : Fin 1024) : iblk1 (V2 m ρ) c 6 t (ix2 0 l) = PN m c l := by
  rw [← v7_at m ρ c l]
  blk_simp [iblk1, idx1 t]
  rw [u7]
  blk_ext [idx1 t]

end Cert.ObKernelIdeal.Ob

end
-- ==== Proof.Ob.Kernel.lean ====
module

public import proofs.«01_k».proof.Proof.Ob.Inputs
public import proofs.«01_k».proof.Proof.Dx.Kernel
public import Idealize.ShloMosaic.Lib.Pipeline.ReadBack

/-! What the call `outproj_bwd` leaves in its six results, entry by entry, in the arguments of the program. -/

@[expose] public section

set_option maxRecDepth 16384

noncomputable section

open Idealize.ShloMosaic Idealize.ShloMosaic.TcCoe Idealize.SL.Sem
open Idealize.ShloMosaic.Pipeline (Dat)
open scoped BigOperators

namespace Cert.ObKernelIdeal.Ob

open Cert.ObKernelIdeal Cert.ObKernelIdeal.Gen
open Step (rs kdx mix colA colB colO)

variable (m : (ℓ : Loc nD τ sig) → Buf (Elt Ideal) ℓ) (ρ : Dev nD → PrngReg)

/-- the gradient of the rows that the norm takes. -/
def dout (c : Dev nD) (r : Fin 8192) : Fin 1024 → EReal := kdx (out m c r) (PN m c) (DXN m c r)

theorem point7 (c : Dev nD) (t : Fin cfg1.N) (r : Fin 1024) (k : Fin 512) :
    (dat1 (V2 m ρ) c).after 7 t (ix2 r k) = (∑ l, dout m c (row t r) l * W m c (colA k) l : EReal) := by
  rw [after1_7]
  by_cases h0 : (t : ℕ) % 8 = 0
  · rw [outsAt1_A (V2 m ρ) c t h0 (by omega)]
    frame_out
    pointwise [k1_pay6, k1_pay7, k1_pay8, k1_pay9, k1_pay14, k1_pay15, k1_pay16, k1_pay17, dot_S1024x1024_S512x1024_S1024x512_1_1_0_0_n_n]
    simp only [b0, b1, b5, b6]
    rfl
  by_cases h1 : (t : ℕ) % 8 = 7
  · rw [outsAt1_C (V2 m ρ) c t h0 h1]
    frame_out
    pointwise [k1_pay6, k1_pay7, k1_pay8, k1_pay9, k1_pay14, k1_pay15, k1_pay16, k1_pay17, dot_S1024x1024_S512x1024_S1024x512_1_1_0_0_n_n]
    simp only [b0, b1, b5, b6]
    rfl
  · rw [outsAt1_B (V2 m ρ) c t h0 h1]
    frame_out
    pointwise [k1_pay6, k1_pay7, k1_pay8, k1_pay9, k1_pay14, k1_pay15, k1_pay16, k1_pay17, dot_S1024x1024_S512x1024_S1024x512_1_1_0_0_n_n]
    simp only [b0, b1, b5, b6]
    rfl

/-- the first result. -/
theorem final7 (c : Dev nD) : (dat1 (V2 m ρ) c).arrAt 7 cfg1.N = (fun i : S8192x512.Idx => ∑ l, dout m c (i 0) l * W m c (colA (i 1)) l) := by
  refine (dat1 (V2 m ρ) c).arrAt_eq_of_covers 7 _ (by decide +kernel) fun t hf y => ?_
  blk_simp
  obtain ⟨r, k, rfl⟩ : ∃ (r : Fin 1024) (k : Fin 512), y = ix2 r k := ⟨y 0, y 1, by funext a; fin_cases a <;> rfl⟩
  rw [point7]
  have e0 : (((cfg1.win 7).blk t).view.emb (ix2 r k)) 0 = row t r := by
    apply Fin.ext
    blk_simp [idx1 t]
  have e1 : (((cfg1.win 7).blk t).view.emb (ix2 r k)) 1 = k := by
    apply Fin.ext
    blk_simp [idx1 t]
  rw [e0, e1]

theorem point8 (c : Dev nD) (t : Fin cfg1.N) (r : Fin 1024) (k : Fin 1024) :
    (dat1 (V2 m ρ) c).after 8 t (ix2 r k) = (∑ l, dout m c (row t r) l * W m c (colB k) l : EReal) := by
  rw [after1_8]
  by_cases h0 : (t : ℕ) % 8 = 0
  · rw [outsAt1_A (V2 m ρ) c t h0 (by omega)]
    frame_out
    pointwise [k1_pay6, k1_pay7, k1_pay8, k1_pay9, k1_pay14, k1_pay15, k1_pay16, k1_pay17, dot_S1024x1024_S1024x1024_S1024x1024_1_1_0_0_n_n]
    simp only [b0, b1, b5, b6]
    rfl
  by_cases h1 : (t : ℕ) % 8 = 7
  · rw [outsAt1_C (V2 m ρ) c t h0 h1]
    frame_out
    pointwise [k1_pay6, k1_pay7, k1_pay8, k1_pay9, k1_pay14, k1_pay15, k1_pay16, k1_pay17, dot_S1024x1024_S1024x1024_S1024x1024_1_1_0_0_n_n]
    simp only [b0, b1, b5, b6]
    rfl
  · rw [outsAt1_B (V2 m ρ) c t h0 h1]
    frame_out
    pointwise [k1_pay6, k1_pay7, k1_pay8, k1_pay9, k1_pay14, k1_pay15, k1_pay16, k1_pay17, dot_S1024x1024_S1024x1024_S1024x1024_1_1_0_0_n_n]
    simp only [b0, b1, b5, b6]
    rfl

/-- the second result. -/
theorem final8 (c : Dev nD) : (dat1 (V2 m ρ) c).arrAt 8 cfg1.N = (fun i : S8192x1024.Idx => ∑ l, dout m c (i 0) l * W m c (colB (i 1)) l) := by
  refine (dat1 (V2 m ρ) c).arrAt_eq_of_covers 8 _ (by decide +kernel) fun t hf y => ?_
  blk_simp
  obtain ⟨r, k, rfl⟩ : ∃ (r : Fin 1024) (k : Fin 1024), y = ix2 r k := ⟨y 0, y 1, by funext a; fin_cases a <;> rfl⟩
  rw [point8]
  have e0 : (((cfg1.win 8).blk t).view.emb (ix2 r k)) 0 = row t r := by
    apply Fin.ext
    blk_simp [idx1 t]
  have e1 : (((cfg1.win 8).blk t).view.emb (ix2 r k)) 1 = k := by
    apply Fin.ext
    blk_simp [idx1 t]
  rw [e0, e1]

theorem point9 (c : Dev nD) (t : Fin cfg1.N) (r : Fin 1024) (k : Fin 512) :
    (dat1 (V2 m ρ) c).after 9 t (ix2 r k) = (∑ l, dout m c (row t r) l * W m c (colO k) l : EReal) := by
  rw [after1_9]
  by_cases h0 : (t : ℕ) % 8 = 0
  · rw [outsAt1_A (V2 m ρ) c t h0 (by omega)]
    frame_out
    pointwise [k1_pay6, k1_pay7, k1_pay8, k1_pay9, k1_pay14, k1_pay15, k1_pay16, k1_pay17, dot_S1024x1024_S512x1024_S1024x512_1_1_0_0_n_n]
    simp only [b0, b1, b5, b6]
    rfl
  by_cases h1 : (t : ℕ) % 8 = 7
  · rw [outsAt1_C (V2 m ρ) c t h0 h1]
    frame_out
    pointwise [k1_pay6, k1_pay7, k1_pay8, k1_pay9, k1_pay14, k1_pay15, k1_pay16, k1_pay17, dot_S1024x1024_S512x1024_S1024x512_1_1_0_0_n_n]
    simp only [b0, b1, b5, b6]
    rfl
  · rw [outsAt1_B (V2 m ρ) c t h0 h1]
    frame_out
    pointwise [k1_pay6, k1_pay7, k1_pay8, k1_pay9, k1_pay14, k1_pay15, k1_pay16, k1_pay17, dot_S1024x1024_S512x1024_S1024x512_1_1_0_0_n_n]
    simp only [b0, b1, b5, b6]
    rfl

/-- the third result. -/
theorem final9 (c : Dev nD) : (dat1 (V2 m ρ) c).arrAt 9 cfg1.N = (fun i : S8192x512.Idx => ∑ l, dout m c (i 0) l * W m c (colO (i 1)) l) := by
  refine (dat1 (V2 m ρ) c).arrAt_eq_of_covers 9 _ (by decide +kernel) fun t hf y => ?_
  blk_simp
  obtain ⟨r, k, rfl⟩ : ∃ (r : Fin 1024) (k : Fin 512), y = ix2 r k := ⟨y 0, y 1, by funext a; fin_cases a <;> rfl⟩
  rw [point9]
  have e0 : (((cfg1.win 9).blk t).view.emb (ix2 r k)) 0 = row t r := by
    apply Fin.ext
    blk_simp [idx1 t]
  have e1 : (((cfg1.win 9).blk t).view.emb (ix2 r k)) 1 = k := by
    apply Fin.ext
    blk_simp [idx1 t]
  rw [e0, e1]

end Cert.ObKernelIdeal.Ob

end
-- ==== Proof.Ob.Sums.lean ====
module

public import proofs.«01_k».proof.Proof.Ob.Kernel

/-! The results of `outproj_bwd` that are sums over all rows: the gradients of the norm's weight and of the
    projection, entry by entry. -/

@[expose] public section

set_option maxRecDepth 16384

noncomputable section

open Idealize.ShloMosaic Idealize.ShloMosaic.TcCoe Idealize.SL.Sem
open Idealize.ShloMosaic.Pipeline (Dat)
open scoped BigOperators

namespace Cert.ObKernelIdeal.Ob

open Cert.ObKernelIdeal Cert.ObKernelIdeal.Gen
open Step (rs kdx mix colA colB colO mix_colA mix_colB mix_colO)

variable (m : (ℓ : Loc nD τ sig) → Buf (Elt Ideal) ℓ) (ρ : Dev nD → PrngReg)

/-- what one point adds to the gradient of the norm's weight. -/
def part10 (c : Dev nD) (t : Fin cfg1.N) (l : Fin 1024) : EReal :=
  ∑ r : Fin 1024, DXN m c (row t r) l * (out m c (row t r) l * rs (out m c (row t r)))

/-- what one point adds to the gradient of the projection. -/
def part11 (c : Dev nD) (t : Fin cfg1.N) (k : Fin 2048) (l : Fin 1024) : EReal :=
  ∑ r : Fin 1024, mixed m c (row t r) k * dout m c (row t r) l

/-- the fourth result: row 0 the gradient of the norm's weight, the other rows zero. -/
theorem final10 (c : Dev nD) : (dat1 (V2 m ρ) c).arrAt 10 cfg1.N =
    (fun i : S8x1024.Idx => if (i 0 : ℕ) = 0 then ∑ R : Fin 8192, DXN m c R (i 1) * (out m c R (i 1) * rs (out m c R)) else 0) := by
  refine (dat1 (V2 m ρ) c).arrAt_eq_of_after_last 10 t1_7 (by decide +kernel) _ fun j => ?_
  blk_simp
  rw [after1_10, Pipeline.eq_sum_fin_of_reset_step_apply_last (fun n h => (outsAt1 (V2 m ρ) c n h).2.2.2.1) 8 (fun _ => 0)
    (fun t (j : S8x1024.Idx) => if (j 0 : ℕ) = 0 then part10 m c t (j 1) else (0 : EReal))
    (fun t h j => by
      rw [outsAt1_A (V2 m ρ) c t h (by omega)]
      obtain ⟨q, l, rfl⟩ : ∃ (q : Fin 8) (l : Fin 1024), j = ix2 q l := ⟨j 0, j 1, by funext a; fin_cases a <;> rfl⟩
      frame_out
      pointwise [k1_pay4, k1_pay6, k1_pay7, k1_pay8, k1_pay10, k1_pay11, k1_pay12, k1_pay13]
      simp only [b0, b1, Step.select_row]
      rfl)
    (fun t h j => by
      obtain ⟨q, l, rfl⟩ : ∃ (q : Fin 8) (l : Fin 1024), j = ix2 q l := ⟨j 0, j 1, by funext a; fin_cases a <;> rfl⟩
      by_cases h1 : (t : ℕ) % 8 = 7
      · rw [outsAt1_C (V2 m ρ) c t h h1]
        frame_out
        pointwise [k1_pay4, k1_pay6, k1_pay7, k1_pay8, k1_pay10, k1_pay11, k1_pay12, k1_pay13]
        simp only [b0, b1, Step.select_row]
        rfl
      · rw [outsAt1_B (V2 m ρ) c t h h1]
        frame_out
        pointwise [k1_pay4, k1_pay6, k1_pay7, k1_pay8, k1_pay10, k1_pay11, k1_pay12, k1_pay13]
        simp only [b0, b1, Step.select_row]
        rfl)
    (le_of_eq N_1) t1_7 rfl j, zero_add]
  by_cases h : (j 0 : ℕ) = 0
  · simp only [if_pos h]
    unfold part10
    refine Eq.trans ?_ (if_pos h).symm
    exact Fin.sum_mul_add_congr fun s k hl => rfl
  · simp only [if_neg h]
    exact (Finset.sum_const_zero (M := EReal)).trans (if_neg h).symm

theorem covered (k : Fin 2048) (l : Fin 1024) : (ix2 k l : S2048x1024.Idx) ∈ (Rect.unit (s := S2048x1024) ![1536, 0] ![512, 1024] inb_S2048x1024_S512x1024_1536_0).set
    ∨ (ix2 k l : S2048x1024.Idx) ∈ (Rect.unit (s := S2048x1024) ![512, 0] ![1024, 1024] inb_S2048x1024_S1024x1024_512_0).set
    ∨ (ix2 k l : S2048x1024.Idx) ∈ (Rect.unit (s := S2048x1024) ![0, 0] ![512, 1024] inb_S2048x1024_S512x1024_0_0).set := by
  simp only [Rect.mem_set_unit, Fin.forall_fin_two]
  have := k.isLt
  have := l.isLt
  by_cases h : (k : ℕ) < 512
  · exact .inr (.inr ⟨⟨Nat.zero_le _, by simpa using h⟩, ⟨Nat.zero_le _, by simp⟩⟩)
  by_cases h' : (k : ℕ) < 1536
  · exact .inr (.inl ⟨⟨by simp; omega, by simp; omega⟩, ⟨Nat.zero_le _, by simp⟩⟩)
  · exact .inl ⟨⟨by simp; omega, by simp⟩, ⟨Nat.zero_le _, by simp⟩⟩

theorem emb0 (k : Fin 512) (l : Fin 1024) : (Rect.unit (s := S2048x1024) ![0, 0] ![512, 1024] inb_S2048x1024_S512x1024_0_0).emb (ix2 k l) = (ix2 (colA k) l : S2048x1024.Idx) := by
  funext a
  fin_cases a <;> apply Fin.ext <;> simp [colA]

theorem emb1 (k : Fin 1024) (l : Fin 1024) : (Rect.unit (s := S2048x1024) ![512, 0] ![1024, 1024] inb_S2048x1024_S1024x1024_512_0).emb (ix2 k l) = (ix2 (colB k) l : S2048x1024.Idx) := by
  funext a
  fin_cases a <;> apply Fin.ext <;> simp [colB]

theorem emb2 (k : Fin 512) (l : Fin 1024) : (Rect.unit (s := S2048x1024) ![1536, 0] ![512, 1024] inb_S2048x1024_S512x1024_1536_0).emb (ix2 k l) = (ix2 (colO k) l : S2048x1024.Idx) := by
  funext a
  fin_cases a <;> apply Fin.ext <;> simp [colO]

/-- the projection's gradient after a point that found `z` there. -/
def after11 (z : FVec Ideal S2048x1024 .f32) (c : Dev nD) (t : Fin cfg1.N) : FVec Ideal S2048x1024 .f32 :=
  fun i => z i + part11 m c t (i 0) (i 1)

theorem after11_colA (z : FVec Ideal S2048x1024 .f32) (c : Dev nD) (t : Fin cfg1.N) (k : Fin 512) (l : Fin 1024) :
    after11 m z c t ((Rect.unit (s := S2048x1024) ![0, 0] ![512, 1024] inb_S2048x1024_S512x1024_0_0).emb (ix2 k l))
      = z (ix2 (colA k) l) + ∑ r : Fin 1024, A m c (row t r) k * dout m c (row t r) l := by
  rw [emb0]
  show z (ix2 (colA k) l) + part11 m c t (colA k) l = _
  unfold part11 mixed
  simp only [mix_colA]

theorem after11_colB (z : FVec Ideal S2048x1024 .f32) (c : Dev nD) (t : Fin cfg1.N) (k : Fin 1024) (l : Fin 1024) :
    after11 m z c t ((Rect.unit (s := S2048x1024) ![512, 0] ![1024, 1024] inb_S2048x1024_S1024x1024_512_0).emb (ix2 k l))
      = z (ix2 (colB k) l) + ∑ r : Fin 1024, B m c (row t r) k * dout m c (row t r) l := by
  rw [emb1]
  show z (ix2 (colB k) l) + part11 m c t (colB k) l = _
  unfold part11 mixed
  simp only [mix_colB]

theorem after11_colO (z : FVec Ideal S2048x1024 .f32) (c : Dev nD) (t : Fin cfg1.N) (k : Fin 512) (l : Fin 1024) :
    after11 m z c t ((Rect.unit (s := S2048x1024) ![1536, 0] ![512, 1024] inb_S2048x1024_S512x1024_1536_0).emb (ix2 k l))
      = z (ix2 (colO k) l) + ∑ r : Fin 1024, O m c (row t r) k * dout m c (row t r) l := by
  rw [emb2]
  show z (ix2 (colO k) l) + part11 m c t (colO k) l = _
  unfold part11 mixed
  simp only [mix_colO]

theorem first11 (c : Dev nD) (t : Fin cfg1.N) (h : (t : ℕ) % 8 = 0) (k : Fin 2048) (l : Fin 1024) :
    (outsAt1 (V2 m ρ) c t.val t.isLt).2.2.2.2.1 (ix2 k l) = (0 : EReal) + part11 m c t k l := by
  rw [outsAt1_A (V2 m ρ) c t h (by omega)]
  frame_out
  simp (discharger := decide) only [View.readCov_skip, View.readCov_fill]
  refine View.canon_append_of_piecesOf (Val := Elt Ideal) (s := S2048x1024) (e := .f32) (after11 m (fun _ => (0 : EReal)) c t) [_] [_, _, _] ⟨fun x => ?_, fun x => ?_, fun x => ?_, trivial⟩ _ ?_
  · obtain ⟨a, b, rfl⟩ : ∃ (a : Fin 512) (b : Fin 1024), x = ix2 a b := ⟨x 0, x 1, by funext a; fin_cases a <;> rfl⟩
    refine Eq.trans ?_ (after11_colO m _ c t a b).symm
    pointwise [k1_pay2, k1_pay5, k1_pay6, k1_pay7, k1_pay8, k1_pay9, k1_pay14, dot_S1024x512_S1024x1024_S512x1024_0_0_1_1_n_n]
    simp only [b0, b1, b4, b6]
    rfl
  · obtain ⟨a, b, rfl⟩ : ∃ (a : Fin 1024) (b : Fin 1024), x = ix2 a b := ⟨x 0, x 1, by funext a; fin_cases a <;> rfl⟩
    refine Eq.trans ?_ (after11_colB m _ c t a b).symm
    pointwise [k1_pay1, k1_pay5, k1_pay6, k1_pay7, k1_pay8, k1_pay9, k1_pay14, k1_pay19, dot_S1024x1024_S1024x1024_S1024x1024_0_0_1_1_n_n]
    simp only [b0, b1, b3, b6]
    rfl
  · obtain ⟨a, b, rfl⟩ : ∃ (a : Fin 512) (b : Fin 1024), x = ix2 a b := ⟨x 0, x 1, by funext a; fin_cases a <;> rfl⟩
    refine Eq.trans ?_ (after11_colA m _ c t a b).symm
    pointwise [k1_pay18, k1_pay5, k1_pay6, k1_pay7, k1_pay8, k1_pay9, k1_pay14, dot_S1024x512_S1024x1024_S512x1024_0_0_1_1_n_n]
    simp only [b0, b1, b2, b6]
    rfl
  · rcases covered k l with h | h | h
    · exact ⟨_, List.mem_cons_self, h⟩
    · exact ⟨_, List.mem_cons_of_mem _ List.mem_cons_self, h⟩
    · exact ⟨_, List.mem_cons_of_mem _ (List.mem_cons_of_mem _ List.mem_cons_self), h⟩

theorem next11 (c : Dev nD) (t : Fin cfg1.N) (h : ¬ (t : ℕ) % 8 = 0) (k : Fin 2048) (l : Fin 1024) :
    (outsAt1 (V2 m ρ) c t.val t.isLt).2.2.2.2.1 (ix2 k l) = (outsAt1 (V2 m ρ) c (t.val - 1) (by omega)).2.2.2.2.1 (ix2 k l) + part11 m c t k l := by
  by_cases h1 : (t : ℕ) % 8 = 7
  · rw [outsAt1_C (V2 m ρ) c t h h1]
    frame_out
    refine View.canon_append_of_piecesOf (Val := Elt Ideal) (s := S2048x1024) (e := .f32) (after11 m (outsAt1 (V2 m ρ) c (t.val - 1) (by omega)).2.2.2.2.1 c t) [] [_, _, _] ⟨fun x => ?_, fun x => ?_, fun x => ?_, trivial⟩ _ ?_
    · obtain ⟨a, b, rfl⟩ : ∃ (a : Fin 512) (b : Fin 1024), x = ix2 a b := ⟨x 0, x 1, by funext a; fin_cases a <;> rfl⟩
      refine Eq.trans ?_ (after11_colO m _ c t a b).symm
      pointwise [k1_pay2, k1_pay5, k1_pay6, k1_pay7, k1_pay8, k1_pay9, k1_pay14, dot_S1024x512_S1024x1024_S512x1024_0_0_1_1_n_n]
      simp only [b0, b1, b4, b6]
      rfl
    · obtain ⟨a, b, rfl⟩ : ∃ (a : Fin 1024) (b : Fin 1024), x = ix2 a b := ⟨x 0, x 1, by funext a; fin_cases a <;> rfl⟩
      refine Eq.trans ?_ (after11_colB m _ c t a b).symm
      pointwise [k1_pay1, k1_pay5, k1_pay6, k1_pay7, k1_pay8, k1_pay9, k1_pay14, k1_pay19, dot_S1024x1024_S1024x1024_S1024x1024_0_0_1_1_n_n]
      simp only [b0, b1, b3, b6]
      rfl
    · obtain ⟨a, b, rfl⟩ : ∃ (a : Fin 512) (b : Fin 1024), x = ix2 a b := ⟨x 0, x 1, by funext a; fin_cases a <;> rfl⟩
      refine Eq.trans ?_ (after11_colA m _ c t a b).symm
      pointwise [k1_pay18, k1_pay5, k1_pay6, k1_pay7, k1_pay8, k1_pay9, k1_pay14, dot_S1024x512_S1024x1024_S512x1024_0_0_1_1_n_n]
      simp only [b0, b1, b2, b6]
      rfl
    · rcases covered k l with h | h | h
      · exact ⟨_, List.mem_cons_self, h⟩
      · exact ⟨_, List.mem_cons_of_mem _ List.mem_cons_self, h⟩
      · exact ⟨_, List.mem_cons_of_mem _ (List.mem_cons_of_mem _ List.mem_cons_self), h⟩
  · rw [outsAt1_B (V2 m ρ) c t h h1]
    frame_out
    refine View.canon_append_of_piecesOf (Val := Elt Ideal) (s := S2048x1024) (e := .f32) (after11 m (outsAt1 (V2 m ρ) c (t.val - 1) (by omega)).2.2.2.2.1 c t) [] [_, _, _] ⟨fun x => ?_, fun x => ?_, fun x => ?_, trivial⟩ _ ?_
    · obtain ⟨a, b, rfl⟩ : ∃ (a : Fin 512) (b : Fin 1024), x = ix2 a b := ⟨x 0, x 1, by funext a; fin_cases a <;> rfl⟩
      refine Eq.trans ?_ (after11_colO m _ c t a b).symm
      pointwise [k1_pay2, k1_pay5, k1_pay6, k1_pay7, k1_pay8, k1_pay9, k1_pay14, dot_S1024x512_S1024x1024_S512x1024_0_0_1_1_n_n]
      simp only [b0, b1, b4, b6]
      rfl
    · obtain ⟨a, b, rfl⟩ : ∃ (a : Fin 1024) (b : Fin 1024), x = ix2 a b := ⟨x 0, x 1, by funext a; fin_cases a <;> rfl⟩
      refine Eq.trans ?_ (after11_colB m _ c t a b).symm
      pointwise [k1_pay1, k1_pay5, k1_pay6, k1_pay7, k1_pay8, k1_pay9, k1_pay14, k1_pay19, dot_S1024x1024_S1024x1024_S1024x1024_0_0_1_1_n_n]
      simp only [b0, b1, b3, b6]
      rfl
    · obtain ⟨a, b, rfl⟩ : ∃ (a : Fin 512) (b : Fin 1024), x = ix2 a b := ⟨x 0, x 1, by funext a; fin_cases a <;> rfl⟩
      refine Eq.trans ?_ (after11_colA m _ c t a b).symm
      pointwise [k1_pay18, k1_pay5, k1_pay6, k1_pay7, k1_pay8, k1_pay9, k1_pay14, dot_S1024x512_S1024x1024_S512x1024_0_0_1_1_n_n]
      simp only [b0, b1, b2, b6]
      rfl
    · rcases covered k l with h | h | h
      · exact ⟨_, List.mem_cons_self, h⟩
      · exact ⟨_, List.mem_cons_of_mem _ List.mem_cons_self, h⟩
      · exact ⟨_, List.mem_cons_of_mem _ (List.mem_cons_of_mem _ List.mem_cons_self), h⟩

theorem last12 (c : Dev nD) (t : Fin cfg1.N) (h : ¬ (t : ℕ) % 8 = 0) (h1 : (t : ℕ) % 8 = 7) (k : Fin 2048) (l : Fin 1024) :
    (outsAt1 (V2 m ρ) c t.val t.isLt).2.2.2.2.2 (ix2 k l) = ((outsAt1 (V2 m ρ) c t.val t.isLt).2.2.2.2.1 (ix2 k l) : EReal) := by
  rw [outsAt1_C (V2 m ρ) c t h h1]
  frame_out
  pointwise [k1_pay3]
  rw [View.readCov_eq_canon']
  exact congrArg _ (by funext a; fin_cases a <;> apply Fin.ext <;> simp)

/-- the projection's gradient, summed over all rows. -/
theorem total (c : Dev nD) (k : Fin 2048) (l : Fin 1024) : ∑ t : Fin cfg1.N, part11 m c t k l = ∑ R : Fin 8192, mixed m c R k * dout m c R l := by
  unfold part11
  exact Fin.sum_mul_add_congr fun s k hl => rfl

theorem sum11 (c : Dev nD) (j : S2048x1024.Idx) :
    (outsAt1 (V2 m ρ) c t1_7.val t1_7.isLt).2.2.2.2.1 j = (∑ R : Fin 8192, mixed m c R (j 0) * dout m c R (j 1) : EReal) := by
  rw [Pipeline.eq_sum_fin_of_reset_step_apply_last (fun n h => (outsAt1 (V2 m ρ) c n h).2.2.2.2.1) 8 (fun _ => 0)
    (fun t (j : S2048x1024.Idx) => part11 m c t (j 0) (j 1))
    (fun t h j => by
      obtain ⟨k, l, rfl⟩ : ∃ (k : Fin 2048) (l : Fin 1024), j = ix2 k l := ⟨j 0, j 1, by funext a; fin_cases a <;> rfl⟩
      exact first11 m ρ c t h k l)
    (fun t h j => by
      obtain ⟨k, l, rfl⟩ : ∃ (k : Fin 2048) (l : Fin 1024), j = ix2 k l := ⟨j 0, j 1, by funext a; fin_cases a <;> rfl⟩
      exact next11 m ρ c t h k l)
    (le_of_eq N_1) t1_7 rfl j, zero_add]
  exact total m c (j 0) (j 1)

/-- the fifth result. -/
theorem final11 (c : Dev nD) : (dat1 (V2 m ρ) c).arrAt 11 cfg1.N = (fun i : S2048x1024.Idx => ∑ R : Fin 8192, mixed m c R (i 0) * dout m c R (i 1)) := by
  refine (dat1 (V2 m ρ) c).arrAt_eq_of_after_last 11 t1_7 (by decide +kernel) _ fun j => ?_
  blk_simp
  rw [after1_11]
  exact sum11 m ρ c j

/-- the sixth result: the fifth once more. -/
theorem final12 (c : Dev nD) : (dat1 (V2 m ρ) c).arrAt 12 cfg1.N = (fun i : S2048x1024.Idx => ∑ R : Fin 8192, mixed m c R (i 0) * dout m c R (i 1)) := by
  refine (dat1 (V2 m ρ) c).arrAt_eq_of_after_last 12 t1_7 (by decide +kernel) _ fun j => ?_
  blk_simp
  rw [after1_12]
  obtain ⟨k, l, rfl⟩ : ∃ (k : Fin 2048) (l : Fin 1024), j = ix2 k l := ⟨j 0, j 1, by funext a; fin_cases a <;> rfl⟩
  exact (last12 m ρ c t1_7 (by decide) (by decide) k l).trans (sum11 m ρ c (ix2 k l))

end Cert.ObKernelIdeal.Ob

end
-- ==== Proof.Ob.Run.lean ====
module

public import proofs.«01_k».proof.Proof.Ob.Sums

/-! Every run of `outproj` followed by `outproj_bwd` ends with the six results as computed before and the arguments
    unchanged: the launch of the two calls, its last state read at the results. -/

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

namespace Cert.ObKernelIdeal.Ob

open Cert.ObKernelIdeal Cert.ObKernelIdeal.Gen
open Step (colA colB colO rs)

variable (m : (ℓ : Loc nD τ sig) → Buf (Elt Ideal) ℓ) (ρ : Dev nD → PrngReg)

/-- every unscoped buffer ends at what the two calls leave. -/
theorem ends : θ_run (defs (F := Ideal)) (onTc (τ := τ) (main (F := Ideal))) ⟨m, fun _ => 0, ρ⟩ fun r =>
    ∀ c : Dev nD, ∀ b ∈ Pipeline.ucRefs τ sig, r.2.mem ((c : Thread nD τ).1, b) = W3 m ρ c b := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem ((c : Thread nD τ).1, b) = W3 m ρ c b)
    (hfin := fun c s' => ?_) (hQ := fun s h _ c => h c)
  · iintro Hu
    imodintro
    isplitl [Hu]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Hu
    iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => ((c : Thread nD τ).1, b)) (W3 m ρ c) s')
    isplitl [Hh] <;> iassumption

theorem run : θ_run (defs (F := Ideal)) (onTc (τ := τ) (main (F := Ideal))) ⟨m, fun _ => 0, ρ⟩ fun r => ∀ c : Dev nD,
    r.2.mem ((c.tc : Thread nD τ).loc main_v9_0) = (fun i : S8192x512.Idx => ∑ l, dout m c (i 0) l * W m c (colA (i 1)) l)
    ∧ r.2.mem ((c.tc : Thread nD τ).loc main_v9_1) = (fun i : S8192x1024.Idx => ∑ l, dout m c (i 0) l * W m c (colB (i 1)) l)
    ∧ r.2.mem ((c.tc : Thread nD τ).loc main_v9_2) = (fun i : S8192x512.Idx => ∑ l, dout m c (i 0) l * W m c (colO (i 1)) l)
    ∧ r.2.mem ((c.tc : Thread nD τ).loc main_v9_3) = (fun i : S8x1024.Idx => if (i 0 : ℕ) = 0 then ∑ R : Fin 8192, DXN m c R (i 1) * (out m c R (i 1) * rs (out m c R)) else 0)
    ∧ r.2.mem ((c.tc : Thread nD τ).loc main_v9_4) = (fun i : S2048x1024.Idx => ∑ R : Fin 8192, mixed m c R (i 0) * dout m c R (i 1))
    ∧ r.2.mem ((c.tc : Thread nD τ).loc main_v9_5) = (fun i : S2048x1024.Idx => ∑ R : Fin 8192, mixed m c R (i 0) * dout m c R (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run _ _ _).mono (fun r h c => ?_) (ends m ρ)
  have at_ (b : Ref sig .tc) (hb : Proc.devRef .tc b ∈ Pipeline.ucRefs τ sig) := h c _ hb
  exact ⟨(at_ main_v9_0 (mem_uc main_v9_0 (by decide))).trans ((W3_arr m ρ c 7).trans (final7 m ρ c)),
    (at_ main_v9_1 (mem_uc main_v9_1 (by decide))).trans ((W3_arr m ρ c 8).trans (final8 m ρ c)),
    (at_ main_v9_2 (mem_uc main_v9_2 (by decide))).trans ((W3_arr m ρ c 9).trans (final9 m ρ c)),
    (at_ main_v9_3 (mem_uc main_v9_3 (by decide))).trans ((W3_arr m ρ c 10).trans (final10 m ρ c)),
    (at_ main_v9_4 (mem_uc main_v9_4 (by decide))).trans ((W3_arr m ρ c 11).trans (final11 m ρ c)),
    (at_ main_v9_5 (mem_uc main_v9_5 (by decide))).trans ((W3_arr m ρ c 12).trans (final12 m ρ c)),
    (at_ main_arg0 (mem_uc main_arg0 (by decide))).trans (W3_main_arg0 m ρ c),
    (at_ main_arg1 (mem_uc main_arg1 (by decide))).trans (W3_main_arg1 m ρ c),
    (at_ main_arg2 (mem_uc main_arg2 (by decide))).trans (W3_main_arg2 m ρ c),
    (at_ main_arg3 (mem_uc main_arg3 (by decide))).trans (W3_main_arg3 m ρ c),
    (at_ main_arg4 (mem_uc main_arg4 (by decide))).trans (W3_main_arg4 m ρ c),
    (at_ main_arg5 (mem_uc main_arg5 (by decide))).trans (W3_main_arg5 m ρ c),
    (at_ main_arg6 (mem_uc main_arg6 (by decide))).trans (W3_main_arg6 m ρ c)⟩

end Cert.ObKernelIdeal.Ob

end
-- ==== Proof.Ob.Reference.lean ====
module

public import proofs.«01_k».proof.Proof.Gen.ObReferenceIdeal.Run
public import proofs.«01_k».proof.Proof.Ob.Columns
public import proofs.«01_k».proof.Proof.Rms
public import Idealize.ShloMosaic.Lib.Pointwise
public import Idealize.ShloMosaic.Lib.Pipeline.ValueKit

/-! The six results of the reference of `outproj_bwd`, entry by entry, in its arguments. -/

@[expose] public section

set_option maxRecDepth 16384

noncomputable section

open Idealize.ShloMosaic Idealize.ShloMosaic.TcCoe Idealize.SL.Sem
open Idealize.ShloMosaic.Pipeline (Dat)
open scoped BigOperators

namespace Cert.ObReferenceIdeal.Ob

open Cert.ObReferenceIdeal Cert.ObReferenceIdeal.Gen
open Step (rdx ms mix colA colB colO sitofp_zero)

variable (m : (ℓ : Loc nD τ sig) → Buf (Elt Ideal) ℓ) (ρ : Dev nD → PrngReg)

abbrev A (c : Dev nD) (r : Fin 8192) (k : Fin 512) : EReal := (m ((c : Thread nD τ).loc main_arg1) : FVec Ideal S8192x512 .f32) (ix2 r k)
abbrev B (c : Dev nD) (r : Fin 8192) (k : Fin 1024) : EReal := (m ((c : Thread nD τ).loc main_arg2) : FVec Ideal S8192x1024 .f32) (ix2 r k)
abbrev O (c : Dev nD) (r : Fin 8192) (k : Fin 512) : EReal := (m ((c : Thread nD τ).loc main_arg3) : FVec Ideal S8192x512 .f32) (ix2 r k)
abbrev W (c : Dev nD) (k : Fin 2048) (l : Fin 1024) : EReal := (m ((c : Thread nD τ).loc main_arg4) : FVec Ideal S2048x1024 .f32) (ix2 k l)
abbrev PN (c : Dev nD) (l : Fin 1024) : EReal := (m ((c : Thread nD τ).loc main_arg5) : FVec Ideal S1024 .f32) (ix1 l)
abbrev DXN (c : Dev nD) (r : Fin 8192) (l : Fin 1024) : EReal := (m ((c : Thread nD τ).loc main_arg6) : FVec Ideal S8192x1024 .f32) (ix2 r l)

/-- the mixers' results side by side. -/
def mixed (c : Dev nD) (r : Fin 8192) : Fin 2048 → EReal := mix (A m c r) (B m c r) (O m c r)

/-- the rows that the norm takes. -/
def out (c : Dev nD) (r : Fin 8192) (l : Fin 1024) : EReal := ∑ k, mixed m c r k * W m c k l

/-- the gradient of those rows. -/
def dout (c : Dev nD) (r : Fin 8192) : Fin 1024 → EReal := rdx (out m c r) (PN m c) (DXN m c r)

theorem result0 (c : Dev nD) : (Value.res_main_v45 m c : FVec Ideal S8192x512 .bf16) = fun i : S8192x512.Idx => ∑ l, dout m c (i 0) l * W m c (colA (i 1)) l := by
  funext i
  obtain ⟨r, k, rfl⟩ : ∃ (r : Fin 8192) (k : Fin 512), i = ix2 r k := ⟨i 0, i 1, by funext a; fin_cases a <;> rfl⟩
  unfold Value.res_main_v45
  pointwise
  rfl

theorem result1 (c : Dev nD) : (Value.res_main_v46 m c : FVec Ideal S8192x1024 .bf16) = fun i : S8192x1024.Idx => ∑ l, dout m c (i 0) l * W m c (colB (i 1)) l := by
  funext i
  obtain ⟨r, k, rfl⟩ : ∃ (r : Fin 8192) (k : Fin 1024), i = ix2 r k := ⟨i 0, i 1, by funext a; fin_cases a <;> rfl⟩
  unfold Value.res_main_v46
  pointwise
  rfl

theorem result2 (c : Dev nD) : (Value.res_main_v47 m c : FVec Ideal S8192x512 .bf16) = fun i : S8192x512.Idx => ∑ l, dout m c (i 0) l * W m c (colO (i 1)) l := by
  funext i
  obtain ⟨r, k, rfl⟩ : ∃ (r : Fin 8192) (k : Fin 512), i = ix2 r k := ⟨i 0, i 1, by funext a; fin_cases a <;> rfl⟩
  unfold Value.res_main_v47
  pointwise
  rfl

theorem result4 (c : Dev nD) : (Value.res_main_v40 m c : FVec Ideal S2048x1024 .f32) = fun i : S2048x1024.Idx => ∑ r, dout m c r (i 1) * mixed m c r (i 0) := by
  funext i
  obtain ⟨k, l, rfl⟩ : ∃ (k : Fin 2048) (l : Fin 1024), i = ix2 k l := ⟨i 0, i 1, by funext a; fin_cases a <;> rfl⟩
  unfold Value.res_main_v40
  pointwise
  rfl

theorem result5 (c : Dev nD) : (Value.res_main_v50 m c : FVec Ideal S2048x1024 .bf16) = fun i : S2048x1024.Idx => ∑ r, dout m c r (i 1) * mixed m c r (i 0) := by
  funext i
  obtain ⟨k, l, rfl⟩ : ∃ (k : Fin 2048) (l : Fin 1024), i = ix2 k l := ⟨i 0, i 1, by funext a; fin_cases a <;> rfl⟩
  unfold Value.res_main_v50
  pointwise
  rfl

theorem run : θ_run (defs (F := Ideal)) (onTc (τ := τ) (main (F := Ideal))) ⟨m, fun _ => 0, ρ⟩ fun r => ∀ c : Dev nD,
    r.2.mem ((c.tc : Thread nD τ).loc main_v45) = (fun i : S8192x512.Idx => ∑ l, dout m c (i 0) l * W m c (colA (i 1)) l)
    ∧ r.2.mem ((c.tc : Thread nD τ).loc main_v46) = (fun i : S8192x1024.Idx => ∑ l, dout m c (i 0) l * W m c (colB (i 1)) l)
    ∧ r.2.mem ((c.tc : Thread nD τ).loc main_v47) = (fun i : S8192x512.Idx => ∑ l, dout m c (i 0) l * W m c (colO (i 1)) l)
    ∧ r.2.mem ((c.tc : Thread nD τ).loc main_v49) = (fun i : S8x1024.Idx => if (i 0 : ℕ) = 0 then ∑ R : Fin 8192, out m c R (i 1) * Ideal.rsqrt (ms (out m c R)) * DXN m c R (i 1) else 0)
    ∧ r.2.mem ((c.tc : Thread nD τ).loc main_v40) = (fun i : S2048x1024.Idx => ∑ r, dout m c r (i 1) * mixed m c r (i 0))
    ∧ r.2.mem ((c.tc : Thread nD τ).loc main_v50) = (fun i : S2048x1024.Idx => ∑ r, dout m c r (i 1) * mixed m c r (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run _ _ _).mono (fun r h c => ?_) (Value.run m ρ)
  obtain ⟨h0, h1, h2, h3, h4, h5, hargs⟩ := h c
  refine ⟨h0.trans (result0 m c), h1.trans (result1 m c), h2.trans (result2 m c), h3.trans ?_, h4.trans (result4 m c), h5.trans (result5 m c), hargs⟩
  funext i
  obtain ⟨q, l, rfl⟩ : ∃ (q : Fin 8) (l : Fin 1024), i = ix2 q l := ⟨i 0, i 1, by funext a; fin_cases a <;> rfl⟩
  pointwise
  by_cases hq : (q : ℕ) = 0
  · refine (dif_pos (show (q : ℕ) < 1 by omega)).trans (Eq.trans ?_ (if_pos hq).symm)
    rw [Fin.sum_univ_one]
    rfl
  · exact (dif_neg (show ¬ (q : ℕ) < 1 by omega)).trans ((sitofp_zero _).trans (if_neg hq).symm)

end Cert.ObReferenceIdeal.Ob

end
-- ==== Proof.Ob.Equal.lean ====
module

public import proofs.«01_k».proof.Defs
public import proofs.«01_k».proof.Proof.Ob.Run
public import proofs.«01_k».proof.Proof.Ob.Reference

/-! The kernel of `outproj_bwd` and its reference leave the same six arrays. -/

@[expose] public section

set_option maxRecDepth 16384

noncomputable section

open Idealize.ShloMosaic Idealize.ShloMosaic.TcCoe Idealize.SL.Sem
open scoped BigOperators

namespace Step

/-- three groups of real columns side by side are real. -/
theorem mix_coe (a : Fin 512 → ℝ) (b : Fin 1024 → ℝ) (o : Fin 512 → ℝ) (k : Fin 2048) :
    mix (fun k => (a k : EReal)) (fun k => (b k : EReal)) (fun k => (o k : EReal)) k = ((mix a b o k : ℝ) : EReal) := by
  unfold mix
  split
  · rfl
  · split <;> rfl

end Step

namespace Ob

open Cert.ObKernelIdeal
open Step (rs kdx rdx ms mix)

variable (m : (ℓ : Loc nD τ sig) → Buf (Elt Ideal) ℓ)

/-- the six arrays the precondition speaks of are arrays of reals. -/
theorem reals [Cert.Pre_ob_finite.Facts] (h : Cert.Pre_ObKernelIdeal_ob_finite m) (c : Dev nD) :
    (∃ x : Fin 8192 → Fin 512 → ℝ, ∀ r k, Ob.A m c r k = (x r k : EReal))
    ∧ (∃ x : Fin 8192 → Fin 1024 → ℝ, ∀ r k, Ob.B m c r k = (x r k : EReal))
    ∧ (∃ x : Fin 8192 → Fin 512 → ℝ, ∀ r k, Ob.O m c r k = (x r k : EReal))
    ∧ (∃ w : Fin 2048 → Fin 1024 → ℝ, ∀ k l, Ob.W m c k l = (w k l : EReal))
    ∧ (∃ p : Fin 1024 → ℝ, ∀ l, Ob.PN m c l = (p l : EReal))
    ∧ (∃ d : Fin 8192 → Fin 1024 → ℝ, ∀ r l, Ob.DXN m c r l = (d r l : EReal)) := by
  obtain ⟨h0, h1, h2, h3, h4, h5⟩ := h c
  refine ⟨?_, ?_, ?_, ?_, ?_, ?_⟩
  · have : ∀ r k, ∃ x : ℝ, Ob.A m c r k = (x : EReal) := by
      intro r k
      have := congrFun h0 (ix2 r k)
      unfold Cert.Pre_ob_finite.fn at this
      pointwise at this
      exact Step.real_of_lt _ this
    choose x hx using this
    exact ⟨x, hx⟩
  · have : ∀ r k, ∃ x : ℝ, Ob.B m c r k = (x : EReal) := by
      intro r k
      have := congrFun h1 (ix2 r k)
      unfold Cert.Pre_ob_finite.fn at this
      pointwise at this
      exact Step.real_of_lt _ this
    choose x hx using this
    exact ⟨x, hx⟩
  · have : ∀ r k, ∃ x : ℝ, Ob.O m c r k = (x : EReal) := by
      intro r k
      have := congrFun h2 (ix2 r k)
      unfold Cert.Pre_ob_finite.fn at this
      pointwise at this
      exact Step.real_of_lt _ this
    choose x hx using this
    exact ⟨x, hx⟩
  · have : ∀ k l, ∃ x : ℝ, Ob.W m c k l = (x : EReal) := by
      intro k l
      have := congrFun h3 (ix2 k l)
      unfold Cert.Pre_ob_finite.fn at this
      pointwise at this
      exact Step.real_of_lt _ this
    choose x hx using this
    exact ⟨x, hx⟩
  · have : ∀ l, ∃ x : ℝ, Ob.PN m c l = (x : EReal) := by
      intro l
      have := congrFun h4 (ix1 l)
      unfold Cert.Pre_ob_finite.fn at this
      pointwise at this
      exact Step.real_of_lt _ this
    choose x hx using this
    exact ⟨x, hx⟩
  · have : ∀ r l, ∃ x : ℝ, Ob.DXN m c r l = (x : EReal) := by
      intro r l
      have := congrFun h5 (ix2 r l)
      unfold Cert.Pre_ob_finite.fn at this
      pointwise at this
      exact Step.real_of_lt _ this
    choose x hx using this
    exact ⟨x, hx⟩

theorem grad_out [Cert.Pre_ob_finite.Facts] (h : Cert.Pre_ObKernelIdeal_ob_finite m) (c : Dev nD) (r : Fin 8192) (l : Fin 1024) :
    kdx (Ob.out m c r) (Ob.PN m c) (Ob.DXN m c r) l = rdx (Ob.out m c r) (Ob.PN m c) (Ob.DXN m c r) l := by
  obtain ⟨⟨a, ha⟩, ⟨b, hb⟩, ⟨o, ho⟩, ⟨w, hw⟩, ⟨p, hp⟩, ⟨d, hd⟩⟩ := reals m h c
  have hm : ∀ k, Ob.mixed m c r k = ((mix (a r) (b r) (o r) k : ℝ) : EReal) := fun k => by
    unfold Ob.mixed
    rw [show Ob.A m c r = fun k => (a r k : EReal) from funext (ha r), show Ob.B m c r = fun k => (b r k : EReal) from funext (hb r),
      show Ob.O m c r = fun k => (o r k : EReal) from funext (ho r)]
    exact Step.mix_coe _ _ _ k
  rw [show Ob.DXN m c r = fun k => (d r k : EReal) from funext (hd r), show Ob.PN m c = fun k => (p k : EReal) from funext hp,
    show Ob.out m c r = fun l => ((∑ k, mix (a r) (b r) (o r) k * w k l : ℝ) : EReal) from funext fun l => by
      unfold Ob.out
      simp only [hm, hw, ← EReal.coe_mul, Step.coe_sum]]
  exact Step.kdx_eq_rdx _ _ _ l

theorem grad_norm (c : Dev nD) (l : Fin 1024) :
    ∑ R : Fin 8192, Ob.DXN m c R l * (Ob.out m c R l * rs (Ob.out m c R)) = ∑ R : Fin 8192, Ob.out m c R l * Ideal.rsqrt (ms (Ob.out m c R)) * Ob.DXN m c R l :=
  Finset.sum_congr rfl fun R _ => by rw [Step.rs_eq, mul_comm]

/-- on the same arguments the reference's pieces are the kernel's. -/
theorem same [Cert.Pre_ob_finite.Facts] (h : Cert.Pre_ObKernelIdeal_ob_finite m)
    (m' : (ℓ : Loc Cert.ObReferenceIdeal.nD Cert.ObReferenceIdeal.τ Cert.ObReferenceIdeal.sig) → Buf (Elt Ideal) ℓ) (c : Dev nD)
    (e1 : m' ((c.tc : Thread Cert.ObReferenceIdeal.nD Cert.ObReferenceIdeal.τ).loc Cert.ObReferenceIdeal.main_arg1) = m ((c.tc : Thread nD τ).loc main_arg1))
    (e2 : m' ((c.tc : Thread Cert.ObReferenceIdeal.nD Cert.ObReferenceIdeal.τ).loc Cert.ObReferenceIdeal.main_arg2) = m ((c.tc : Thread nD τ).loc main_arg2))
    (e3 : m' ((c.tc : Thread Cert.ObReferenceIdeal.nD Cert.ObReferenceIdeal.τ).loc Cert.ObReferenceIdeal.main_arg3) = m ((c.tc : Thread nD τ).loc main_arg3))
    (e4 : m' ((c.tc : Thread Cert.ObReferenceIdeal.nD Cert.ObReferenceIdeal.τ).loc Cert.ObReferenceIdeal.main_arg4) = m ((c.tc : Thread nD τ).loc main_arg4))
    (e5 : m' ((c.tc : Thread Cert.ObReferenceIdeal.nD Cert.ObReferenceIdeal.τ).loc Cert.ObReferenceIdeal.main_arg5) = m ((c.tc : Thread nD τ).loc main_arg5))
    (e6 : m' ((c.tc : Thread Cert.ObReferenceIdeal.nD Cert.ObReferenceIdeal.τ).loc Cert.ObReferenceIdeal.main_arg6) = m ((c.tc : Thread nD τ).loc main_arg6)) :
    Cert.ObReferenceIdeal.Ob.W m' c = Ob.W m c ∧ Cert.ObReferenceIdeal.Ob.DXN m' c = Ob.DXN m c ∧ Cert.ObReferenceIdeal.Ob.mixed m' c = Ob.mixed m c
      ∧ Cert.ObReferenceIdeal.Ob.out m' c = Ob.out m c ∧ Cert.ObReferenceIdeal.Ob.dout m' c = Ob.dout m c := by
  have hA : Cert.ObReferenceIdeal.Ob.A m' c = Ob.A m c := funext fun r => funext fun l => congrFun e1 (ix2 r l)
  have hB : Cert.ObReferenceIdeal.Ob.B m' c = Ob.B m c := funext fun r => funext fun l => congrFun e2 (ix2 r l)
  have hO : Cert.ObReferenceIdeal.Ob.O m' c = Ob.O m c := funext fun r => funext fun l => congrFun e3 (ix2 r l)
  have hW : Cert.ObReferenceIdeal.Ob.W m' c = Ob.W m c := funext fun r => funext fun l => congrFun e4 (ix2 r l)
  have hP : Cert.ObReferenceIdeal.Ob.PN m' c = Ob.PN m c := funext fun l => congrFun e5 (ix1 l)
  have hD : Cert.ObReferenceIdeal.Ob.DXN m' c = Ob.DXN m c := funext fun r => funext fun l => congrFun e6 (ix2 r l)
  have hM : Cert.ObReferenceIdeal.Ob.mixed m' c = Ob.mixed m c := funext fun r => by
    unfold Cert.ObReferenceIdeal.Ob.mixed Ob.mixed
    rw [hA, hB, hO]
  have hU : Cert.ObReferenceIdeal.Ob.out m' c = Ob.out m c := funext fun r => funext fun l => by
    unfold Cert.ObReferenceIdeal.Ob.out Ob.out
    rw [hM, hW]
  refine ⟨hW, hD, hM, hU, funext fun r => funext fun l => ?_⟩
  unfold Cert.ObReferenceIdeal.Ob.dout Ob.dout
  rw [hU, hP, hD]
  exact (grad_out m h c r l).symm

theorem algebraic [Cert.ObKernelIdeal.Facts] [Cert.ObReferenceIdeal.Facts] [Cert.Pre_ob_finite.Facts] :
    Cert.algebraic_ObKernelIdeal_ObReferenceIdeal_pre_ob_finite := by
  intro m g m' g' hpre hm
  refine ⟨_, _, _, _, _, _, Cert.ObKernelIdeal.Ob.run m g, ?_⟩
  refine (θ_run _ _ _).mono (fun r h c => ?_) (Cert.ObReferenceIdeal.Ob.run m' g')
  obtain ⟨h0, h1, h2, h3, h4, h5, hargs⟩ := h c
  obtain ⟨-, a1, a2, a3, a4, a5, a6⟩ := hm c
  obtain ⟨eW, eD, eM, eU, eG⟩ := same m hpre m' c a1 a2 a3 a4 a5 a6
  refine ⟨h0.trans ?_, h1.trans ?_, h2.trans ?_, h3.trans ?_, h4.trans ?_, h5.trans ?_, hargs⟩
  · rw [eG, eW]
  · rw [eG, eW]
  · rw [eG, eW]
  · rw [eU, eD]
    funext i
    exact congrArg (fun v => if (i 0 : ℕ) = 0 then v else (0 : EReal)) (grad_norm m c (i 1)).symm
  · rw [eG, eM]
    funext i
    exact Finset.sum_congr rfl fun R _ => mul_comm _ _
  · rw [eG, eM]
    funext i
    exact Finset.sum_congr rfl fun R _ => mul_comm _ _

end Ob

end
-- ==== Proof.Rf.Body.lean ====
module

public import proofs.«01_k».proof.Proof.Gen.RfKernelIdeal.Frame
public import proofs.«01_k».proof.Proof.Gen.RfKernelIdeal.Value
public import Idealize.ShloMosaic.Lib.Pointwise
public import Idealize.ShloMosaic.Lib.Pipeline.ValueKit
public import Idealize.ShloMosaic.Lib.Pipeline.ReadBack

/-! One grid point of `ret_fwd` as a short program over stacks of 32 tiles: tile `4·chunk + head` holds the 64 rows of a
    chunk and the 128 columns of a head. -/

@[expose] public section

set_option maxRecDepth 16384

noncomputable section

open Idealize.ShloMosaic Idealize.ShloMosaic.TcCoe Idealize.SL.Sem
open Idealize.ShloMosaic.Pipeline (Dat)
open scoped BigOperators

namespace Cert.RfKernelIdeal.Rf

open Cert.RfKernelIdeal Cert.RfKernelIdeal.Gen

/-- the head a tile belongs to. -/
abbrev hd (b : Fin 32) : Fin 4 := ⟨(b : ℕ) % 4, Nat.mod_lt _ (by decide)⟩

/-- 32 tiles on top of each other. -/
def stack (f : Fin 32 → FVec Ideal S64x128 .f32) : FVec Ideal S32x64x128 .f32 :=
  concatenate S32x64x128 0 (List.ofFn fun b => ⟨S1x64x128, shapeCast S1x64x128 (f b) shapeCasts_S64x128_S1x64x128⟩)
    (by exact (by decide : Shape.Concatenates (List.replicate 32 S1x64x128) S32x64x128 0))

/-- the same of 64×64 tiles. -/
def stackSq (f : Fin 32 → FVec Ideal S64x64 .f32) : FVec Ideal S32x64x64 .f32 :=
  concatenate S32x64x64 0 (List.ofFn fun b => ⟨S1x64x64, shapeCast S1x64x64 (f b) shapeCasts_S64x64_S1x64x64⟩)
    (by exact (by decide : Shape.Concatenates (List.replicate 32 S1x64x64) S32x64x64 0))

/-- the same of columns. -/
def stackCol (f : Fin 32 → FVec Ideal S64x1 .f32) : FVec Ideal S32x64x1 .f32 :=
  concatenate S32x64x1 0 (List.ofFn fun b => ⟨S1x64x1, shapeCast S1x64x1 (f b) shapeCasts_S64x1_S1x64x1⟩)
    (by exact (by decide : Shape.Concatenates (List.replicate 32 S1x64x1) S32x64x1 0))

/-- the tile of projected columns from `o` on. -/
def tile (x : FVec Ideal S512x2048 .f32) (o : ℕ) (ho : o + 512 ≤ 2048) (b : Fin 32) : FVec Ideal S64x128 .f32 :=
  View.ld (Val := Elt Ideal) (e' := .f32) x (Rect.unit (s := S512x2048) ![64 * ((b : ℕ) / 4), o + 128 * ((b : ℕ) % 4)] ![64, 128] (by
    intro a; have := b.isLt
    fin_cases a
    · show 64 * ((b : ℕ) / 4) + 64 ≤ 512; omega
    · show o + 128 * ((b : ℕ) % 4) + 128 ≤ 2048; omega))

/-- the tile of an angle table. -/
def angle (x : FVec Ideal S512x128 .f32) (b : Fin 32) : FVec Ideal S64x128 .f32 :=
  shapeCast S64x128 (View.ld (Val := Elt Ideal) (e' := .f32) x (Rect.unit (s := S512x128) ![64 * ((b : ℕ) / 4), 0] ![64, 128] (by
    intro a; have := b.isLt
    fin_cases a
    · show 64 * ((b : ℕ) / 4) + 64 ≤ 512; omega
    · show 0 + 128 ≤ 128; omega)) : FVec Ideal S64x128 .f32) shapeCasts_S64x128_S64x128

/-- the log of a head's decay. -/
def lg : Fin 4 → Ideal .f32 :=
  ![Named.named κ "lg0" 0xBD020AEC#32, Named.named κ "lg1" 0xBC8102B3#32, Named.named κ "lg2" 0xBC0080AC#32, Named.named κ "lg3" 0xBB80402B#32]

/-- decay between two rows of a chunk, zero above the diagonal. -/
def inside (g : Ideal .f32) : FVec Ideal S64x64 .f32 :=
  select (cmpi .sge (iota .tc S64x64 32 [0] iota_S64x64_d0_w32) (iota .tc S64x64 32 [1] iota_S64x64_d1_w32))
    (exp (mulf (maximumf (sitofp .f32 (subi (iota .tc S64x64 32 [0] iota_S64x64_d0_w32) (iota .tc S64x64 32 [1] iota_S64x64_d1_w32)))
      (broadcast S64x64 (Scalar.ofBits .f32 0x00000000#32))) (broadcast S64x64 g)))
    (broadcast S64x64 (Scalar.ofBits .f32 0x00000000#32))

/-- decay from the start of the chunk. -/
def fromStart (g : Ideal .f32) : FVec Ideal S64x1 .f32 :=
  exp (mulf (addf (sitofp .f32 (iota .tc S64x1 32 [0] iota_S64x1_d0_w32)) (broadcast S64x1 (Scalar.ofBits .f32 0x3F800000#32))) (broadcast S64x1 g))

/-- decay to the end of the chunk. -/
def toEnd (g : Ideal .f32) : FVec Ideal S64x1 .f32 :=
  exp (mulf (subf (broadcast S64x1 (Scalar.ofBits .f32 0x427C0000#32)) (sitofp .f32 (iota .tc S64x1 32 [0] iota_S64x1_d0_w32))) (broadcast S64x1 g))

def DD : FVec Ideal S32x64x64 .f32 := stackSq fun b => inside (lg (hd b))
def QD : FVec Ideal S32x64x1 .f32 := stackCol fun b => fromStart (lg (hd b))
def KD : FVec Ideal S32x64x1 .f32 := stackCol fun b => toEnd (lg (hd b))

section
variable (x0 : FVec Ideal S512x2048 .f32) (x1 x2 : FVec Ideal S512x128 .f32) (w : FVec Ideal S8x128 .f32)

/-- the rotary turn of a stack. -/
def turn (f : FVec Ideal S32x64x128 .f32) : FVec Ideal S32x64x128 .f32 :=
  addf (mulf f (stack (angle x1))) (mulf (dynamicRotate 2 64#32 none f rotates_S32x64x128_d2) (stack (angle x2)))

def Q : FVec Ideal S32x64x128 .f32 := turn x1 x2 (stack (tile x0 0 (by decide)))
def K : FVec Ideal S32x64x128 .f32 :=
  mulf (turn x1 x2 (stack (tile x0 512 (by decide)))) (broadcast S32x64x128 (Scalar.ofBits .f32 0x3DB504F3#32))
def V : FVec Ideal S32x64x128 .f32 := stack (tile x0 1024 (by decide))
def Z : FVec Ideal S32x64x128 .f32 := stack (tile x0 1536 (by decide))

/-- the decayed scores. -/
def S : FVec Ideal S32x64x64 .f32 :=
  mulf (matmul dot_S32x64x128_S32x64x128_S32x64x64_2_2_1_1_0_0 none (truncf .bf16 (Q x0 x1 x2) bitsLt_bf16_f32)
    (truncf .bf16 (K x0 x1 x2) bitsLt_bf16_f32) (constant S32x64x64 .f32 0x00000000#32)) DD

/-- the four tiles of a chunk. -/
def four (f : FVec Ideal S32x64x128 .f32) (n : ℕ) : FVec Ideal S4x64x128 .f32 :=
  extractStridedSlice S4x64x128 ![4 * (n % 8), 0, 0] f (by
    refine ⟨rfl, fun a => ?_⟩
    fin_cases a
    · show 4 * (n % 8) + 4 ≤ 32; omega
    · show 0 + 64 ≤ 64; omega
    · show 0 + 128 ≤ 128; omega)

/-- the state after one more chunk. -/
def next (n : ℕ) (st : FVec Ideal S4x128x128 .f32) : FVec Ideal S4x128x128 .f32 :=
  shapeCast S4x128x128 (addf (mulf st (broadcastTo S4x128x128 (k0_pay141 (F := Ideal)) broadcasts_S4x1x1_S4x128x128))
    (matmul dot_S4x64x128_S4x64x128_S4x128x128_1_1_2_2_0_0 none
      (truncf .bf16 (four (mulf (K x0 x1 x2) (broadcastTo S32x64x128 KD broadcasts_S32x64x1_S32x64x128)) n) bitsLt_bf16_f32)
      (truncf .bf16 (four (V x0) n) bitsLt_bf16_f32) (constant S4x128x128 .f32 0x00000000#32))) shapeCasts_S4x128x128_S4x128x128

/-- the state before chunk `n` of the point. -/
def E (st : FVec Ideal S4x128x128 .f32) : ℕ → FVec Ideal S4x128x128 .f32
  | 0 => st
  | n + 1 => next x0 x1 x2 n (E st n)

/-- the eight of them on top of each other. -/
def states (st : FVec Ideal S4x128x128 .f32) : FVec Ideal S8x4x128x128 .f32 := fun i => E x0 x1 x2 st (i 0) (ix3 (i 1) (i 2) (i 3))

/-- what each tile's rows read, before the norm. -/
def O (X : FVec Ideal S8x4x128x128 .f32) : FVec Ideal S32x64x128 .f32 :=
  addf (matmul dot_S32x64x64_S32x64x128_S32x64x128_2_1_1_2_0_0 none (truncf .bf16 (S x0 x1 x2) bitsLt_bf16_f32) (truncf .bf16 (V x0) bitsLt_bf16_f32)
      (constant S32x64x128 .f32 0x00000000#32))
    (mulf (matmul dot_S32x64x128_S32x128x128_S32x64x128_2_1_1_2_0_0 none (truncf .bf16 (Q x0 x1 x2) bitsLt_bf16_f32)
        (truncf .bf16 (shapeCast S32x128x128 (shapeCast S8x4x128x128 X shapeCasts_S8x4x128x128_S8x4x128x128) shapeCasts_S8x4x128x128_S32x128x128) bitsLt_bf16_f32)
        (constant S32x64x128 .f32 0x00000000#32))
      (broadcastTo S32x64x128 QD broadcasts_S32x64x1_S32x64x128))

/-- normalised, weighted and gated. -/
def gated (o z : FVec Ideal S32x64x128 .f32) : FVec Ideal S32x64x128 .f32 :=
  mulf (mulf (mulf o (broadcastTo S32x64x128 (rsqrt (addf (mulf (shapeCast S32x64x1
      (multiReduction .add [2] S32x64 (mulf o o) 0x00000000#32 reduces_S32x64x128_S32x64 (.inl rfl) rfl) shapeCasts_S32x64_S32x64x1)
      (broadcast S32x64x1 (Scalar.ofBits .f32 0x3C000000#32))) (broadcast S32x64x1 (Scalar.ofBits .f32 0x358637BD#32)))) broadcasts_S32x64x1_S32x64x128))
    (broadcastTo S32x64x128 (shapeCast S1x1x128 (shapeCast S1x128
      (View.ld (Val := Elt Ideal) (e' := .f32) w (Rect.unit (s := S8x128) ![0, 0] ![1, 128] inb_S8x128_S1x128_0_0) : FVec Ideal S1x128 .f32)
      shapeCasts_S1x128_S1x128) shapeCasts_S1x128_S1x1x128) broadcasts_S1x1x128_S32x64x128))
    (mulf z (logistic z))

end

end Cert.RfKernelIdeal.Rf

end
-- ==== Proof.Rf.Run.lean ====
/- The scan of the forward reference, run trip by trip: what the carried buffers hold before trip `n` is the `n`-th of a
   sequence of states that goes on by the step, and the two results are read off state 128. -/
module

public import proofs.«01_k».proof.Proof.Gen.RfReferenceIdeal.Run
public import proofs.«01_k».proof.Proof.Gen.RfReferenceIdeal.Step
public import Idealize.ShloMosaic.Lib.Pointwise

@[expose] public section

set_option maxRecDepth 16384

noncomputable section

namespace Cert.Rf

open Idealize.ShloMosaic Idealize.ShloMosaic.TcCoe Idealize.SL.Sem Idealize.ShloMosaic.StableHlo
open Cert.RfReferenceIdeal Cert.RfReferenceIdeal.Gen Cert.RfReferenceIdeal.Value
open Cert.RfReferenceIdeal.Step (State step init K_main_v93 K_main_v101 K_main_v109 K_main_v112 R_main_v146 R_main_v147)

/-- Contents of the buffers at the start of trip `j`: the state in the carried ones, the decays in the constant ones. -/
structure AtTrip (V : Valuation τ sig (Elt Ideal)) (s : State Ideal) (j : ℕ) : Prop where
  carry : V (Proc.devRef .tc main_v124_8) = s.main_v124_8
  outs : V (Proc.devRef .tc main_v124_9) = s.main_v124_9
  states : V (Proc.devRef .tc main_v124_10) = s.main_v124_10
  q : V (Proc.devRef .tc main_v124_0) = s.main_v124_0
  k : V (Proc.devRef .tc main_v124_1) = s.main_v124_1
  v : V (Proc.devRef .tc main_v124_2) = s.main_v124_2
  trip : V (Proc.devRef .tc main_v124_7) = constantI S_ 32 (BitVec.ofNat 32 j)
  inside : V (Proc.devRef .tc main_v124_3) = K_main_v93 (F := Ideal)
  fromStart : V (Proc.devRef .tc main_v124_4) = K_main_v101 (F := Ideal)
  whole : V (Proc.devRef .tc main_v124_5) = K_main_v112 (F := Ideal)
  toEnd : V (Proc.devRef .tc main_v124_6) = K_main_v109 (F := Ideal)

variable {V : Valuation τ sig (Elt Ideal)} {s : State Ideal} {j : ℕ}

theorem AtTrip.carry_next (h : AtTrip V s j) : step_main_v124_8 V = (step j s).main_v124_8 := by
  unfold step_main_v124_8 res_main_while0b_v149 res_main_while0b_v150
  rw [h.carry, h.k, h.v, h.trip, h.whole, h.toEnd]
  rfl

theorem AtTrip.outs_next (h : AtTrip V s j) : step_main_v124_9 V = (step j s).main_v124_9 := by
  unfold step_main_v124_9 res_main_while0b_v148 res_main_while0b_v149 res_main_while0b_v150
  rw [h.carry, h.outs, h.q, h.k, h.v, h.trip, h.inside, h.fromStart]
  rfl

theorem AtTrip.states_next (h : AtTrip V s j) : step_main_v124_10 V = (step j s).main_v124_10 := by
  unfold step_main_v124_10
  rw [h.carry, h.states, h.trip]
  rfl

theorem AtTrip.trip_next (h : AtTrip V s j) : step_main_v124_7 V = constantI S_ 32 (BitVec.ofNat 32 (j + 1)) := by
  unfold step_main_v124_7
  rw [h.trip]
  funext i
  show BitVec.ofNat 32 j + 1#32 = BitVec.ofNat 32 (j + 1)
  simp only [BitVec.ofNat_add]

/-- One trip leads from the state to its successor. -/
theorem AtTrip.next (h : AtTrip V s j) : AtTrip (STEP V) (step j s) (j + 1) :=
  { carry := (STEP_main_v124_8 V).trans h.carry_next
    outs := (STEP_main_v124_9 V).trans h.outs_next
    states := (STEP_main_v124_10 V).trans h.states_next
    q := (STEP_main_v124_0 V).trans h.q
    k := (STEP_main_v124_1 V).trans h.k
    v := (STEP_main_v124_2 V).trans h.v
    trip := (STEP_main_v124_7 V).trans h.trip_next
    inside := (STEP_main_v124_3 V).trans h.inside
    fromStart := (STEP_main_v124_4 V).trans h.fromStart
    whole := (STEP_main_v124_5 V).trans h.whole
    toEnd := (STEP_main_v124_6 V).trans h.toEnd }

/-- The states before each trip. -/
def before (pr : S8192x2048.Idx → EReal) : ℕ → State Ideal
  | 0 => init (F := Ideal) pr
  | n + 1 => step n (before pr n)

variable (m : (ℓ : Loc nD τ sig) → Buf (Elt Ideal) ℓ) (c : Dev nD)

set_option maxRecDepth 65536 in
set_option maxHeartbeats 1000000 in
/-- Before the first trip the buffers hold the first state. -/
theorem start : AtTrip (entryContents preI m c) (before (m ((c.tc : Thread nD τ).loc main_arg0)) 0) 0 := by
  constructor <;> (simp only [entryContents, afterL_cons, afterL_nil]; after_reads_simp) <;> rfl

/-- Before trip `n` they hold the `n`-th. -/
theorem atTrip : ∀ n, AtTrip (STEP^[n] (entryContents preI m c)) (before (m ((c.tc : Thread nD τ).loc main_arg0)) n) n
  | 0 => start m c
  | n + 1 => by rw [Function.iterate_succ_apply']; exact (atTrip n).next

theorem out_of {x : S8192x2048.Idx → EReal} {w : S128.Idx → EReal} (h : AtTrip V s j)
    (hx : V (Proc.devRef .tc main_arg0) = x) (hw : V (Proc.devRef .tc main_arg1) = w) :
    out_main_v146 V = R_main_v146 s x w := by
  unfold out_main_v146 R_main_v146
  rw [h.outs, hx, hw]
  try rfl

theorem states_of (h : AtTrip V s j) : out_main_v147 V = R_main_v147 s := by
  unfold out_main_v147 R_main_v147
  rw [h.states]
  try rfl

/-- The reference's run: both results are read off the state after all 128 trips; the arguments stay. -/
theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v146) = R_main_v146 (before (m ((c.tc : Thread nD τ).loc main_arg0)) 128)
          (m ((c.tc : Thread nD τ).loc main_arg0)) (m ((c.tc : Thread nD τ).loc main_arg1))
      ∧ r.2.mem ((c.tc : Thread nD τ).loc main_v147) = R_main_v147 (before (m ((c.tc : Thread nD τ).loc main_arg0)) 128)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (out_of (atTrip m c 128) (iter_main_arg0 m c 128) (iter_main_arg1 m c 128)),
      (h c).2.1.trans (states_of (atTrip m c 128)), (h c).2.2.1, (h c).2.2.2⟩) (Value.run m ρ)

end Cert.Rf

end
-- ==== Proof.Rf.Numbers.lean ====
module

public import proofs.«01_k».proof.Proof.Reals
public import Mathlib.Analysis.SpecialFunctions.Trigonometric.Basic

/-! The numbers of the retention: positions, frequencies, the turn of a sum of two angles, the decays of the four heads. -/

@[expose] public section

noncomputable section

namespace Step

open Idealize.ShloMosaic
open scoped BigOperators

theorem toInt_small {n : ℕ} (h : n < 2 ^ 31) : (BitVec.ofNat 32 n).toInt = (n : Int) := by
  rw [BitVec.toInt_eq_toNat_cond, BitVec.toNat_ofNat, Nat.mod_eq_of_lt (by omega), if_pos (by omega)]

/-- A small word as a float is the number. -/
theorem num {n : ℕ} (h : n < 2 ^ 31) : (FloatOps.sitofp .f32 (BitVec.ofNat 32 n) : Ideal .f32) = (((n : ℝ) : ℝ) : EReal) := by
  have e : (FloatOps.sitofp .f32 (BitVec.ofNat 32 n) : Ideal .f32) = ((((BitVec.ofNat 32 n).toInt : ℝ) : ℝ) : EReal) := rfl
  rw [e, toInt_small h]
  rfl

theorem cos_real (x : ℝ) : Ideal.cos (x : EReal) = ((Real.cos x : ℝ) : EReal) := rfl
theorem sin_real (x : ℝ) : Ideal.sin (x : EReal) = ((Real.sin x : ℝ) : EReal) := rfl
theorem exp_real (x : ℝ) : Ideal.exp (x : EReal) = ((Real.exp x : ℝ) : EReal) := rfl
theorem pow_real (x y : ℝ) : Ideal.pow (x : EReal) (y : EReal) = ((Real.rpow x y : ℝ) : EReal) := rfl
theorem log_real (x : ℝ) (h : 0 < x) : Ideal.log (x : EReal) = ((Real.log x : ℝ) : EReal) := by
  show (if x ≤ 0 then (⊥ : EReal) else ((Real.log x : ℝ) : EReal)) = _
  rw [if_neg (not_le.mpr h)]

theorem lit_10000 : Ideal.ofBits .f32 0x461C4000#32 = ((10000 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_63 : Ideal.ofBits .f32 0x427C0000#32 = ((63 : ℝ) : EReal) := by
  simp [Ideal.ofBits, Ideal.ieee, -EReal.coe_mul]; norm_num
theorem lit_neg5 : Ideal.ofBits .f32 0xC0A00000#32 = ((-5 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_inv128 : Ideal.ofBits .f32 0x3C000000#32 = ((1 / 128 : ℝ) : EReal) := by
  simp [Ideal.ofBits, Ideal.ieee, -EReal.coe_mul]; norm_num

/-- The mean of 128 entries, as a quotient and as a product. -/
theorem mean128 (x : EReal) : Ideal.div x (Ideal.ofBits .f32 0x43000000#32) = x * Ideal.ofBits .f32 0x3C000000#32 := by
  rw [lit_128, lit_inv128, Ideal.div_coe (by norm_num)]

/-- The angle of a position and a lane. -/
def angle (p : ℕ) (d : Fin 64) : EReal :=
  (FloatOps.sitofp .f32 (BitVec.ofNat 32 p) : Ideal .f32) * Ideal.pow (Ideal.ofBits .f32 0x461C4000#32) (Ideal.div (-(FloatOps.sitofp .f32 (BitVec.ofNat 32 (d : ℕ)) : Ideal .f32)) (Ideal.ofBits .f32 0x42800000#32))

/-- A lane's frequency. -/
def freq (d : Fin 64) : ℝ := Real.rpow 10000 (-(d : ℝ) / 64)

theorem angle_real {p : ℕ} (h : p < 2 ^ 31) (d : Fin 64) : angle p d = (((p : ℝ) * freq d : ℝ) : EReal) := by
  unfold angle freq
  rw [num h, num (by omega), lit_10000, lit_64, ← EReal.coe_neg, div_real _ _ (by norm_num), pow_real, ← EReal.coe_mul]

/-- The turn of a chunk's start times the turn inside the chunk. -/
theorem cos_split {a b : ℕ} (ha : a < 2 ^ 30) (hb : b < 2 ^ 30) (d : Fin 64) :
    Ideal.cos (angle a d) * Ideal.cos (angle b d) - Ideal.sin (angle a d) * Ideal.sin (angle b d) = Ideal.cos (angle (a + b) d) := by
  rw [angle_real (by omega), angle_real (by omega), angle_real (by omega), cos_real, cos_real, sin_real, sin_real, cos_real, ← EReal.coe_mul, ← EReal.coe_mul,
    ← EReal.coe_sub, Nat.cast_add, add_mul, Real.cos_add]

theorem sin_split {a b : ℕ} (ha : a < 2 ^ 30) (hb : b < 2 ^ 30) (d : Fin 64) :
    Ideal.sin (angle a d) * Ideal.cos (angle b d) + Ideal.cos (angle a d) * Ideal.sin (angle b d) = Ideal.sin (angle (a + b) d) := by
  rw [angle_real (by omega), angle_real (by omega), angle_real (by omega), cos_real, cos_real, sin_real, sin_real, sin_real, ← EReal.coe_mul, ← EReal.coe_mul,
    ← EReal.coe_add, Nat.cast_add, add_mul, Real.sin_add]

/-- The decay of each head. -/
def decay : Fin 4 → ℝ := ![31 / 32, 63 / 64, 127 / 128, 255 / 256]

theorem decay_pos : ∀ u, 0 < decay u := by
  intro u; fin_cases u <;> simp [decay]

/-- Its logarithm, as the forward lines write it. -/
theorem log_decay (u : Fin 4) : Ideal.log (1 - Ideal.pow (Ideal.ofBits .f32 0x40000000#32)
    (Ideal.ofBits .f32 0xC0A00000#32 - (FloatOps.sitofp .f32 (BitVec.ofNat 32 (u : ℕ)) : Ideal .f32))) = ((Real.log (decay u) : ℝ) : EReal) := by
  rw [num (by omega), lit_two, lit_neg5, ← EReal.coe_sub, pow_real, ← EReal.coe_one, ← EReal.coe_sub]
  have e : 1 - Real.rpow 2 (-5 - ((u : ℕ) : ℝ)) = decay u := by
    have e' : Real.rpow 2 (-5 - ((u : ℕ) : ℝ)) = (2 : ℝ) ^ (-(5 + (u : ℕ) : ℤ)) := by
      rw [← Real.rpow_intCast]
      show (2 : ℝ) ^ (_ : ℝ) = _
      congr 1; push_cast; ring
    rw [e']
    fin_cases u <;> simp [decay] <;> norm_num [zpow_neg]
  rw [e, log_real _ (decay_pos u)]

/-- A chunk's whole decay. -/
theorem whole_decay (u : Fin 4) : Ideal.exp (Ideal.ofBits .f32 0x42800000#32 * ((Real.log (decay u) : ℝ) : EReal)) = ((decay u ^ 64 : ℝ) : EReal) := by
  rw [lit_64, ← EReal.coe_mul, exp_real]
  congr 1
  have e : (64 : ℝ) * Real.log (decay u) = Real.log (decay u ^ 64) := by rw [Real.log_pow]; norm_num
  rw [e, Real.exp_log (pow_pos (decay_pos u) 64)]

/-- The distance of two rows of a chunk, as words and as numbers. -/
theorem dist (i j : Fin 64) : (FloatOps.sitofp .f32 (BitVec.ofNat 32 (i : ℕ) - BitVec.ofNat 32 (j : ℕ)) : Ideal .f32)
    = (FloatOps.sitofp .f32 (BitVec.ofNat 32 (i : ℕ)) : Ideal .f32) - (FloatOps.sitofp .f32 (BitVec.ofNat 32 (j : ℕ)) : Ideal .f32) := by
  rw [num (by omega), num (by omega), ← EReal.coe_sub]
  have e : (FloatOps.sitofp .f32 (BitVec.ofNat 32 (i : ℕ) - BitVec.ofNat 32 (j : ℕ)) : Ideal .f32)
      = ((((BitVec.ofNat 32 (i : ℕ) - BitVec.ofNat 32 (j : ℕ)).toInt : ℝ) : ℝ) : EReal) := rfl
  have h : ∀ i j : Fin 64, (BitVec.ofNat 32 (i : ℕ) - BitVec.ofNat 32 (j : ℕ)).toInt = ((i : ℕ) : Int) - ((j : ℕ) : Int) := by decide +kernel
  rw [e, h i j]
  push_cast
  rfl

/-- Below the diagonal the distance is not negative. -/
theorem dist_nonneg (i j : Fin 64) : (0 ≤ (FloatOps.sitofp .f32 (BitVec.ofNat 32 (i : ℕ)) : Ideal .f32) - (FloatOps.sitofp .f32 (BitVec.ofNat 32 (j : ℕ)) : Ideal .f32))
    ↔ (j : ℕ) ≤ (i : ℕ) := by
  rw [num (by omega), num (by omega), ← EReal.coe_sub, ← EReal.coe_zero, EReal.coe_le_coe_iff, sub_nonneg, Nat.cast_le]

end Step

end
-- ==== Proof.Rf.Trips.lean ====
module

public import proofs.«01_k».proof.Proof.Rf.Run
public import proofs.«01_k».proof.Proof.Rf.Numbers
public import Idealize.ShloMosaic.Lib.Pointwise
public import Idealize.ShloMosaic.Lib.WordCmp

/-! One trip of the reference's scan, entry by entry: the state it carries on, the rows it reads, the stacks it fills. -/

@[expose] public section

set_option maxRecDepth 16384

noncomputable section

open Idealize.ShloMosaic Idealize.ShloMosaic.TcCoe Idealize.SL.Sem
open scoped BigOperators

namespace Cert.Rf

open Cert.RfReferenceIdeal Cert.RfReferenceIdeal.Gen
open Cert.RfReferenceIdeal.Step

theorem toInt_lt : ∀ n : Fin 128, (BitVec.ofNat 32 (n : ℕ)).toInt = ((n : ℕ) : Int) := by decide +kernel

variable (n : Fin 128) (s : State Ideal)

theorem cut (x : S128x1x64x4x128.Idx → EReal) (start : Fin 5 → Int) (h0 : start 0 = ((n : ℕ) : Int)) (h1 : start 1 = 0) (h2 : start 2 = 0)
    (h3 : start 3 = 0) (h4 : start 4 = 0) (h) (r : Fin 64) (u : Fin 4) (d : Fin 128) :
    shapeCast S1x64x4x128 (Host.dynamicSlice S1x1x64x4x128 x start h) shapeCasts_S1x1x64x4x128_S1x64x4x128 (ix4 (0 : Fin 1) r u d)
      = x (ix5 n (0 : Fin 1) r u d) := by
  have hs : S128x1x64x4x128.Slices ![(n : ℕ), 0, 0, 0, 0] S1x1x64x4x128 := by
    refine ⟨rfl, fun a => ?_⟩; have := n.isLt
    fin_cases a
    · show (n : ℕ) + 1 ≤ 128; omega
    · show 0 + 1 ≤ 1; omega
    · show 0 + 64 ≤ 64; omega
    · show 0 + 4 ≤ 4; omega
    · show 0 + 128 ≤ 128; omega
  rw [WordCmp.dynamicSlice_eq_extract S1x1x64x4x128 x start h ![(n : ℕ), 0, 0, 0, 0] hs (fun a => by
    fin_cases a
    · exact h0
    · exact h1
    · exact h2
    · exact h3
    · exact h4)]
  pointwise

theorem q_at (r : Fin 64) (u : Fin 4) (d : Fin 128) : b5 n s (ix4 (0 : Fin 1) r u d) = s.main_v124_0 (ix5 n (0 : Fin 1) r u d) :=
  cut n _ _ (toInt_lt n) rfl rfl rfl rfl _ r u d

theorem k_at (r : Fin 64) (u : Fin 4) (d : Fin 128) : b11 n s (ix4 (0 : Fin 1) r u d) = s.main_v124_1 (ix5 n (0 : Fin 1) r u d) :=
  cut n _ _ (toInt_lt n) rfl rfl rfl rfl _ r u d

theorem v_at (r : Fin 64) (u : Fin 4) (d : Fin 128) : b17 n s (ix4 (0 : Fin 1) r u d) = s.main_v124_2 (ix5 n (0 : Fin 1) r u d) :=
  cut n _ _ (toInt_lt n) rfl rfl rfl rfl _ r u d

/-- The carried state. -/
theorem carry_at (u : Fin 4) (d v : Fin 128) : (step n s).main_v124_8 (ix4 (0 : Fin 1) u d v) =
    (s.main_v124_8 (ix4 (0 : Fin 1) u d v) * (K_main_v112 (F := Ideal)) (ix1 u)
      + ∑ j : Fin 64, (s.main_v124_1 (ix5 n (0 : Fin 1) j u d) * (K_main_v109 (F := Ideal)) (ix2 j u)) * s.main_v124_2 (ix5 n (0 : Fin 1) j u v) : EReal) := by
  rw [step_main_v124_8]
  unfold b36 b31 b30 b29 b35 b34 b33 b32
  pointwise [dot_S1x64x4x128_S1x64x4x128_S1x4x128x128_1_1_3_3_02_02]
  simp only [k_at, v_at]

/-- The rows. -/
theorem rows_at (r : Fin 64) (u : Fin 4) (v : Fin 128) : b28 n s (ix4 (0 : Fin 1) r u v) =
    ((∑ j : Fin 64, s.main_v124_2 (ix5 n (0 : Fin 1) j u v) *
        ((∑ d : Fin 128, s.main_v124_0 (ix5 n (0 : Fin 1) r u d) * s.main_v124_1 (ix5 n (0 : Fin 1) j u d)) * (K_main_v93 (F := Ideal)) (ix3 u r j)))
      + (∑ d : Fin 128, s.main_v124_8 (ix4 (0 : Fin 1) u d v) * s.main_v124_0 (ix5 n (0 : Fin 1) r u d)) * (K_main_v101 (F := Ideal)) (ix2 r u) : EReal) := by
  unfold b28 b22 b21 b20 b19 b18 b27 b26 b25 b24 b23
  pointwise [dot_S1x64x4x128_S1x64x4x128_S1x4x64x64_3_3_1_1_02_02, dot_S1x64x4x128_S1x4x64x64_S1x4x128x64_1_3_3_2_02_01, dot_S1x4x128x128_S1x64x4x128_S1x4x128x64_2_3_3_1_01_02]
  simp only [q_at, k_at, v_at]

/-- The stack of rows. -/
theorem outs_at (q : Fin 128) (r : Fin 64) (u : Fin 4) (v : Fin 128) : (step n s).main_v124_9 (ix5 q (0 : Fin 1) r u v) =
    if q = n then b28 n s (ix4 (0 : Fin 1) r u v) else s.main_v124_9 (ix5 q (0 : Fin 1) r u v) := by
  rw [step_main_v124_9]
  unfold b42 b37
  have hs : S128x1x64x4x128.Slices ![(n : ℕ), 0, 0, 0, 0] S1x1x64x4x128 := by
    refine ⟨rfl, fun a => ?_⟩; have := n.isLt
    fin_cases a
    · show (n : ℕ) + 1 ≤ 128; omega
    · show 0 + 1 ≤ 1; omega
    · show 0 + 64 ≤ 64; omega
    · show 0 + 4 ≤ 4; omega
    · show 0 + 128 ≤ 128; omega
  rw [WordCmp.dynamicUpdateSlice_eq_update _ _ _ _ ![(n : ℕ), 0, 0, 0, 0] hs (fun a => by
    fin_cases a
    · exact toInt_lt n
    all_goals rfl)]
  pointwise
  by_cases e : q = n
  · subst e; simp
  · have : (q : ℕ) ≠ n := fun h => e (Fin.ext h)
    rw [dif_neg (by omega), if_neg e]

/-- The stack of states. -/
theorem states_at (q : Fin 128) (u : Fin 4) (d v : Fin 128) : (step n s).main_v124_10 (ix5 q (0 : Fin 1) u d v) =
    if q = n then s.main_v124_8 (ix4 (0 : Fin 1) u d v) else s.main_v124_10 (ix5 q (0 : Fin 1) u d v) := by
  rw [step_main_v124_10]
  unfold b48 b43
  have hs : S128x1x4x128x128.Slices ![(n : ℕ), 0, 0, 0, 0] S1x1x4x128x128 := by
    refine ⟨rfl, fun a => ?_⟩; have := n.isLt
    fin_cases a
    · show (n : ℕ) + 1 ≤ 128; omega
    · show 0 + 1 ≤ 1; omega
    · show 0 + 4 ≤ 4; omega
    · show 0 + 128 ≤ 128; omega
    · show 0 + 128 ≤ 128; omega
  rw [WordCmp.dynamicUpdateSlice_eq_update _ _ _ _ ![(n : ℕ), 0, 0, 0, 0] hs (fun a => by
    fin_cases a
    · exact toInt_lt n
    all_goals rfl)]
  pointwise
  by_cases e : q = n
  · subst e; simp
  · have : (q : ℕ) ≠ n := fun h => e (Fin.ext h)
    rw [dif_neg (by omega), if_neg e]

section before
variable (pr : S8192x2048.Idx → EReal)

theorem q_kept : ∀ n, (before pr n).main_v124_0 = A_main_v117 (F := Ideal) pr
  | 0 => rfl
  | n + 1 => q_kept n

theorem k_kept : ∀ n, (before pr n).main_v124_1 = A_main_v119 (F := Ideal) pr
  | 0 => rfl
  | n + 1 => k_kept n

theorem v_kept : ∀ n, (before pr n).main_v124_2 = A_main_v121 (F := Ideal) pr
  | 0 => rfl
  | n + 1 => v_kept n

/-- After trip `q` its rows stay in the stack. -/
theorem outs_before (q : Fin 128) (r : Fin 64) (u : Fin 4) (v : Fin 128) : ∀ N, N ≤ 128 → (q : ℕ) < N →
    (before pr N).main_v124_9 (ix5 q (0 : Fin 1) r u v) = b28 q (before pr q) (ix4 (0 : Fin 1) r u v)
  | 0, _, h => absurd h (by omega)
  | N + 1, hN, h => by
    refine (outs_at ⟨N, by omega⟩ (before pr N) q r u v).trans ?_
    split
    · next e => rw [e]
    · next e => exact outs_before q r u v N (by omega) (by have : (q : ℕ) ≠ N := fun h => e (Fin.ext h); omega)

/-- and so does the state it found. -/
theorem states_before (q : Fin 128) (u : Fin 4) (d v : Fin 128) : ∀ N, N ≤ 128 → (q : ℕ) < N →
    (before pr N).main_v124_10 (ix5 q (0 : Fin 1) u d v) = (before pr q).main_v124_8 (ix4 (0 : Fin 1) u d v)
  | 0, _, h => absurd h (by omega)
  | N + 1, hN, h => by
    refine (states_at ⟨N, by omega⟩ (before pr N) q u d v).trans ?_
    split
    · next e => rw [e]
    · next e => exact states_before q u d v N (by omega) (by have : (q : ℕ) ≠ N := fun h => e (Fin.ext h); omega)

/-- the row of the sequence that is row `r` of chunk `n`. -/
def row (n : Fin 128) (r : Fin 64) : Fin 8192 := ⟨(n : ℕ) * 64 + r, by omega⟩

/-- column `d` of head `u` in the section of the projected columns that starts at `o`. -/
def col (o : ℕ) (ho : o + 512 ≤ 2048) (u : Fin 4) (d : Fin 128) : Fin 2048 := ⟨o + ((u : ℕ) * 128 + d), by omega⟩

def lo (d : Fin 64) : Fin 128 := ⟨d, by omega⟩
def hi (d : Fin 64) : Fin 128 := ⟨64 + d, by omega⟩

/-- The values. -/
theorem v_entry (n : Fin 128) (r : Fin 64) (u : Fin 4) (d : Fin 128) :
    A_main_v121 (F := Ideal) pr (ix5 n (0 : Fin 1) r u d) = pr (ix2 (row n r) (col 1024 (by decide) u d)) := by
  unfold A_main_v121 A_main_v120 A_main_v67 A_main_v5 A_main_v4
  pointwise
  rfl

/-- The queries, turned by their angles: the lower and the upper half of a head. -/
theorem q_lo (n : Fin 128) (r : Fin 64) (u : Fin 4) (d : Fin 64) :
    A_main_v117 (F := Ideal) pr (ix5 n (0 : Fin 1) r u (lo d)) =
      (pr (ix2 (row n r) (col 0 (by decide) u (lo d))) * (K_main_v20 (F := Ideal)) (ix2 (row n r) d)
        - pr (ix2 (row n r) (col 0 (by decide) u (hi d))) * (K_main_v22 (F := Ideal)) (ix2 (row n r) d) : EReal) := by
  unfold A_main_v117 A_main_v116 A_main_v36 A_main_v30 A_main_v27 A_main_v29 A_main_v24 A_main_v25 A_main_v7 A_main_v1 A_main_v0 K_main_v26 K_main_v28 K_main_v21 K_main_v23 lo
  pointwise
  simp only [col, row, lo, hi, Nat.zero_add]

theorem q_hi (n : Fin 128) (r : Fin 64) (u : Fin 4) (d : Fin 64) :
    A_main_v117 (F := Ideal) pr (ix5 n (0 : Fin 1) r u (hi d)) =
      (pr (ix2 (row n r) (col 0 (by decide) u (lo d))) * (K_main_v22 (F := Ideal)) (ix2 (row n r) d)
        + pr (ix2 (row n r) (col 0 (by decide) u (hi d))) * (K_main_v20 (F := Ideal)) (ix2 (row n r) d) : EReal) := by
  unfold A_main_v117 A_main_v116 A_main_v36 A_main_v35 A_main_v32 A_main_v34 A_main_v24 A_main_v25 A_main_v7 A_main_v1 A_main_v0 K_main_v31 K_main_v33 K_main_v21 K_main_v23 hi
  pointwise
  simp only [col, row, lo, hi, Nat.zero_add]

theorem same_cos (p : Fin 8192) (d : Fin 64) : (K_main_v50 (F := Ideal)) (ix2 p d) = (K_main_v20 (F := Ideal)) (ix2 p d) := by
  unfold K_main_v50 K_main_v49 K_main_v48 K_main_v47 K_main_v46 K_main_v45 K_main_v44 K_main_v43 K_main_v42 K_main_v41 K_main_v40 K_main_v39 K_main_v38 K_main_cst_1 K_main_cst_2
    K_main_v20 K_main_v19 K_main_v18 K_main_v17 K_main_v16 K_main_v15 K_main_v14 K_main_v13 K_main_v12 K_main_v11 K_main_v10 K_main_v9 K_main_v8 K_main_cst K_main_cst_0
  pointwise
theorem same_sin (p : Fin 8192) (d : Fin 64) : (K_main_v52 (F := Ideal)) (ix2 p d) = (K_main_v22 (F := Ideal)) (ix2 p d) := by
  unfold K_main_v52 K_main_v49 K_main_v48 K_main_v47 K_main_v46 K_main_v45 K_main_v44 K_main_v43 K_main_v42 K_main_v41 K_main_v40 K_main_v39 K_main_v38 K_main_cst_1 K_main_cst_2
    K_main_v22 K_main_v19 K_main_v18 K_main_v17 K_main_v16 K_main_v15 K_main_v14 K_main_v13 K_main_v12 K_main_v11 K_main_v10 K_main_v9 K_main_v8 K_main_cst K_main_cst_0
  pointwise
theorem scale_entry (y : S1x8192x4x128.Idx) : (K_main_v113 (F := Ideal)) y = Ideal.ofBits .f32 0x3DB504F3#32 := by
  unfold K_main_v113 K_main_cst_12
  pointwise

/-- The keys, turned by the same angles and scaled. -/
theorem k_lo (n : Fin 128) (r : Fin 64) (u : Fin 4) (d : Fin 64) :
    A_main_v119 (F := Ideal) pr (ix5 n (0 : Fin 1) r u (lo d)) =
      ((pr (ix2 (row n r) (col 512 (by decide) u (lo d))) * (K_main_v20 (F := Ideal)) (ix2 (row n r) d)
        - pr (ix2 (row n r) (col 512 (by decide) u (hi d))) * (K_main_v22 (F := Ideal)) (ix2 (row n r) d)) * Ideal.ofBits .f32 0x3DB504F3#32 : EReal) := by
  unfold A_main_v119 A_main_v118 A_main_v114 A_main_v66 A_main_v60 A_main_v57 A_main_v59 A_main_v54 A_main_v55 A_main_v37 A_main_v3 A_main_v2 K_main_v56 K_main_v58 K_main_v51 K_main_v53 lo
  pointwise
  simp only [same_cos, same_sin, scale_entry, col, row, lo, hi]

theorem k_hi (n : Fin 128) (r : Fin 64) (u : Fin 4) (d : Fin 64) :
    A_main_v119 (F := Ideal) pr (ix5 n (0 : Fin 1) r u (hi d)) =
      ((pr (ix2 (row n r) (col 512 (by decide) u (lo d))) * (K_main_v22 (F := Ideal)) (ix2 (row n r) d)
        + pr (ix2 (row n r) (col 512 (by decide) u (hi d))) * (K_main_v20 (F := Ideal)) (ix2 (row n r) d)) * Ideal.ofBits .f32 0x3DB504F3#32 : EReal) := by
  unfold A_main_v119 A_main_v118 A_main_v114 A_main_v66 A_main_v65 A_main_v62 A_main_v64 A_main_v54 A_main_v55 A_main_v37 A_main_v3 A_main_v2 K_main_v61 K_main_v63 K_main_v51 K_main_v53 hi
  pointwise
  simp only [same_cos, same_sin, scale_entry, col, row, lo, hi]

theorem cos_entry (p : Fin 8192) (d : Fin 64) : (K_main_v20 (F := Ideal)) (ix2 p d) = Ideal.cos (Step.angle p d) := by
  unfold K_main_v20 K_main_v19 K_main_v18 K_main_v17 K_main_v16 K_main_v15 K_main_v14 K_main_v13 K_main_v12 K_main_v11 K_main_v10 K_main_v9 K_main_v8 K_main_v6 K_main_cst K_main_cst_0
  pointwise
  rfl

theorem sin_entry (p : Fin 8192) (d : Fin 64) : (K_main_v22 (F := Ideal)) (ix2 p d) = Ideal.sin (Step.angle p d) := by
  unfold K_main_v22 K_main_v19 K_main_v18 K_main_v17 K_main_v16 K_main_v15 K_main_v14 K_main_v13 K_main_v12 K_main_v11 K_main_v10 K_main_v9 K_main_v8 K_main_v6 K_main_cst K_main_cst_0
  pointwise
  rfl

theorem lg_entry (u : Fin 4) : (K_main_v75 (F := Ideal)) (ix1 u) = ((Real.log (Step.decay u) : ℝ) : EReal) := by
  unfold K_main_v75 K_main_v74 K_main_v73 K_main_v72 K_main_v71 K_main_v70 K_main_v69 K_main_v68 K_main_cst_3 K_main_cst_4 K_main_cst_5
  pointwise
  exact Step.log_decay u

theorem inside_entry (u : Fin 4) (i j : Fin 64) : (K_main_v93 (F := Ideal)) (ix3 u i j) =
    (if 0 ≤ (FloatOps.sitofp .f32 (BitVec.ofNat 32 (i : ℕ)) : Ideal .f32) - (FloatOps.sitofp .f32 (BitVec.ofNat 32 (j : ℕ)) : Ideal .f32) then
      Ideal.exp (max ((FloatOps.sitofp .f32 (BitVec.ofNat 32 (i : ℕ)) : Ideal .f32) - (FloatOps.sitofp .f32 (BitVec.ofNat 32 (j : ℕ)) : Ideal .f32)) 0
        * ((Real.log (Step.decay u) : ℝ) : EReal))
    else (0 : EReal)) := by
  unfold K_main_v93 K_main_v92 K_main_v91 K_main_v90 K_main_v89 K_main_v88 K_main_v87 K_main_v86 K_main_v85 K_main_call0_v1 K_main_v84 K_main_call0_v2 K_main_call0_v0 K_main_v83 K_main_v82 K_main_v81 K_main_v80 K_main_v79 K_main_v78 K_main_v77 K_main_v76 K_main_cst_6 K_main_cst_7 K_main_cst_8
  pointwise
  rw [lg_entry]
  split
  · rfl
  · show Ideal.ofBits .f32 0x00000000#32 = 0
    exact Ideal.ofBits_zero .f32

theorem fromStart_entry (u : Fin 4) (i : Fin 64) : (K_main_v101 (F := Ideal)) (ix2 i u) =
    Ideal.exp (((FloatOps.sitofp .f32 (BitVec.ofNat 32 (i : ℕ)) : Ideal .f32) + 1) * ((Real.log (Step.decay u) : ℝ) : EReal)) := by
  unfold K_main_v101 K_main_v100 K_main_v99 K_main_v98 K_main_v97 K_main_v96 K_main_v95 K_main_v94 K_main_v76 K_main_cst_9
  pointwise
  rw [lg_entry]

theorem toEnd_entry (u : Fin 4) (i : Fin 64) : (K_main_v109 (F := Ideal)) (ix2 i u) =
    Ideal.exp ((Ideal.ofBits .f32 0x427C0000#32 - (FloatOps.sitofp .f32 (BitVec.ofNat 32 (i : ℕ)) : Ideal .f32)) * ((Real.log (Step.decay u) : ℝ) : EReal)) := by
  unfold K_main_v109 K_main_v108 K_main_v107 K_main_v106 K_main_v105 K_main_v104 K_main_v103 K_main_v102 K_main_v76 K_main_cst_10
  pointwise
  rw [lg_entry]

theorem whole_entry (u : Fin 4) : (K_main_v112 (F := Ideal)) (ix1 u) = ((Step.decay u ^ 64 : ℝ) : EReal) := by
  unfold K_main_v112 K_main_v111 K_main_v110 K_main_cst_11
  pointwise
  rw [lg_entry]
  exact Step.whole_decay u

theorem zero_entry (u : Fin 4) (d v : Fin 128) : (before pr 0).main_v124_8 (ix4 (0 : Fin 1) u d v) = (0 : EReal) := by
  show (K_main_v115 (F := Ideal)) (ix4 (0 : Fin 1) u d v) = _
  unfold K_main_v115 K_main_cst_13
  pointwise

/-- The states handed out. -/
theorem result_states (n : Fin 128) (u : Fin 4) (d v : Fin 128) :
    R_main_v147 (before pr 128) (ix4 n u d v) = (before pr n).main_v124_8 (ix4 (0 : Fin 1) u d v) := by
  unfold R_main_v147
  pointwise
  exact states_before pr n u d v 128 le_rfl n.isLt

/-- A gated, normalised row, as the forward lines write it. -/
def finish (o w : Fin 128 → EReal) (z : EReal) (v : Fin 128) : EReal :=
  o v * Ideal.rsqrt (Ideal.div (∑ x, o x * o x) (Ideal.ofBits .f32 0x43000000#32) + Ideal.ofBits .f32 0x358637BD#32) * w v
    * (z * Ideal.div 1 (1 + Ideal.exp (-z)))

/-- The rows handed out. -/
theorem result_rows (w : S128.Idx → EReal) (n : Fin 128) (r : Fin 64) (u : Fin 4) (v : Fin 128) :
    R_main_v146 (before pr 128) pr w (ix2 (row n r) (⟨(u : ℕ) * 128 + v, by omega⟩ : Fin 512)) =
      finish (fun x => b28 n (before pr n) (ix4 (0 : Fin 1) r u x)) (fun x => w (ix1 x)) (pr (ix2 (row n r) (col 1536 (by decide) u v))) v := by
  have e : ∀ x, (before pr 128).main_v124_9 (ix5 (⟨(row n r : ℕ) / 64, by have := (row n r).isLt; omega⟩ : Fin 128) (0 : Fin 1) (⟨(row n r : ℕ) % 64, Nat.mod_lt _ (by omega)⟩ : Fin 64) u x)
      = b28 n (before pr n) (ix4 (0 : Fin 1) r u x) := fun x => by
    refine Eq.trans (congrArg _ ?_) (outs_before pr n r u x 128 le_rfl n.isLt)
    have := r.isLt
    congr 1 <;> apply Fin.ext <;> simp only [row] <;> omega
  unfold R_main_v146
  pointwise
  simp only [e]
  rfl

end before

end Cert.Rf

end
-- ==== Proof.Rf.Entries.lean ====
module

public import proofs.«01_k».proof.Proof.Rf.Body
public import proofs.«01_k».proof.Proof.Rf.Trips
public import proofs.«01_k».proof.Proof.Gen.RfKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.RfKernelIdeal.Rf

open Cert.RfKernelIdeal Cert.RfKernelIdeal.Gen

variable (x : FVec Ideal S512x2048 .f32) (x1 x2 : FVec Ideal S512x128 .f32) (w : FVec Ideal S8x128 .f32)

theorem stack_at (f : Fin 32 → FVec Ideal S64x128 .f32) (b : Fin 32) (r : Fin 64) (d : Fin 128) : stack f (ix3 b r d) = f b (ix2 r d) := by
  unfold stack
  pointwise

theorem stackSq_at (f : Fin 32 → FVec Ideal S64x64 .f32) (b : Fin 32) (i j : Fin 64) : stackSq f (ix3 b i j) = f b (ix2 i j) := by
  unfold stackSq
  pointwise

theorem stackCol_at (f : Fin 32 → FVec Ideal S64x1 .f32) (b : Fin 32) (i : Fin 64) : stackCol f (ix3 b i (0 : Fin 1)) = f b (ix2 i (0 : Fin 1)) := by
  unfold stackCol
  pointwise

/-- the row of the block that a tile's row is. -/
def brow (b : Fin 32) (r : Fin 64) : Fin 512 := ⟨64 * ((b : ℕ) / 4) + r, by omega⟩

/-- the column that a tile's column is. -/
def bcol (o : ℕ) (ho : o + 512 ≤ 2048) (b : Fin 32) (d : Fin 128) : Fin 2048 := ⟨o + 128 * ((b : ℕ) % 4) + d, by omega⟩

theorem tile_at (o : ℕ) (ho : o + 512 ≤ 2048) (b : Fin 32) (r : Fin 64) (d : Fin 128) :
    tile x o ho b (ix2 r d) = x (ix2 (brow b r) (bcol o ho b d)) := by
  unfold tile
  rw [View.ld_apply]
  congr 1
  funext a
  apply Fin.ext
  rw [Rect.idx_unit_val]
  fin_cases a <;> rfl

theorem angle_at (b : Fin 32) (r : Fin 64) (d : Fin 128) : angle x1 b (ix2 r d) = x1 (ix2 (brow b r) d) := by
  unfold angle
  pointwise
  rfl

theorem turn_lo (f : FVec Ideal S32x64x128 .f32) (b : Fin 32) (r : Fin 64) (d : Fin 64) :
    turn x1 x2 f (ix3 b r (Cert.Rf.lo d)) = (f (ix3 b r (Cert.Rf.lo d)) * x1 (ix2 (brow b r) (Cert.Rf.lo d))
      + f (ix3 b r (Cert.Rf.hi d)) * x2 (ix2 (brow b r) (Cert.Rf.lo d)) : EReal) := by
  unfold turn
  pointwise
  simp only [stack_at, angle_at]
  have e : (⟨((Cert.Rf.lo d : ℕ) + 128 - 64) % 128, Nat.mod_lt _ (by decide)⟩ : Fin 128) = Cert.Rf.hi d := by
    apply Fin.ext; simp only [Cert.Rf.lo, Cert.Rf.hi]; omega
  rw [e]

theorem turn_hi (f : FVec Ideal S32x64x128 .f32) (b : Fin 32) (r : Fin 64) (d : Fin 64) :
    turn x1 x2 f (ix3 b r (Cert.Rf.hi d)) = (f (ix3 b r (Cert.Rf.hi d)) * x1 (ix2 (brow b r) (Cert.Rf.hi d))
      + f (ix3 b r (Cert.Rf.lo d)) * x2 (ix2 (brow b r) (Cert.Rf.hi d)) : EReal) := by
  unfold turn
  pointwise
  simp only [stack_at, angle_at]
  have e : (⟨((Cert.Rf.hi d : ℕ) + 128 - 64) % 128, Nat.mod_lt _ (by decide)⟩ : Fin 128) = Cert.Rf.lo d := by
    apply Fin.ext; simp only [Cert.Rf.lo, Cert.Rf.hi]; omega
  rw [e]

theorem Q_at (b : Fin 32) (r : Fin 64) (d : Fin 128) : Q x x1 x2 (ix3 b r d) = turn x1 x2 (stack (tile x 0 (by decide))) (ix3 b r d) := rfl

theorem K_at (b : Fin 32) (r : Fin 64) (d : Fin 128) : K x x1 x2 (ix3 b r d) =
    (turn x1 x2 (stack (tile x 512 (by decide))) (ix3 b r d) * Ideal.ofBits .f32 0x3DB504F3#32 : EReal) := by
  unfold K
  pointwise

theorem V_at (b : Fin 32) (r : Fin 64) (d : Fin 128) : V x (ix3 b r d) = x (ix2 (brow b r) (bcol 1024 (by decide) b d)) := by
  unfold V
  rw [stack_at, tile_at]

theorem Z_at (b : Fin 32) (r : Fin 64) (d : Fin 128) : Z x (ix3 b r d) = x (ix2 (brow b r) (bcol 1536 (by decide) b d)) := by
  unfold Z
  rw [stack_at, tile_at]

theorem lg_eq : ∀ u, lg u = ((Real.log (Step.decay u) : ℝ) : EReal) := by
  intro u
  fin_cases u
  · exact IdealRules.named_const.ideal_named_scalar κ "lg0" _ _ rfl
  · exact IdealRules.named_const.ideal_named_scalar κ "lg1" _ _ rfl
  · exact IdealRules.named_const.ideal_named_scalar κ "lg2" _ _ rfl
  · exact IdealRules.named_const.ideal_named_scalar κ "lg3" _ _ rfl

theorem whole_at (u : Fin 4) : k0_pay141 (F := Ideal) (ix3 u (0 : Fin 1) (0 : Fin 1)) = ((Step.decay u ^ 64 : ℝ) : EReal) := by
  unfold k0_pay141
  pointwise
  have h0 := IdealRules.named_const.ideal_named_scalar κ "cd0" (φ := .f32) 0x3E063AE5#32 _ rfl
  have h1 := IdealRules.named_const.ideal_named_scalar κ "cd1" (φ := .f32) 0x3EBADF84#32 _ rfl
  have h2 := IdealRules.named_const.ideal_named_scalar κ "cd2" (φ := .f32) 0x3F1AF7A1#32 _ rfl
  have h3 := IdealRules.named_const.ideal_named_scalar κ "cd3" (φ := .f32) 0x3F474682#32 _ rfl
  fin_cases u
  · refine h0.trans (congrArg _ ?_)
    norm_num [Step.decay]
  · refine h1.trans (congrArg _ ?_)
    norm_num [Step.decay]
  · refine h2.trans (congrArg _ ?_)
    norm_num [Step.decay]
  · refine h3.trans (congrArg _ ?_)
    norm_num [Step.decay]

theorem DD_at (b : Fin 32) (i j : Fin 64) : DD (ix3 b i j) =
    (if 0 ≤ (FloatOps.sitofp .f32 (BitVec.ofNat 32 (i : ℕ)) : Ideal .f32) - (FloatOps.sitofp .f32 (BitVec.ofNat 32 (j : ℕ)) : Ideal .f32) then
      Ideal.exp (max ((FloatOps.sitofp .f32 (BitVec.ofNat 32 (i : ℕ)) : Ideal .f32) - (FloatOps.sitofp .f32 (BitVec.ofNat 32 (j : ℕ)) : Ideal .f32)) 0
        * ((Real.log (Step.decay (hd b)) : ℝ) : EReal))
    else (0 : EReal)) := by
  unfold DD
  rw [stackSq_at]
  unfold inside
  pointwise
  rw [lg_eq]
  have h : ∀ i j : Fin 64, IntOp.cmpi .sge (BitVec.ofNat 32 (i : ℕ)) (BitVec.ofNat 32 (j : ℕ)) = BitVec.ofBool (decide ((j : ℕ) ≤ (i : ℕ))) := by decide +kernel
  have hs : (FloatOps.sitofp .f32 (IntOp.subi (BitVec.ofNat 32 (i : ℕ)) (BitVec.ofNat 32 (j : ℕ))) : Ideal .f32) = _ := Step.dist i j
  rw [hs, h i j]
  by_cases hp : (j : ℕ) ≤ (i : ℕ)
  · rw [if_pos ((Step.dist_nonneg i j).mpr hp), decide_eq_true hp]
    rfl
  · rw [if_neg (fun h => hp ((Step.dist_nonneg i j).mp h)), decide_eq_false hp]
    rfl

theorem QD_at (b : Fin 32) (i : Fin 64) : QD (ix3 b i (0 : Fin 1)) =
    Ideal.exp (((FloatOps.sitofp .f32 (BitVec.ofNat 32 (i : ℕ)) : Ideal .f32) + 1) * ((Real.log (Step.decay (hd b)) : ℝ) : EReal)) := by
  unfold QD
  rw [stackCol_at]
  unfold fromStart
  pointwise
  rw [lg_eq]

theorem KD_at (b : Fin 32) (i : Fin 64) : KD (ix3 b i (0 : Fin 1)) =
    Ideal.exp ((Ideal.ofBits .f32 0x427C0000#32 - (FloatOps.sitofp .f32 (BitVec.ofNat 32 (i : ℕ)) : Ideal .f32)) * ((Real.log (Step.decay (hd b)) : ℝ) : EReal)) := by
  unfold KD
  rw [stackCol_at]
  unfold toEnd
  pointwise
  rw [lg_eq]

/-- the tile of a chunk and a head. -/
def tl (n : Fin 8) (u : Fin 4) : Fin 32 := ⟨4 * (n : ℕ) + u, by omega⟩

theorem S_at (b : Fin 32) (i j : Fin 64) : S x x1 x2 (ix3 b i j) =
    ((∑ d : Fin 128, Q x x1 x2 (ix3 b i d) * K x x1 x2 (ix3 b j d)) * DD (ix3 b i j) : EReal) := by
  unfold S
  pointwise [dot_S32x64x128_S32x64x128_S32x64x64_2_2_1_1_0_0]

theorem four_at (f : FVec Ideal S32x64x128 .f32) (n : Fin 8) (u : Fin 4) (r : Fin 64) (d : Fin 128) : four f n (ix3 u r d) = f (ix3 (tl n u) r d) := by
  have e : (⟨4 * ((n : ℕ) % 8) + (u : ℕ), by omega⟩ : Fin 32) = tl n u := by
    apply Fin.ext; simp only [tl]; omega
  unfold four
  pointwise
  exact congrArg (fun b => f (ix3 b r d)) e

theorem next_at (n : Fin 8) (st : FVec Ideal S4x128x128 .f32) (u : Fin 4) (d v : Fin 128) : next x x1 x2 n st (ix3 u d v) =
    (st (ix3 u d v) * ((Step.decay u ^ 64 : ℝ) : EReal)
      + ∑ j : Fin 64, (K x x1 x2 (ix3 (tl n u) j d) * KD (ix3 (tl n u) j (0 : Fin 1))) * V x (ix3 (tl n u) j v) : EReal) := by
  unfold next
  pointwise [dot_S4x64x128_S4x64x128_S4x128x128_1_1_2_2_0_0]
  rw [whole_at]
  simp only [four_at]
  pointwise

theorem O_at (X : FVec Ideal S8x4x128x128 .f32) (n : Fin 8) (u : Fin 4) (r : Fin 64) (v : Fin 128) : O x x1 x2 X (ix3 (tl n u) r v) =
    ((∑ j : Fin 64, S x x1 x2 (ix3 (tl n u) r j) * V x (ix3 (tl n u) j v))
      + (∑ d : Fin 128, Q x x1 x2 (ix3 (tl n u) r d) * X (ix4 n u d v)) * QD (ix3 (tl n u) r (0 : Fin 1)) : EReal) := by
  unfold O
  pointwise [dot_S32x64x64_S32x64x128_S32x64x128_2_1_1_2_0_0, dot_S32x64x128_S32x128x128_S32x64x128_2_1_1_2_0_0]
  have e : (⟨(tl n u : ℕ) / 4, by have := (tl n u).isLt; omega⟩ : Fin 8) = n := by
    apply Fin.ext; simp only [tl]; omega
  have e' : (⟨(tl n u : ℕ) % 4, Nat.mod_lt _ (by decide)⟩ : Fin 4) = u := by
    apply Fin.ext; simp only [tl]; omega
  refine congrArg₂ (fun a b : EReal => a + b) rfl (congrArg (fun a : EReal => a * _) (Finset.sum_congr rfl fun d _ => congrArg (fun a : EReal => Q x x1 x2 (ix3 (tl n u) r d) * a) ?_))
  exact congrArg₂ (fun a b => X (ix4 a b d v)) e e'

theorem gated_at (o z : FVec Ideal S32x64x128 .f32) (b : Fin 32) (r : Fin 64) (v : Fin 128) : gated w o z (ix3 b r v) =
    Cert.Rf.finish (fun l => o (ix3 b r l)) (fun l => w (ix2 (0 : Fin 8) l)) (z (ix3 b r v)) v := by
  unfold gated
  pointwise
  unfold Cert.Rf.finish
  rw [Step.mean128]
  rfl

end Cert.RfKernelIdeal.Rf
end
-- ==== Proof.Rf.Inputs.lean ====
module

public import proofs.«01_k».proof.Proof.Rf.Entries
public import proofs.«01_k».proof.Proof.Pad8
public import Idealize.ShloMosaic.Lib.StableHlo.RunRead

/-! The retention call's operands: the turns of every row (a chunk's start turn times the turn inside the chunk), the norm's weight,
and the blocks a grid point reads of them, in the program's arguments. -/

@[expose] public section

set_option maxRecDepth 16384

noncomputable section

open Idealize.ShloMosaic Idealize.ShloMosaic.TcCoe Idealize.SL.Sem
open Idealize.ShloMosaic.Pipeline (Dat)
open scoped BigOperators

namespace Cert.RfKernelIdeal.Rf

open Cert.RfKernelIdeal Cert.RfKernelIdeal.Gen

variable (m : (ℓ : Loc nD τ sig) → Buf (Elt Ideal) ℓ)

/-! The host's tables. -/

/-- each lane's frequency. -/
def inv : FVec Ideal S64 .f32 :=
  Host.powf (broadcastInDim S64 ![] bcast_S_S64 (constant (F := Ideal) S_ FTy.f32 0x461C4000#32))
    (Host.divf (Host.negf (sitofp .f32 (iotaInDim S64 32 0))) (broadcastInDim S64 ![] bcast_S_S64 (constant (F := Ideal) S_ FTy.f32 0x42800000#32)))

/-- the angle of each chunk's first row. -/
def starts : FVec Ideal S128x64 .f32 :=
  mulf (broadcastInDim S128x64 ![0, 1] bcast_S128x1_S128x64_0_1 (broadcastInDim S128x1 ![0] bcast_S128_S128x1_0
      (sitofp (F := Ideal) .f32 (muli (broadcastInDim S128 ![] bcast_S_S128 (constantI S_ 32 64#32)) (iotaInDim S128 32 0)))))
    (broadcastInDim S128x64 ![0, 1] bcast_S1x64_S128x64_0_1 (broadcastInDim S1x64 ![1] bcast_S64_S1x64_1 inv))

/-- the angle of each row of a chunk, from its first. -/
def steps : FVec Ideal S64x64 .f32 :=
  mulf (broadcastInDim S64x64 ![0, 1] bcast_S64x1_S64x64_0_1 (broadcastInDim S64x1 ![0] bcast_S64_S64x1_0 (sitofp (F := Ideal) .f32 (iotaInDim S64 32 0))))
    (broadcastInDim S64x64 ![0, 1] bcast_S1x64_S64x64_0_1 (broadcastInDim S1x64 ![1] bcast_S64_S1x64_1 inv))

/-- a table of the chunks, over all rows. -/
def far (f : FVec Ideal S128x64 .f32) : FVec Ideal S128x64x64 .f32 :=
  broadcastInDim S128x64x64 ![0, 1, 2] bcast_S128x1x64_S128x64x64_0_1_2 (broadcastInDim S128x1x64 ![0, 2] bcast_S128x64_S128x1x64_0_2 f)

/-- a table of a chunk's rows, over all rows. -/
def near (f : FVec Ideal S64x64 .f32) : FVec Ideal S128x64x64 .f32 :=
  broadcastInDim S128x64x64 ![0, 1, 2] bcast_S1x64x64_S128x64x64_0_1_2 (broadcastInDim S1x64x64 ![1, 2] bcast_S64x64_S1x64x64_1_2 f)

def cosT : FVec Ideal S8192x64 .f32 :=
  shapeCast S8192x64 (subf (mulf (far (Host.cos starts)) (near (Host.cos steps))) (mulf (far (Host.sin starts)) (near (Host.sin steps)))) shapeCasts_S128x64x64_S8192x64

def sinT : FVec Ideal S8192x64 .f32 :=
  shapeCast S8192x64 (addf (mulf (far (Host.sin starts)) (near (Host.cos steps))) (mulf (far (Host.cos starts)) (near (Host.sin steps)))) shapeCasts_S128x64x64_S8192x64

theorem starts_at (n : Fin 128) (d : Fin 64) : starts (ix2 n d) = Step.angle (64 * (n : ℕ)) d := by
  unfold starts inv
  pointwise
  have e : IntOp.muli (64#32) (BitVec.ofNat 32 (n : ℕ)) = BitVec.ofNat 32 (64 * (n : ℕ)) := by
    rw [BitVec.ofNat_mul]
    rfl
  rw [e]
  rfl

theorem steps_at (r : Fin 64) (d : Fin 64) : steps (ix2 r d) = Step.angle (r : ℕ) d := by
  unfold steps inv
  pointwise
  rfl

theorem far_at (f : FVec Ideal S128x64 .f32) (n : Fin 128) (r d : Fin 64) : far f (ix3 n r d) = f (ix2 n d) := by
  unfold far
  pointwise

theorem near_at (f : FVec Ideal S64x64 .f32) (n : Fin 128) (r d : Fin 64) : near f (ix3 n r d) = f (ix2 r d) := by
  unfold near
  pointwise

theorem rows_apply (f : FVec Ideal S128x64x64 .f32) (n : Fin 128) (r d : Fin 64) :
    shapeCast S8192x64 f shapeCasts_S128x64x64_S8192x64 (ix2 (Cert.Rf.row n r) d) = f (ix3 n r d) := by
  unfold Cert.Rf.row
  pointwise

theorem cosT_at (n : Fin 128) (r d : Fin 64) : cosT (ix2 (Cert.Rf.row n r) d) = Ideal.cos (Step.angle (Cert.Rf.row n r) d) := by
  have e : ((Cert.Rf.row n r : Fin 8192) : ℕ) = 64 * (n : ℕ) + r := by simp only [Cert.Rf.row]; omega
  unfold cosT
  rw [rows_apply, e, ← Step.cos_split (by omega) (by omega)]
  show (far (Host.cos starts) (ix3 n r d) * near (Host.cos steps) (ix3 n r d) - far (Host.sin starts) (ix3 n r d) * near (Host.sin steps) (ix3 n r d) : EReal) = _
  rw [far_at, far_at, near_at, near_at]
  show (Ideal.cos (starts (ix2 n d)) * Ideal.cos (steps (ix2 r d)) - Ideal.sin (starts (ix2 n d)) * Ideal.sin (steps (ix2 r d)) : EReal) = _
  rw [starts_at, steps_at]

theorem sinT_at (n : Fin 128) (r d : Fin 64) : sinT (ix2 (Cert.Rf.row n r) d) = Ideal.sin (Step.angle (Cert.Rf.row n r) d) := by
  have e : ((Cert.Rf.row n r : Fin 8192) : ℕ) = 64 * (n : ℕ) + r := by simp only [Cert.Rf.row]; omega
  unfold sinT
  rw [rows_apply, e, ← Step.sin_split (by omega) (by omega)]
  show (far (Host.sin starts) (ix3 n r d) * near (Host.cos steps) (ix3 n r d) + far (Host.cos starts) (ix3 n r d) * near (Host.sin steps) (ix3 n r d) : EReal) = _
  rw [far_at, far_at, near_at, near_at]
  show (Ideal.sin (starts (ix2 n d)) * Ideal.cos (steps (ix2 r d)) + Ideal.cos (starts (ix2 n d)) * Ideal.sin (steps (ix2 r d)) : EReal) = _
  rw [starts_at, steps_at]

/-! What the host lines leave in the call's operands. -/

theorem v46 (c : Dev nD) : Gen.V m c main_v46 = concatenate S8192x128 1 [⟨S8192x64, cosT⟩, ⟨S8192x64, cosT⟩] concatenates_S8192x64_S8192x64_S8192x128_d1 := by
  show StableHlo.after _ _ _ = _
  after_reads_simp
  rfl

theorem v48 (c : Dev nD) : Gen.V m c main_v48 = concatenate S8192x128 1 [⟨S8192x64, Host.negf sinT⟩, ⟨S8192x64, sinT⟩] concatenates_S8192x64_S8192x64_S8192x128_d1 := by
  show StableHlo.after _ _ _ = _
  after_reads_simp
  rfl

theorem v52 (c : Dev nD) : Gen.V m c main_v52 = Host.scatter scatter_S8x128_S1_S1x128_01_n_0_0 (fun _ b => b)
      (broadcastInDim S8x128 ![] bcast_S_S8x128 (constant (F := Ideal) S_ FTy.f32 0x00000000#32))
      (broadcastInDim S1 ![] bcast_S_S1 (constantI S_ 32 0#32)) (shapeCast S1x128 (m ((c : Thread nD τ).loc main_arg1)) shapeCasts_S128_S1x128) := by
  show StableHlo.after _ _ _ = _
  after_reads_simp
  rfl

theorem varg0 (c : Dev nD) : Gen.V m c main_arg0 = m ((c : Thread nD τ).loc main_arg0) := by
  show StableHlo.after _ _ _ = _
  after_reads_simp

/-- every window's block index, in the point's number. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0, 0, 0] :=
  (by decide +kernel : ∀ t : Fin grid0.N, _)

theorem tlt (t : Fin cfg0.N) : t.val < 16 := lt_of_lt_of_eq t.isLt N_0

/-- the row of the whole array that row `r` of point `t`'s block is. -/
abbrev grow (t : Fin cfg0.N) (r : Fin 512) : Fin 8192 := ⟨t.val * 512 + r, by have := tlt t; omega⟩

abbrev PR (c : Dev nD) : FVec Ideal S8192x2048 .f32 := m ((c : Thread nD τ).loc main_arg0)
abbrev NW (c : Dev nD) : FVec Ideal S128 .f32 := m ((c : Thread nD τ).loc main_arg1)

/-! The blocks a point reads. -/

theorem b0 (c : Dev nD) (t : Fin cfg0.N) (r : Fin 512) (k : Fin 2048) : iblk m c 0 t (ix2 r k) = PR m c (ix2 (grow t r) k) := by
  blk_simp [iblk, idx t]
  rw [varg0]
  blk_ext [idx t]

theorem b1 (c : Dev nD) (t : Fin cfg0.N) (r : Fin 512) (k : Fin 128) : iblk m c 1 t (ix2 r k) = (Gen.V m c main_v46 : FVec Ideal S8192x128 .f32) (ix2 (grow t r) k) := by
  blk_simp [iblk, idx t]
  blk_ext [idx t]

theorem b2 (c : Dev nD) (t : Fin cfg0.N) (r : Fin 512) (k : Fin 128) : iblk m c 2 t (ix2 r k) = (Gen.V m c main_v48 : FVec Ideal S8192x128 .f32) (ix2 (grow t r) k) := by
  blk_simp [iblk, idx t]
  blk_ext [idx t]

theorem b3 (c : Dev nD) (t : Fin cfg0.N) (k : Fin 128) : iblk m c 3 t (ix2 (0 : Fin 8) k) = NW m c (ix1 k) := by
  have h : iblk m c 3 t (ix2 (0 : Fin 8) k) = (Gen.V m c main_v52 : FVec Ideal S8x128 .f32) (ix2 (0 : Fin 8) k) := by
    blk_simp [iblk, idx t]
    blk_ext [idx t]
  rw [h, v52]
  refine (Step.scatter_rows scatter_S8x128_S1_S1x128_01_n_0_0 rfl rfl rfl _ (fun i => ?_) _ _ (0 : Fin 1) (0 : Fin 8) k rfl).trans ?_
  · pointwise
  · pointwise

theorem cos_lo (c : Dev nD) (n : Fin 128) (r d : Fin 64) :
    (Gen.V m c main_v46 : FVec Ideal S8192x128 .f32) (ix2 (Cert.Rf.row n r) (Cert.Rf.lo d)) = Ideal.cos (Step.angle (Cert.Rf.row n r) d) := by
  rw [v46, ← cosT_at]
  unfold Cert.Rf.lo
  pointwise

theorem cos_hi (c : Dev nD) (n : Fin 128) (r d : Fin 64) :
    (Gen.V m c main_v46 : FVec Ideal S8192x128 .f32) (ix2 (Cert.Rf.row n r) (Cert.Rf.hi d)) = Ideal.cos (Step.angle (Cert.Rf.row n r) d) := by
  rw [v46, ← cosT_at]
  unfold Cert.Rf.hi
  pointwise

theorem sin_lo (c : Dev nD) (n : Fin 128) (r d : Fin 64) :
    (Gen.V m c main_v48 : FVec Ideal S8192x128 .f32) (ix2 (Cert.Rf.row n r) (Cert.Rf.lo d)) = (-Ideal.sin (Step.angle (Cert.Rf.row n r) d) : EReal) := by
  rw [v48, ← sinT_at]
  unfold Cert.Rf.lo
  pointwise

theorem sin_hi (c : Dev nD) (n : Fin 128) (r d : Fin 64) :
    (Gen.V m c main_v48 : FVec Ideal S8192x128 .f32) (ix2 (Cert.Rf.row n r) (Cert.Rf.hi d)) = Ideal.sin (Step.angle (Cert.Rf.row n r) d) := by
  rw [v48, ← sinT_at]
  unfold Cert.Rf.hi
  pointwise

end Cert.RfKernelIdeal.Rf
-- ==== Proof.Rf.Point.lean ====
module

public import proofs.«01_k».proof.Proof.Rf.Body
public import proofs.«01_k».proof.Proof.Gen.RfKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.RfKernelIdeal.Rf

open Cert.RfKernelIdeal Cert.RfKernelIdeal.Gen

set_option maxHeartbeats 1000000

/-- Tile `b` of a stack, as it is written. -/
def row (G : FVec Ideal S32x64x128 .f32) (b : Fin 32) : FVec Ideal S64x128 .bf16 :=
  truncf .bf16 (shapeCast S64x128 (extractStridedSlice S1x64x128 ![(b : ℕ), 0, 0] G (by
    refine ⟨rfl, fun a => ?_⟩; have := b.isLt
    fin_cases a
    · show (b : ℕ) + 1 ≤ 32; omega
    · show 0 + 64 ≤ 64; omega
    · show 0 + 128 ≤ 128; omega)) shapeCasts_S1x64x128_S64x128 : FVec Ideal S64x128 .f32) bitsLt_bf16_f32

theorem first_row (a b c d e f g) : k0_pay218 (F := Ideal) a b c d e f g = row (k0_pay217 a b c d e f g) 0 := rfl

theorem second_row (a b c d e f g) : k0_pay219 (F := Ideal) a b c d e f g = row (k0_pay217 a b c d e f g) 1 := rfl

/-- Entry `(p, l)` of the block is entry `(p % 64, l % 128)` of tile `4 (p/64) + l/128`. -/
def place (y : S512x512.Idx) : S32x64x128.Idx :=
  ix3 (⟨4 * ((y 0 : ℕ) / 64) + (y 1 : ℕ) / 128, by have := (y 0).isLt; have := (y 1).isLt; change (y 0 : ℕ) < 512 at *; change (y 1 : ℕ) < 512 at *; omega⟩ : Fin 32)
    (⟨(y 0 : ℕ) % 64, Nat.mod_lt _ (by omega)⟩ : Fin 64) (⟨(y 1 : ℕ) % 128, Nat.mod_lt _ (by omega)⟩ : Fin 128)

/-- The thirty-two tiles, each written into its own rows and columns. -/
theorem canon_rows (G : FVec Ideal S32x64x128 .f32) (y : S512x512.Idx) :
    View.canon (Val := Elt Ideal) (e := .bf16) (List.ofFn fun k : Fin 32 => (⟨Rect.unit (s := S512x512) ![64 * ((31 - (k : ℕ)) / 4), 128 * ((31 - (k : ℕ)) % 4)] ![64, 128] (by
      intro a; have := k.isLt
      fin_cases a
      · show 64 * ((31 - (k : ℕ)) / 4) + 64 ≤ 512; omega
      · show 128 * ((31 - (k : ℕ)) % 4) + 128 ≤ 512; omega), row G (Fin.rev k)⟩ : View.Piece (Elt Ideal) S512x512 .bf16)) y = G (place y) := by
  have h0 : (y 0 : ℕ) < 512 := (y 0).isLt
  have h1 : (y 1 : ℕ) < 512 := (y 1).isLt
  refine View.canon_ofFn_unit_eq_of_forall (Val := Elt Ideal) (S := S512x512) (e := .bf16) (fun k : Fin 32 => ![64 * ((31 - (k : ℕ)) / 4), 128 * ((31 - (k : ℕ)) % 4)]) ![64, 128] _ (fun k => row G (Fin.rev k)) y _
    ⟨⟨31 - (4 * ((y 0 : ℕ) / 64) + (y 1 : ℕ) / 128), by omega⟩, fun a => ?_⟩ fun k => ?_
  · fin_cases a
    · show 64 * ((31 - (31 - (4 * ((y 0 : ℕ) / 64) + (y 1 : ℕ) / 128))) / 4) ≤ (y 0 : ℕ) ∧ (y 0 : ℕ) < 64 * ((31 - (31 - (4 * ((y 0 : ℕ) / 64) + (y 1 : ℕ) / 128))) / 4) + 64
      omega
    · show 128 * ((31 - (31 - (4 * ((y 0 : ℕ) / 64) + (y 1 : ℕ) / 128))) % 4) ≤ (y 1 : ℕ) ∧ (y 1 : ℕ) < 128 * ((31 - (31 - (4 * ((y 0 : ℕ) / 64) + (y 1 : ℕ) / 128))) % 4) + 128
      omega
  · tile_intro x h
    have := k.isLt
    unfold row
    pointwise
    congr 1
    funext a
    fin_cases a
    · apply Fin.ext; simp [place, Fin.rev]; omega
    · apply Fin.ext; simp [place]; omega
    · apply Fin.ext; simp [place]; omega

/-- The states on entry to the eight chunks, each written into its own place. -/
theorem canon_states (x0 : FVec Ideal S512x2048 .f32) (x1 x2 : FVec Ideal S512x128 .f32) (st : FVec Ideal S4x128x128 .f32) (y : S8x4x128x128.Idx) :
    View.canon (Val := Elt Ideal) (e := .f32) (List.ofFn fun k : Fin 8 => (⟨Rect.unit (s := S8x4x128x128) ![7 - (k : ℕ), 0, 0, 0] ![1, 4, 128, 128] (by
      intro a; have := k.isLt
      fin_cases a
      · show 7 - (k : ℕ) + 1 ≤ 8; omega
      · show 0 + 4 ≤ 4; omega
      · show 0 + 128 ≤ 128; omega
      · show 0 + 128 ≤ 128; omega), shapeCast S1x4x128x128 (E x0 x1 x2 st (7 - (k : ℕ))) shapeCasts_S4x128x128_S1x4x128x128⟩ : View.Piece (Elt Ideal) S8x4x128x128 .f32)) y
      = states x0 x1 x2 st y := by
  have h0 : (y 0 : ℕ) < 8 := (y 0).isLt
  have h1 : (y 1 : ℕ) < 4 := (y 1).isLt
  have h2 : (y 2 : ℕ) < 128 := (y 2).isLt
  have h3 : (y 3 : ℕ) < 128 := (y 3).isLt
  refine View.canon_ofFn_unit_eq_of_forall (Val := Elt Ideal) (S := S8x4x128x128) (e := .f32) (fun k : Fin 8 => ![7 - (k : ℕ), 0, 0, 0]) ![1, 4, 128, 128] _
    (fun k => shapeCast S1x4x128x128 (E x0 x1 x2 st (7 - (k : ℕ))) shapeCasts_S4x128x128_S1x4x128x128) y _
    ⟨⟨7 - (y 0 : ℕ), by omega⟩, fun a => ?_⟩ fun k => ?_
  · fin_cases a
    · show 7 - (7 - (y 0 : ℕ)) ≤ (y 0 : ℕ) ∧ (y 0 : ℕ) < 7 - (7 - (y 0 : ℕ)) + 1
      omega
    · exact ⟨Nat.zero_le _, by show (y 1 : ℕ) < 0 + 4; omega⟩
    · exact ⟨Nat.zero_le _, by show (y 2 : ℕ) < 0 + 128; omega⟩
    · exact ⟨Nat.zero_le _, by show (y 3 : ℕ) < 0 + 128; omega⟩
  · tile_intro x h
    have := k.isLt
    have e : 7 - (k : ℕ) = (y 0 : ℕ) := by omega
    unfold states
    rw [e]
    pointwise
    congr 1
    funext a
    fin_cases a
    · apply Fin.ext; simp; omega
    · apply Fin.ext; simp; omega
    · apply Fin.ext; simp; omega

/-- The state left by the first point, whose state is zero. -/
theorem sout_A (c : Dev nD) (i : grid0.Coords) (arg1 harg1 arg2 harg2 arg3 harg3 arg4 harg4 arg5 harg5 arg6 harg6 arg7 harg7 hc0)
    (x0 : FVec Ideal S512x2048 .f32) (x1 x2 : FVec Ideal S512x128 .f32) (w : FVec Ideal S8x128 .f32) :
    sout0_A_0 (F := Ideal) c i arg1 harg1 arg2 harg2 arg3 harg3 arg4 harg4 arg5 harg5 arg6 harg6 arg7 harg7 hc0 x0 x1 x2 w = E x0 x1 x2 (k0_pay5 (F := Ideal)) 8 := by
  frame_out
  rfl

/-- The states written by the first point, whose state is zero. -/
theorem out5_A (c : Dev nD) (i : grid0.Coords) (arg1 harg1 arg2 harg2 arg3 harg3 arg4 harg4 arg5 harg5 arg6 harg6 arg7 harg7 hc0)
    (x0 : FVec Ideal S512x2048 .f32) (x1 x2 : FVec Ideal S512x128 .f32) (w : FVec Ideal S8x128 .f32) :
    out0_A_5 (F := Ideal) c i arg1 harg1 arg2 harg2 arg3 harg3 arg4 harg4 arg5 harg5 arg6 harg6 arg7 harg7 hc0 x0 x1 x2 w = states x0 x1 x2 (k0_pay5 (F := Ideal)) := by
  funext y
  frame_out
  exact canon_states x0 x1 x2 (k0_pay5 (F := Ideal)) y

/-- The rows written by the first point, whose state is zero. -/
theorem out4_A (c : Dev nD) (i : grid0.Coords) (arg1 harg1 arg2 harg2 arg3 harg3 arg4 harg4 arg5 harg5 arg6 harg6 arg7 harg7 hc0)
    (x0 : FVec Ideal S512x2048 .f32) (x1 x2 : FVec Ideal S512x128 .f32) (w : FVec Ideal S8x128 .f32) (y : S512x512.Idx) :
    out0_A_4 (F := Ideal) c i arg1 harg1 arg2 harg2 arg3 harg3 arg4 harg4 arg5 harg5 arg6 harg6 arg7 harg7 hc0 x0 x1 x2 w y = gated w (O x0 x1 x2 (states x0 x1 x2 (k0_pay5 (F := Ideal)))) (Z x0) (place y) := by
  refine Eq.trans ?_ (canon_rows (gated w (O x0 x1 x2 (states x0 x1 x2 (k0_pay5 (F := Ideal)))) (Z x0)) y)
  frame_out
  generalize hX : View.readCov (Val := Elt Ideal) _ _ _ = X
  have eX : X = states x0 x1 x2 (k0_pay5 (F := Ideal)) := by
    rw [← hX, View.readCov_eq_canon']
    funext j
    refine (canon_states x0 x1 x2 (k0_pay5 (F := Ideal)) _).trans (congrArg _ ?_)
    funext a
    exact Fin.ext ((Rect.idx_unit_val ..).trans (by fin_cases a <;> exact Nat.zero_add _))
  rw [first_row, second_row]
  generalize hG : k0_pay217 (F := Ideal) _ _ _ _ _ _ _ = G
  have eG : G = gated w (O x0 x1 x2 X) (Z x0) := hG.symm.trans rfl
  rw [← eX, ← eG]
  clear eG hG eX hX
  rfl

/-- The state left by a later point, over the state `st` that it finds. -/
theorem sout_B (c : Dev nD) (i : grid0.Coords) (arg1 harg1 arg2 harg2 arg3 harg3 arg4 harg4 arg5 harg5 arg6 harg6 arg7 harg7 hc0)
    (x0 : FVec Ideal S512x2048 .f32) (x1 x2 : FVec Ideal S512x128 .f32) (w : FVec Ideal S8x128 .f32) (st : FVec Ideal S4x128x128 .f32) :
    sout0_B_0 (F := Ideal) c i arg1 harg1 arg2 harg2 arg3 harg3 arg4 harg4 arg5 harg5 arg6 harg6 arg7 harg7 hc0 x0 x1 x2 w st = E x0 x1 x2 st 8 := by
  frame_out
  rfl

/-- The states written by a later point, over the state `st` that it finds. -/
theorem out5_B (c : Dev nD) (i : grid0.Coords) (arg1 harg1 arg2 harg2 arg3 harg3 arg4 harg4 arg5 harg5 arg6 harg6 arg7 harg7 hc0)
    (x0 : FVec Ideal S512x2048 .f32) (x1 x2 : FVec Ideal S512x128 .f32) (w : FVec Ideal S8x128 .f32) (st : FVec Ideal S4x128x128 .f32) :
    out0_B_5 (F := Ideal) c i arg1 harg1 arg2 harg2 arg3 harg3 arg4 harg4 arg5 harg5 arg6 harg6 arg7 harg7 hc0 x0 x1 x2 w st = states x0 x1 x2 st := by
  funext y
  frame_out
  exact canon_states x0 x1 x2 st y

/-- The rows written by a later point, over the state `st` that it finds. -/
theorem out4_B (c : Dev nD) (i : grid0.Coords) (arg1 harg1 arg2 harg2 arg3 harg3 arg4 harg4 arg5 harg5 arg6 harg6 arg7 harg7 hc0)
    (x0 : FVec Ideal S512x2048 .f32) (x1 x2 : FVec Ideal S512x128 .f32) (w : FVec Ideal S8x128 .f32) (st : FVec Ideal S4x128x128 .f32) (y : S512x512.Idx) :
    out0_B_4 (F := Ideal) c i arg1 harg1 arg2 harg2 arg3 harg3 arg4 harg4 arg5 harg5 arg6 harg6 arg7 harg7 hc0 x0 x1 x2 w st y = gated w (O x0 x1 x2 (states x0 x1 x2 st)) (Z x0) (place y) := by
  refine Eq.trans ?_ (canon_rows (gated w (O x0 x1 x2 (states x0 x1 x2 st)) (Z x0)) y)
  frame_out
  generalize hX : View.readCov (Val := Elt Ideal) _ _ _ = X
  have eX : X = states x0 x1 x2 st := by
    rw [← hX, View.readCov_eq_canon']
    funext j
    refine (canon_states x0 x1 x2 st _).trans (congrArg _ ?_)
    funext a
    exact Fin.ext ((Rect.idx_unit_val ..).trans (by fin_cases a <;> exact Nat.zero_add _))
  rw [first_row, second_row]
  generalize hG : k0_pay217 (F := Ideal) _ _ _ _ _ _ _ = G
  have eG : G = gated w (O x0 x1 x2 X) (Z x0) := hG.symm.trans rfl
  rw [← eX, ← eG]
  clear eG hG eX hX
  rfl

end Cert.RfKernelIdeal.Rf
end
-- ==== Proof.Rf.Kernel.lean ====
module

public import proofs.«01_k».proof.Proof.Rf.Inputs
public import proofs.«01_k».proof.Proof.Rf.Point

/-! What the retention call leaves in its two arrays: each point takes the scan eight chunks on, and hands out the states it met and the
rows they give. -/

@[expose] public section

set_option maxRecDepth 16384

noncomputable section

open Idealize.ShloMosaic Idealize.ShloMosaic.TcCoe Idealize.SL.Sem
open Idealize.ShloMosaic.Pipeline (Dat)
open scoped BigOperators

namespace Cert.RfKernelIdeal.Rf

open Cert.RfKernelIdeal Cert.RfKernelIdeal.Gen

/-- chunk `k` of point `t`. -/
def chunk (t : Fin 16) (k : Fin 8) : Fin 128 := ⟨8 * (t : ℕ) + k, by omega⟩

/-- the state the reference's scan has before chunk `n`. -/
def held (pr : FVec Ideal S8192x2048 .f32) (n : ℕ) (u : Fin 4) (d v : Fin 128) : EReal :=
  (Cert.Rf.before pr n).main_v124_8 (ix4 (0 : Fin 1) u d v)

/-- the rows the reference's scan reads in chunk `n`. -/
def read (pr : FVec Ideal S8192x2048 .f32) (n : Fin 128) (r : Fin 64) (u : Fin 4) (v : Fin 128) : EReal :=
  Cert.RfReferenceIdeal.Step.b28 (n : ℕ) (Cert.Rf.before pr n) (ix4 (0 : Fin 1) r u v)

/-- the blocks of point `t`, in the program's arguments. -/
structure Blocks (pr : FVec Ideal S8192x2048 .f32) (nw : FVec Ideal S128 .f32) (t : Fin 16)
    (x : FVec Ideal S512x2048 .f32) (x1 x2 : FVec Ideal S512x128 .f32) (w : FVec Ideal S8x128 .f32) : Prop where
  rows : ∀ (k : Fin 8) (u : Fin 4) (r : Fin 64) (o : ℕ) (ho : o + 512 ≤ 2048) (d : Fin 128),
    x (ix2 (brow (tl k u) r) (bcol o ho (tl k u) d)) = pr (ix2 (Cert.Rf.row (chunk t k) r) (Cert.Rf.col o ho u d))
  cosLo : ∀ (k : Fin 8) (u : Fin 4) (r d : Fin 64), x1 (ix2 (brow (tl k u) r) (Cert.Rf.lo d)) = Ideal.cos (Step.angle (Cert.Rf.row (chunk t k) r) d)
  cosHi : ∀ (k : Fin 8) (u : Fin 4) (r d : Fin 64), x1 (ix2 (brow (tl k u) r) (Cert.Rf.hi d)) = Ideal.cos (Step.angle (Cert.Rf.row (chunk t k) r) d)
  sinLo : ∀ (k : Fin 8) (u : Fin 4) (r d : Fin 64), x2 (ix2 (brow (tl k u) r) (Cert.Rf.lo d)) = (-Ideal.sin (Step.angle (Cert.Rf.row (chunk t k) r) d) : EReal)
  sinHi : ∀ (k : Fin 8) (u : Fin 4) (r d : Fin 64), x2 (ix2 (brow (tl k u) r) (Cert.Rf.hi d)) = Ideal.sin (Step.angle (Cert.Rf.row (chunk t k) r) d)
  weight : ∀ l : Fin 128, w (ix2 (0 : Fin 8) l) = nw (ix1 l)

section

variable {pr : FVec Ideal S8192x2048 .f32} {nw : FVec Ideal S128 .f32} {t : Fin 16}
    {x : FVec Ideal S512x2048 .f32} {x1 x2 : FVec Ideal S512x128 .f32} {w : FVec Ideal S8x128 .f32} (h : Blocks pr nw t x x1 x2 w)

theorem hd_tl (k : Fin 8) (u : Fin 4) : hd (tl k u) = u := by
  apply Fin.ext
  simp only [hd, tl]
  omega

theorem half (d : Fin 128) : (∃ e, d = Cert.Rf.lo e) ∨ ∃ e, d = Cert.Rf.hi e := by
  by_cases hd : (d : ℕ) < 64
  · exact Or.inl ⟨⟨d, hd⟩, Fin.ext rfl⟩
  · exact Or.inr ⟨⟨(d : ℕ) - 64, by omega⟩, Fin.ext (by simp only [Cert.Rf.hi]; omega)⟩

include h

theorem tile_eq (o : ℕ) (ho : o + 512 ≤ 2048) (k : Fin 8) (u : Fin 4) (r : Fin 64) (d : Fin 128) :
    stack (tile x o ho) (ix3 (tl k u) r d) = pr (ix2 (Cert.Rf.row (chunk t k) r) (Cert.Rf.col o ho u d)) := by
  rw [stack_at, tile_at, h.rows]

theorem turned_lo (o : ℕ) (ho : o + 512 ≤ 2048) (k : Fin 8) (u : Fin 4) (r d : Fin 64) :
    turn x1 x2 (stack (tile x o ho)) (ix3 (tl k u) r (Cert.Rf.lo d)) =
      (pr (ix2 (Cert.Rf.row (chunk t k) r) (Cert.Rf.col o ho u (Cert.Rf.lo d))) * Ideal.cos (Step.angle (Cert.Rf.row (chunk t k) r) d)
        - pr (ix2 (Cert.Rf.row (chunk t k) r) (Cert.Rf.col o ho u (Cert.Rf.hi d))) * Ideal.sin (Step.angle (Cert.Rf.row (chunk t k) r) d) : EReal) := by
  rw [turn_lo, tile_eq h, tile_eq h, h.cosLo, h.sinLo, sub_eq_add_neg, mul_neg]

theorem turned_hi (o : ℕ) (ho : o + 512 ≤ 2048) (k : Fin 8) (u : Fin 4) (r d : Fin 64) :
    turn x1 x2 (stack (tile x o ho)) (ix3 (tl k u) r (Cert.Rf.hi d)) =
      (pr (ix2 (Cert.Rf.row (chunk t k) r) (Cert.Rf.col o ho u (Cert.Rf.lo d))) * Ideal.sin (Step.angle (Cert.Rf.row (chunk t k) r) d)
        + pr (ix2 (Cert.Rf.row (chunk t k) r) (Cert.Rf.col o ho u (Cert.Rf.hi d))) * Ideal.cos (Step.angle (Cert.Rf.row (chunk t k) r) d) : EReal) := by
  rw [turn_hi, tile_eq h, tile_eq h, h.cosHi, h.sinHi, add_comm]

theorem Q_eq (n : ℕ) (k : Fin 8) (u : Fin 4) (r : Fin 64) (d : Fin 128) :
    Q x x1 x2 (ix3 (tl k u) r d) = (Cert.Rf.before pr n).main_v124_0 (ix5 (chunk t k) (0 : Fin 1) r u d) := by
  rw [Cert.Rf.q_kept, Q_at]
  rcases half d with ⟨e, rfl⟩ | ⟨e, rfl⟩
  · rw [turned_lo h, Cert.Rf.q_lo, Cert.Rf.cos_entry, Cert.Rf.sin_entry]
  · rw [turned_hi h, Cert.Rf.q_hi, Cert.Rf.cos_entry, Cert.Rf.sin_entry]

theorem K_eq (n : ℕ) (k : Fin 8) (u : Fin 4) (r : Fin 64) (d : Fin 128) :
    K x x1 x2 (ix3 (tl k u) r d) = (Cert.Rf.before pr n).main_v124_1 (ix5 (chunk t k) (0 : Fin 1) r u d) := by
  rw [Cert.Rf.k_kept, K_at]
  rcases half d with ⟨e, rfl⟩ | ⟨e, rfl⟩
  · rw [turned_lo h, Cert.Rf.k_lo, Cert.Rf.cos_entry, Cert.Rf.sin_entry]
  · rw [turned_hi h, Cert.Rf.k_hi, Cert.Rf.cos_entry, Cert.Rf.sin_entry]

theorem V_eq (n : ℕ) (k : Fin 8) (u : Fin 4) (r : Fin 64) (d : Fin 128) :
    V x (ix3 (tl k u) r d) = (Cert.Rf.before pr n).main_v124_2 (ix5 (chunk t k) (0 : Fin 1) r u d) := by
  rw [Cert.Rf.v_kept, V_at, h.rows, Cert.Rf.v_entry]

/-- the point's eight states are the scan's. -/
theorem E_eq (st : FVec Ideal S4x128x128 .f32) (hst : ∀ u d v, st (ix3 u d v) = held pr (8 * (t : ℕ)) u d v) :
    ∀ k, k ≤ 8 → ∀ (u : Fin 4) (d v : Fin 128), E x x1 x2 st k (ix3 u d v) = held pr (8 * (t : ℕ) + k) u d v
  | 0, _, u, d, v => hst u d v
  | k + 1, hk, u, d, v => by
    refine (next_at x x1 x2 ⟨k, hk⟩ (E x x1 x2 st k) u d v).trans (Eq.trans ?_ (Cert.Rf.carry_at (chunk t ⟨k, hk⟩) (Cert.Rf.before pr (8 * (t : ℕ) + k)) u d v).symm)
    rw [E_eq st hst k (by omega) u d v, Cert.Rf.whole_entry]
    refine congrArg (fun a : EReal => held pr (8 * (t : ℕ) + k) u d v * ((Step.decay u ^ 64 : ℝ) : EReal) + a) (Finset.sum_congr rfl fun j _ => ?_)
    rw [K_eq h (8 * (t : ℕ) + k), V_eq h (8 * (t : ℕ) + k), KD_at, hd_tl, Cert.Rf.toEnd_entry]

theorem states_eq (st : FVec Ideal S4x128x128 .f32) (hst : ∀ u d v, st (ix3 u d v) = held pr (8 * (t : ℕ)) u d v) (k : Fin 8) (u : Fin 4) (d v : Fin 128) :
    states x x1 x2 st (ix4 k u d v) = held pr (chunk t k) u d v :=
  E_eq h st hst k (by omega) u d v

/-- the rows read off them are the scan's. -/
theorem O_eq (st : FVec Ideal S4x128x128 .f32) (hst : ∀ u d v, st (ix3 u d v) = held pr (8 * (t : ℕ)) u d v) (k : Fin 8) (u : Fin 4) (r : Fin 64) (v : Fin 128) :
    O x x1 x2 (states x x1 x2 st) (ix3 (tl k u) r v) = read pr (chunk t k) r u v := by
  refine (O_at x x1 x2 _ k u r v).trans (Eq.trans ?_ (Cert.Rf.rows_at (chunk t k) (Cert.Rf.before pr (chunk t k)) r u v).symm)
  rw [QD_at, hd_tl, Cert.Rf.fromStart_entry]
  refine congrArg₂ (fun a b : EReal => a + b * _) (Finset.sum_congr rfl fun j _ => ?_) (Finset.sum_congr rfl fun d _ => ?_)
  · rw [S_at, DD_at, hd_tl, V_eq h (chunk t k), mul_comm, Cert.Rf.inside_entry]
    refine congrArg (fun a : EReal => _ * (a * _)) (Finset.sum_congr rfl fun d _ => ?_)
    rw [Q_eq h (chunk t k), K_eq h (chunk t k)]
  · rw [states_eq h st hst, Q_eq h (chunk t k), mul_comm]
    rfl

/-- and the rows handed out. -/
theorem gated_eq (st : FVec Ideal S4x128x128 .f32) (hst : ∀ u d v, st (ix3 u d v) = held pr (8 * (t : ℕ)) u d v) (k : Fin 8) (u : Fin 4) (r : Fin 64) (v : Fin 128) :
    gated w (O x x1 x2 (states x x1 x2 st)) (Z x) (ix3 (tl k u) r v) =
      Cert.Rf.finish (fun l => read pr (chunk t k) r u l) (fun l => nw (ix1 l)) (pr (ix2 (Cert.Rf.row (chunk t k) r) (Cert.Rf.col 1536 (by decide) u v))) v := by
  rw [gated_at, Z_at, h.rows]
  simp only [O_eq h st hst, h.weight]

end

/-! The grid. -/

variable (m : (ℓ : Loc nD τ sig) → Buf (Elt Ideal) ℓ)

/-- a point's number. -/
abbrev pt (t : Fin cfg0.N) : Fin 16 := ⟨t.val, tlt t⟩

theorem grow_brow (t : Fin cfg0.N) (k : Fin 8) (u : Fin 4) (r : Fin 64) : grow t (brow (tl k u) r) = Cert.Rf.row (chunk (pt t) k) r := by
  apply Fin.ext
  simp only [grow, brow, tl, Cert.Rf.row, chunk, pt]
  omega

theorem bcol_tl (o : ℕ) (ho : o + 512 ≤ 2048) (k : Fin 8) (u : Fin 4) (d : Fin 128) : bcol o ho (tl k u) d = Cert.Rf.col o ho u d := by
  apply Fin.ext
  simp only [bcol, tl, Cert.Rf.col]
  omega

theorem blocks (c : Dev nD) (t : Fin cfg0.N) : Blocks (PR m c) (NW m c) (pt t) (iblk m c 0 t) (iblk m c 1 t) (iblk m c 2 t) (iblk m c 3 t) where
  rows k u r o ho d := by rw [b0, grow_brow, bcol_tl]
  cosLo k u r d := by rw [b1, grow_brow, cos_lo]
  cosHi k u r d := by rw [b1, grow_brow, cos_hi]
  sinLo k u r d := by rw [b2, grow_brow, sin_lo]
  sinHi k u r d := by rw [b2, grow_brow, sin_hi]
  weight l := b3 m c t l

theorem nothing (u : Fin 4) (d v : Fin 128) : k0_pay5 (F := Ideal) (ix3 u d v) = (0 : EReal) := by
  unfold k0_pay5
  pointwise

/-- what point `t` leaves, over a state that is the scan's before its first chunk. -/
theorem point (c : Dev nD) (t : Fin cfg0.N) : ∃ st : FVec Ideal S4x128x128 .f32, (∀ u d v, st (ix3 u d v) = held (PR m c) (8 * t.val) u d v)
    ∧ (outsAt0 m c t.val t.isLt).2.2 = E (iblk m c 0 t) (iblk m c 1 t) (iblk m c 2 t) st 8
    ∧ (outsAt0 m c t.val t.isLt).2.1 = states (iblk m c 0 t) (iblk m c 1 t) (iblk m c 2 t) st
    ∧ ∀ y : S512x512.Idx, (outsAt0 m c t.val t.isLt).1 y = gated (iblk m c 3 t)
        (O (iblk m c 0 t) (iblk m c 1 t) (iblk m c 2 t) (states (iblk m c 0 t) (iblk m c 1 t) (iblk m c 2 t) st)) (Z (iblk m c 0 t)) (place y) := by
  obtain ⟨n, hn⟩ := t
  have hN : n < 16 := lt_of_lt_of_eq hn N_0
  induction n with
  | zero =>
    refine ⟨k0_pay5 (F := Ideal), fun u d v => (nothing u d v).trans (Cert.Rf.zero_entry _ u d v).symm, ?_, ?_, fun y => ?_⟩
    · rw [outsAt0_A m c ⟨0, hn⟩ rfl]
      dsimp only
      rw [sout_A]
    · rw [outsAt0_A m c ⟨0, hn⟩ rfl]
      dsimp only
      rw [out5_A]
    · rw [outsAt0_A m c ⟨0, hn⟩ rfl]
      dsimp only
      rw [out4_A]
  | succ n ih =>
    obtain ⟨st, hst, e, -, -⟩ := ih (by omega) (by omega)
    have h0 : ¬ (⟨n + 1, hn⟩ : Fin cfg0.N).val % 16 = 0 := by show ¬ (n + 1) % 16 = 0; omega
    refine ⟨(outsAt0 m c n (by omega)).2.2, fun u d v => ?_, ?_, ?_, fun y => ?_⟩
    · rw [e]
      exact E_eq (blocks m c ⟨n, by omega⟩) st hst 8 le_rfl u d v
    · rw [outsAt0_B m c ⟨n + 1, hn⟩ h0]
      dsimp only
      rw [sout_B]
      rfl
    · rw [outsAt0_B m c ⟨n + 1, hn⟩ h0]
      dsimp only
      rw [out5_B]
      rfl
    · rw [outsAt0_B m c ⟨n + 1, hn⟩ h0]
      dsimp only
      rw [out4_B]
      rfl

/-! The two arrays after the run. -/

/-- a row and a column of a point's block are a row of one of its chunks and a lane of one head. -/
theorem split_idx (y : S512x512.Idx) : ∃ (k : Fin 8) (u : Fin 4) (r : Fin 64) (v : Fin 128),
    y = ix2 (brow (tl k u) r) (⟨(u : ℕ) * 128 + v, by omega⟩ : Fin 512) := by
  have h0 : (y 0 : ℕ) < 512 := (y 0).isLt
  have h1 : (y 1 : ℕ) < 512 := (y 1).isLt
  refine ⟨⟨(y 0 : ℕ) / 64, by omega⟩, ⟨(y 1 : ℕ) / 128, by omega⟩, ⟨(y 0 : ℕ) % 64, by omega⟩, ⟨(y 1 : ℕ) % 128, by omega⟩, ?_⟩
  funext a
  fin_cases a
  · apply Fin.ext
    show (y 0 : ℕ) = 64 * ((4 * ((y 0 : ℕ) / 64) + (y 1 : ℕ) / 128) / 4) + (y 0 : ℕ) % 64
    omega
  · apply Fin.ext
    show (y 1 : ℕ) = (y 1 : ℕ) / 128 * 128 + (y 1 : ℕ) % 128
    omega

theorem place_split (k : Fin 8) (u : Fin 4) (r : Fin 64) (v : Fin 128) :
    place (ix2 (brow (tl k u) r) (⟨(u : ℕ) * 128 + v, by omega⟩ : Fin 512)) = ix3 (tl k u) r v := by
  funext a
  fin_cases a
  · apply Fin.ext
    show 4 * ((64 * ((4 * (k : ℕ) + u) / 4) + (r : ℕ)) / 64) + ((u : ℕ) * 128 + v) / 128 = 4 * (k : ℕ) + u
    omega
  · apply Fin.ext
    show (64 * ((4 * (k : ℕ) + u) / 4) + (r : ℕ)) % 64 = r
    omega
  · apply Fin.ext
    show ((u : ℕ) * 128 + v) % 128 = v
    omega

theorem final4 (c : Dev nD) : (dats m 0 c).arrAt 4 cfg0.N =
    (Cert.RfReferenceIdeal.Step.R_main_v146 (Cert.Rf.before (PR m c) 128) (PR m c) (NW m c) : S8192x512.Idx → EReal) := by
  refine (dats m 0 c).arrAt_eq_of_covers 4 _ (by decide +kernel) fun t hf y => ?_
  blk_simp
  obtain ⟨k, u, r, v, rfl⟩ := split_idx y
  obtain ⟨st, hst, -, -, e⟩ := point m c t
  rw [after0_4]
  have q0 : (((cfg0.win 4).blk t).view.emb (ix2 (brow (tl k u) r) (⟨(u : ℕ) * 128 + v, by omega⟩ : Fin 512))) 0 = grow t (brow (tl k u) r) := by
    apply Fin.ext
    blk_simp [idx t]
  have q1 : (((cfg0.win 4).blk t).view.emb (ix2 (brow (tl k u) r) (⟨(u : ℕ) * 128 + v, by omega⟩ : Fin 512))) 1 = (⟨(u : ℕ) * 128 + v, by omega⟩ : Fin 512) := by
    apply Fin.ext
    blk_simp [idx t]
  have e0 : ((cfg0.win 4).blk t).view.emb (ix2 (brow (tl k u) r) (⟨(u : ℕ) * 128 + v, by omega⟩ : Fin 512))
      = ix2 (Cert.Rf.row (chunk (pt t) k) r) (⟨(u : ℕ) * 128 + v, by omega⟩ : Fin 512) := by
    funext a
    fin_cases a
    · exact q0.trans (grow_brow t k u r)
    · exact q1
  refine ((e _).trans ((congrArg _ (place_split k u r v)).trans ((gated_eq (blocks m c t) st hst k u r v).trans ?_)))
  exact (Cert.Rf.result_rows (PR m c) (NW m c) (chunk (pt t) k) r u v).symm.trans (congrArg _ e0.symm)

theorem final5 (c : Dev nD) : (dats m 0 c).arrAt 5 cfg0.N =
    (Cert.RfReferenceIdeal.Step.R_main_v147 (Cert.Rf.before (PR m c) 128) : S128x4x128x128.Idx → EReal) := by
  refine (dats m 0 c).arrAt_eq_of_covers 5 _ (by decide +kernel) fun t hf y => ?_
  blk_simp
  obtain ⟨k, u, d, v, rfl⟩ : ∃ (k : Fin 8) (u : Fin 4) (d v : Fin 128), y = ix4 k u d v := ⟨y 0, y 1, y 2, y 3, by funext a; fin_cases a <;> rfl⟩
  obtain ⟨st, hst, -, e, -⟩ := point m c t
  rw [after0_5, e]
  have q0 : (((cfg0.win 5).blk t).view.emb (ix4 k u d v)) 0 = chunk (pt t) k := by
    apply Fin.ext
    blk_simp [idx t]
    show t.val * 8 + (k : ℕ) = 8 * t.val + k
    omega
  have q1 : (((cfg0.win 5).blk t).view.emb (ix4 k u d v)) 1 = u := by
    apply Fin.ext
    blk_simp [idx t]
  have q2 : (((cfg0.win 5).blk t).view.emb (ix4 k u d v)) 2 = d := by
    apply Fin.ext
    blk_simp [idx t]
  have q3 : (((cfg0.win 5).blk t).view.emb (ix4 k u d v)) 3 = v := by
    apply Fin.ext
    blk_simp [idx t]
  have e0 : ((cfg0.win 5).blk t).view.emb (ix4 k u d v) = ix4 (chunk (pt t) k) u d v := by
    funext a
    fin_cases a
    · exact q0
    · exact q1
    · exact q2
    · exact q3
  refine (states_eq (blocks m c t) st hst k u d v).trans ?_
  exact (Cert.Rf.result_states (PR m c) (chunk (pt t) k) u d v).symm.trans (congrArg _ e0.symm)

end Cert.RfKernelIdeal.Rf
-- ==== Proof.Rf.Equal.lean ====
module

public import proofs.«01_k».proof.Defs
public import proofs.«01_k».proof.Proof.Rf.Kernel

/-! The retention call and the scan written plainly leave the same two arrays. -/

@[expose] public section

set_option maxRecDepth 16384

noncomputable section

open Idealize.ShloMosaic Idealize.ShloMosaic.TcCoe Idealize.SL.Sem

namespace Rf

open Cert.RfKernelIdeal Cert.RfKernelIdeal.Rf

theorem algebraic [Cert.RfKernelIdeal.Facts] [Cert.RfReferenceIdeal.Facts] : Cert.algebraic_RfKernelIdeal_RfReferenceIdeal := by
  intro m g m' g' _ hm
  refine ⟨_, _, Cert.RfKernelIdeal.Value.run_blocks m g, ?_⟩
  refine (θ_run _ _ _).mono (fun r h c => ⟨(h c).1.trans ?_, (h c).2.1.trans ?_, (h c).2.2⟩) (Cert.Rf.reference_run m' g')
  · rw [final4, (hm c).1, (hm c).2]
  · rw [final5, (hm c).1]

/-- the literals that stand for the heads' decay rates. -/
theorem preserves : Cert.preserves_RfKernel_RfKernelIdeal :=
  ⟨IdealRules.named_const.statement κ "lg0" _ _ _ rfl, IdealRules.named_const.statement κ "lg1" _ _ _ rfl,
    IdealRules.named_const.statement κ "lg2" _ _ _ rfl, IdealRules.named_const.statement κ "lg3" _ _ _ rfl,
    IdealRules.named_const.statement κ "cd0" _ _ _ rfl, IdealRules.named_const.statement κ "cd1" _ _ _ rfl,
    IdealRules.named_const.statement κ "cd2" _ _ _ rfl, IdealRules.named_const.statement κ "cd3" _ _ _ rfl⟩

/-- the reference leaves its arguments as they were. -/
theorem reference_frame [Cert.RfReferenceIdeal.Facts] : Cert.quiescent_RfReferenceIdeal := fun m g _ =>
  (θ_run Cert.RfReferenceIdeal.defs _ _).mono (fun r h => ⟨fun c => (h c).2.2, sem_eq_zero_of_no_sems (by decide) r.2⟩) (Cert.Rf.reference_run m g)

end Rf

end
-- ==== Proof.Sf.Body.lean ====
module

public import proofs.«01_k».proof.Proof.Gen.SfKernelIdeal.Frame
public import proofs.«01_k».proof.Proof.Gen.SfKernelIdeal.Value
public import Idealize.ShloMosaic.Lib.Pointwise
public import Idealize.ShloMosaic.Lib.Pipeline.ValueKit
public import Idealize.ShloMosaic.Lib.Pipeline.ReadBack

/-! One grid point of `ssd_fwd` as a short program: four chunks of 64 rows, each over two groups of eight heads. -/

@[expose] public section

set_option maxRecDepth 16384

noncomputable section

open Idealize.ShloMosaic Idealize.ShloMosaic.TcCoe Idealize.SL.Sem
open Idealize.ShloMosaic.Pipeline (Dat)
open scoped BigOperators

namespace Cert.SfKernelIdeal.Sf

open Cert.SfKernelIdeal Cert.SfKernelIdeal.Gen

/-- A window of a matrix. -/
abbrev cut {m n : ℕ} (p q a b : ℕ) (f : FVec Ideal ⟨2, ![m, n]⟩ .f32) (ha : a + p ≤ m) (hb : b + q ≤ n) : FVec Ideal ⟨2, ![p, q]⟩ .f32 :=
  extractStridedSlice ⟨2, ![p, q]⟩ ![a, b] f (by
    refine ⟨rfl, fun i => ?_⟩
    fin_cases i
    · exact ha
    · exact hb)

theorem chunk_le (k : Fin 4) : 64 * (k : ℕ) + 64 ≤ 256 := by omega

section
variable (ac : FVec Ideal S256x128 .f32) (xd ea : FVec Ideal S256x1024 .f32) (act : FVec Ideal S256x1536 .f32) (k : Fin 4)

/-- the group's inputs and outputs of the state, for the rows of a chunk. -/
def Bm (g : Fin 2) : FVec Ideal S64x128 .f32 := cut 64 128 (64 * (k : ℕ)) (1024 + 128 * (g : ℕ)) act (chunk_le k) (by omega)
def Cm (g : Fin 2) : FVec Ideal S64x128 .f32 := cut 64 128 (64 * (k : ℕ)) (1280 + 128 * (g : ℕ)) act (chunk_le k) (by omega)

/-- the scores of a group. -/
def CB (g : Fin 2) : FVec Ideal S64x64 .f32 :=
  matmul dot_S64x128_S64x128_S64x64_1_1_0_0_n_n none (truncf .bf16 (Cm act k g) bitsLt_bf16_f32) (truncf .bf16 (Bm act k g) bitsLt_bf16_f32)
    (constant S64x64 .f32 0x00000000#32)

/-- the decay between two rows of a chunk, for head `h` of sixteen. -/
def DEC (h : Fin 16) : FVec Ideal S64x64 .f32 :=
  exp (select k0_pay4 (subf (broadcastTo S64x64 (cut 64 1 (64 * (k : ℕ)) (h : ℕ) ac (chunk_le k) (by omega)) broadcasts_S64x1_S64x64)
    (broadcastTo S64x64 (cut 1 64 (h : ℕ) (64 * (k : ℕ)) (k0_pay17 ac) (by omega) (chunk_le k)) broadcasts_S1x64_S64x64))
    (broadcast S64x64 (Named.named κ "mask" 0xF149F2CA#32)))

/-- what a head reads inside the chunk. -/
def HEAD (g : Fin 2) (h : Fin 16) : FVec Ideal S64x64 .f32 :=
  matmul dot_S64x64_S64x64_S64x64_1_0_0_1_n_n none (truncf .bf16 (mulf (CB act k g) (DEC ac k h)) bitsLt_bf16_f32)
    (truncf .bf16 (cut 64 64 (64 * (k : ℕ)) (64 * (h : ℕ)) xd (chunk_le k) (by omega)) bitsLt_bf16_f32) (constant S64x64 .f32 0x00000000#32)

/-- eight tiles beside each other. -/
def beside (f : Fin 8 → FVec Ideal S64x64 .f32) : FVec Ideal S64x512 .f32 :=
  concatenate S64x512 1 (List.ofFn fun h => ⟨S64x64, f h⟩) (by exact (by decide : Shape.Concatenates (List.replicate 8 S64x64) S64x512 1))

/-- head `h` of group `g`. -/
def head (g : Fin 2) (h : Fin 8) : Fin 16 := ⟨8 * (g : ℕ) + (h : ℕ), by omega⟩

/-- what a group reads, over the state `st` it finds. -/
def YG (g : Fin 2) (st : FVec Ideal S128x512 .f32) : FVec Ideal S64x512 .f32 :=
  addf (beside fun h => HEAD ac xd act k g (head g h))
    (mulf (matmul dot_S64x128_S128x512_S64x512_1_0_0_1_n_n none (truncf .bf16 (Cm act k g) bitsLt_bf16_f32) (truncf .bf16 st bitsLt_bf16_f32)
      (constant S64x512 .f32 0x00000000#32)) (cut 64 512 (64 * (k : ℕ)) (512 * (g : ℕ)) ea (chunk_le k) (by omega)))

/-- the running sum at the chunk's end. -/
def LAST : FVec Ideal S1x128 .f32 := cut 1 128 (64 * (k : ℕ) + 63) 0 ac (by omega) (by omega)

/-- decay to the end of the chunk, and over the whole chunk. -/
def WD : FVec Ideal S64x1024 .f32 :=
  matmul dot_S64x128_S128x1024_S64x1024_1_0_0_1_n_n none (truncf .bf16 (exp (subf (broadcastTo S64x128 (LAST ac k) broadcasts_S1x128_S64x128)
    (cut 64 128 (64 * (k : ℕ)) 0 ac (chunk_le k) (by omega)))) bitsLt_bf16_f32) (truncf .bf16 (k0_pay11 (F := Ideal)) bitsLt_bf16_f32)
    (constant S64x1024 .f32 0x00000000#32)

def EAL : FVec Ideal S1x1024 .f32 :=
  cut 1 1024 0 0 (matmul dot_S8x128_S128x1024_S8x1024_1_0_0_1_n_n none (truncf .bf16 (broadcastTo S8x128 (shapeCast S1x128 (exp (LAST ac k)) shapeCasts_S1x128_S1x128)
    broadcasts_S1x128_S8x128) bitsLt_bf16_f32) (truncf .bf16 (k0_pay11 (F := Ideal)) bitsLt_bf16_f32)
    (constant S8x1024 .f32 0x00000000#32)) (by omega) (by omega)

/-- a group's state after one more chunk. -/
def NEXT (g : Fin 2) (st : FVec Ideal S128x512 .f32) : FVec Ideal S128x512 .f32 :=
  shapeCast S128x512 (addf (mulf st (broadcastTo S128x512 (cut 1 512 0 (512 * (g : ℕ)) (EAL ac k) (by omega) (by omega)) broadcasts_S1x512_S128x512))
    (matmul dot_S64x128_S64x512_S128x512_0_0_1_1_n_n none (truncf .bf16 (Bm act k g) bitsLt_bf16_f32)
      (truncf .bf16 (mulf (cut 64 512 (64 * (k : ℕ)) (512 * (g : ℕ)) xd (chunk_le k) (by omega)) (cut 64 512 0 (512 * (g : ℕ)) (WD ac k) (by omega) (by omega))) bitsLt_bf16_f32)
      (constant S128x512 .f32 0x00000000#32))) shapeCasts_S128x512_S128x512

/-- the rows of a chunk before gating. -/
def YC (d : FVec Ideal S1x1024 .f32) (a b : FVec Ideal S64x512 .f32) : FVec Ideal S64x1024 .f32 :=
  addf (concatenate S64x1024 1 [⟨S64x512, a⟩, ⟨S64x512, b⟩] concatenates_S64x512_S64x512_S64x1024_d1)
    (mulf (cut 64 1024 (64 * (k : ℕ)) 0 act (chunk_le k) (by omega)) (broadcastTo S64x1024 d broadcasts_S1x1024_S64x1024))

end

/-- the group's columns. -/
def half (st : FVec Ideal S128x1024 .f32) (g : Fin 2) : FVec Ideal S128x512 .f32 :=
  View.ld (Val := Elt Ideal) (e' := .f32) st (Rect.unit (s := S128x1024) ![0, 512 * (g : ℕ)] ![128, 512] (by
    intro a
    fin_cases a
    · show 0 + 128 ≤ 128; omega
    · show 512 * (g : ℕ) + 512 ≤ 1024; omega))

/-- two groups' columns side by side. -/
def join (f : Fin 2 → FVec Ideal S128x512 .f32) : FVec Ideal S128x1024 .f32 := fun y =>
  f ⟨(y 1 : ℕ) / 512, by have : (y 1 : ℕ) < 1024 := (y 1).isLt; omega⟩ (ix2 (y 0) ⟨(y 1 : ℕ) % 512, Nat.mod_lt _ (by decide)⟩)

/-- normalised over a group and weighted. -/
def normed (p : FVec Ideal S64x1024 .f32) (w : FVec Ideal S1x1024 .f32) (g : Fin 2) : FVec Ideal S64x512 .f32 :=
  mulf (mulf (cut 64 512 0 (512 * (g : ℕ)) p (by omega) (by omega)) (broadcastTo S64x512 (rsqrt (addf (mulf (shapeCast S64x1
      (multiReduction .add [1] S64 (mulf (cut 64 512 0 (512 * (g : ℕ)) p (by omega) (by omega)) (cut 64 512 0 (512 * (g : ℕ)) p (by omega) (by omega))) 0x00000000#32 reduces_S64x512_S64 (.inl rfl) rfl) shapeCasts_S64_S64x1)
      (broadcast S64x1 (Scalar.ofBits .f32 0x3B000000#32))) (broadcast S64x1 (Scalar.ofBits .f32 0x358637BD#32)))) broadcasts_S64x1_S64x512))
    (broadcastTo S64x512 (cut 1 512 0 (512 * (g : ℕ)) w (by omega) (by omega)) broadcasts_S1x512_S64x512)

/-- gated, normalised, weighted. -/
def OUT (w : FVec Ideal S1x1024 .f32) (y z : FVec Ideal S64x1024 .f32) : FVec Ideal S64x1024 .bf16 :=
  truncf .bf16 (concatenate S64x1024 1 [⟨S64x512, normed (mulf y (mulf z (logistic z))) w 0⟩, ⟨S64x512, normed (mulf y (mulf z (logistic z))) w 1⟩]
    concatenates_S64x512_S64x512_S64x1024_d1) bitsLt_bf16_f32

section
variable (x0 : FVec Ideal S256x2560 .f32) (x1 : FVec Ideal S256x128 .f32) (x2 x3 : FVec Ideal S8x1536 .f32) (x4 : FVec Ideal S8x128 .f32)
  (x5 : FVec Ideal S8x1024 .f32) (st : FVec Ideal S128x1024 .f32) (ha : FVec Ideal S8x1536 .f32)

/-- the point's projected columns before the convolution. -/
def RAW : FVec Ideal S256x1536 .f32 := View.ld (Val := Elt Ideal) (e' := .f32) x0 (Rect.unit (s := S256x2560) ![0, 0] ![256, 1536] inb_S256x2560_S256x1536_0_0)
def PRE : FVec Ideal S256x1536 .f32 := k0_pay7 ha x2 x3 (RAW x0)
def ACT : FVec Ideal S256x1536 .f32 := k0_pay8 (PRE x0 x2 x3 ha)
def AC : FVec Ideal S256x128 .f32 := k0_pay10 (k0_pay5 x1) (k0_pay6 x4)
def XD : FVec Ideal S256x1024 .f32 := k0_pay12 (k0_pay5 x1) (k0_pay6 x4) (PRE x0 x2 x3 ha)
def EA : FVec Ideal S256x1024 .f32 := k0_pay14 (k0_pay11 (F := Ideal)) (k0_pay13 (k0_pay5 x1) (k0_pay6 x4))
def DR : FVec Ideal S1x1024 .f32 := k0_pay15 (k0_pay6 x4) (k0_pay11 (F := Ideal))
def NW : FVec Ideal S1x1024 .f32 := k0_pay18 (View.ld (Val := Elt Ideal) (e' := .f32) x5 (Rect.unit (s := S8x1024) ![0, 0] ![1, 1024] inb_S8x1024_S1x1024_0_0))

/-- chunk `n` of four. -/
def at4 (n : ℕ) : Fin 4 := ⟨n % 4, Nat.mod_lt _ (by decide)⟩

/-- a group's state before chunk `n` of the point. -/
def GS (g : Fin 2) : ℕ → FVec Ideal S128x512 .f32
  | 0 => half st g
  | n + 1 => NEXT (AC x1 x4) (XD x0 x1 x2 x3 x4 ha) (ACT x0 x2 x3 ha) (at4 n) g (GS g n)

/-- the state before chunk `n`. -/
def E (n : ℕ) : FVec Ideal S128x1024 .f32 := join ![GS x0 x1 x2 x3 x4 st ha 0 n, GS x0 x1 x2 x3 x4 st ha 1 n]

/-- the same, spelled as it is found. -/
def ST : ℕ → FVec Ideal S128x1024 .f32
  | 0 => st
  | n + 1 => E x0 x1 x2 x3 x4 st ha (n + 1)

/-- the rows of chunk `n` before gating. -/
def Y (n : ℕ) : FVec Ideal S64x1024 .f32 :=
  YC (ACT x0 x2 x3 ha) (at4 n) (DR x4)
    (YG (AC x1 x4) (XD x0 x1 x2 x3 x4 ha) (EA x1 x4) (ACT x0 x2 x3 ha) (at4 n) 0 (GS x0 x1 x2 x3 x4 st ha 0 n))
    (YG (AC x1 x4) (XD x0 x1 x2 x3 x4 ha) (EA x1 x4) (ACT x0 x2 x3 ha) (at4 n) 1 (GS x0 x1 x2 x3 x4 st ha 1 n))

/-- the gate's columns of chunk `n`. -/
def ZC (n : ℕ) : FVec Ideal S64x1024 .f32 :=
  View.ld (Val := Elt Ideal) (e' := .f32) x0 (Rect.unit (s := S256x2560) ![64 * (n % 4), 1536] ![64, 1024] (by
    intro a
    fin_cases a
    · show 64 * (n % 4) + 64 ≤ 256; omega
    · show 1536 + 1024 ≤ 2560; omega))

end

end Cert.SfKernelIdeal.Sf

end
-- ==== Proof.Sf.Run.lean ====
/- The scan of the forward reference, run trip by trip: what the carried buffers hold before trip `n` is the `n`-th of a
   sequence of states that goes on by the step, and the results are read off state 128. -/
module

public import proofs.«01_k».proof.Proof.Gen.SfReferenceIdeal.Run
public import proofs.«01_k».proof.Proof.Gen.SfReferenceIdeal.Step
public import Idealize.ShloMosaic.Lib.Pointwise

@[expose] public section

set_option maxRecDepth 16384

noncomputable section

namespace Cert.Sf

open Idealize.ShloMosaic Idealize.ShloMosaic.TcCoe Idealize.SL.Sem Idealize.ShloMosaic.StableHlo
open Cert.SfReferenceIdeal Cert.SfReferenceIdeal.Gen Cert.SfReferenceIdeal.Value
open Cert.SfReferenceIdeal.Step (State step init K_main_v62 R_main_v147 R_main_v149 R_main_v150 R_main_v151)

/-- Contents of the buffers at the start of trip `j`: the state in the carried ones, the mask in the constant one. -/
structure AtTrip (V : Valuation τ sig (Elt Ideal)) (s : State Ideal) (j : ℕ) : Prop where
  carry : V (Proc.devRef .tc main_v74_6) = s.main_v74_6
  outs : V (Proc.devRef .tc main_v74_7) = s.main_v74_7
  states : V (Proc.devRef .tc main_v74_8) = s.main_v74_8
  xdt : V (Proc.devRef .tc main_v74_0) = s.main_v74_0
  b : V (Proc.devRef .tc main_v74_1) = s.main_v74_1
  c : V (Proc.devRef .tc main_v74_2) = s.main_v74_2
  a : V (Proc.devRef .tc main_v74_3) = s.main_v74_3
  trip : V (Proc.devRef .tc main_v74_5) = constantI S_ 32 (BitVec.ofNat 32 j)
  mask : V (Proc.devRef .tc main_v74_4) = K_main_v62 (F := Ideal)

variable {V : Valuation τ sig (Elt Ideal)} {s : State Ideal} {j : ℕ}

theorem AtTrip.carry_next (h : AtTrip V s j) : step_main_v74_6 V = (step j s).main_v74_6 := by
  unfold step_main_v74_6 res_main_while0b_v180 res_main_while0b_v156 res_main_while0b_v153 res_main_while0b_v152
  rw [h.carry, h.xdt, h.b, h.a, h.trip]
  rfl

theorem AtTrip.outs_next (h : AtTrip V s j) : step_main_v74_7 V = (step j s).main_v74_7 := by
  unfold step_main_v74_7 res_main_while0b_v156 res_main_while0b_v154 res_main_while0b_v153 res_main_while0b_v152
  rw [h.carry, h.outs, h.xdt, h.b, h.c, h.a, h.trip, h.mask]
  rfl

theorem AtTrip.states_next (h : AtTrip V s j) : step_main_v74_8 V = (step j s).main_v74_8 := by
  unfold step_main_v74_8
  rw [h.carry, h.states, h.trip]
  rfl

theorem AtTrip.trip_next (h : AtTrip V s j) : step_main_v74_5 V = constantI S_ 32 (BitVec.ofNat 32 (j + 1)) := by
  unfold step_main_v74_5
  rw [h.trip]
  funext i
  show BitVec.ofNat 32 j + 1#32 = BitVec.ofNat 32 (j + 1)
  simp only [BitVec.ofNat_add]

/-- One trip leads from the state to its successor. -/
theorem AtTrip.next (h : AtTrip V s j) : AtTrip (STEP V) (step j s) (j + 1) :=
  { carry := (STEP_main_v74_6 V).trans h.carry_next
    outs := (STEP_main_v74_7 V).trans h.outs_next
    states := (STEP_main_v74_8 V).trans h.states_next
    xdt := (STEP_main_v74_0 V).trans h.xdt
    b := (STEP_main_v74_1 V).trans h.b
    c := (STEP_main_v74_2 V).trans h.c
    a := (STEP_main_v74_3 V).trans h.a
    trip := (STEP_main_v74_5 V).trans h.trip_next
    mask := (STEP_main_v74_4 V).trans h.mask }

/-- The states before each trip. -/
def before (a0 : S8192x2560.Idx → EReal) (a1 : S8192x16.Idx → EReal) (a2 : S4x1536.Idx → EReal) (a3 : S1536.Idx → EReal) (a4 : S16.Idx → EReal) (a5 : S16.Idx → EReal) : ℕ → State Ideal
  | 0 => init (F := Ideal) a0 a1 a2 a3 a4 a5
  | n + 1 => step n (before a0 a1 a2 a3 a4 a5 n)

variable (m : (ℓ : Loc nD τ sig) → Buf (Elt Ideal) ℓ) (c : Dev nD)

/-- The states before each trip, over the arguments in memory. -/
def run_before (n : ℕ) : State Ideal :=
  before (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n

set_option maxRecDepth 65536 in
set_option maxHeartbeats 2000000 in
/-- Before the first trip the buffers hold the first state. -/
theorem start : AtTrip (entryContents preI m c) (run_before m c 0) 0 := by
  constructor <;> (simp only [entryContents, afterL_cons, afterL_nil]; after_reads_simp) <;> rfl

/-- Before trip `n` they hold the `n`-th. -/
theorem atTrip : ∀ n, AtTrip (STEP^[n] (entryContents preI m c)) (run_before m c n) n
  | 0 => start m c
  | n + 1 => by rw [Function.iterate_succ_apply']; exact (atTrip n).next

theorem v149_of {a0 : S8192x2560.Idx → EReal} {a2 : S4x1536.Idx → EReal} {a3 : S1536.Idx → EReal} {a6 : S16.Idx → EReal} {a7 : S1024.Idx → EReal} (h : AtTrip V s j) (h0 : V (Proc.devRef .tc main_arg0) = a0) (h2 : V (Proc.devRef .tc main_arg2) = a2) (h3 : V (Proc.devRef .tc main_arg3) = a3) (h6 : V (Proc.devRef .tc main_arg6) = a6) (h7 : V (Proc.devRef .tc main_arg7) = a7) :
    out_main_v149 V = R_main_v149 s a0 a2 a3 a6 a7 := by
  unfold out_main_v149 R_main_v149
  rw [h.outs, h0, h2, h3, h6, h7]
  try rfl

theorem v147_of  (h : AtTrip V s j)  :
    out_main_v147 V = R_main_v147 s  := by
  unfold out_main_v147 R_main_v147
  rw [h.states]
  try rfl

theorem v150_of {a0 : S8192x2560.Idx → EReal} {a2 : S4x1536.Idx → EReal} {a3 : S1536.Idx → EReal} (h : AtTrip V s j) (h0 : V (Proc.devRef .tc main_arg0) = a0) (h2 : V (Proc.devRef .tc main_arg2) = a2) (h3 : V (Proc.devRef .tc main_arg3) = a3) :
    out_main_v150 V = R_main_v150 s a0 a2 a3 := by
  unfold out_main_v150 R_main_v150
  rw [h0, h2, h3]
  try rfl

theorem v151_of {a0 : S8192x2560.Idx → EReal} {a2 : S4x1536.Idx → EReal} {a3 : S1536.Idx → EReal} {a6 : S16.Idx → EReal} (h : AtTrip V s j) (h0 : V (Proc.devRef .tc main_arg0) = a0) (h2 : V (Proc.devRef .tc main_arg2) = a2) (h3 : V (Proc.devRef .tc main_arg3) = a3) (h6 : V (Proc.devRef .tc main_arg6) = a6) :
    out_main_v151 V = R_main_v151 s a0 a2 a3 a6 := by
  unfold out_main_v151 R_main_v151
  rw [h.outs, h0, h2, h3, h6]
  try rfl

/-- The reference's run: the results are read off the state after all 128 trips; the arguments stay. -/
theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v149) = R_main_v149 (run_before m c 128) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v147) = R_main_v147 (run_before m c 128)
      ∧ r.2.mem ((c.tc : Thread nD τ).loc main_v150) = R_main_v150 (run_before m c 128) (m ((c.tc : Thread nD τ).loc main_arg0)) (m ((c.tc : Thread nD τ).loc main_arg2)) (m ((c.tc : Thread nD τ).loc main_arg3))
      ∧ r.2.mem ((c.tc : Thread nD τ).loc main_v151) = R_main_v151 (run_before m c 128) (m ((c.tc : Thread nD τ).loc main_arg0)) (m ((c.tc : Thread nD τ).loc main_arg2)) (m ((c.tc : Thread nD τ).loc main_arg3)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7)) :=
  (θ_run defs _ _).mono (fun _ h c =>
    ⟨(h c).1.trans (v149_of (atTrip m c 128) (iter_main_arg0 m c 128) (iter_main_arg2 m c 128) (iter_main_arg3 m c 128) (iter_main_arg6 m c 128) (iter_main_arg7 m c 128)),
      (h c).2.1.trans (v147_of (atTrip m c 128) ),
      (h c).2.2.1.trans (v150_of (atTrip m c 128) (iter_main_arg0 m c 128) (iter_main_arg2 m c 128) (iter_main_arg3 m c 128)),
      (h c).2.2.2.1.trans (v151_of (atTrip m c 128) (iter_main_arg0 m c 128) (iter_main_arg2 m c 128) (iter_main_arg3 m c 128) (iter_main_arg6 m c 128)),
      (h c).2.2.2.2⟩) (Value.run m ρ)

end Cert.Sf

end
-- ==== Proof.Sf.Trips.lean ====
module

public import proofs.«01_k».proof.Proof.Sf.Run
public import Idealize.ShloMosaic.Lib.Pointwise
public import Idealize.ShloMosaic.Lib.WordCmp

/-! One trip of the reference's scan, entry by entry: the state it carries on, the rows it reads, the stacks it fills. -/

@[expose] public section

set_option maxRecDepth 16384

noncomputable section

open Idealize.ShloMosaic Idealize.ShloMosaic.TcCoe Idealize.SL.Sem
open scoped BigOperators

namespace Cert.Sf

open Cert.SfReferenceIdeal Cert.SfReferenceIdeal.Gen
open Cert.SfReferenceIdeal.Step

theorem toInt_lt : ∀ n : Fin 128, (BitVec.ofNat 32 (n : ℕ)).toInt = ((n : ℕ) : Int) := by decide +kernel

variable (n : Fin 128) (s : State Ideal)

theorem xdt_at (r : Fin 64) (g : Fin 2) (h : Fin 8) (p : Fin 64) : b6 n s (ix5 (0 : Fin 1) r g h p) = s.main_v74_0 (ix6 n (0 : Fin 1) r g h p) := by
  have hs : S128x1x64x2x8x64.Slices ![(n : ℕ), 0, 0, 0, 0, 0] S1x1x64x2x8x64 := by
    refine ⟨rfl, fun a => ?_⟩; have := n.isLt
    fin_cases a
    · show (n : ℕ) + 1 ≤ 128; omega
    all_goals exact le_of_eq (Nat.zero_add _)
  unfold b6 b5
  rw [WordCmp.dynamicSlice_eq_extract _ _ _ _ ![(n : ℕ), 0, 0, 0, 0, 0] hs (fun a => by
    fin_cases a
    · exact toInt_lt n
    all_goals rfl)]
  pointwise

theorem cut (x : S128x1x64x2x128.Idx → EReal) (start : Fin 5 → Int) (h0 : start 0 = ((n : ℕ) : Int)) (h1 : start 1 = 0) (h2 : start 2 = 0)
    (h3 : start 3 = 0) (h4 : start 4 = 0) (h) (r : Fin 64) (g : Fin 2) (d : Fin 128) :
    shapeCast S1x64x2x128 (Host.dynamicSlice S1x1x64x2x128 x start h) shapeCasts_S1x1x64x2x128_S1x64x2x128 (ix4 (0 : Fin 1) r g d)
      = x (ix5 n (0 : Fin 1) r g d) := by
  have hs : S128x1x64x2x128.Slices ![(n : ℕ), 0, 0, 0, 0] S1x1x64x2x128 := by
    refine ⟨rfl, fun a => ?_⟩; have := n.isLt
    fin_cases a
    · show (n : ℕ) + 1 ≤ 128; omega
    all_goals exact le_of_eq (Nat.zero_add _)
  rw [WordCmp.dynamicSlice_eq_extract _ x start h ![(n : ℕ), 0, 0, 0, 0] hs (fun a => by
    fin_cases a
    · exact h0
    · exact h1
    · exact h2
    · exact h3
    · exact h4)]
  pointwise

theorem b_at (r : Fin 64) (g : Fin 2) (d : Fin 128) : b12 n s (ix4 (0 : Fin 1) r g d) = s.main_v74_1 (ix5 n (0 : Fin 1) r g d) :=
  cut n _ _ (toInt_lt n) rfl rfl rfl rfl _ r g d

theorem c_at (r : Fin 64) (g : Fin 2) (d : Fin 128) : b18 n s (ix4 (0 : Fin 1) r g d) = s.main_v74_2 (ix5 n (0 : Fin 1) r g d) :=
  cut n _ _ (toInt_lt n) rfl rfl rfl rfl _ r g d

theorem a_at (r : Fin 64) (g : Fin 2) (h : Fin 8) : b24 n s (ix4 (0 : Fin 1) r g h) = s.main_v74_3 (ix5 n (0 : Fin 1) r g h) := by
  have hs : S128x1x64x2x8.Slices ![(n : ℕ), 0, 0, 0, 0] S1x1x64x2x8 := by
    refine ⟨rfl, fun a => ?_⟩; have := n.isLt
    fin_cases a
    · show (n : ℕ) + 1 ≤ 128; omega
    all_goals exact le_of_eq (Nat.zero_add _)
  unfold b24 b23
  rw [WordCmp.dynamicSlice_eq_extract _ _ _ _ ![(n : ℕ), 0, 0, 0, 0] hs (fun a => by
    fin_cases a
    · exact toInt_lt n
    all_goals rfl)]
  pointwise

/-- The carried state. -/
theorem carry_at (g : Fin 2) (h : Fin 8) (p : Fin 64) (d : Fin 128) : (step n s).main_v74_6 (ix5 (0 : Fin 1) g h p d) =
    (s.main_v74_6 (ix5 (0 : Fin 1) g h p d) * Ideal.exp (b27 n s (ix4 (0 : Fin 1) (63 : Fin 64) g h))
      + ∑ j : Fin 64, (Ideal.exp (b27 n s (ix4 (0 : Fin 1) (63 : Fin 64) g h) - b27 n s (ix4 (0 : Fin 1) j g h)) * s.main_v74_0 (ix6 n (0 : Fin 1) j g h p))
        * s.main_v74_1 (ix5 n (0 : Fin 1) j g d) : EReal) := by
  rw [step_main_v74_6]
  unfold b68 b67 b66 b65 b64 b63 b62 b61 b60 b59 b58 b57 b56 b55 b54
  pointwise [dot_S1x64x2x8x64_S1x64x2x128_S1x2x8x64x128_1_1_34_3_02_02]
  simp only [xdt_at, b_at]

/-- The rows. -/
theorem rows_at (r : Fin 64) (g : Fin 2) (h : Fin 8) (p : Fin 64) : b53 n s (ix5 (0 : Fin 1) r g h p) =
    ((∑ j : Fin 64, s.main_v74_0 (ix6 n (0 : Fin 1) j g h p) *
        ((∑ d : Fin 128, s.main_v74_1 (ix5 n (0 : Fin 1) j g d) * s.main_v74_2 (ix5 n (0 : Fin 1) r g d))
          * b39 n s (ix5 (0 : Fin 1) r j g h)))
      + (∑ d : Fin 128, s.main_v74_6 (ix5 (0 : Fin 1) g h p d) * s.main_v74_2 (ix5 n (0 : Fin 1) r g d)) * Ideal.exp (b27 n s (ix4 (0 : Fin 1) r g h)) : EReal) := by
  unfold b53 b46 b45 b44 b43 b42 b41 b40 b52 b51 b50 b49 b48 b47
  pointwise [dot_S1x64x2x8x64_S1x64x64x2x8_S1x2x8x64x64_1_2_4_1_023_034, dot_S1x64x2x128_S1x64x2x128_S1x2x64x64_3_3_1_1_02_02, dot_S1x2x8x64x128_S1x64x2x128_S1x2x8x64x64_4_3_23_1_01_02]
  simp only [xdt_at, b_at, c_at]

theorem bot_lit : Ideal.ofBits .f32 0xFF800000#32 = ⊥ := by simp [Ideal.ofBits, Ideal.ieee]

/-- The decay between two rows. -/
theorem dec_at (r j : Fin 64) (g : Fin 2) (h : Fin 8) : b39 n s (ix5 (0 : Fin 1) r j g h) =
    if (j : ℕ) ≤ (r : ℕ) then Ideal.exp (b27 n s (ix4 (0 : Fin 1) r g h) - b27 n s (ix4 (0 : Fin 1) j g h) : EReal) else (0 : EReal) := by
  unfold b39 b38 b37 b36 b35 b34 b33 b32 b31 b30 b29 b28
  have hm : K_main_v62 (F := Ideal) (ix2 r j) = BitVec.ofBool (decide ((j : ℕ) ≤ (r : ℕ))) := by
    unfold K_main_v62 K_main_v61 K_main_c_0 K_main_call3_v4 K_main_call3_v5 K_main_call3_c_0 K_main_call3_v2 K_main_call3_v3 K_main_call3_v0 K_main_call3_v1 K_main_call3_c
    pointwise
    revert r j
    decide +kernel
  pointwise
  rw [hm, bot_lit]
  by_cases hp : (j : ℕ) ≤ (r : ℕ)
  · rw [if_pos hp, decide_eq_true hp]
    rfl
  · rw [if_neg hp, decide_eq_false hp]
    rfl

/-- The stack of rows. -/
theorem outs_at (q : Fin 128) (r : Fin 64) (g : Fin 2) (h : Fin 8) (p : Fin 64) : (step n s).main_v74_7 (ix6 q (0 : Fin 1) r g h p) =
    if q = n then b53 n s (ix5 (0 : Fin 1) r g h p) else s.main_v74_7 (ix6 q (0 : Fin 1) r g h p) := by
  rw [step_main_v74_7]
  unfold b75 b69
  have hs : S128x1x64x2x8x64.Slices ![(n : ℕ), 0, 0, 0, 0, 0] S1x1x64x2x8x64 := by
    refine ⟨rfl, fun a => ?_⟩; have := n.isLt
    fin_cases a
    · show (n : ℕ) + 1 ≤ 128; omega
    all_goals exact le_of_eq (Nat.zero_add _)
  rw [WordCmp.dynamicUpdateSlice_eq_update _ _ _ _ ![(n : ℕ), 0, 0, 0, 0, 0] hs (fun a => by
    fin_cases a
    · exact toInt_lt n
    all_goals rfl)]
  pointwise
  by_cases e : q = n
  · subst e; simp
  · have : (q : ℕ) ≠ n := fun h => e (Fin.ext h)
    rw [dif_neg (by omega), if_neg e]

/-- The stack of states. -/
theorem states_at (q : Fin 128) (g : Fin 2) (h : Fin 8) (p : Fin 64) (d : Fin 128) : (step n s).main_v74_8 (ix6 q (0 : Fin 1) g h p d) =
    if q = n then s.main_v74_6 (ix5 (0 : Fin 1) g h p d) else s.main_v74_8 (ix6 q (0 : Fin 1) g h p d) := by
  rw [step_main_v74_8]
  unfold b82 b76
  have hs : S128x1x2x8x64x128.Slices ![(n : ℕ), 0, 0, 0, 0, 0] S1x1x2x8x64x128 := by
    refine ⟨rfl, fun a => ?_⟩; have := n.isLt
    fin_cases a
    · show (n : ℕ) + 1 ≤ 128; omega
    all_goals exact le_of_eq (Nat.zero_add _)
  rw [WordCmp.dynamicUpdateSlice_eq_update _ _ _ _ ![(n : ℕ), 0, 0, 0, 0, 0] hs (fun a => by
    fin_cases a
    · exact toInt_lt n
    all_goals rfl)]
  pointwise
  by_cases e : q = n
  · subst e; simp
  · have : (q : ℕ) ≠ n := fun h => e (Fin.ext h)
    rw [dif_neg (by omega), if_neg e]

end Cert.Sf

end
-- ==== Proof.Sf.Prep.lean ====
module

public import proofs.«01_k».proof.Proof.Sf.Trips
public import proofs.«01_k».proof.Proof.Reals
public import Idealize.ShloMosaic.Lib.Pointwise

/-! What the reference computes before its scan, entry by entry. -/

@[expose] public section

set_option maxRecDepth 16384

noncomputable section

open Idealize.ShloMosaic Idealize.ShloMosaic.TcCoe Idealize.SL.Sem
open scoped BigOperators

namespace Cert.Sf

open Cert.SfReferenceIdeal Cert.SfReferenceIdeal.Gen
open Cert.SfReferenceIdeal.Step

/-- a column of the convolution, among the projected ones. -/
def wide (l : Fin 1536) : Fin 2560 := ⟨l, by omega⟩

/-- the row `s` before row `t`, zero before the first. -/
def tap (ps : S8192x2560.Idx → EReal) (s : ℕ) (t : Fin 8192) (l : Fin 1536) : EReal :=
  if s ≤ (t : ℕ) then ps (ix2 (⟨(t : ℕ) - s, by omega⟩ : Fin 8192) (wide l)) else 0

/-- the convolved columns. -/
def pre (ps : S8192x2560.Idx → EReal) (cv : S4x1536.Idx → EReal) (cb : S1536.Idx → EReal) (t : Fin 8192) (l : Fin 1536) : EReal :=
  tap ps 3 t l * cv (ix2 (0 : Fin 4) l) + tap ps 2 t l * cv (ix2 (1 : Fin 4) l) + tap ps 1 t l * cv (ix2 (2 : Fin 4) l)
    + tap ps 0 t l * cv (ix2 (3 : Fin 4) l) + cb (ix1 l)

def silu (x : EReal) : EReal := x * Ideal.logistic x

def softplus (x : EReal) : EReal := max x 0 + Ideal.log1p (Ideal.exp (-FloatOps.absf (F := Ideal) (φ := .f32) x))

section
variable (a0 : S8192x2560.Idx → EReal) (a1 : S8192x16.Idx → EReal) (a2 : S4x1536.Idx → EReal) (a3 : S1536.Idx → EReal) (a4 a5 : S16.Idx → EReal)

theorem cat_at (t : Fin 8192) (l : Fin 1536) : A_main_v5 (F := Ideal) a0 a1 a2 a3 a4 a5 (ix3 (0 : Fin 1) t l) = a0 (ix2 t (wide l)) := by
  unfold A_main_v5 A_main_v1 A_main_v2 A_main_v3 A_main_v0
  pointwise
  split_ifs <;> refine congrArg a0 (congrArg (ix2 t) (Fin.ext ?_)) <;> simp only [wide] <;> omega

theorem pad_at (k : Fin 4) (t : Fin 8192) (l : Fin 1536) : A_main_v6 (F := Ideal) a0 a1 a2 a3 a4 a5 (ix3 (0 : Fin 1) (⟨(t : ℕ) + (k : ℕ), by omega⟩ : Fin 8195) l) = tap a0 (3 - (k : ℕ)) t l := by
  unfold A_main_v6
  pointwise
  have hk := k.isLt
  unfold tap
  by_cases h : 3 ≤ (t : ℕ) + (k : ℕ)
  · rw [dif_pos ⟨h, by omega⟩, if_pos (by omega), cat_at]
    exact congrArg (fun i : Fin 8192 => a0 (ix2 i (wide l))) (Fin.ext (by show (t : ℕ) + (k : ℕ) - 3 = (t : ℕ) - (3 - (k : ℕ)); omega))
  · rw [dif_neg (fun q => h q.1), if_neg (by omega)]
    unfold K_main_call0_v0 K_main_c
    pointwise
    exact Step.sitofp_zero _

theorem pre_at (t : Fin 8192) (l : Fin 1536) : A_main_v38 (F := Ideal) a0 a1 a2 a3 a4 a5 (ix3 (0 : Fin 1) t l) = pre a0 a2 a3 t l := by
  unfold A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v12 A_main_v11 A_main_v10 A_main_v9 A_main_v8 A_main_v7 K_main_v13 K_main_cst
  pointwise
  rw [show (⟨(t : ℕ), by omega⟩ : Fin 8195) = ⟨(t : ℕ) + ((0 : Fin 4) : ℕ), by simp; omega⟩ from Fin.ext (by simp),
    show (⟨1 + (t : ℕ), by omega⟩ : Fin 8195) = ⟨(t : ℕ) + ((1 : Fin 4) : ℕ), by simp; omega⟩ from Fin.ext (by simp; omega),
    show (⟨2 + (t : ℕ), by omega⟩ : Fin 8195) = ⟨(t : ℕ) + ((2 : Fin 4) : ℕ), by simp; omega⟩ from Fin.ext (by simp; omega),
    show (⟨3 + (t : ℕ), by omega⟩ : Fin 8195) = ⟨(t : ℕ) + ((3 : Fin 4) : ℕ), by simp; omega⟩ from Fin.ext (by simp; omega)]
  simp only [pad_at]
  rfl

theorem act_at (t : Fin 8192) (l : Fin 1536) : A_main_v39 (F := Ideal) a0 a1 a2 a3 a4 a5 (ix3 (0 : Fin 1) t l) = silu (pre a0 a2 a3 t l) := by
  unfold A_main_v39 A_main_call1_v5 A_main_call1_v3 A_main_call1_v1 A_main_call1_v0 K_main_call1_v2 K_main_call1_v4 K_main_call1_cst K_main_call1_cst_0
  pointwise
  rw [pre_at]
  rfl

theorem dt_at (t : Fin 8192) (h : Fin 16) : A_main_v50 (F := Ideal) a0 a1 a2 a3 a4 a5 (ix3 (0 : Fin 1) t h) = softplus (a1 (ix2 t h) + a5 (ix1 h)) := by
  unfold A_main_v50 A_main_call2_v11 A_main_call2_v10 A_main_call2_v9 A_main_call2_v8 A_main_call2_v7 A_main_call2_v6 A_main_call2_v4 A_main_call2_v3 A_main_call2_v1 A_main_v49 A_main_v48 A_main_v47 A_main_v46 K_main_call2_v0 K_main_call2_v2 K_main_call2_v5 K_main_call2_cst
  pointwise
  simp only [ne_eq, not_true_eq_false, if_false]
  rfl

theorem a_at' (t : Fin 8192) (h : Fin 16) : A_main_v55 (F := Ideal) a0 a1 a2 a3 a4 a5 (ix3 (0 : Fin 1) t h) = softplus (a1 (ix2 t h) + a5 (ix1 h)) * -Ideal.exp (a4 (ix1 h)) := by
  unfold A_main_v55 A_main_v54 A_main_v53 A_main_v52 A_main_v51
  pointwise
  rw [dt_at]
  try trace_state

/-- row `r` of chunk `n`. -/
def at64 (n : Fin 128) (r : Fin 64) : Fin 8192 := ⟨64 * n + r, by omega⟩
/-- head `h` of group `g`. -/
def hd (g : Fin 2) (h : Fin 8) : Fin 16 := ⟨8 * g + h, by omega⟩
def xcol (g : Fin 2) (h : Fin 8) (p : Fin 64) : Fin 1536 := ⟨512 * g + 64 * h + p, by omega⟩
def bcol (g : Fin 2) (d : Fin 128) : Fin 1536 := ⟨1024 + 128 * g + d, by omega⟩
def ccol (g : Fin 2) (d : Fin 128) : Fin 1536 := ⟨1280 + 128 * g + d, by omega⟩

theorem v65_at (n : Fin 128) (r : Fin 64) (g : Fin 2) (h : Fin 8) (p : Fin 64) :
    A_main_v65 (F := Ideal) a0 a1 a2 a3 a4 a5 (ix6 n (0 : Fin 1) r g h p)
      = A_main_v39 (F := Ideal) a0 a1 a2 a3 a4 a5 (ix3 (0 : Fin 1) (at64 n r) (xcol g h p)) * A_main_v50 (F := Ideal) a0 a1 a2 a3 a4 a5 (ix3 (0 : Fin 1) (at64 n r) (hd g h)) := by
  unfold A_main_v65 A_main_v64 A_main_v60 A_main_v59 A_main_v58 A_main_v57 A_main_v43 A_main_v40
  pointwise
  congr 3 <;> apply Fin.ext <;> simp only [at64, xcol, hd] <;> omega

theorem v67_at (n : Fin 128) (r : Fin 64) (g : Fin 2) (d : Fin 128) :
    A_main_v67 (F := Ideal) a0 a1 a2 a3 a4 a5 (ix5 n (0 : Fin 1) r g d) = A_main_v39 (F := Ideal) a0 a1 a2 a3 a4 a5 (ix3 (0 : Fin 1) (at64 n r) (bcol g d)) := by
  unfold A_main_v67 A_main_v66 A_main_v44 A_main_v41
  pointwise
  congr 2 <;> apply Fin.ext <;> simp only [at64, bcol] <;> omega

theorem v69_at (n : Fin 128) (r : Fin 64) (g : Fin 2) (d : Fin 128) :
    A_main_v69 (F := Ideal) a0 a1 a2 a3 a4 a5 (ix5 n (0 : Fin 1) r g d) = A_main_v39 (F := Ideal) a0 a1 a2 a3 a4 a5 (ix3 (0 : Fin 1) (at64 n r) (ccol g d)) := by
  unfold A_main_v69 A_main_v68 A_main_v45 A_main_v42
  pointwise
  congr 2 <;> apply Fin.ext <;> simp only [at64, ccol] <;> omega

theorem v71_at (n : Fin 128) (r : Fin 64) (g : Fin 2) (h : Fin 8) :
    A_main_v71 (F := Ideal) a0 a1 a2 a3 a4 a5 (ix5 n (0 : Fin 1) r g h) = A_main_v55 (F := Ideal) a0 a1 a2 a3 a4 a5 (ix3 (0 : Fin 1) (at64 n r) (hd g h)) := by
  unfold A_main_v71 A_main_v70 A_main_v56
  pointwise
  congr 2 <;> apply Fin.ext <;> simp only [at64, hd] <;> omega

end
end Cert.Sf
end
-- ==== Proof.Sf.Cumulate.lean ====
module

public import proofs.«01_k».proof.Proof.Sf.Prep

/-! A running sum inside a chunk, as the host's window sum computes it, and the numbers of the decays. -/

@[expose] public section

set_option maxRecDepth 16384

noncomputable section

open Idealize.ShloMosaic Idealize.ShloMosaic.TcCoe Idealize.SL.Sem
open scoped BigOperators

namespace Cert.Sf

open Cert.SfReferenceIdeal Cert.SfReferenceIdeal.Gen
open Cert.SfReferenceIdeal.Step

theorem fold_sum {α : Type} (f : α → EReal) : ∀ (l : List α) (v : EReal), l.foldl (fun r k => r + f k) v = v + (l.map f).sum
  | [], v => by simp
  | a :: l, v => by
    rw [List.foldl_cons, fold_sum f l, List.map_cons, List.sum_cons, add_assoc]

/-- the window of a column of 64. -/
abbrev Win : Shape := ⟨4, ![1, 64, 1, 1]⟩

theorem win_numel : Win.numel = 64 := by decide

theorem win_symm (n : Fin Win.numel) : Win.rowMajor.symm n = ix4 (0 : Fin 1) (n.cast win_numel) (0 : Fin 1) (0 : Fin 1) :=
  (Win.rowMajor.symm_apply_eq).2 (Fin.ext (by
    rw [Shape.rowMajor_val_four]
    show (n : ℕ) = _
    simp [ix4]))

theorem cumulate_at (x : S1x64x2x8.Idx → EReal) (i : S_.Idx → EReal) (hi : ∀ y, i y = 0) (r : Fin 64) (g : Fin 2) (h : Fin 8) :
    Host.reduceWindowAdd (F := Ideal) (φ := .f32) ![1, 64, 1, 1] ![1, 1, 1, 1] ![0, 63, 0, 0] ![0, 0, 0, 0] x i reduceWindows_S1x64x2x8_S1x64x2x8_w1s1p0_0_w64s1p63_0_w1s1p0_0_w1s1p0_0 h_S_ (ix4 (0 : Fin 1) r g h)
      = ∑ j : Fin 64, if (j : ℕ) ≤ (r : ℕ) then x (ix4 (0 : Fin 1) j g h) else 0 := by
  refine (fold_sum _ _ _).trans ?_
  rw [hi, zero_add, ← Fin.sum_univ_def]
  rw [← Equiv.sum_comp (Equiv.addRight (r + 1) : Fin 64 ≃ Fin 64)]
  refine Fintype.sum_equiv (finCongr win_numel) _ _ fun n => ?_
  have w0 : (Win.rowMajor.symm n 0 : ℕ) = 0 := by rw [win_symm]; rfl
  have w1 : (Win.rowMajor.symm n 1 : ℕ) = n := by rw [win_symm]; rfl
  have w2 : (Win.rowMajor.symm n 2 : ℕ) = 0 := by rw [win_symm]; rfl
  have w3 : (Win.rowMajor.symm n 3 : ℕ) = 0 := by rw [win_symm]; rfl
  have hn : (n : ℕ) < 64 := win_numel ▸ n.isLt
  have e : ((Equiv.addRight (r + 1) (finCongr win_numel n) : Fin 64) : ℕ) = ((n : ℕ) + ((r : ℕ) + 1) % 64) % 64 := by
    simp [Fin.val_add]
    omega
  dsimp only
  by_cases hr : 63 ≤ (r : ℕ) + (n : ℕ)
  · rw [dif_pos (by
      intro a
      fin_cases a
      · refine ⟨Nat.zero_le _, ?_⟩
        show 0 * 1 + (Win.rowMajor.symm n 0 : ℕ) - 0 < 1
        omega
      · refine ⟨?_, ?_⟩
        · show 63 ≤ (r : ℕ) * 1 + (Win.rowMajor.symm n 1 : ℕ); omega
        · show (r : ℕ) * 1 + (Win.rowMajor.symm n 1 : ℕ) - 63 < 64; omega
      · refine ⟨Nat.zero_le _, ?_⟩
        show (g : ℕ) * 1 + (Win.rowMajor.symm n 2 : ℕ) - 0 < 2
        omega
      · refine ⟨Nat.zero_le _, ?_⟩
        show (h : ℕ) * 1 + (Win.rowMajor.symm n 3 : ℕ) - 0 < 8
        omega), if_pos (by rw [e]; omega)]
    refine congrArg x ?_
    funext a
    apply Fin.ext
    fin_cases a
    · show 0 * 1 + (Win.rowMajor.symm n 0 : ℕ) - 0 = 0
      omega
    · show (r : ℕ) * 1 + (Win.rowMajor.symm n 1 : ℕ) - 63 = ((Equiv.addRight (r + 1) (finCongr win_numel n) : Fin 64) : ℕ)
      rw [e]; omega
    · show (g : ℕ) * 1 + (Win.rowMajor.symm n 2 : ℕ) - 0 = g
      omega
    · show (h : ℕ) * 1 + (Win.rowMajor.symm n 3 : ℕ) - 0 = h
      omega
  · rw [dif_neg (fun q => hr (by
      have q1 : 63 ≤ (r : ℕ) * 1 + (Win.rowMajor.symm n 1 : ℕ) := (q 1).1
      omega)), if_neg (by rw [e]; omega)]

/-- What a chunk's decays amount to, in the order of its rows. -/
theorem decays_at (n : Fin 128) (s : State Ideal) (r : Fin 64) (g : Fin 2) (h : Fin 8) :
    b27 n s (ix4 (0 : Fin 1) r g h) = ∑ j : Fin 64, if (j : ℕ) ≤ (r : ℕ) then s.main_v74_3 (ix5 n (0 : Fin 1) j g h) else 0 := by
  unfold b27
  rw [cumulate_at _ _ (fun y => by unfold b26 b25; pointwise)]
  simp only [a_at]

/-- A number below infinity plus its difference to itself is that number. -/
theorem add_sub_self_of_ne_top (a : EReal) (h : a ≠ ⊤) : a + (a - a) = a := by
  induction a with
  | bot => rfl
  | top => exact absurd rfl h
  | coe x => rw [← EReal.coe_sub, sub_self, EReal.coe_zero, add_zero]

theorem exp_nonneg (x : EReal) : 0 ≤ Ideal.exp x := by
  induction x with
  | bot => exact le_of_eq rfl
  | top => exact le_top
  | coe x => exact EReal.coe_nonneg.2 (Real.exp_pos x).le

theorem log1p_nonneg (x : EReal) (h : 0 ≤ x) : 0 ≤ Ideal.log1p x := by
  induction x with
  | bot => exact absurd h (by simp)
  | top => exact le_top
  | coe x =>
    have hx : 0 ≤ x := EReal.coe_nonneg.1 h
    show 0 ≤ Ideal.log (((1 : ℝ) : EReal) + (x : EReal))
    rw [← EReal.coe_add]
    show 0 ≤ (if 1 + x ≤ 0 then ⊥ else (Real.log (1 + x) : EReal))
    rw [if_neg (by linarith)]
    exact EReal.coe_nonneg.2 (Real.log_nonneg (by linarith))

theorem softplus_nonneg (x : EReal) : 0 ≤ softplus x :=
  add_nonneg (le_max_right _ _) (log1p_nonneg _ (exp_nonneg _))

/-- A decay is never infinite. -/
theorem decay_ne_top (x y : EReal) : softplus x * -Ideal.exp y ≠ ⊤ := by
  have h : softplus x * -Ideal.exp y ≤ 0 := by
    rw [mul_neg]
    exact EReal.neg_le_zero.2 (mul_nonneg (softplus_nonneg x) (exp_nonneg y))
  exact ne_top_of_le_ne_top EReal.zero_ne_top h

end Cert.Sf
end
-- ==== Proof.Sf.Fold.lean ====
module

public import proofs.«01_k».proof.Proof.Sf.Cumulate

/-! What the reference hands out, in the pieces its forward lines have. -/

@[expose] public section

set_option maxRecDepth 16384

noncomputable section

open Idealize.ShloMosaic Idealize.ShloMosaic.TcCoe Idealize.SL.Sem
open scoped BigOperators

namespace Cert.Sf

open Cert.SfReferenceIdeal Cert.SfReferenceIdeal.Gen
open Cert.SfReferenceIdeal.Step

section
variable (a0 : S8192x2560.Idx → EReal) (a1 : S8192x16.Idx → EReal) (a2 : S4x1536.Idx → EReal) (a3 : S1536.Idx → EReal) (a4 a5 a6 : S16.Idx → EReal) (a7 : S1024.Idx → EReal)

/-- the scan's rows and the skip. -/
def rows (s : State Ideal) (act : S1x8192x1536.Idx → EReal) : S1x8192x16x64.Idx → EReal :=
  addf (F := Ideal) (φ := .f32) (shapeCast _ (shapeCast _ (transpose S1x128x64x2x8x64 [1, 0, 2, 3, 4, 5] (s.main_v74_7) transposes_S128x1x64x2x8x64_S1x128x64x2x8x64_1_0_2_3_4_5) shapeCasts_S1x128x64x2x8x64_S1x8192x2x8x64) shapeCasts_S1x8192x2x8x64_S1x8192x16x64)
    (mulf (F := Ideal) (φ := .f32) (shapeCast _ (extractStridedSlice S1x8192x1024 ![0, 0, 0] act slices_S1x8192x1536_S1x8192x1024_0_0_0) shapeCasts_S1x8192x1024_S1x8192x16x64)
      (broadcastInDim S1x8192x16x64 ![0, 1, 2, 3] bcast_S1x1x16x1_S1x8192x16x64_0_1_2_3 (broadcastInDim S1x1x16x1 ![2, 3] bcast_S16x1_S1x1x16x1_2_3 (broadcastInDim S16x1 ![0] bcast_S16_S16x1_0 a6))))

/-- the gate's columns. -/
def gate : S1x8192x16x64.Idx → EReal :=
  shapeCast _ (extractStridedSlice S1x8192x1024 ![0, 0, 1536] (broadcastInDim S1x8192x2560 ![1, 2] bcast_S8192x2560_S1x8192x2560_1_2 a0) slices_S1x8192x2560_S1x8192x1024_0_0_1536) shapeCasts_S1x8192x1024_S1x8192x16x64

/-- the gated rows. -/
def gated (y : S1x8192x16x64.Idx → EReal) : S1x8192x2x512.Idx → EReal :=
  shapeCast _ (mulf (F := Ideal) (φ := .f32) y (mulf (F := Ideal) (φ := .f32) (gate a0)
    (Host.divf (F := Ideal) (φ := .f32) (broadcastInDim S1x8192x16x64 ![] bcast_S_S1x8192x16x64 (constant S_ .f32 0x3F800000#32))
      (addf (F := Ideal) (φ := .f32) (broadcastInDim S1x8192x16x64 ![] bcast_S_S1x8192x16x64 (constant S_ .f32 0x3F800000#32)) (Host.exp (F := Ideal) (φ := .f32) (Host.negf (F := Ideal) (φ := .f32) (gate a0))))))) shapeCasts_S1x8192x16x64_S1x8192x2x512

/-- the normalised rows. -/
def normed (y : S1x8192x2x512.Idx → EReal) : S8192x1024.Idx → EReal :=
  truncf (F := Ideal) (φ := .f32) .bf16 (shapeCast _ (mulf (F := Ideal) (φ := .f32) (mulf (F := Ideal) (φ := .f32) y
    (broadcastInDim S1x8192x2x512 ![0, 1, 2, 3] bcast_S1x8192x2x1_S1x8192x2x512_0_1_2_3 (Host.rsqrt (F := Ideal) (φ := .f32) (addf (F := Ideal) (φ := .f32) (Host.divf (F := Ideal) (φ := .f32)
      (broadcastInDim S1x8192x2x1 ![0, 1, 2] bcast_S1x8192x2_S1x8192x2x1_0_1_2 (Host.reduceAdd (F := Ideal) (φ := .f32) (mulf (F := Ideal) (φ := .f32) y y) (constant S_ .f32 0x00000000#32) reducesTo_S1x8192x2x512_S1x8192x2_d3 h_S_))
      (broadcastInDim S1x8192x2x1 ![] bcast_S_S1x8192x2x1 (constant S_ .f32 0x44000000#32))) (broadcastInDim S1x8192x2x1 ![] bcast_S_S1x8192x2x1 (constant S_ .f32 0x358637BD#32))))))
    (broadcastInDim S1x8192x2x512 ![0, 1, 2, 3] bcast_S1x1x2x512_S1x8192x2x512_0_1_2_3 (broadcastInDim S1x1x2x512 ![2, 3] bcast_S2x512_S1x1x2x512_2_3 (shapeCast _ a7 shapeCasts_S1024_S2x512)))) shapeCasts_S1x8192x2x512_S8192x1024) bitsLt_bf16_f32

theorem v150_eq (s : State Ideal) : R_main_v150 (F := Ideal) s a0 a2 a3 = shapeCast _ (A_main_v38 (F := Ideal) a0 a1 a2 a3 a4 a5) shapeCasts_S1x8192x1536_S8192x1536 := by
  unfold R_main_v150 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v12 A_main_v11 A_main_v10 A_main_v9 A_main_v8 A_main_v7 A_main_v6 A_main_v5 A_main_v3 A_main_v2 A_main_v1 A_main_v0 K_main_v13 K_main_cst K_main_call0_v0 K_main_c
  rfl

theorem v151_eq (s : State Ideal) : R_main_v151 (F := Ideal) s a0 a2 a3 a6 = shapeCast _ (rows a6 s (A_main_v39 (F := Ideal) a0 a1 a2 a3 a4 a5)) shapeCasts_S1x8192x16x64_S8192x1024 := by
  unfold R_main_v151 rows A_main_v39 A_main_call1_v5 A_main_call1_v3 A_main_call1_v1 A_main_call1_v0 K_main_call1_v2 K_main_call1_v4 K_main_call1_cst K_main_call1_cst_0 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v12 A_main_v11 A_main_v10 A_main_v9 A_main_v8 A_main_v7 A_main_v6 A_main_v5 A_main_v3 A_main_v2 A_main_v1 A_main_v0 K_main_v13 K_main_cst K_main_call0_v0 K_main_c
  rfl

theorem v149_eq (s : State Ideal) : R_main_v149 (F := Ideal) s a0 a2 a3 a6 a7 = normed a7 (gated a0 (rows a6 s (A_main_v39 (F := Ideal) a0 a1 a2 a3 a4 a5))) := by
  unfold R_main_v149 normed gated gate rows A_main_v39 A_main_call1_v5 A_main_call1_v3 A_main_call1_v1 A_main_call1_v0 K_main_call1_v2 K_main_call1_v4 K_main_call1_cst K_main_call1_cst_0 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v12 A_main_v11 A_main_v10 A_main_v9 A_main_v8 A_main_v7 A_main_v6 A_main_v5 A_main_v3 A_main_v2 A_main_v1 A_main_v0 K_main_v13 K_main_cst K_main_call0_v0 K_main_c
  rfl

end
end Cert.Sf
end
-- ==== Proof.Sf.Stacks.lean ====
module

public import proofs.«01_k».proof.Proof.Sf.Cumulate

/-! The scan of the reference: what each trip finds and leaves. -/

@[expose] public section

set_option maxRecDepth 16384

noncomputable section

open Idealize.ShloMosaic Idealize.ShloMosaic.TcCoe Idealize.SL.Sem
open scoped BigOperators

namespace Cert.Sf

open Cert.SfReferenceIdeal Cert.SfReferenceIdeal.Gen
open Cert.SfReferenceIdeal.Step

section
variable (a0 : S8192x2560.Idx → EReal) (a1 : S8192x16.Idx → EReal) (a2 : S4x1536.Idx → EReal) (a3 : S1536.Idx → EReal) (a4 a5 a6 : S16.Idx → EReal) (a7 : S1024.Idx → EReal)

/-! The fields the trips do not change, and the two stacks. -/

theorem xdt_kept : ∀ n, (before a0 a1 a2 a3 a4 a5 n).main_v74_0 = A_main_v65 (F := Ideal) a0 a1 a2 a3 a4 a5
  | 0 => rfl
  | n + 1 => xdt_kept n
theorem b_kept : ∀ n, (before a0 a1 a2 a3 a4 a5 n).main_v74_1 = A_main_v67 (F := Ideal) a0 a1 a2 a3 a4 a5
  | 0 => rfl
  | n + 1 => b_kept n
theorem c_kept : ∀ n, (before a0 a1 a2 a3 a4 a5 n).main_v74_2 = A_main_v69 (F := Ideal) a0 a1 a2 a3 a4 a5
  | 0 => rfl
  | n + 1 => c_kept n
theorem a_kept : ∀ n, (before a0 a1 a2 a3 a4 a5 n).main_v74_3 = A_main_v71 (F := Ideal) a0 a1 a2 a3 a4 a5
  | 0 => rfl
  | n + 1 => a_kept n

theorem outs_before (q : Fin 128) (r : Fin 64) (g : Fin 2) (h : Fin 8) (p : Fin 64) : ∀ N, N ≤ 128 → (q : ℕ) < N →
    (before a0 a1 a2 a3 a4 a5 N).main_v74_7 (ix6 q (0 : Fin 1) r g h p) = b53 q (before a0 a1 a2 a3 a4 a5 q) (ix5 (0 : Fin 1) r g h p)
  | 0, _, k => absurd k (by omega)
  | N + 1, hN, k => by
    refine (outs_at ⟨N, by omega⟩ (before a0 a1 a2 a3 a4 a5 N) q r g h p).trans ?_
    split
    · next e => rw [e]
    · next e => exact outs_before q r g h p N (by omega) (by have : (q : ℕ) ≠ N := fun z => e (Fin.ext z); omega)

theorem states_before (q : Fin 128) (g : Fin 2) (h : Fin 8) (p : Fin 64) (d : Fin 128) : ∀ N, N ≤ 128 → (q : ℕ) < N →
    (before a0 a1 a2 a3 a4 a5 N).main_v74_8 (ix6 q (0 : Fin 1) g h p d) = (before a0 a1 a2 a3 a4 a5 q).main_v74_6 (ix5 (0 : Fin 1) g h p d)
  | 0, _, k => absurd k (by omega)
  | N + 1, hN, k => by
    refine (states_at ⟨N, by omega⟩ (before a0 a1 a2 a3 a4 a5 N) q g h p d).trans ?_
    split
    · next e => rw [e]
    · next e => exact states_before q g h p d N (by omega) (by have : (q : ℕ) ≠ N := fun z => e (Fin.ext z); omega)

/-! The same, in the arguments. -/

/-- the decay of one row of one head. -/
def decay (t : Fin 8192) (h : Fin 16) : EReal := softplus (a1 (ix2 t h) + a5 (ix1 h)) * -Ideal.exp (a4 (ix1 h))

/-- the decays of a chunk summed up to a row. -/
def upTo (n : Fin 128) (h : Fin 16) (r : Fin 64) : EReal := ∑ j : Fin 64, if (j : ℕ) ≤ (r : ℕ) then decay a1 a4 a5 (at64 n j) h else 0

/-- an activated column. -/
def act (t : Fin 8192) (l : Fin 1536) : EReal := silu (pre a0 a2 a3 t l)

/-- an activated column times its step. -/
def scaled (n : Fin 128) (r : Fin 64) (g : Fin 2) (h : Fin 8) (p : Fin 64) : EReal :=
  act a0 a2 a3 (at64 n r) (xcol g h p) * softplus (a1 (ix2 (at64 n r) (hd g h)) + a5 (ix1 (hd g h)))

/-- the state a chunk finds. -/
def found (n : ℕ) (g : Fin 2) (h : Fin 8) (p : Fin 64) (d : Fin 128) : EReal := (before a0 a1 a2 a3 a4 a5 n).main_v74_6 (ix5 (0 : Fin 1) g h p d)

/-- the row of a chunk before the skip. -/
def scanned (n : Fin 128) (r : Fin 64) (g : Fin 2) (h : Fin 8) (p : Fin 64) : EReal :=
  (∑ j : Fin 64, scaled a0 a1 a2 a3 a5 n j g h p * ((∑ d : Fin 128, act a0 a2 a3 (at64 n j) (bcol g d) * act a0 a2 a3 (at64 n r) (ccol g d))
      * (if (j : ℕ) ≤ (r : ℕ) then Ideal.exp (upTo a1 a4 a5 n (hd g h) r - upTo a1 a4 a5 n (hd g h) j) else 0)))
    + (∑ d : Fin 128, found a0 a1 a2 a3 a4 a5 n g h p d * act a0 a2 a3 (at64 n r) (ccol g d)) * Ideal.exp (upTo a1 a4 a5 n (hd g h) r)

/-- the row of a chunk. -/
def row (n : Fin 128) (r : Fin 64) (g : Fin 2) (h : Fin 8) (p : Fin 64) : EReal :=
  scanned a0 a1 a2 a3 a4 a5 n r g h p + act a0 a2 a3 (at64 n r) (xcol g h p) * a6 (ix1 (hd g h))

theorem upTo_at (n : Fin 128) (r : Fin 64) (g : Fin 2) (h : Fin 8) :
    b27 n (before a0 a1 a2 a3 a4 a5 n) (ix4 (0 : Fin 1) r g h) = upTo a1 a4 a5 n (hd g h) r := by
  rw [decays_at]
  unfold upTo decay
  simp only [a_kept, v71_at, a_at']

theorem found_zero (g : Fin 2) (h : Fin 8) (p : Fin 64) (d : Fin 128) : found a0 a1 a2 a3 a4 a5 0 g h p d = 0 := by
  show (K_main_v63 (F := Ideal)) (ix5 (0 : Fin 1) g h p d) = _
  unfold K_main_v63 K_main_cst_1
  pointwise

theorem found_next (n : Fin 128) (g : Fin 2) (h : Fin 8) (p : Fin 64) (d : Fin 128) :
    found a0 a1 a2 a3 a4 a5 (n + 1) g h p d = found a0 a1 a2 a3 a4 a5 n g h p d * Ideal.exp (upTo a1 a4 a5 n (hd g h) 63)
      + ∑ j : Fin 64, (Ideal.exp (upTo a1 a4 a5 n (hd g h) 63 - upTo a1 a4 a5 n (hd g h) j) * scaled a0 a1 a2 a3 a5 n j g h p) * act a0 a2 a3 (at64 n j) (bcol g d) := by
  refine (carry_at n (before a0 a1 a2 a3 a4 a5 n) g h p d).trans ?_
  simp only [upTo_at, xdt_kept, b_kept, v65_at, v67_at, act_at, dt_at]
  rfl

theorem scanned_at (n : Fin 128) (r : Fin 64) (g : Fin 2) (h : Fin 8) (p : Fin 64) :
    b53 n (before a0 a1 a2 a3 a4 a5 n) (ix5 (0 : Fin 1) r g h p) = scanned a0 a1 a2 a3 a4 a5 n r g h p := by
  rw [rows_at]
  simp only [dec_at, upTo_at, xdt_kept, b_kept, c_kept, v65_at, v67_at, v69_at, act_at, dt_at]
  rfl

end
end Cert.Sf
end
-- ==== Proof.Sf.Results.lean ====
module

public import proofs.«01_k».proof.Proof.Sf.Fold
public import proofs.«01_k».proof.Proof.Sf.Stacks

/-! What the reference hands out, entry by entry. -/

@[expose] public section

set_option maxRecDepth 16384

noncomputable section

open Idealize.ShloMosaic Idealize.ShloMosaic.TcCoe Idealize.SL.Sem
open scoped BigOperators

namespace Cert.Sf

open Cert.SfReferenceIdeal Cert.SfReferenceIdeal.Gen
open Cert.SfReferenceIdeal.Step

section
variable (a0 : S8192x2560.Idx → EReal) (a1 : S8192x16.Idx → EReal) (a2 : S4x1536.Idx → EReal) (a3 : S1536.Idx → EReal) (a4 a5 a6 : S16.Idx → EReal) (a7 : S1024.Idx → EReal)

/-- The columns before the activation, as handed out. -/
theorem result_pre (s : State Ideal) (t : Fin 8192) (l : Fin 1536) : R_main_v150 (F := Ideal) s a0 a2 a3 (ix2 t l) = pre a0 a2 a3 t l := by
  rw [v150_eq a0 0 a2 a3 0 0]
  pointwise
  exact pre_at ..

/-- column `p` of head `h` of group `g`. -/
def col (g : Fin 2) (h : Fin 8) (p : Fin 64) : Fin 1024 := ⟨512 * g + 64 * h + p, by omega⟩

theorem states_entry (s : State Ideal) (n : Fin 128) (d : Fin 128) (g : Fin 2) (h : Fin 8) (p : Fin 64) :
    R_main_v147 (F := Ideal) s (ix3 n d (col g h p)) = s.main_v74_8 (ix6 n (0 : Fin 1) g h p d) := by
  unfold R_main_v147 col
  pointwise

/-- The states, as handed out. -/
theorem result_states (n : Fin 128) (d : Fin 128) (g : Fin 2) (h : Fin 8) (p : Fin 64) :
    R_main_v147 (F := Ideal) (before a0 a1 a2 a3 a4 a5 128) (ix3 n d (col g h p)) = found a0 a1 a2 a3 a4 a5 n g h p d :=
  (states_entry _ n d g h p).trans (states_before a0 a1 a2 a3 a4 a5 n g h p d 128 le_rfl n.isLt)

theorem rows_entry (s : State Ideal) (x : S1x8192x1536.Idx → EReal) (n : Fin 128) (r : Fin 64) (g : Fin 2) (h : Fin 8) (p : Fin 64) :
    rows a6 s x (ix4 (0 : Fin 1) (at64 n r) (hd g h) p) = (s.main_v74_7 (ix6 n (0 : Fin 1) r g h p) + x (ix3 (0 : Fin 1) (at64 n r) (xcol g h p)) * a6 (ix1 (hd g h)) : EReal) := by
  unfold rows
  pointwise
  have e0 : (⟨(at64 n r : ℕ) / 64, by have := (at64 n r).isLt; omega⟩ : Fin 128) = n := Fin.ext (by simp only [at64]; omega)
  have e1 : (⟨(at64 n r : ℕ) % 64, Nat.mod_lt _ (by omega)⟩ : Fin 64) = r := Fin.ext (by simp only [at64]; omega)
  have e2 : (⟨(hd g h : ℕ) / 8, by have := (hd g h).isLt; omega⟩ : Fin 2) = g := Fin.ext (by simp only [hd]; omega)
  have e3 : (⟨(hd g h : ℕ) % 8, Nat.mod_lt _ (by omega)⟩ : Fin 8) = h := Fin.ext (by simp only [hd]; omega)
  have e4 : (⟨(hd g h : ℕ) * 64 + (p : ℕ), by have := (hd g h).isLt; omega⟩ : Fin 1536) = xcol g h p := Fin.ext (by simp only [hd, xcol]; omega)
  rw [e0, e1, e2, e3, e4]

theorem rows_at128 (n : Fin 128) (r : Fin 64) (g : Fin 2) (h : Fin 8) (p : Fin 64) :
    rows a6 (before a0 a1 a2 a3 a4 a5 128) (A_main_v39 (F := Ideal) a0 a1 a2 a3 a4 a5) (ix4 (0 : Fin 1) (at64 n r) (hd g h) p) = row a0 a1 a2 a3 a4 a5 a6 n r g h p := by
  refine (rows_entry a6 _ _ n r g h p).trans ?_
  rw [outs_before a0 a1 a2 a3 a4 a5 n r g h p 128 le_rfl n.isLt, scanned_at, act_at]
  rfl

theorem flat_entry (y : S1x8192x16x64.Idx → EReal) (t : Fin 8192) (g : Fin 2) (h : Fin 8) (p : Fin 64) :
    shapeCast S8192x1024 y shapeCasts_S1x8192x16x64_S8192x1024 (ix2 t (col g h p)) = y (ix4 (0 : Fin 1) t (hd g h) p) := by
  unfold col
  pointwise
  have e4 : (⟨(512 * (g : ℕ) + 64 * (h : ℕ) + (p : ℕ)) / 64, by omega⟩ : Fin 16) = hd g h := Fin.ext (by simp only [hd]; omega)
  rw [e4]

/-- The rows, as handed out. -/
theorem result_y (n : Fin 128) (r : Fin 64) (g : Fin 2) (h : Fin 8) (p : Fin 64) :
    R_main_v151 (F := Ideal) (before a0 a1 a2 a3 a4 a5 128) a0 a2 a3 a6 (ix2 (at64 n r) (col g h p)) = row a0 a1 a2 a3 a4 a5 a6 n r g h p := by
  rw [v151_eq a0 a1 a2 a3 a4 a5 a6]
  exact (flat_entry _ _ g h p).trans (rows_at128 a0 a1 a2 a3 a4 a5 a6 n r g h p)

/-- a gate's column. -/
def zcol (g : Fin 2) (w : Fin 512) : Fin 2560 := ⟨1536 + 512 * g + w, by omega⟩
/-- a column of a group. -/
def gcol (g : Fin 2) (w : Fin 512) : Fin 1024 := ⟨512 * g + w, by omega⟩
/-- the head and the lane of a group's column. -/
def hof (w : Fin 512) : Fin 8 := ⟨w / 64, by omega⟩
def pof (w : Fin 512) : Fin 64 := ⟨w % 64, Nat.mod_lt _ (by omega)⟩

theorem gated_entry (y : S1x8192x16x64.Idx → EReal) (t : Fin 8192) (g : Fin 2) (w : Fin 512) :
    gated a0 y (ix4 (0 : Fin 1) t g w) = y (ix4 (0 : Fin 1) t (hd g (hof w)) (pof w)) * silu (a0 (ix2 t (zcol g w))) := by
  unfold gated gate
  pointwise
  have e0 : (⟨(g : ℕ) * 8 + (w : ℕ) / 64, by omega⟩ : Fin 16) = hd g (hof w) := Fin.ext (by simp only [hd, hof]; omega)
  have e1 : (⟨1536 + (((g : ℕ) * 8 + (w : ℕ) / 64) * 64 + (w : ℕ) % 64), by omega⟩ : Fin 2560) = zcol g w := Fin.ext (by simp only [zcol]; omega)
  refine (congrArg₂ (fun (u : Fin 16) (v : Fin 2560) => (y (ix4 (0 : Fin 1) t u (pof w)) * (a0 (ix2 t v) * Ideal.div 1 (1 + Ideal.exp (-a0 (ix2 t v)))) : EReal)) e0 e1).trans ?_
  rfl

/-- a gated entry of a row. -/
def gatedRow (n : Fin 128) (r : Fin 64) (g : Fin 2) (w : Fin 512) : EReal :=
  row a0 a1 a2 a3 a4 a5 a6 n r g (hof w) (pof w) * silu (a0 (ix2 (at64 n r) (zcol g w)))

/-- A row of a group, normalised and weighted. -/
def normRow (y w : Fin 512 → EReal) (v : Fin 512) : EReal :=
  y v * Ideal.rsqrt (Ideal.div (∑ x, y x * y x) (Ideal.ofBits .f32 0x44000000#32) + Ideal.ofBits .f32 0x358637BD#32) * w v

theorem normed_entry (y : S1x8192x2x512.Idx → EReal) (t : Fin 8192) (g : Fin 2) (w : Fin 512) :
    normed a7 y (ix2 t (gcol g w)) = normRow (fun x => y (ix4 (0 : Fin 1) t g x)) (fun x => a7 (ix1 (gcol g x))) w := by
  unfold normed gcol
  pointwise
  have e0 : (⟨(g : ℕ) * 512 + (w : ℕ), by omega⟩ : Fin 1024) = ⟨512 * (g : ℕ) + (w : ℕ), by omega⟩ := Fin.ext (by simp only []; omega)
  rw [e0]
  rfl

/-- The normalised rows, as handed out. -/
theorem result_rows (n : Fin 128) (r : Fin 64) (g : Fin 2) (w : Fin 512) :
    R_main_v149 (F := Ideal) (before a0 a1 a2 a3 a4 a5 128) a0 a2 a3 a6 a7 (ix2 (at64 n r) (gcol g w)) =
      normRow (gatedRow a0 a1 a2 a3 a4 a5 a6 n r g) (fun x => a7 (ix1 (gcol g x))) w := by
  rw [v149_eq a0 a1 a2 a3 a4 a5 a6 a7]
  refine (normed_entry a7 _ (at64 n r) g w).trans ?_
  refine congrArg (fun f => normRow f _ w) (funext fun x => ?_)
  refine (gated_entry a0 _ (at64 n r) g x).trans ?_
  rw [rows_at128]
  rfl

end
end Cert.Sf
end
-- ==== Proof.Sf.Entries.lean ====
module

public import proofs.«01_k».proof.Proof.Sf.Body
public import proofs.«01_k».proof.Proof.Sf.Results

/-! The pieces of a grid point of `ssd_fwd`, entry by entry. -/

@[expose] public section

set_option maxRecDepth 16384

noncomputable section

open Idealize.ShloMosaic Idealize.ShloMosaic.TcCoe Idealize.SL.Sem
open scoped BigOperators

namespace Cert.SfKernelIdeal.Sf

open Cert.SfKernelIdeal Cert.SfKernelIdeal.Gen
open Cert.Sf (wide silu softplus)

/-- the head of a column. -/
def lane (l : Fin 1024) : Fin 128 := ⟨l / 64, by omega⟩

/-- row `r` of chunk `k` of the point. -/
def at256 (k : Fin 4) (r : Fin 64) : Fin 256 := ⟨64 * k + r, by omega⟩
def hd128 (g : Fin 2) (h : Fin 8) : Fin 128 := ⟨8 * g + h, by omega⟩

theorem indicator (b : Bool) : (FloatOps.sitofp (F := Ideal) FTy.f32 (BitVec.setWidth 32 (BitVec.ofBool b)) : EReal) = if b = true then 1 else 0 := by
  cases b
  · exact Step.sitofp_zero _
  · show (((1 : ℤ) : ℝ) : EReal) = 1
    simp

theorem word_eq (a b : ℕ) (ha : a < 2 ^ 31) (hb : b < 2 ^ 31) : IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem andi_ofBool (a b : Bool) : IntOp.andi (BitVec.ofBool a) (BitVec.ofBool b) = BitVec.ofBool (a && b) := by
  cases a <;> cases b <;> rfl

theorem word_le (a b : ℕ) (ha : a < 2 ^ 31) (hb : b < 2 ^ 31) : IntOp.cmpi CmpIPredicate.sle (BitVec.ofNat 32 a) (BitVec.ofNat 32 b) = BitVec.ofBool (decide (a ≤ b)) := by
  show BitVec.ofBool (BitVec.sle (BitVec.ofNat 32 a) (BitVec.ofNat 32 b)) = _
  congr 1
  rw [Bool.eq_iff_iff, BitVec.sle_iff_toInt_le, decide_eq_true_eq, BitVec.toInt_ofNat', BitVec.toInt_ofNat']
  rw [Int.bmod_def, Int.bmod_def]
  split_ifs <;> omega

theorem onehot_at (a : Fin 128) (l : Fin 1024) : k0_pay11 (F := Ideal) (ix2 a l) = if a = lane l then (1 : EReal) else 0 := by
  unfold k0_pay11
  pointwise
  have hs : IntOp.shrsi ArithUnit.vector (BitVec.ofNat 32 (l : ℕ)) 6#32 = BitVec.ofNat 32 ((lane l : Fin 128) : ℕ) := by
    revert l
    decide +kernel
  rw [hs, word_eq (lane l : ℕ) (a : ℕ) (by omega) (by omega), indicator]
  by_cases e : a = lane l
  · simp [e]
  · rw [if_neg e, if_neg (by simpa using fun h => e (Fin.ext h.symm))]

/-- Picking a head with a row of zeros and a one. -/
theorem pick (f : Fin 128 → EReal) (l : Fin 1024) : ∑ a : Fin 128, f a * (if a = lane l then (1 : EReal) else 0) = f (lane l) := by
  simp [mul_ite]

section
variable (x0 : FVec Ideal S256x2560 .f32) (x1 : FVec Ideal S256x128 .f32) (x2 x3 : FVec Ideal S8x1536 .f32) (x4 : FVec Ideal S8x128 .f32)
  (x5 : FVec Ideal S8x1024 .f32) (st : FVec Ideal S128x1024 .f32) (ha : FVec Ideal S8x1536 .f32)

theorem raw_at (r : Fin 256) (l : Fin 1536) : RAW x0 (ix2 r l) = x0 (ix2 r (wide l)) := by
  refine congrArg x0 ?_
  funext a
  apply Fin.ext
  fin_cases a
  · exact (Rect.idx_unit_val ..).trans (Nat.zero_add _)
  · exact (Rect.idx_unit_val ..).trans (Nat.zero_add _)

/-- the row `s` before row `r` of the point, found in the rows kept of the point before where there is none. -/
def back (s : ℕ) (hs : s ≤ 8) (r : Fin 256) (l : Fin 1536) : EReal :=
  if h : s ≤ (r : ℕ) then x0 (ix2 (⟨(r : ℕ) - s, by omega⟩ : Fin 256) (wide l)) else ha (ix2 (⟨8 + (r : ℕ) - s, by omega⟩ : Fin 8) l)

theorem pre_at (r : Fin 256) (l : Fin 1536) : PRE x0 x2 x3 ha (ix2 r l) =
    (x0 (ix2 r (wide l)) * x2 (ix2 (3 : Fin 8) l) + back x0 ha 1 (by decide) r l * x2 (ix2 (2 : Fin 8) l) + back x0 ha 2 (by decide) r l * x2 (ix2 (1 : Fin 8) l)
      + back x0 ha 3 (by decide) r l * x2 (ix2 (0 : Fin 8) l) + x3 (ix2 (0 : Fin 8) l) : EReal) := by
  unfold PRE k0_pay7
  pointwise
  have hb : ∀ (q : ℕ) (hq : q ≤ 3) (hq1 : 1 ≤ q), (if h : (8 + (r : ℕ) + 264 - q) % 264 < 8 then ha (ix2 (⟨(8 + (r : ℕ) + 264 - q) % 264, h⟩ : Fin 8) l)
      else RAW x0 (ix2 (⟨(8 + (r : ℕ) + 264 - q) % 264 - 8, by omega⟩ : Fin 256) l) : EReal) = back x0 ha q (by omega) r l := by
    intro q hq hq1
    have e : (8 + (r : ℕ) + 264 - q) % 264 = 8 + (r : ℕ) - q := by
      have := r.isLt
      omega
    unfold back
    by_cases h : q ≤ (r : ℕ)
    · rw [dif_pos h, dif_neg (by omega), raw_at]
      exact congrArg (fun i : Fin 256 => x0 (ix2 i (wide l))) (Fin.ext (by show (8 + (r : ℕ) + 264 - q) % 264 - 8 = (r : ℕ) - q; omega))
    · rw [dif_neg h, dif_pos (by omega)]
      exact congrArg (fun i : Fin 8 => ha (ix2 i l)) (Fin.ext e)
  rw [raw_at]
  exact congrArg₂ (fun a b : EReal => a + b) (congrArg₂ (fun a b : EReal => a + b) (congrArg₂ (fun a b : EReal => a + b) (congrArg₂ (fun a b : EReal => a + b) rfl
    (congrArg (fun a : EReal => a * x2 (ix2 (2 : Fin 8) l)) (hb 1 (by decide) (by decide))))
    (congrArg (fun a : EReal => a * x2 (ix2 (1 : Fin 8) l)) (hb 2 (by decide) (by decide))))
    (congrArg (fun a : EReal => a * x2 (ix2 (0 : Fin 8) l)) (hb 3 (by decide) (by decide)))) rfl

theorem act_at (r : Fin 256) (l : Fin 1536) : ACT x0 x2 x3 ha (ix2 r l) = silu (PRE x0 x2 x3 ha (ix2 r l)) := by
  unfold ACT k0_pay8
  pointwise
  rfl

theorem dt_at (r : Fin 256) (c : Fin 128) : k0_pay9 (F := Ideal) (k0_pay5 x1) (k0_pay6 x4) (ix2 r c) = softplus (x1 (ix2 r c) + x4 (ix2 (1 : Fin 8) c)) := by
  unfold k0_pay9 k0_pay5 k0_pay6
  pointwise
  unfold softplus
  rw [sub_eq_add_neg, zero_add]

/-- the decay of a row. -/
def dec (r : Fin 256) (c : Fin 128) : EReal := softplus (x1 (ix2 r c) + x4 (ix2 (1 : Fin 8) c)) * -Ideal.exp (x4 (ix2 (0 : Fin 8) c))

theorem ac_raw (r : Fin 256) (c : Fin 128) : AC x1 x4 (ix2 r c) =
    ((∑ m : Fin 256, (if (r : ℕ) / 64 = (m : ℕ) / 64 ∧ (m : ℕ) ≤ (r : ℕ) then (1 : EReal) else 0) * dec x1 x4 m c)
      + ∑ m : Fin 256, (if (r : ℕ) / 64 = (m : ℕ) / 64 ∧ (m : ℕ) ≤ (r : ℕ) then (1 : EReal) else 0) * (dec x1 x4 m c - dec x1 x4 m c) : EReal) := by
  unfold AC k0_pay10
  pointwise [dot_S256x256_S256x128_S256x128_1_0_0_1_n_n]
  simp only [dt_at]
  have hs : ∀ m : Fin 256, IntOp.shrsi ArithUnit.vector (BitVec.ofNat 32 (m : ℕ)) 6#32 = BitVec.ofNat 32 ((m : ℕ) / 64) := by
    decide +kernel
  have hi : ∀ m : Fin 256, (FloatOps.sitofp (F := Ideal) FTy.f32 (BitVec.setWidth 32
              (IntOp.andi
                (IntOp.cmpi CmpIPredicate.eq (IntOp.shrsi ArithUnit.vector (BitVec.ofNat 32 (r : ℕ)) 6#32)
                  (IntOp.shrsi ArithUnit.vector (BitVec.ofNat 32 (m : ℕ)) 6#32))
                (IntOp.cmpi CmpIPredicate.sle (BitVec.ofNat 32 (m : ℕ)) (BitVec.ofNat 32 (r : ℕ))))) : EReal)
      = if (r : ℕ) / 64 = (m : ℕ) / 64 ∧ (m : ℕ) ≤ (r : ℕ) then 1 else 0 := by
    intro m
    have := m.isLt
    have := r.isLt
    rw [hs, hs, word_eq _ _ (by omega) (by omega), word_le _ _ (by omega) (by omega), andi_ofBool, indicator]
    simp only [Bool.and_eq_true, decide_eq_true_eq]
  have hz : ∀ a : EReal, 0 - a = -a := fun a => by rw [sub_eq_add_neg, zero_add]
  have h6 : k0_pay6 (F := Ideal) x4 (ix2 (0 : Fin 8) c) = x4 (ix2 (0 : Fin 8) c) := by
    unfold k0_pay6
    pointwise
  simp only [hi, hz, h6]
  rfl

/-- The decays summed up to a row of its chunk. -/
theorem ac_at (c : Fin 128) (hf : ∀ m, dec x1 x4 m c ≠ ⊤) (k : Fin 4) (r : Fin 64) : AC x1 x4 (ix2 (at256 k r) c) =
    ∑ j : Fin 64, if (j : ℕ) ≤ (r : ℕ) then dec x1 x4 (at256 k j) c else 0 := by
  rw [ac_raw, ← Finset.sum_add_distrib]
  have e : ∀ m : Fin 256, ((if ((at256 k r : Fin 256) : ℕ) / 64 = (m : ℕ) / 64 ∧ (m : ℕ) ≤ ((at256 k r : Fin 256) : ℕ) then (1 : EReal) else 0) * dec x1 x4 m c
      + (if ((at256 k r : Fin 256) : ℕ) / 64 = (m : ℕ) / 64 ∧ (m : ℕ) ≤ ((at256 k r : Fin 256) : ℕ) then (1 : EReal) else 0) * (dec x1 x4 m c - dec x1 x4 m c))
      = if (m : ℕ) / 64 = (k : ℕ) ∧ (m : ℕ) % 64 ≤ (r : ℕ) then dec x1 x4 m c else 0 := by
    intro m
    by_cases h : (m : ℕ) / 64 = (k : ℕ) ∧ (m : ℕ) % 64 ≤ (r : ℕ)
    · have h' : ((at256 k r : Fin 256) : ℕ) / 64 = (m : ℕ) / 64 ∧ (m : ℕ) ≤ ((at256 k r : Fin 256) : ℕ) := by simp only [at256]; omega
      rw [if_pos h, if_pos h', one_mul, one_mul]
      exact Cert.Sf.add_sub_self_of_ne_top _ (hf m)
    · have h' : ¬ (((at256 k r : Fin 256) : ℕ) / 64 = (m : ℕ) / 64 ∧ (m : ℕ) ≤ ((at256 k r : Fin 256) : ℕ)) := by
        intro q; apply h; simp only [at256] at q; omega
      rw [if_neg h, if_neg h', zero_mul, zero_mul, add_zero]
  rw [Finset.sum_congr rfl fun m _ => e m]
  rw [← Equiv.sum_comp (finProdFinEquiv : Fin 4 × Fin 64 ≃ Fin (4 * 64)), Fintype.sum_prod_type, Finset.sum_eq_single k]
  · refine Finset.sum_congr rfl fun j _ => ?_
    have ev : (finProdFinEquiv (k, j) : Fin (4 * 64)) = at256 k j := Fin.ext (by simp [finProdFinEquiv, at256]; omega)
    rw [ev]
    have e1 : ((at256 k j : Fin 256) : ℕ) / 64 = k := by simp only [at256]; omega
    have e2 : ((at256 k j : Fin 256) : ℕ) % 64 = j := by simp only [at256]; omega
    rw [e1, e2]
    simp
  · intro q _ hq
    refine Finset.sum_eq_zero fun j _ => ?_
    have ev : (finProdFinEquiv (q, j) : Fin (4 * 64)) = at256 q j := Fin.ext (by simp [finProdFinEquiv, at256]; omega)
    rw [ev, if_neg]
    intro h
    apply hq
    apply Fin.ext
    have := h.1
    simp only [at256] at this
    omega
  · intro h; exact absurd (Finset.mem_univ k) h

theorem xd_at (r : Fin 256) (l : Fin 1024) : XD x0 x1 x2 x3 x4 ha (ix2 r l) =
    ACT x0 x2 x3 ha (ix2 r (⟨l, by omega⟩ : Fin 1536)) * softplus (x1 (ix2 r (lane l)) + x4 (ix2 (1 : Fin 8) (lane l))) := by
  unfold XD k0_pay12
  pointwise [dot_S256x128_S128x1024_S256x1024_1_0_0_1_n_n]
  simp only [dt_at, onehot_at, pick]
  rfl

theorem ea_at (r : Fin 256) (l : Fin 1024) : EA x1 x4 (ix2 r l) = Ideal.exp (AC x1 x4 (ix2 r (lane l))) := by
  unfold EA k0_pay14 k0_pay13
  pointwise [dot_S256x128_S128x1024_S256x1024_1_0_0_1_n_n]
  simp only [onehot_at, pick]
  rfl

theorem skip_at (l : Fin 1024) : DR x4 (ix2 (0 : Fin 1) l) = x4 (ix2 (2 : Fin 8) (lane l)) := by
  unfold DR k0_pay15 k0_pay6
  pointwise [dot_S8x128_S128x1024_S8x1024_1_0_0_1_n_n]
  simp only [onehot_at, pick]

theorem norm_at (l : Fin 1024) : NW x5 (ix2 (0 : Fin 1) l) = x5 (ix2 (0 : Fin 8) l) := by
  unfold NW k0_pay18
  pointwise

theorem halo_at (j : Fin 8) (l : Fin 1536) : k0_pay16 (F := Ideal) (RAW x0) (ix2 j l) = x0 (ix2 (⟨248 + (j : ℕ), by omega⟩ : Fin 256) (wide l)) := by
  unfold k0_pay16
  pointwise
  rw [raw_at]

theorem zc_at (n : ℕ) (r : Fin 64) (l : Fin 1024) : ZC x0 n (ix2 r l) = x0 (ix2 (⟨64 * (n % 4) + (r : ℕ), by omega⟩ : Fin 256) (⟨1536 + (l : ℕ), by omega⟩ : Fin 2560)) := by
  refine congrArg x0 ?_
  funext a
  apply Fin.ext
  fin_cases a
  · exact (Rect.idx_unit_val ..)
  · exact (Rect.idx_unit_val ..)

end

section
variable (ac : FVec Ideal S256x128 .f32) (xd ea : FVec Ideal S256x1024 .f32) (act : FVec Ideal S256x1536 .f32) (k : Fin 4)

theorem wd_at (r : Fin 64) (l : Fin 1024) : WD ac k (ix2 r l) = Ideal.exp (ac (ix2 (at256 k 63) (lane l)) - ac (ix2 (at256 k r) (lane l)) : EReal) := by
  unfold WD LAST
  pointwise [dot_S64x128_S128x1024_S64x1024_1_0_0_1_n_n]
  simp only [onehot_at]
  exact pick (fun a => Ideal.exp (ac (ix2 (at256 k 63) a) - ac (ix2 (at256 k r) a) : EReal)) l

theorem eal_at (l : Fin 1024) : EAL ac k (ix2 (0 : Fin 1) l) = Ideal.exp (ac (ix2 (at256 k 63) (lane l))) := by
  unfold EAL LAST
  pointwise [dot_S8x128_S128x1024_S8x1024_1_0_0_1_n_n]
  simp only [onehot_at]
  exact pick (fun a => Ideal.exp (ac (ix2 (at256 k 63) a))) l

theorem cb_at (g : Fin 2) (i j : Fin 64) : CB act k g (ix2 i j) =
    (∑ d : Fin 128, act (ix2 (at256 k i) (Cert.Sf.ccol g d)) * act (ix2 (at256 k j) (Cert.Sf.bcol g d)) : EReal) := by
  unfold CB Cm Bm
  pointwise [dot_S64x128_S64x128_S64x64_1_1_0_0_n_n]
  rfl

theorem mask_bot : (Named.named (F := Ideal) (φ := .f32) κ "mask" 0xF149F2CA#32) = (⊥ : EReal) :=
  IdealRules.named_const.ideal_named_scalar κ "mask" _ _ rfl

theorem dec_at (h : Fin 16) (i j : Fin 64) : DEC ac k h (ix2 i j) =
    if (j : ℕ) ≤ (i : ℕ) then Ideal.exp (ac (ix2 (at256 k i) (⟨h, by omega⟩ : Fin 128)) - ac (ix2 (at256 k j) (⟨h, by omega⟩ : Fin 128)) : EReal) else (0 : EReal) := by
  unfold DEC k0_pay4 k0_pay17
  pointwise
  have hm : IntOp.cmpi CmpIPredicate.sge (BitVec.ofNat 32 (i : ℕ)) (BitVec.ofNat 32 (j : ℕ)) = BitVec.ofBool (decide ((j : ℕ) ≤ (i : ℕ))) := by
    revert i j
    decide +kernel
  rw [hm, mask_bot]
  by_cases hp : (j : ℕ) ≤ (i : ℕ)
  · rw [if_pos hp, decide_eq_true hp]
    rfl
  · rw [if_neg hp, decide_eq_false hp]
    rfl

theorem head_at (g : Fin 2) (h : Fin 16) (i p : Fin 64) : HEAD ac xd act k g h (ix2 i p) =
    (∑ j : Fin 64, CB act k g (ix2 i j) * DEC ac k h (ix2 i j) * xd (ix2 (at256 k j) (⟨64 * h + p, by omega⟩ : Fin 1024)) : EReal) := by
  unfold HEAD
  pointwise [dot_S64x64_S64x64_S64x64_1_0_0_1_n_n]
  rfl

theorem beside_at (f : Fin 8 → FVec Ideal S64x64 .f32) (i : Fin 64) (w : Fin 512) : beside f (ix2 i w) = f (Cert.Sf.hof w) (ix2 i (Cert.Sf.pof w)) := by
  unfold beside
  simp only [List.ofFn_succ, List.ofFn_zero]
  pointwise
  have key : ∀ (h : Fin 8) (e : Cert.Sf.hof w = h) (q : Fin 64) (_ : (q : ℕ) = (w : ℕ) - 64 * (h : ℕ)), f h (ix2 i q) = f (Cert.Sf.hof w) (ix2 i (Cert.Sf.pof w)) := by
    intro h e q hq
    have e' : (w : ℕ) / 64 = h := congrArg Fin.val e
    rw [e]
    exact congrArg (fun q => f h (ix2 i q)) (Fin.ext (by simp only [Cert.Sf.pof]; omega))
  by_cases c0 : (w : ℕ) < 64
  · rw [dif_pos c0]
    exact key 0 (Fin.ext (by show (w : ℕ) / 64 = 0; omega)) _ (by show (w : ℕ) = (w : ℕ) - 64 * 0; omega)
  rw [dif_neg c0]
  by_cases c1 : (w : ℕ) - 64 < 64
  · rw [dif_pos c1]
    exact key 1 (Fin.ext (by show (w : ℕ) / 64 = 1; omega)) _ (by show (w : ℕ) - 64 = (w : ℕ) - 64 * 1; omega)
  rw [dif_neg c1]
  by_cases c2 : (w : ℕ) - 64 - 64 < 64
  · rw [dif_pos c2]
    exact key 2 (Fin.ext (by show (w : ℕ) / 64 = 2; omega)) _ (by show (w : ℕ) - 64 - 64 = (w : ℕ) - 64 * 2; omega)
  rw [dif_neg c2]
  by_cases c3 : (w : ℕ) - 64 - 64 - 64 < 64
  · rw [dif_pos c3]
    exact key 3 (Fin.ext (by show (w : ℕ) / 64 = 3; omega)) _ (by show (w : ℕ) - 64 - 64 - 64 = (w : ℕ) - 64 * 3; omega)
  rw [dif_neg c3]
  by_cases c4 : (w : ℕ) - 64 - 64 - 64 - 64 < 64
  · rw [dif_pos c4]
    exact key 4 (Fin.ext (by show (w : ℕ) / 64 = 4; omega)) _ (by show (w : ℕ) - 64 - 64 - 64 - 64 = (w : ℕ) - 64 * 4; omega)
  rw [dif_neg c4]
  by_cases c5 : (w : ℕ) - 64 - 64 - 64 - 64 - 64 < 64
  · rw [dif_pos c5]
    exact key 5 (Fin.ext (by show (w : ℕ) / 64 = 5; omega)) _ (by show (w : ℕ) - 64 - 64 - 64 - 64 - 64 = (w : ℕ) - 64 * 5; omega)
  rw [dif_neg c5]
  by_cases c6 : (w : ℕ) - 64 - 64 - 64 - 64 - 64 - 64 < 64
  · rw [dif_pos c6]
    exact key 6 (Fin.ext (by show (w : ℕ) / 64 = 6; omega)) _ (by show (w : ℕ) - 64 - 64 - 64 - 64 - 64 - 64 = (w : ℕ) - 64 * 6; omega)
  rw [dif_neg c6]
  exact key 7 (Fin.ext (by show (w : ℕ) / 64 = 7; omega)) _ (by show (w : ℕ) - 64 - 64 - 64 - 64 - 64 - 64 - 64 = (w : ℕ) - 64 * 7; omega)

theorem yg_at (g : Fin 2) (st : FVec Ideal S128x512 .f32) (i : Fin 64) (w : Fin 512) : YG ac xd ea act k g st (ix2 i w) =
    (HEAD ac xd act k g (head g (Cert.Sf.hof w)) (ix2 i (Cert.Sf.pof w))
      + (∑ d : Fin 128, act (ix2 (at256 k i) (Cert.Sf.ccol g d)) * st (ix2 d w)) * ea (ix2 (at256 k i) (Cert.Sf.gcol g w)) : EReal) := by
  unfold YG Cm
  pointwise [dot_S64x128_S128x512_S64x512_1_0_0_1_n_n]
  rw [beside_at]
  rfl

theorem next_at (g : Fin 2) (st : FVec Ideal S128x512 .f32) (d : Fin 128) (w : Fin 512) : NEXT ac xd act k g st (ix2 d w) =
    (st (ix2 d w) * EAL ac k (ix2 (0 : Fin 1) (Cert.Sf.gcol g w))
      + ∑ j : Fin 64, act (ix2 (at256 k j) (Cert.Sf.bcol g d)) * (xd (ix2 (at256 k j) (Cert.Sf.gcol g w)) * WD ac k (ix2 j (Cert.Sf.gcol g w))) : EReal) := by
  unfold NEXT Bm
  pointwise [dot_S64x128_S64x512_S128x512_0_0_1_1_n_n]
  rfl

theorem yc_at (d : FVec Ideal S1x1024 .f32) (a : Fin 2 → FVec Ideal S64x512 .f32) (i : Fin 64) (g : Fin 2) (w : Fin 512) :
    YC act k d (a 0) (a 1) (ix2 i (Cert.Sf.gcol g w)) =
    (a g (ix2 i w) + act (ix2 (at256 k i) (⟨Cert.Sf.gcol g w, by have := (Cert.Sf.gcol g w).isLt; omega⟩ : Fin 1536)) * d (ix2 (0 : Fin 1) (Cert.Sf.gcol g w)) : EReal) := by
  unfold YC
  pointwise
  congr 1
  fin_cases g
  · rw [dif_pos (by show 512 * 0 + (w : ℕ) < 512; omega)]
    exact congrArg (fun q => a 0 (ix2 i q)) (Fin.ext (by show 512 * 0 + (w : ℕ) = w; omega))
  · rw [dif_neg (by show ¬ 512 * 1 + (w : ℕ) < 512; omega)]
    exact congrArg (fun q => a 1 (ix2 i q)) (Fin.ext (by show 512 * 1 + (w : ℕ) - 512 = w; omega))

theorem lit_512 : Ideal.ofBits .f32 0x44000000#32 = ((512 : ℝ) : EReal) := by
  simp [Ideal.ofBits, Ideal.ieee, -EReal.coe_mul]
  norm_num

theorem lit_inv512 : Ideal.ofBits .f32 0x3B000000#32 = ((1 / 512 : ℝ) : EReal) := by
  simp [Ideal.ofBits, Ideal.ieee, -EReal.coe_mul]
  norm_num

theorem mean512 (x : EReal) : x * Ideal.ofBits .f32 0x3B000000#32 = Ideal.div x (Ideal.ofBits .f32 0x44000000#32) := by
  rw [lit_512, lit_inv512, Ideal.div_coe (by norm_num)]

theorem normed_at (p : FVec Ideal S64x1024 .f32) (w : FVec Ideal S1x1024 .f32) (g : Fin 2) (i : Fin 64) (v : Fin 512) :
    normed p w g (ix2 i v) = Cert.Sf.normRow (fun x => p (ix2 i (Cert.Sf.gcol g x))) (fun x => w (ix2 (0 : Fin 1) (Cert.Sf.gcol g x))) v := by
  unfold normed
  pointwise
  rw [mean512]
  rfl

theorem out_at (w : FVec Ideal S1x1024 .f32) (y z : FVec Ideal S64x1024 .f32) (i : Fin 64) (g : Fin 2) (v : Fin 512) :
    OUT w y z (ix2 i (Cert.Sf.gcol g v)) = Cert.Sf.normRow (fun x => y (ix2 i (Cert.Sf.gcol g x)) * silu (z (ix2 i (Cert.Sf.gcol g x)))) (fun x => w (ix2 (0 : Fin 1) (Cert.Sf.gcol g x))) v := by
  unfold OUT
  pointwise
  have key : ∀ q : Fin 512, q = v → normed (mulf y (mulf z (logistic z))) w g (ix2 i q)
      = Cert.Sf.normRow (fun x => y (ix2 i (Cert.Sf.gcol g x)) * silu (z (ix2 i (Cert.Sf.gcol g x)))) (fun x => w (ix2 (0 : Fin 1) (Cert.Sf.gcol g x))) v := by
    rintro q rfl
    exact normed_at _ w g i q
  fin_cases g
  · rw [dif_pos (by show 512 * 0 + (v : ℕ) < 512; omega)]
    exact key _ (Fin.ext (by show 512 * 0 + (v : ℕ) = v; omega))
  · rw [dif_neg (by show ¬ 512 * 1 + (v : ℕ) < 512; omega)]
    exact key _ (Fin.ext (by show 512 * 1 + (v : ℕ) - 512 = v; omega))

end
end Cert.SfKernelIdeal.Sf
end
-- ==== Proof.Sf.Math.lean ====
module

public import proofs.«01_k».proof.Proof.Sf.Entries

/-! What a grid point of `ssd_fwd` computes from its blocks is what four trips of the reference compute. -/

@[expose] public section

set_option maxRecDepth 16384

noncomputable section

open Idealize.ShloMosaic Idealize.ShloMosaic.TcCoe Idealize.SL.Sem
open scoped BigOperators

namespace Cert.SfKernelIdeal.Sf

open Cert.SfKernelIdeal Cert.SfKernelIdeal.Gen
open Cert.Sf (wide silu softplus tap at64 hd xcol bcol ccol col gcol zcol hof pof decay upTo scaled found scanned row gatedRow normRow)

/-- chunk `k` of point `t`. -/
def chunk (t : Fin 32) (k : Fin 4) : Fin 128 := ⟨4 * t + k, by omega⟩
/-- row `r` of point `t`. -/
def rowOf (t : Fin 32) (r : Fin 256) : Fin 8192 := ⟨256 * t + r, by omega⟩
def wide16 (h : Fin 16) : Fin 128 := ⟨h, by omega⟩
def four (i : Fin 4) : Fin 8 := ⟨i, by omega⟩

variable (a0 : S8192x2560.Idx → EReal) (a1 : S8192x16.Idx → EReal) (a2 : S4x1536.Idx → EReal) (a3 : S1536.Idx → EReal) (a4 a5 a6 : S16.Idx → EReal) (a7 : S1024.Idx → EReal)
variable (x0 : FVec Ideal S256x2560 .f32) (x1 : FVec Ideal S256x128 .f32) (x2 x3 : FVec Ideal S8x1536 .f32) (x4 : FVec Ideal S8x128 .f32)
  (x5 : FVec Ideal S8x1024 .f32) (st : FVec Ideal S128x1024 .f32) (ha : FVec Ideal S8x1536 .f32) (t : Fin 32)

/-- The blocks point `t` reads. -/
structure Blocks : Prop where
  h0 : ∀ r l, x0 (ix2 r l) = a0 (ix2 (rowOf t r) l)
  h1 : ∀ r h, x1 (ix2 r (wide16 h)) = a1 (ix2 (rowOf t r) h)
  h2 : ∀ i l, x2 (ix2 (four i) l) = a2 (ix2 i l)
  h3 : ∀ l, x3 (ix2 (0 : Fin 8) l) = a3 (ix1 l)
  h4 : ∀ h, x4 (ix2 (0 : Fin 8) (wide16 h)) = a4 (ix1 h)
  h5 : ∀ h, x4 (ix2 (1 : Fin 8) (wide16 h)) = a5 (ix1 h)
  h6 : ∀ h, x4 (ix2 (2 : Fin 8) (wide16 h)) = a6 (ix1 h)
  h7 : ∀ l, x5 (ix2 (0 : Fin 8) l) = a7 (ix1 l)

/-- What it finds of the point before. -/
structure Kept : Prop where
  state : ∀ d g w, st (ix2 d (gcol g w)) = found a0 a1 a2 a3 a4 a5 (4 * (t : ℕ)) g (hof w) (pof w) d
  halo : ∀ (j : Fin 8) l, ha (ix2 j l) = if h : 8 ≤ 256 * (t : ℕ) + (j : ℕ) then a0 (ix2 (⟨256 * (t : ℕ) + (j : ℕ) - 8, by omega⟩ : Fin 8192) (wide l)) else 0

variable {a0 a1 a2 a3 a4 a5 a6 a7 x0 x1 x2 x3 x4 x5 st ha t}

theorem rowOf_at (k : Fin 4) (r : Fin 64) : rowOf t (at256 k r) = at64 (chunk t k) r := Fin.ext (by simp only [rowOf, at256, at64, chunk]; omega)
theorem lane_gcol (g : Fin 2) (w : Fin 512) : lane (gcol g w) = wide16 (hd g (hof w)) := Fin.ext (by simp only [lane, gcol, wide16, hd, hof]; omega)

section
variable (B : Blocks a0 a1 a2 a3 a4 a5 a6 a7 x0 x1 x2 x3 x4 x5 t) (K : Kept a0 a1 a2 a3 a4 a5 st ha t)
include B

theorem back_eq (hh : ∀ (j : Fin 8) l, ha (ix2 j l) = if h : 8 ≤ 256 * (t : ℕ) + (j : ℕ) then a0 (ix2 (⟨256 * (t : ℕ) + (j : ℕ) - 8, by omega⟩ : Fin 8192) (wide l)) else 0)
    (s : ℕ) (hs : s ≤ 8) (r : Fin 256) (l : Fin 1536) : back x0 ha s hs r l = tap a0 s (rowOf t r) l := by
  unfold back tap
  have hr : ((rowOf t r : Fin 8192) : ℕ) = 256 * (t : ℕ) + (r : ℕ) := rfl
  by_cases h : s ≤ (r : ℕ)
  · rw [dif_pos h, if_pos (by omega), B.h0]
    exact congrArg (fun i : Fin 8192 => a0 (ix2 i (wide l))) (Fin.ext (by show 256 * (t : ℕ) + ((r : ℕ) - s) = 256 * (t : ℕ) + (r : ℕ) - s; omega))
  · rw [dif_neg h, hh]
    by_cases h' : s ≤ 256 * (t : ℕ) + (r : ℕ)
    · rw [dif_pos (by show 8 ≤ 256 * (t : ℕ) + (8 + (r : ℕ) - s); omega), if_pos (by omega)]
      exact congrArg (fun i : Fin 8192 => a0 (ix2 i (wide l))) (Fin.ext (by show 256 * (t : ℕ) + (8 + (r : ℕ) - s) - 8 = 256 * (t : ℕ) + (r : ℕ) - s; omega))
    · rw [dif_neg (by show ¬ 8 ≤ 256 * (t : ℕ) + (8 + (r : ℕ) - s); omega), if_neg (by omega)]

include K

theorem pre_eq (r : Fin 256) (l : Fin 1536) : PRE x0 x2 x3 ha (ix2 r l) = Cert.Sf.pre a0 a2 a3 (rowOf t r) l := by
  rw [pre_at, back_eq B K.halo, back_eq B K.halo, back_eq B K.halo, show (3 : Fin 8) = four 3 from rfl, show (2 : Fin 8) = four 2 from rfl, show (1 : Fin 8) = four 1 from rfl,
    show x2 (ix2 (0 : Fin 8) l) = x2 (ix2 (four 0) l) from rfl, B.h2, B.h2, B.h2, B.h2, B.h3, B.h0]
  unfold Cert.Sf.pre
  have e : a0 (ix2 (rowOf t r) (wide l)) = tap a0 0 (rowOf t r) l := by unfold tap; simp
  rw [e]
  ac_rfl

theorem act_eq (r : Fin 256) (l : Fin 1536) : ACT x0 x2 x3 ha (ix2 r l) = Cert.Sf.act a0 a2 a3 (rowOf t r) l := by
  rw [act_at, pre_eq B K]
  rfl

omit K in
theorem dec_eq (r : Fin 256) (h : Fin 16) : dec x1 x4 r (wide16 h) = decay a1 a4 a5 (rowOf t r) h := by
  unfold dec decay
  rw [B.h1, B.h5, B.h4]

omit K in
theorem ac_eq (h : Fin 16) (k : Fin 4) (r : Fin 64) : AC x1 x4 (ix2 (at256 k r) (wide16 h)) = upTo a1 a4 a5 (chunk t k) h r := by
  rw [ac_at x1 x4 _ (fun m => by rw [dec_eq B]; exact Cert.Sf.decay_ne_top _ _)]
  unfold upTo
  refine Finset.sum_congr rfl fun j _ => ?_
  rw [dec_eq B, rowOf_at]

theorem xd_eq (k : Fin 4) (r : Fin 64) (g : Fin 2) (w : Fin 512) : XD x0 x1 x2 x3 x4 ha (ix2 (at256 k r) (gcol g w)) = scaled a0 a1 a2 a3 a5 (chunk t k) r g (hof w) (pof w) := by
  rw [xd_at, act_eq B K, lane_gcol, B.h1, B.h5, rowOf_at]
  unfold scaled
  congr 2
  apply Fin.ext
  simp only [gcol, xcol, hof, pof]
  omega

theorem gs_eq (g : Fin 2) : ∀ n, n ≤ 4 → ∀ d w, GS x0 x1 x2 x3 x4 st ha g n (ix2 d w) = found a0 a1 a2 a3 a4 a5 (4 * (t : ℕ) + n) g (hof w) (pof w) d
  | 0, _, d, w => by
    refine Eq.trans ?_ (K.state d g w)
    refine congrArg st ?_
    funext a
    apply Fin.ext
    fin_cases a
    · exact (Rect.idx_unit_val ..).trans (Nat.zero_add _)
    · exact Rect.idx_unit_val ..
  | n + 1, hn, d, w => by
    have hk : at4 n = (⟨n, by omega⟩ : Fin 4) := Fin.ext (Nat.mod_eq_of_lt (by omega))
    refine (next_at ..).trans ?_
    rw [gs_eq g n (by omega) d w, hk, eal_at, lane_gcol, ac_eq B]
    refine Eq.trans ?_ (Cert.Sf.found_next a0 a1 a2 a3 a4 a5 (chunk t ⟨n, by omega⟩) g (hof w) (pof w) d).symm
    refine congrArg₂ (fun a b : EReal => a + b) rfl (Finset.sum_congr rfl fun j _ => ?_)
    rw [wd_at, lane_gcol, ac_eq B, ac_eq B, xd_eq B K, act_eq B K, rowOf_at, mul_comm, mul_comm (scaled ..)]

/-- A row of a chunk, before gating. -/
theorem y_eq (k : Fin 4) (r : Fin 64) (g : Fin 2) (w : Fin 512) : Y x0 x1 x2 x3 x4 st ha (k : ℕ) (ix2 r (gcol g w)) = row a0 a1 a2 a3 a4 a5 a6 (chunk t k) r g (hof w) (pof w) := by
  have hk : at4 (k : ℕ) = k := Fin.ext (Nat.mod_eq_of_lt k.isLt)
  unfold Y
  rw [hk]
  refine (yc_at _ k (DR x4) (fun g => YG (AC x1 x4) (XD x0 x1 x2 x3 x4 ha) (EA x1 x4) (ACT x0 x2 x3 ha) k g (GS x0 x1 x2 x3 x4 st ha g k)) r g w).trans ?_
  unfold row
  refine congrArg₂ (fun a b : EReal => a + b) ?_ ?_
  · rw [yg_at, head_at]
    unfold scanned
    refine congrArg₂ (fun a b : EReal => a + b) (Finset.sum_congr rfl fun j _ => ?_) ?_
    · have ex : (⟨64 * ((head g (hof w) : Fin 16) : ℕ) + ((pof w : Fin 64) : ℕ), by have := (head g (hof w)).isLt; have := (pof w).isLt; omega⟩ : Fin 1024) = gcol g w :=
        Fin.ext (by simp only [head, hof, pof, gcol]; omega)
      have eh : head g (hof w) = hd g (hof w) := rfl
      rw [ex, xd_eq B K, cb_at, dec_at, eh]
      have e1 : (⟨((hd g (hof w) : Fin 16) : ℕ), by have := (hd g (hof w)).isLt; omega⟩ : Fin 128) = wide16 (hd g (hof w)) := rfl
      rw [e1, ac_eq B, ac_eq B, mul_comm]
      refine congrArg (fun a : EReal => _ * (a * _)) (Finset.sum_congr rfl fun d _ => ?_)
      rw [act_eq B K, act_eq B K, rowOf_at, rowOf_at, mul_comm]
    · rw [ea_at, lane_gcol, ac_eq B]
      refine congrArg (fun a : EReal => a * _) (Finset.sum_congr rfl fun d _ => ?_)
      rw [gs_eq B K g k (by omega), act_eq B K, rowOf_at, mul_comm]
      rfl
  · rw [skip_at, lane_gcol, B.h6, act_eq B K, rowOf_at]
    congr 2
    apply Fin.ext
    simp only [gcol, xcol, hof, pof]
    omega

/-- A row handed on. -/
theorem out_eq (k : Fin 4) (r : Fin 64) (g : Fin 2) (w : Fin 512) : OUT (NW x5) (Y x0 x1 x2 x3 x4 st ha (k : ℕ)) (ZC x0 (k : ℕ)) (ix2 r (gcol g w)) =
    normRow (gatedRow a0 a1 a2 a3 a4 a5 a6 (chunk t k) r g) (fun x => a7 (ix1 (gcol g x))) w := by
  rw [out_at]
  have hy : ∀ x, Y x0 x1 x2 x3 x4 st ha (k : ℕ) (ix2 r (gcol g x)) * silu (ZC x0 (k : ℕ) (ix2 r (gcol g x))) = gatedRow a0 a1 a2 a3 a4 a5 a6 (chunk t k) r g x := by
    intro x
    rw [y_eq B K, zc_at, B.h0]
    unfold gatedRow
    refine congrArg (fun a : EReal => _ * silu a) (congrArg₂ (fun i j => a0 (ix2 i j)) (Fin.ext ?_) (Fin.ext ?_))
    · simp only [rowOf, at64, chunk]; omega
    · simp only [gcol, zcol]; omega
  have hw : ∀ x, NW x5 (ix2 (0 : Fin 1) (gcol g x)) = a7 (ix1 (gcol g x)) := fun x => by rw [norm_at, B.h7]
  simp only [hy, hw]

/-- The state it leaves. -/
theorem e_eq (n : ℕ) (hn : n ≤ 4) (d : Fin 128) (g : Fin 2) (w : Fin 512) : E x0 x1 x2 x3 x4 st ha n (ix2 d (gcol g w)) = found a0 a1 a2 a3 a4 a5 (4 * (t : ℕ) + n) g (hof w) (pof w) d := by
  have key : ∀ (g' : Fin 2) (w' : Fin 512), g' = g → w' = w → (![GS x0 x1 x2 x3 x4 st ha 0 n, GS x0 x1 x2 x3 x4 st ha 1 n] : Fin 2 → FVec Ideal S128x512 .f32) g' (ix2 d w') = found a0 a1 a2 a3 a4 a5 (4 * (t : ℕ) + n) g (hof w) (pof w) d := by
    rintro g' w' rfl rfl
    fin_cases g'
    · exact gs_eq B K 0 n hn d w'
    · exact gs_eq B K 1 n hn d w'
  exact key (⟨(512 * (g : ℕ) + (w : ℕ)) / 512, by omega⟩ : Fin 2) (⟨(512 * (g : ℕ) + (w : ℕ)) % 512, Nat.mod_lt _ (by decide)⟩ : Fin 512)
    (Fin.ext (by show (512 * (g : ℕ) + (w : ℕ)) / 512 = g; omega)) (Fin.ext (by show (512 * (g : ℕ) + (w : ℕ)) % 512 = w; omega))

theorem st_eq (n : ℕ) (hn : n ≤ 4) (d : Fin 128) (g : Fin 2) (w : Fin 512) : ST x0 x1 x2 x3 x4 st ha n (ix2 d (gcol g w)) = found a0 a1 a2 a3 a4 a5 (4 * (t : ℕ) + n) g (hof w) (pof w) d := by
  cases n with
  | zero => exact K.state d g w
  | succ n => exact e_eq B K (n + 1) hn d g w

/-- What the next point finds. -/
theorem kept_next (h : (t : ℕ) + 1 < 32) : Kept a0 a1 a2 a3 a4 a5 (E x0 x1 x2 x3 x4 st ha 4) (k0_pay16 (F := Ideal) (RAW x0)) (⟨(t : ℕ) + 1, h⟩ : Fin 32) where
  state d g w := by
    rw [e_eq B K 4 le_rfl]
    rfl
  halo j l := by
    rw [halo_at, B.h0, dif_pos (by show 8 ≤ 256 * ((t : ℕ) + 1) + (j : ℕ); omega)]
    exact congrArg (fun i : Fin 8192 => a0 (ix2 i (wide l))) (Fin.ext (by show 256 * (t : ℕ) + (248 + (j : ℕ)) = 256 * ((t : ℕ) + 1) + (j : ℕ) - 8; omega))

end

/-- What the first point finds. -/
theorem kept_first : Kept a0 a1 a2 a3 a4 a5 (k0_pay2 (F := Ideal)) (k0_pay3 (F := Ideal)) (0 : Fin 32) where
  state d g w := by
    rw [show (4 * ((0 : Fin 32) : ℕ)) = 0 from rfl, Cert.Sf.found_zero]
    unfold k0_pay2
    pointwise
  halo j l := by
    rw [dif_neg (by show ¬ 8 ≤ 256 * 0 + (j : ℕ); omega)]
    unfold k0_pay3
    pointwise

end Cert.SfKernelIdeal.Sf
end
-- ==== Proof.Sf.Inputs.lean ====
module

public import proofs.«01_k».proof.Proof.Sf.Math
public import proofs.«01_k».proof.Proof.Pad8
public import Idealize.ShloMosaic.Lib.StableHlo.RunRead

/-! The operands of `ssd_fwd`: the steps padded to whole lanes, the small parameters written into the first rows of arrays of zeros, and
the blocks a grid point reads of them, in the program's arguments. -/

@[expose] public section

set_option maxRecDepth 16384

noncomputable section

open Idealize.ShloMosaic Idealize.ShloMosaic.TcCoe Idealize.SL.Sem
open Idealize.ShloMosaic.Pipeline (Dat)
open scoped BigOperators

namespace Cert.SfKernelIdeal.Sf

open Cert.SfKernelIdeal Cert.SfKernelIdeal.Gen

variable (m : (ℓ : Loc nD τ sig) → Buf (Elt Ideal) ℓ)

abbrev A0 (c : Dev nD) : FVec Ideal S8192x2560 .f32 := m ((c : Thread nD τ).loc main_arg0)
abbrev A1 (c : Dev nD) : FVec Ideal S8192x16 .f32 := m ((c : Thread nD τ).loc main_arg1)
abbrev A2 (c : Dev nD) : FVec Ideal S4x1536 .f32 := m ((c : Thread nD τ).loc main_arg2)
abbrev A3 (c : Dev nD) : FVec Ideal S1536 .f32 := m ((c : Thread nD τ).loc main_arg3)
abbrev A4 (c : Dev nD) : FVec Ideal S16 .f32 := m ((c : Thread nD τ).loc main_arg4)
abbrev A5 (c : Dev nD) : FVec Ideal S16 .f32 := m ((c : Thread nD τ).loc main_arg5)
abbrev A6 (c : Dev nD) : FVec Ideal S16 .f32 := m ((c : Thread nD τ).loc main_arg6)
abbrev A7 (c : Dev nD) : FVec Ideal S1024 .f32 := m ((c : Thread nD τ).loc main_arg7)

/-! What the host lines leave in the call's operands. -/

theorem varg0 (c : Dev nD) : Gen.V m c main_arg0 = A0 m c := by
  show StableHlo.after _ _ _ = _
  after_reads_simp

theorem v9 (c : Dev nD) : Gen.V m c main_v9 = pad S8192x128 ![0, 0] ![0, 112] ![0, 0] (A1 m c) (sitofp (F := Ideal) .f32 (constantI S_ 32 0#32))
    pads_S8192x16_S8192x128_000_01120 h_S_ := by
  show StableHlo.after _ _ _ = _
  after_reads_simp
  rfl

theorem v12 (c : Dev nD) : Gen.V m c main_v12 = Host.scatter scatter_S8x1536_S1_S4x1536_01_n_0_0 (fun _ b => b)
    (broadcastInDim S8x1536 ![] bcast_S_S8x1536 (constant (F := Ideal) S_ FTy.f32 0x00000000#32))
    (broadcastInDim S1 ![] bcast_S_S1 (constantI S_ 32 0#32)) (A2 m c) := by
  show StableHlo.after _ _ _ = _
  after_reads_simp

theorem v16 (c : Dev nD) : Gen.V m c main_v16 = Host.scatter scatter_S8x1536_S1_S1x1536_01_n_0_0 (fun _ b => b)
    (broadcastInDim S8x1536 ![] bcast_S_S8x1536 (constant (F := Ideal) S_ FTy.f32 0x00000000#32))
    (broadcastInDim S1 ![] bcast_S_S1 (constantI S_ 32 0#32)) (shapeCast S1x1536 (A3 m c) shapeCasts_S1536_S1x1536) := by
  show StableHlo.after _ _ _ = _
  after_reads_simp
  rfl

theorem v20 (c : Dev nD) : Gen.V m c main_v20 = Host.scatter scatter_S8x1024_S1_S1x1024_01_n_0_0 (fun _ b => b)
    (broadcastInDim S8x1024 ![] bcast_S_S8x1024 (constant (F := Ideal) S_ FTy.f32 0x00000000#32))
    (broadcastInDim S1 ![] bcast_S_S1 (constantI S_ 32 0#32)) (shapeCast S1x1024 (A7 m c) shapeCasts_S1024_S1x1024) := by
  show StableHlo.after _ _ _ = _
  after_reads_simp
  rfl

/-- the three rows of a head's parameters. -/
def three (a b d : FVec Ideal S16 .f32) : FVec Ideal S3x16 .f32 :=
  concatenate S3x16 0 [⟨S1x16, broadcastInDim S1x16 ![1] bcast_S16_S1x16_1 a⟩, ⟨S1x16, broadcastInDim S1x16 ![1] bcast_S16_S1x16_1 b⟩,
    ⟨S1x16, broadcastInDim S1x16 ![1] bcast_S16_S1x16_1 d⟩] concatenates_S1x16_S1x16_S1x16_S3x16_d0

theorem v8 (c : Dev nD) : Gen.V m c main_v8 = Host.scatter scatter_S8x128_S2_S3x16_01_n_01_0 (fun _ b => b)
    (broadcastInDim S8x128 ![] bcast_S_S8x128 (constant (F := Ideal) S_ FTy.f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (three (A4 m c) (A5 m c) (A6 m c)) := by
  show StableHlo.after _ _ _ = _
  after_reads_simp
  rfl

theorem three_at0 (a b d : FVec Ideal S16 .f32) (h : Fin 16) : three a b d (ix2 (0 : Fin 3) h) = a (ix1 h) := by
  unfold three
  pointwise
theorem three_at1 (a b d : FVec Ideal S16 .f32) (h : Fin 16) : three a b d (ix2 (1 : Fin 3) h) = b (ix1 h) := by
  unfold three
  pointwise
theorem three_at2 (a b d : FVec Ideal S16 .f32) (h : Fin 16) : three a b d (ix2 (2 : Fin 3) h) = d (ix1 h) := by
  unfold three
  pointwise

/-- every window's block index, in the point's number. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0, 0]
    ∧ win0_8.index t = ![t.val, 0]
    ∧ win0_9.index t = ![t.val, 0] :=
  (by decide +kernel : ∀ t : Fin grid0.N, _)

theorem tlt (t : Fin cfg0.N) : t.val < 32 := lt_of_lt_of_eq t.isLt N_0

/-- a point's number. -/
abbrev pt (t : Fin cfg0.N) : Fin 32 := ⟨t.val, tlt t⟩

/-- the row of the whole array that row `r` of point `t`'s block is. -/
abbrev grow (t : Fin cfg0.N) (r : Fin 256) : Fin 8192 := ⟨t.val * 256 + r, by have := tlt t; omega⟩

theorem grow_eq (t : Fin cfg0.N) (r : Fin 256) : grow t r = rowOf (pt t) r := Fin.ext (by simp only [grow, rowOf, pt]; omega)

/-! The blocks a point reads. -/

theorem b0 (c : Dev nD) (t : Fin cfg0.N) (r : Fin 256) (k : Fin 2560) : iblk m c 0 t (ix2 r k) = A0 m c (ix2 (grow t r) k) := by
  blk_simp [iblk, idx t]
  rw [varg0]
  blk_ext [idx t]

theorem b1 (c : Dev nD) (t : Fin cfg0.N) (r : Fin 256) (h : Fin 16) : iblk m c 1 t (ix2 r (wide16 h)) = A1 m c (ix2 (grow t r) h) := by
  have e : iblk m c 1 t (ix2 r (wide16 h)) = (Gen.V m c main_v9 : FVec Ideal S8192x128 .f32) (ix2 (grow t r) (wide16 h)) := by
    blk_simp [iblk, idx t]
    blk_ext [idx t]
  rw [e, v9]
  unfold wide16
  pointwise
  exact dif_pos (by have := tlt t; omega)

theorem b2 (c : Dev nD) (t : Fin cfg0.N) (i : Fin 4) (l : Fin 1536) : iblk m c 2 t (ix2 (four i) l) = A2 m c (ix2 i l) := by
  have h : iblk m c 2 t (ix2 (four i) l) = (Gen.V m c main_v12 : FVec Ideal S8x1536 .f32) (ix2 (four i) l) := by
    blk_simp [iblk, idx t]
    blk_ext [idx t]
  rw [h, v12]
  refine (Step.scatter_rows scatter_S8x1536_S1_S4x1536_01_n_0_0 rfl rfl rfl _ (fun i => ?_) _ _ i (four i) l rfl).trans ?_
  · pointwise
  · rfl

theorem b3 (c : Dev nD) (t : Fin cfg0.N) (l : Fin 1536) : iblk m c 3 t (ix2 (0 : Fin 8) l) = A3 m c (ix1 l) := by
  have h : iblk m c 3 t (ix2 (0 : Fin 8) l) = (Gen.V m c main_v16 : FVec Ideal S8x1536 .f32) (ix2 (0 : Fin 8) l) := by
    blk_simp [iblk, idx t]
    blk_ext [idx t]
  rw [h, v16]
  refine (Step.scatter_rows scatter_S8x1536_S1_S1x1536_01_n_0_0 rfl rfl rfl _ (fun i => ?_) _ _ (0 : Fin 1) (0 : Fin 8) l rfl).trans ?_
  · pointwise
  · pointwise

theorem b5 (c : Dev nD) (t : Fin cfg0.N) (l : Fin 1024) : iblk m c 5 t (ix2 (0 : Fin 8) l) = A7 m c (ix1 l) := by
  have h : iblk m c 5 t (ix2 (0 : Fin 8) l) = (Gen.V m c main_v20 : FVec Ideal S8x1024 .f32) (ix2 (0 : Fin 8) l) := by
    blk_simp [iblk, idx t]
    blk_ext [idx t]
  rw [h, v20]
  refine (Step.scatter_rows scatter_S8x1024_S1_S1x1024_01_n_0_0 rfl rfl rfl _ (fun i => ?_) _ _ (0 : Fin 1) (0 : Fin 8) l rfl).trans ?_
  · pointwise
  · pointwise

theorem b4 (c : Dev nD) (t : Fin cfg0.N) (i : Fin 3) (j : Fin 8) (hj : (i : ℕ) = (j : ℕ)) (h : Fin 16) :
    iblk m c 4 t (ix2 j (wide16 h)) = three (A4 m c) (A5 m c) (A6 m c) (ix2 i h) := by
  have e : iblk m c 4 t (ix2 j (wide16 h)) = (Gen.V m c main_v8 : FVec Ideal S8x128 .f32) (ix2 j (wide16 h)) := by
    blk_simp [iblk, idx t]
    blk_ext [idx t]
  rw [e, v8]
  refine (Step.scatter_corner scatter_S8x128_S2_S3x16_01_n_01_0 rfl rfl rfl _ (fun i => ?_) _ _ i h j (wide16 h) hj rfl)
  obtain ⟨k, rfl⟩ : ∃ k : Fin 2, i = ix1 k := ⟨i 0, by funext a; fin_cases a; rfl⟩
  fin_cases k
  · pointwise
  · pointwise

theorem blocks (c : Dev nD) (t : Fin cfg0.N) : Blocks (A0 m c) (A1 m c) (A2 m c) (A3 m c) (A4 m c) (A5 m c) (A6 m c) (A7 m c)
    (iblk m c 0 t) (iblk m c 1 t) (iblk m c 2 t) (iblk m c 3 t) (iblk m c 4 t) (iblk m c 5 t) (pt t) where
  h0 r l := by rw [b0, grow_eq]
  h1 r h := by rw [b1, grow_eq]
  h2 i l := b2 m c t i l
  h3 l := b3 m c t l
  h4 h := (b4 m c t 0 0 rfl h).trans (three_at0 ..)
  h5 h := (b4 m c t 1 1 rfl h).trans (three_at1 ..)
  h6 h := (b4 m c t 2 2 rfl h).trans (three_at2 ..)
  h7 l := b5 m c t l

end Cert.SfKernelIdeal.Sf
end
-- ==== Proof.Sf.PointState.lean ====
module

public import proofs.«01_k».proof.Proof.Sf.Body

/-! What one grid point leaves in its state and writes of it: the states on entry to its four chunks. -/

@[expose] public section

set_option maxRecDepth 16384

noncomputable section

open Idealize.ShloMosaic Idealize.ShloMosaic.TcCoe Idealize.SL.Sem
open Idealize.ShloMosaic.Pipeline (Dat)
open scoped BigOperators

namespace Cert.SfKernelIdeal.Sf

open Cert.SfKernelIdeal Cert.SfKernelIdeal.Gen

set_option maxHeartbeats 1000000

/-- The last two stores of the state are its two halves. -/
theorem canon_halves (p q : FVec Ideal S128x512 .f32) (L : List (View.Piece (Elt Ideal) S128x1024 .f32)) :
    View.canon (Val := Elt Ideal) (e := .f32) ((⟨Rect.unit (s := S128x1024) ![0, 512] ![128, 512] inb_S128x1024_S128x512_0_512, q⟩ : View.Piece (Elt Ideal) S128x1024 .f32)
      :: (⟨Rect.unit (s := S128x1024) ![0, 0] ![128, 512] inb_S128x1024_S128x512_0_0, p⟩ : View.Piece (Elt Ideal) S128x1024 .f32)   :: L) = join ![p, q] := by
  funext y
  have h1 : (y 1 : ℕ) < 1024 := (y 1).isLt
  by_cases h : (y 1 : ℕ) < 512
  · have e0 : (⟨(y 1 : ℕ) / 512, by omega⟩ : Fin 2) = 0 := Fin.ext (by show (y 1 : ℕ) / 512 = 0; omega)
    have ey : (Rect.unit (s := S128x1024) ![0, 0] ![128, 512] inb_S128x1024_S128x512_0_0).emb (ix2 (y 0) ⟨(y 1 : ℕ) % 512, Nat.mod_lt _ (by decide)⟩) = y := by
      funext a
      fin_cases a
      · exact Fin.ext ((Rect.idx_unit_val ..).trans (Nat.zero_add _))
      · exact Fin.ext ((Rect.idx_unit_val ..).trans (by show 0 + (y 1 : ℕ) % 512 = (y 1 : ℕ); omega))
    rw [View.canon_cons_of_not_mem]
    · unfold join
      rw [e0]
      conv_lhs => rw [← ey]
      exact View.canon_cons_emb _ _ _ _
    · intro hm
      rw [Rect.mem_set_unit] at hm
      have := (hm 1).1
      change 512 ≤ (y 1 : ℕ) at this
      omega
  · have e0 : (⟨(y 1 : ℕ) / 512, by omega⟩ : Fin 2) = 1 := Fin.ext (by show (y 1 : ℕ) / 512 = 1; omega)
    have ey : (Rect.unit (s := S128x1024) ![0, 512] ![128, 512] inb_S128x1024_S128x512_0_512).emb (ix2 (y 0) ⟨(y 1 : ℕ) % 512, Nat.mod_lt _ (by decide)⟩) = y := by
      funext a
      fin_cases a
      · exact Fin.ext ((Rect.idx_unit_val ..).trans (Nat.zero_add _))
      · exact Fin.ext ((Rect.idx_unit_val ..).trans (by show 512 + (y 1 : ℕ) % 512 = (y 1 : ℕ); omega))
    unfold join
    rw [e0]
    conv_lhs => rw [← ey]
    exact View.canon_cons_emb _ _ _ _

/-- A state is its two halves. -/
theorem join_half (st : FVec Ideal S128x1024 .f32) : join ![half st 0, half st 1] = st := by
  funext y
  have e : ∀ g : Fin 2, (![half st 0, half st 1] : Fin 2 → FVec Ideal S128x512 .f32) g = half st g := by intro g; fin_cases g <;> rfl
  unfold join
  rw [e]
  unfold half
  rw [View.ld_apply]
  congr 1
  funext a
  fin_cases a
  · exact Fin.ext ((Rect.idx_unit_val ..).trans (Nat.zero_add _))
  · exact Fin.ext ((Rect.idx_unit_val ..).trans (by show 512 * ((y 1 : ℕ) / 512) + (y 1 : ℕ) % 512 = (y 1 : ℕ); omega))

/-- The whole state, read after both halves were stored. -/
theorem readCov_halves {sig : RefSig} {κ : Kind} {sp : Space} (v : View sig κ sp S128x1024 .f32) (p q : FVec Ideal S128x512 .f32)
    (L : List (View.Piece (Elt Ideal) S128x1024 .f32)) :
    v.readCov (Val := Elt Ideal) ((⟨Rect.unit (s := S128x1024) ![0, 512] ![128, 512] inb_S128x1024_S128x512_0_512, q⟩ : View.Piece (Elt Ideal) S128x1024 .f32)
      :: (⟨Rect.unit (s := S128x1024) ![0, 0] ![128, 512] inb_S128x1024_S128x512_0_0, p⟩ : View.Piece (Elt Ideal) S128x1024 .f32) :: L)
      (Rect.unit (s := S128x1024) ![0, 0] ![128, 1024] inb_S128x1024_S128x1024_0_0).toLoadRect = join ![p, q] := by
  rw [View.readCov_eq_canon', canon_halves]
  funext j
  congr 1
  funext a
  exact Fin.ext ((Rect.idx_unit_val ..).trans (by fin_cases a <;> exact Nat.zero_add _))

/-- Four chunks of rows, each written into its own place. -/
theorem canon_rows {e : EltTy} (f : ℕ → S64x1024.Idx → Elt Ideal e) (y : S256x1024.Idx) :
    View.canon (Val := Elt Ideal) (e := e) (List.ofFn fun k : Fin 4 => (⟨Rect.unit (s := S256x1024) ![64 * (3 - (k : ℕ)), 0] ![64, 1024] (by
      intro a; have := k.isLt
      fin_cases a
      · show 64 * (3 - (k : ℕ)) + 64 ≤ 256; omega
      · show 0 + 1024 ≤ 1024; omega), f (3 - (k : ℕ))⟩ : View.Piece (Elt Ideal) S256x1024 e)) y
      = f ((y 0 : ℕ) / 64) (ix2 (⟨(y 0 : ℕ) % 64, Nat.mod_lt _ (by decide)⟩ : Fin 64) (y 1)) := by
  have h0 : (y 0 : ℕ) < 256 := (y 0).isLt
  have h1 : (y 1 : ℕ) < 1024 := (y 1).isLt
  refine View.canon_ofFn_unit_eq_of_forall (Val := Elt Ideal) (S := S256x1024) (e := e) (fun k : Fin 4 => ![64 * (3 - (k : ℕ)), 0]) ![64, 1024] _
    (fun k => f (3 - (k : ℕ))) y _ ⟨⟨3 - (y 0 : ℕ) / 64, by omega⟩, fun a => ?_⟩ fun k => ?_
  · fin_cases a
    · show 64 * (3 - (3 - (y 0 : ℕ) / 64)) ≤ (y 0 : ℕ) ∧ (y 0 : ℕ) < 64 * (3 - (3 - (y 0 : ℕ) / 64)) + 64
      omega
    · exact ⟨Nat.zero_le _, by show (y 1 : ℕ) < 0 + 1024; omega⟩
  · tile_intro x h
    have := k.isLt
    have e1 : 3 - (k : ℕ) = (y 0 : ℕ) / 64 := by omega
    rw [e1]
    congr 1
    funext a
    fin_cases a
    · apply Fin.ext; simp; omega
    · apply Fin.ext; simp; omega

/-- The states on entry to four chunks, each written into its own place. -/
theorem canon_states (f : ℕ → FVec Ideal S128x1024 .f32) (y : S4x128x1024.Idx) :
    View.canon (Val := Elt Ideal) (e := .f32) (List.ofFn fun k : Fin 4 => (⟨Rect.unit (s := S4x128x1024) ![3 - (k : ℕ), 0, 0] ![1, 128, 1024] (by
      intro a; have := k.isLt
      fin_cases a
      · show 3 - (k : ℕ) + 1 ≤ 4; omega
      · show 0 + 128 ≤ 128; omega
      · show 0 + 1024 ≤ 1024; omega), shapeCast S1x128x1024 (f (3 - (k : ℕ))) shapeCasts_S128x1024_S1x128x1024⟩ : View.Piece (Elt Ideal) S4x128x1024 .f32)) y
      = f (y 0) (ix2 (y 1) (y 2)) := by
  have h0 : (y 0 : ℕ) < 4 := (y 0).isLt
  have h1 : (y 1 : ℕ) < 128 := (y 1).isLt
  have h2 : (y 2 : ℕ) < 1024 := (y 2).isLt
  refine View.canon_ofFn_unit_eq_of_forall (Val := Elt Ideal) (S := S4x128x1024) (e := .f32) (fun k : Fin 4 => ![3 - (k : ℕ), 0, 0]) ![1, 128, 1024] _
    (fun k => shapeCast S1x128x1024 (f (3 - (k : ℕ))) shapeCasts_S128x1024_S1x128x1024) y _ ⟨⟨3 - (y 0 : ℕ), by omega⟩, fun a => ?_⟩ fun k => ?_
  · fin_cases a
    · show 3 - (3 - (y 0 : ℕ)) ≤ (y 0 : ℕ) ∧ (y 0 : ℕ) < 3 - (3 - (y 0 : ℕ)) + 1
      omega
    · exact ⟨Nat.zero_le _, by show (y 1 : ℕ) < 0 + 128; omega⟩
    · exact ⟨Nat.zero_le _, by show (y 2 : ℕ) < 0 + 1024; omega⟩
  · tile_intro x h
    have := k.isLt
    have e1 : 3 - (k : ℕ) = (y 0 : ℕ) := by omega
    rw [e1]
    pointwise
    congr 1
    funext a
    fin_cases a
    · apply Fin.ext; simp; omega
    · apply Fin.ext; simp; omega

/-- The state left by the first point, whose state and halo are zero. -/
theorem sout0_A (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32) :
    sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5
      = E x0 x1 x2 x3 x4 (k0_pay2 (F := Ideal)) (k0_pay3 (F := Ideal)) 4 := by
  frame_open
  simp (disch := decide) only [↓ View.readCov_skip, ↓ View.readCov_cons_toLoadRect, ↓ readCov_halves, ↓ View.readCov_fill]
  frame_out
  exact canon_halves _ _ _

/-- The halo left by the first point, whose state and halo are zero. -/
theorem sout1_A (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32) :
    sout0_A_1 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5
      = k0_pay16 (F := Ideal) (RAW x0) := by
  frame_open
  simp (disch := decide) only [↓ View.readCov_skip, ↓ View.readCov_cons_toLoadRect, ↓ readCov_halves, ↓ View.readCov_fill]
  frame_out
  rfl

/-- The states written by the first point, whose state and halo are zero. -/
theorem out7_A (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32) (y) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y
      = ST x0 x1 x2 x3 x4 (k0_pay2 (F := Ideal)) (k0_pay3 (F := Ideal)) (y 0) (ix2 (y 1) (y 2)) := by
  frame_open
  simp (disch := decide) only [↓ View.readCov_skip, ↓ View.readCov_cons_toLoadRect, ↓ readCov_halves, ↓ View.readCov_fill]
  frame_out
  exact canon_states (ST x0 x1 x2 x3 x4 (k0_pay2 (F := Ideal)) (k0_pay3 (F := Ideal))) y

/-- The convolved columns written by the first point, whose state and halo are zero. -/
theorem out8_A (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5
      = PRE x0 x2 x3 (k0_pay3 (F := Ideal)) := by
  frame_open
  simp (disch := decide) only [↓ View.readCov_skip, ↓ View.readCov_cons_toLoadRect, ↓ readCov_halves, ↓ View.readCov_fill]
  frame_out
  rfl

/-- The rows before gating, written by the first point, whose state and halo are zero. -/
theorem out9_A (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32) (y) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y
      = Y x0 x1 x2 x3 x4 (k0_pay2 (F := Ideal)) (k0_pay3 (F := Ideal)) ((y 0 : ℕ) / 64) (ix2 (⟨(y 0 : ℕ) % 64, Nat.mod_lt _ (by decide)⟩ : Fin 64) (y 1)) := by
  frame_open
  simp (disch := decide) only [↓ View.readCov_skip, ↓ View.readCov_cons_toLoadRect, ↓ readCov_halves, ↓ View.readCov_fill]
  frame_out
  exact canon_rows (e := .f32) (Y x0 x1 x2 x3 x4 (k0_pay2 (F := Ideal)) (k0_pay3 (F := Ideal))) y

/-- The rows written by the first point, whose state and halo are zero. -/
theorem out6_A (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32) (y) :
    out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y
      = OUT (NW x5) (Y x0 x1 x2 x3 x4 (k0_pay2 (F := Ideal)) (k0_pay3 (F := Ideal)) ((y 0 : ℕ) / 64)) (ZC x0 ((y 0 : ℕ) / 64)) (ix2 (⟨(y 0 : ℕ) % 64, Nat.mod_lt _ (by decide)⟩ : Fin 64) (y 1)) := by
  frame_open
  simp (disch := decide) only [↓ View.readCov_skip, ↓ View.readCov_cons_toLoadRect, ↓ readCov_halves, ↓ View.readCov_fill]
  frame_out
  exact canon_rows (e := .bf16) (fun n => OUT (NW x5) (Y x0 x1 x2 x3 x4 (k0_pay2 (F := Ideal)) (k0_pay3 (F := Ideal)) n) (ZC x0 n)) y

/-- The state left by a later point. -/
theorem sout0_B (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32)
    (st : FVec Ideal S128x1024 .f32) (ha : FVec Ideal S8x1536 .f32) :
    sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 st ha
      = E x0 x1 x2 x3 x4 st ha 4 := by
  frame_open
  simp (disch := decide) only [↓ View.readCov_skip, ↓ View.readCov_cons_toLoadRect, ↓ readCov_halves, ↓ View.readCov_fill]
  frame_out
  exact canon_halves _ _ _

/-- The halo left by a later point. -/
theorem sout1_B (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32)
    (st : FVec Ideal S128x1024 .f32) (ha : FVec Ideal S8x1536 .f32) :
    sout0_B_1 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 st ha
      = k0_pay16 (F := Ideal) (RAW x0) := by
  frame_open
  simp (disch := decide) only [↓ View.readCov_skip, ↓ View.readCov_cons_toLoadRect, ↓ readCov_halves, ↓ View.readCov_fill]
  frame_out
  rfl

/-- The states written by a later point. -/
theorem out7_B (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32)
    (st : FVec Ideal S128x1024 .f32) (ha : FVec Ideal S8x1536 .f32) (y) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 st ha y
      = ST x0 x1 x2 x3 x4 st ha (y 0) (ix2 (y 1) (y 2)) := by
  frame_open
  simp (disch := decide) only [↓ View.readCov_skip, ↓ View.readCov_cons_toLoadRect, ↓ readCov_halves, ↓ View.readCov_fill]
  frame_out
  exact canon_states (ST x0 x1 x2 x3 x4 st ha) y

/-- The convolved columns written by a later point. -/
theorem out8_B (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32)
    (st : FVec Ideal S128x1024 .f32) (ha : FVec Ideal S8x1536 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 st ha
      = PRE x0 x2 x3 ha := by
  frame_open
  simp (disch := decide) only [↓ View.readCov_skip, ↓ View.readCov_cons_toLoadRect, ↓ readCov_halves, ↓ View.readCov_fill]
  frame_out
  rfl

/-- The rows before gating, written by a later point. -/
theorem out9_B (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32)
    (st : FVec Ideal S128x1024 .f32) (ha : FVec Ideal S8x1536 .f32) (y) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 st ha y
      = Y x0 x1 x2 x3 x4 st ha ((y 0 : ℕ) / 64) (ix2 (⟨(y 0 : ℕ) % 64, Nat.mod_lt _ (by decide)⟩ : Fin 64) (y 1)) := by
  frame_open
  simp (disch := decide) only [↓ View.readCov_skip, ↓ View.readCov_cons_toLoadRect, ↓ readCov_halves, ↓ View.readCov_fill]
  frame_out
  exact canon_rows (e := .f32) (Y x0 x1 x2 x3 x4 st ha) y

/-- The rows written by a later point. -/
theorem out6_B (c : Dev nD) (i : grid0.Coords) (arg1 harg1 arg2 harg2 arg3 harg3 arg4 harg4 arg5 harg5 arg6 harg6 arg7 harg7 arg8 harg8 arg9 harg9 arg10 harg10 arg11 harg11 arg12 harg12 hc0)
    (x0 : FVec Ideal S256x2560 .f32) (x1 : FVec Ideal S256x128 .f32) (x2 x3 : FVec Ideal S8x1536 .f32) (x4 : FVec Ideal S8x128 .f32) (x5 : FVec Ideal S8x1024 .f32)
    (st : FVec Ideal S128x1024 .f32) (ha : FVec Ideal S8x1536 .f32) (y) :
    out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 st ha y
      = OUT (NW x5) (Y x0 x1 x2 x3 x4 st ha ((y 0 : ℕ) / 64)) (ZC x0 ((y 0 : ℕ) / 64)) (ix2 (⟨(y 0 : ℕ) % 64, Nat.mod_lt _ (by decide)⟩ : Fin 64) (y 1)) := by
  frame_open
  simp (disch := decide) only [↓ View.readCov_skip, ↓ View.readCov_cons_toLoadRect, ↓ readCov_halves, ↓ View.readCov_fill]
  frame_out
  exact canon_rows (e := .bf16) (fun n => OUT (NW x5) (Y x0 x1 x2 x3 x4 st ha n) (ZC x0 n)) y

end Cert.SfKernelIdeal.Sf

end
-- ==== Proof.Sf.Kernel.lean ====
module

public import proofs.«01_k».proof.Proof.Sf.Inputs
public import proofs.«01_k».proof.Proof.Sf.PointState
public import proofs.«01_k».proof.Proof.Sf.Results

/-! What `ssd_fwd` leaves in its four arrays: each point takes the scan four chunks on, and hands out the states it met, the columns before
the activation, and the rows they give. -/

@[expose] public section

set_option maxRecDepth 16384

noncomputable section

open Idealize.ShloMosaic Idealize.ShloMosaic.TcCoe Idealize.SL.Sem
open Idealize.ShloMosaic.Pipeline (Dat)
open scoped BigOperators

namespace Cert.SfKernelIdeal.Sf

open Cert.SfKernelIdeal Cert.SfKernelIdeal.Gen
open Cert.Sf (gcol col hof pof at64 row gatedRow normRow)

variable (m : (ℓ : Loc nD τ sig) → Buf (Elt Ideal) ℓ)

/-- what point `t` leaves, over a state and a halo that are the scan's before its first chunk. -/
theorem point (c : Dev nD) (t : Fin cfg0.N) : ∃ (st : FVec Ideal S128x1024 .f32) (ha : FVec Ideal S8x1536 .f32),
    Kept (A0 m c) (A1 m c) (A2 m c) (A3 m c) (A4 m c) (A5 m c) st ha (pt t)
    ∧ (outsAt0 m c t.val t.isLt).2.2.2.2.1 = E (iblk m c 0 t) (iblk m c 1 t) (iblk m c 2 t) (iblk m c 3 t) (iblk m c 4 t) st ha 4
    ∧ (outsAt0 m c t.val t.isLt).2.2.2.2.2 = k0_pay16 (F := Ideal) (RAW (iblk m c 0 t))
    ∧ (∀ y : S4x128x1024.Idx, (outsAt0 m c t.val t.isLt).2.1 y = ST (iblk m c 0 t) (iblk m c 1 t) (iblk m c 2 t) (iblk m c 3 t) (iblk m c 4 t) st ha (y 0) (ix2 (y 1) (y 2)))
    ∧ (outsAt0 m c t.val t.isLt).2.2.1 = PRE (iblk m c 0 t) (iblk m c 2 t) (iblk m c 3 t) ha
    ∧ (∀ y : S256x1024.Idx, (outsAt0 m c t.val t.isLt).2.2.2.1 y = Y (iblk m c 0 t) (iblk m c 1 t) (iblk m c 2 t) (iblk m c 3 t) (iblk m c 4 t) st ha ((y 0 : ℕ) / 64) (ix2 (⟨(y 0 : ℕ) % 64, Nat.mod_lt _ (by decide)⟩ : Fin 64) (y 1)))
    ∧ ∀ y : S256x1024.Idx, (outsAt0 m c t.val t.isLt).1 y = OUT (NW (iblk m c 5 t)) (Y (iblk m c 0 t) (iblk m c 1 t) (iblk m c 2 t) (iblk m c 3 t) (iblk m c 4 t) st ha ((y 0 : ℕ) / 64)) (ZC (iblk m c 0 t) ((y 0 : ℕ) / 64)) (ix2 (⟨(y 0 : ℕ) % 64, Nat.mod_lt _ (by decide)⟩ : Fin 64) (y 1)) := by
  obtain ⟨n, hn⟩ := t
  have hN : n < 32 := lt_of_lt_of_eq hn N_0
  induction n with
  | zero =>
    refine ⟨k0_pay2 (F := Ideal), k0_pay3 (F := Ideal), kept_first, ?_, ?_, fun y => ?_, ?_, fun y => ?_, fun y => ?_⟩
    · rw [outsAt0_A m c ⟨0, hn⟩ rfl]
      dsimp only
      rw [sout0_A]
    · rw [outsAt0_A m c ⟨0, hn⟩ rfl]
      dsimp only
      rw [sout1_A]
    · rw [outsAt0_A m c ⟨0, hn⟩ rfl]
      dsimp only
      rw [out7_A]
    · rw [outsAt0_A m c ⟨0, hn⟩ rfl]
      dsimp only
      rw [out8_A]
    · rw [outsAt0_A m c ⟨0, hn⟩ rfl]
      dsimp only
      rw [out9_A]
    · rw [outsAt0_A m c ⟨0, hn⟩ rfl]
      dsimp only
      rw [out6_A]
  | succ n ih =>
    obtain ⟨st, ha, K, e, e', -⟩ := ih (by omega) (by omega)
    have h0 : ¬ (⟨n + 1, hn⟩ : Fin cfg0.N).val % 32 = 0 := by show ¬ (n + 1) % 32 = 0; omega
    refine ⟨(outsAt0 m c n (by omega)).2.2.2.2.1, (outsAt0 m c n (by omega)).2.2.2.2.2, ?_, ?_, ?_, fun y => ?_, ?_, fun y => ?_, fun y => ?_⟩
    · rw [e, e']
      exact kept_next (blocks m c ⟨n, by omega⟩) K hN
    · rw [outsAt0_B m c ⟨n + 1, hn⟩ h0]
      dsimp only
      rw [sout0_B]
      rfl
    · rw [outsAt0_B m c ⟨n + 1, hn⟩ h0]
      dsimp only
      rw [sout1_B]
    · rw [outsAt0_B m c ⟨n + 1, hn⟩ h0]
      dsimp only
      rw [out7_B]
      rfl
    · rw [outsAt0_B m c ⟨n + 1, hn⟩ h0]
      dsimp only
      rw [out8_B]
      rfl
    · rw [outsAt0_B m c ⟨n + 1, hn⟩ h0]
      dsimp only
      rw [out9_B]
      rfl
    · rw [outsAt0_B m c ⟨n + 1, hn⟩ h0]
      dsimp only
      rw [out6_B]
      rfl

/-! The four arrays after the run. -/

/-- a row and a column of a point's block are a row of one of its chunks and a lane of one group. -/
theorem split_idx (y : S256x1024.Idx) : ∃ (k : Fin 4) (r : Fin 64) (g : Fin 2) (w : Fin 512), y = ix2 (at256 k r) (gcol g w) := by
  have h0 : (y 0 : ℕ) < 256 := (y 0).isLt
  have h1 : (y 1 : ℕ) < 1024 := (y 1).isLt
  refine ⟨⟨(y 0 : ℕ) / 64, by omega⟩, ⟨(y 0 : ℕ) % 64, by omega⟩, ⟨(y 1 : ℕ) / 512, by omega⟩, ⟨(y 1 : ℕ) % 512, by omega⟩, ?_⟩
  funext a
  fin_cases a
  · apply Fin.ext
    simp only [at256]
    show (y 0 : ℕ) = 64 * ((y 0 : ℕ) / 64) + (y 0 : ℕ) % 64
    omega
  · apply Fin.ext
    show (y 1 : ℕ) = 512 * ((y 1 : ℕ) / 512) + (y 1 : ℕ) % 512
    omega

theorem chunk_of (k : Fin 4) (r : Fin 64) : ((at256 k r : Fin 256) : ℕ) / 64 = (k : ℕ) := by simp only [at256]; omega
theorem row_of (k : Fin 4) (r : Fin 64) : (⟨((at256 k r : Fin 256) : ℕ) % 64, Nat.mod_lt _ (by decide)⟩ : Fin 64) = r := Fin.ext (by simp only [at256]; omega)
theorem gcol_eq (g : Fin 2) (w : Fin 512) : gcol g w = col g (hof w) (pof w) := Fin.ext (by simp only [gcol, col, hof, pof]; omega)

theorem grow_at (t : Fin cfg0.N) (k : Fin 4) (r : Fin 64) : grow t (at256 k r) = at64 (chunk (pt t) k) r := by
  rw [grow_eq, rowOf_at]

theorem final6 (c : Dev nD) : (dats m 0 c).arrAt 6 cfg0.N =
    (Cert.SfReferenceIdeal.Step.R_main_v149 (Cert.Sf.before (A0 m c) (A1 m c) (A2 m c) (A3 m c) (A4 m c) (A5 m c) 128) (A0 m c) (A2 m c) (A3 m c) (A6 m c) (A7 m c) : S8192x1024.Idx → EReal) := by
  refine (dats m 0 c).arrAt_eq_of_covers 6 _ (by decide +kernel) fun t hf y => ?_
  blk_simp
  obtain ⟨k, r, g, w, rfl⟩ := split_idx y
  obtain ⟨st, ha, K, -, -, -, -, -, e⟩ := point m c t
  rw [after0_6]
  have q0 : (((cfg0.win 6).blk t).view.emb (ix2 (at256 k r) (gcol g w))) 0 = grow t (at256 k r) := by
    apply Fin.ext
    blk_simp [idx t]
  have q1 : (((cfg0.win 6).blk t).view.emb (ix2 (at256 k r) (gcol g w))) 1 = gcol g w := by
    apply Fin.ext
    blk_simp [idx t]
  have e0 : ((cfg0.win 6).blk t).view.emb (ix2 (at256 k r) (gcol g w)) = ix2 (at64 (chunk (pt t) k) r) (gcol g w) := by
    funext a
    fin_cases a
    · exact q0.trans (grow_at t k r)
    · exact q1
  have key : ∀ (n : ℕ) (r' : Fin 64), n = (k : ℕ) → r' = r →
      OUT (NW (iblk m c 5 t)) (Y (iblk m c 0 t) (iblk m c 1 t) (iblk m c 2 t) (iblk m c 3 t) (iblk m c 4 t) st ha n) (ZC (iblk m c 0 t) n) (ix2 r' (gcol g w))
        = normRow (gatedRow (A0 m c) (A1 m c) (A2 m c) (A3 m c) (A4 m c) (A5 m c) (A6 m c) (chunk (pt t) k) r g) (fun x => A7 m c (ix1 (gcol g x))) w := by
    rintro n r' rfl rfl
    exact out_eq (blocks m c t) K k r' g w
  refine (e _).trans ((key _ _ (chunk_of k r) (row_of k r)).trans ?_)
  exact (Cert.Sf.result_rows (A0 m c) (A1 m c) (A2 m c) (A3 m c) (A4 m c) (A5 m c) (A6 m c) (A7 m c) (chunk (pt t) k) r g w).symm.trans (congrArg _ e0.symm)

theorem final9 (c : Dev nD) : (dats m 0 c).arrAt 9 cfg0.N =
    (Cert.SfReferenceIdeal.Step.R_main_v151 (Cert.Sf.before (A0 m c) (A1 m c) (A2 m c) (A3 m c) (A4 m c) (A5 m c) 128) (A0 m c) (A2 m c) (A3 m c) (A6 m c) : S8192x1024.Idx → EReal) := by
  refine (dats m 0 c).arrAt_eq_of_covers 9 _ (by decide +kernel) fun t hf y => ?_
  blk_simp
  obtain ⟨k, r, g, w, rfl⟩ := split_idx y
  obtain ⟨st, ha, K, -, -, -, -, e, -⟩ := point m c t
  rw [after0_9]
  have q0 : (((cfg0.win 9).blk t).view.emb (ix2 (at256 k r) (gcol g w))) 0 = grow t (at256 k r) := by
    apply Fin.ext
    blk_simp [idx t]
  have q1 : (((cfg0.win 9).blk t).view.emb (ix2 (at256 k r) (gcol g w))) 1 = gcol g w := by
    apply Fin.ext
    blk_simp [idx t]
  have e0 : ((cfg0.win 9).blk t).view.emb (ix2 (at256 k r) (gcol g w)) = ix2 (at64 (chunk (pt t) k) r) (col g (hof w) (pof w)) := by
    funext a
    fin_cases a
    · exact q0.trans (grow_at t k r)
    · exact q1.trans (gcol_eq g w)
  have key : ∀ (n : ℕ) (r' : Fin 64), n = (k : ℕ) → r' = r →
      Y (iblk m c 0 t) (iblk m c 1 t) (iblk m c 2 t) (iblk m c 3 t) (iblk m c 4 t) st ha n (ix2 r' (gcol g w))
        = row (A0 m c) (A1 m c) (A2 m c) (A3 m c) (A4 m c) (A5 m c) (A6 m c) (chunk (pt t) k) r g (hof w) (pof w) := by
    rintro n r' rfl rfl
    exact y_eq (blocks m c t) K k r' g w
  refine (e _).trans ((key _ _ (chunk_of k r) (row_of k r)).trans ?_)
  exact (Cert.Sf.result_y (A0 m c) (A1 m c) (A2 m c) (A3 m c) (A4 m c) (A5 m c) (A6 m c) (chunk (pt t) k) r g (hof w) (pof w)).symm.trans (congrArg _ e0.symm)

theorem final8 (c : Dev nD) : (dats m 0 c).arrAt 8 cfg0.N =
    (Cert.SfReferenceIdeal.Step.R_main_v150 (Cert.Sf.before (A0 m c) (A1 m c) (A2 m c) (A3 m c) (A4 m c) (A5 m c) 128) (A0 m c) (A2 m c) (A3 m c) : S8192x1536.Idx → EReal) := by
  refine (dats m 0 c).arrAt_eq_of_covers 8 _ (by decide +kernel) fun t hf y => ?_
  blk_simp
  obtain ⟨r, l, rfl⟩ : ∃ (r : Fin 256) (l : Fin 1536), y = ix2 r l := ⟨y 0, y 1, by funext a; fin_cases a <;> rfl⟩
  obtain ⟨st, ha, K, -, -, -, e, -, -⟩ := point m c t
  rw [after0_8, e]
  have q0 : (((cfg0.win 8).blk t).view.emb (ix2 r l)) 0 = grow t r := by
    apply Fin.ext
    blk_simp [idx t]
  have q1 : (((cfg0.win 8).blk t).view.emb (ix2 r l)) 1 = l := by
    apply Fin.ext
    blk_simp [idx t]
  have e0 : ((cfg0.win 8).blk t).view.emb (ix2 r l) = ix2 (rowOf (pt t) r) l := by
    funext a
    fin_cases a
    · exact q0.trans (grow_eq t r)
    · exact q1
  refine (pre_eq (blocks m c t) K r l).trans ?_
  exact (Cert.Sf.result_pre (A0 m c) (A2 m c) (A3 m c) _ (rowOf (pt t) r) l).symm.trans (congrArg _ e0.symm)

theorem final7 (c : Dev nD) : (dats m 0 c).arrAt 7 cfg0.N =
    (Cert.SfReferenceIdeal.Step.R_main_v147 (Cert.Sf.before (A0 m c) (A1 m c) (A2 m c) (A3 m c) (A4 m c) (A5 m c) 128) : S128x128x1024.Idx → EReal) := by
  refine (dats m 0 c).arrAt_eq_of_covers 7 _ (by decide +kernel) fun t hf y => ?_
  blk_simp
  obtain ⟨k, d, g, w, rfl⟩ : ∃ (k : Fin 4) (d : Fin 128) (g : Fin 2) (w : Fin 512), y = ix3 k d (gcol g w) := by
    have h2 : (y 2 : ℕ) < 1024 := (y 2).isLt
    refine ⟨y 0, y 1, ⟨(y 2 : ℕ) / 512, by omega⟩, ⟨(y 2 : ℕ) % 512, by omega⟩, ?_⟩
    funext a
    fin_cases a
    · rfl
    · rfl
    · apply Fin.ext
      show (y 2 : ℕ) = 512 * ((y 2 : ℕ) / 512) + (y 2 : ℕ) % 512
      omega
  obtain ⟨st, ha, K, -, -, e, -, -, -⟩ := point m c t
  rw [after0_7]
  have q0 : (((cfg0.win 7).blk t).view.emb (ix3 k d (gcol g w))) 0 = chunk (pt t) k := by
    apply Fin.ext
    blk_simp [idx t]
    show t.val * 4 + (k : ℕ) = 4 * t.val + k
    omega
  have q1 : (((cfg0.win 7).blk t).view.emb (ix3 k d (gcol g w))) 1 = d := by
    apply Fin.ext
    blk_simp [idx t]
  have q2 : (((cfg0.win 7).blk t).view.emb (ix3 k d (gcol g w))) 2 = gcol g w := by
    apply Fin.ext
    blk_simp [idx t]
  have e0 : ((cfg0.win 7).blk t).view.emb (ix3 k d (gcol g w)) = ix3 (chunk (pt t) k) d (col g (hof w) (pof w)) := by
    funext a
    fin_cases a
    · exact q0
    · exact q1
    · exact q2.trans (gcol_eq g w)
  refine (e _).trans ((st_eq (blocks m c t) K (k : ℕ) (by omega) d g w).trans ?_)
  exact (Cert.Sf.result_states (A0 m c) (A1 m c) (A2 m c) (A3 m c) (A4 m c) (A5 m c) (chunk (pt t) k) d g (hof w) (pof w)).symm.trans (congrArg _ e0.symm)

end Cert.SfKernelIdeal.Sf
end
-- ==== Proof.Sf.Equal.lean ====
module

public import proofs.«01_k».proof.Defs
public import proofs.«01_k».proof.Proof.Sf.Kernel

/-! `ssd_fwd` and the scan written plainly leave the same four arrays. -/

@[expose] public section

set_option maxRecDepth 16384

noncomputable section

open Idealize.ShloMosaic Idealize.ShloMosaic.TcCoe Idealize.SL.Sem

namespace Sf

open Cert.SfKernelIdeal Cert.SfKernelIdeal.Sf

theorem algebraic [Cert.SfKernelIdeal.Facts] [Cert.SfReferenceIdeal.Facts] : Cert.algebraic_SfKernelIdeal_SfReferenceIdeal := by
  intro m g m' g' _ hm
  refine ⟨_, _, _, _, Cert.SfKernelIdeal.Value.run_blocks m g, ?_⟩
  refine (θ_run _ _ _).mono (fun r h c => ?_) (Cert.Sf.reference_run m' g')
  obtain ⟨k0, k1, k2, k3, k4, k5, k6, k7⟩ := hm c
  have hb : Cert.Sf.run_before m' c 128 = Cert.Sf.before (A0 m c) (A1 m c) (A2 m c) (A3 m c) (A4 m c) (A5 m c) 128 := by
    unfold Cert.Sf.run_before
    rw [k0, k1, k2, k3, k4, k5]
  refine ⟨(h c).1.trans ?_, (h c).2.1.trans ?_, (h c).2.2.1.trans ?_, (h c).2.2.2.1.trans ?_, (h c).2.2.2.2⟩
  · rw [final6, hb, k0, k2, k3, k6, k7]
  · rw [final7, hb]
  · rw [final8, hb, k0, k2, k3]
  · rw [final9, hb, k0, k2, k3, k6]

/-- the literal that stands for minus infinity above the diagonal. -/
theorem preserves : Cert.preserves_SfKernel_SfKernelIdeal := IdealRules.named_const.statement κ "mask" _ _ _ rfl

/-- the reference leaves its arguments as they were. -/
theorem reference_frame [Cert.SfReferenceIdeal.Facts] : Cert.quiescent_SfReferenceIdeal := fun m g _ =>
  (θ_run Cert.SfReferenceIdeal.defs _ _).mono (fun r h => ⟨fun c => (h c).2.2.2.2, sem_eq_zero_of_no_sems (by decide) r.2⟩) (Cert.Sf.reference_run m g)

end Sf

end
-- ==== Proof.Ol.Kernel.lean ====
module

public import proofs.«01_k».proof.Proof.Gen.OlKernelIdeal.Frame
public import proofs.«01_k».proof.Proof.Gen.OlKernelIdeal.Value
public import proofs.«01_k».proof.Proof.Ob.Columns
public import proofs.«01_k».proof.Proof.Rms
public import proofs.«01_k».proof.Proof.Pad8
public import proofs.«01_k».proof.Proof.Dx.Kernel
public import Idealize.ShloMosaic.Lib.Pointwise
public import Idealize.ShloMosaic.Lib.Claim
public import Idealize.ShloMosaic.Lib.StableHlo.RunRead
public import Idealize.ShloMosaic.Lib.Pipeline.ValueKit

/-! What the call `outproj_loss` reads and leaves, entry by entry, in the arguments of the program. -/

@[expose] public section

set_option maxRecDepth 16384

noncomputable section

open Idealize.ShloMosaic Idealize.ShloMosaic.TcCoe Idealize.SL.Sem
open Idealize.ShloMosaic.Pipeline (Dat)
open scoped BigOperators

namespace Step

/-- the corner entry written, zeros elsewhere. -/
theorem select_corner (q : Fin 8) (k : Fin 128) (a b : EReal) :
    Scalar.select (IntOp.andi (IntOp.cmpi CmpIPredicate.eq (BitVec.ofNat 32 q) 0#32) (IntOp.cmpi CmpIPredicate.eq (BitVec.ofNat 32 k) 0#32)) a b
      = if (q : ℕ) = 0 ∧ (k : ℕ) = 0 then a else b := by
  have hk : IntOp.cmpi CmpIPredicate.eq (BitVec.ofNat 32 k) 0#32 = if (k : ℕ) = 0 then 1#1 else 0#1 := by
    revert k
    decide +kernel
  rw [hk]
  by_cases h : (k : ℕ) = 0
  · rw [if_pos h]
    fin_cases q <;> simp [h] <;> rfl
  · rw [if_neg h]
    fin_cases q <;> simp [h] <;> rfl

end Step

namespace Cert.OlKernelIdeal.Ol

open Cert.OlKernelIdeal Cert.OlKernelIdeal.Gen
open Step (rs mix colA colB colO)

variable (m : (ℓ : Loc nD τ sig) → Buf (Elt Ideal) ℓ)

/-- every window's block index, in the point's number. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

theorem tlt (t : Fin cfg0.N) : t.val < 8 := lt_of_lt_of_eq t.isLt N_0

/-- the row of the whole array that row `r` of point `t`'s block is. -/
abbrev row (t : Fin cfg0.N) (r : Fin 1024) : Fin 8192 := ⟨t.val * 1024 + r, by have := tlt t; omega⟩

/-! The program's arguments, entry by entry. -/

abbrev X (c : Dev nD) (r : Fin 8192) (l : Fin 1024) : EReal := (m ((c : Thread nD τ).loc main_arg0) : FVec Ideal S8192x1024 .f32) (ix2 r l)
abbrev A (c : Dev nD) (r : Fin 8192) (k : Fin 512) : EReal := (m ((c : Thread nD τ).loc main_arg1) : FVec Ideal S8192x512 .f32) (ix2 r k)
abbrev B (c : Dev nD) (r : Fin 8192) (k : Fin 1024) : EReal := (m ((c : Thread nD τ).loc main_arg2) : FVec Ideal S8192x1024 .f32) (ix2 r k)
abbrev O (c : Dev nD) (r : Fin 8192) (k : Fin 512) : EReal := (m ((c : Thread nD τ).loc main_arg3) : FVec Ideal S8192x512 .f32) (ix2 r k)
abbrev W (c : Dev nD) (k : Fin 2048) (l : Fin 1024) : EReal := (m ((c : Thread nD τ).loc main_arg4) : FVec Ideal S2048x1024 .f32) (ix2 k l)
abbrev PN (c : Dev nD) (l : Fin 1024) : EReal := (m ((c : Thread nD τ).loc main_arg5) : FVec Ideal S1024 .f32) (ix1 l)
abbrev T (c : Dev nD) (r : Fin 8192) (l : Fin 1024) : EReal := (m ((c : Thread nD τ).loc main_arg6) : FVec Ideal S8192x1024 .f32) (ix2 r l)

/-- the mixers' results side by side. -/
def mixed (c : Dev nD) (r : Fin 8192) : Fin 2048 → EReal := mix (A m c r) (B m c r) (O m c r)

/-- the rows that the norm takes. -/
def out (c : Dev nD) (r : Fin 8192) (l : Fin 1024) : EReal := ∑ k, mixed m c r k * W m c k l

/-- what the layer's result differs by from its target. -/
def err (c : Dev nD) (r : Fin 8192) (l : Fin 1024) : EReal := X m c r l + out m c r l * rs (out m c r) * PN m c l - T m c r l

/-! What the host lines leave in the call's operands. -/

theorem v0 (c : Dev nD) : V m c main_v0 = truncf (F := Ideal) .bf16 (m ((c : Thread nD τ).loc main_arg1)) bitsLt_bf16_f32 := by
  show StableHlo.after _ _ _ = _
  after_reads_simp

theorem v1 (c : Dev nD) : V m c main_v1 = truncf (F := Ideal) .bf16 (m ((c : Thread nD τ).loc main_arg2)) bitsLt_bf16_f32 := by
  show StableHlo.after _ _ _ = _
  after_reads_simp

theorem v2 (c : Dev nD) : V m c main_v2 = truncf (F := Ideal) .bf16 (m ((c : Thread nD τ).loc main_arg3)) bitsLt_bf16_f32 := by
  show StableHlo.after _ _ _ = _
  after_reads_simp

theorem v3 (c : Dev nD) : V m c main_v3 = truncf (F := Ideal) .bf16 (m ((c : Thread nD τ).loc main_arg4)) bitsLt_bf16_f32 := by
  show StableHlo.after _ _ _ = _
  after_reads_simp

theorem v7 (c : Dev nD) : V m c main_v7 = Host.scatter scatter_S8x1024_S1_S1x1024_01_n_0_0 (fun _ b => b)
      (broadcastInDim S8x1024 ![] bcast_S_S8x1024 (constant (F := Ideal) S_ FTy.f32 0x00000000#32))
      (broadcastInDim S1 ![] bcast_S_S1 (constantI S_ 32 0#32)) (shapeCast S1x1024 (m ((c : Thread nD τ).loc main_arg5)) shapeCasts_S1024_S1x1024) := by
  show StableHlo.after _ _ _ = _
  after_reads_simp
  rfl

theorem arg6 (c : Dev nD) : V m c main_arg6 = m ((c : Thread nD τ).loc main_arg6) := by
  show StableHlo.after _ _ _ = _
  after_reads_simp

theorem arg0 (c : Dev nD) : V m c main_arg0 = m ((c : Thread nD τ).loc main_arg0) := by
  show StableHlo.after _ _ _ = _
  after_reads_simp

/-! The blocks a point reads. -/

theorem b0 (c : Dev nD) (t : Fin cfg0.N) (r : Fin 1024) (k : Fin 512) : iblk m c 0 t (ix2 r k) = A m c (row t r) k := by
  blk_simp [iblk, idx t]
  rw [v0]
  pointwise
  blk_ext [idx t]

theorem b1 (c : Dev nD) (t : Fin cfg0.N) (r : Fin 1024) (k : Fin 1024) : iblk m c 1 t (ix2 r k) = B m c (row t r) k := by
  blk_simp [iblk, idx t]
  rw [v1]
  pointwise
  blk_ext [idx t]

theorem b2 (c : Dev nD) (t : Fin cfg0.N) (r : Fin 1024) (k : Fin 512) : iblk m c 2 t (ix2 r k) = O m c (row t r) k := by
  blk_simp [iblk, idx t]
  rw [v2]
  pointwise
  blk_ext [idx t]

theorem b3 (c : Dev nD) (t : Fin cfg0.N) (k : Fin 2048) (l : Fin 1024) : iblk m c 3 t (ix2 k l) = W m c k l := by
  blk_simp [iblk, idx t]
  rw [v3]
  pointwise
  blk_ext [idx t]

theorem b4 (c : Dev nD) (t : Fin cfg0.N) (r : Fin 1024) (l : Fin 1024) : iblk m c 4 t (ix2 r l) = X m c (row t r) l := by
  blk_simp [iblk, idx t]
  rw [arg0]
  blk_ext [idx t]

theorem b6 (c : Dev nD) (t : Fin cfg0.N) (r : Fin 1024) (l : Fin 1024) : iblk m c 6 t (ix2 r l) = T m c (row t r) l := by
  blk_simp [iblk, idx t]
  rw [arg6]
  blk_ext [idx t]

theorem v7_at (c : Dev nD) (l : Fin 1024) : (V m c main_v7 : FVec Ideal S8x1024 .f32) (ix2 0 l) = PN m c l := by
  rw [v7]
  refine (Step.scatter_rows scatter_S8x1024_S1_S1x1024_01_n_0_0 rfl rfl rfl _ (fun _ => rfl) _ _ (0 : Fin 1) _ _ rfl).trans ?_
  pointwise

theorem b5 (c : Dev nD) (t : Fin cfg0.N) (l : Fin 1024) : iblk m c 5 t (ix2 0 l) = PN m c l := by
  rw [← v7_at m c l]
  blk_simp [iblk, idx t]
  blk_ext [idx t]

/-! What a point leaves. -/

theorem sum3 (c : Dev nD) (r : Fin 8192) (l : Fin 1024) :
    (∑ k, A m c r k * W m c (colA k) l) + (∑ k, B m c r k * W m c (colB k) l) + (∑ k, O m c r k * W m c (colO k) l) = out m c r l :=
  Step.sum_mix (A m c r) (B m c r) (O m c r) fun k => W m c k l

theorem point7 (c : Dev nD) (t : Fin cfg0.N) (r : Fin 1024) (l : Fin 1024) :
    (dats m 0 c).after 7 t (ix2 r l) = (out m c (row t r) l : EReal) := by
  rw [after0_7]
  by_cases h : (t : ℕ) % 8 = 0
  · rw [outsAt0_A m c t h]
    frame_out
    pointwise [k0_pay5, dot_S1024x512_S512x1024_S1024x1024_1_0_0_1_n_n]
    simp only [b0, b1, b2, b3, b4, b5, b6]
    exact Step.sum_mix (A m c (row t r)) (B m c (row t r)) (O m c (row t r)) fun k => W m c k l
  · rw [outsAt0_B m c t h]
    frame_out
    pointwise [k0_pay5, dot_S1024x512_S512x1024_S1024x1024_1_0_0_1_n_n]
    simp only [b0, b1, b2, b3, b4, b5, b6]
    exact Step.sum_mix (A m c (row t r)) (B m c (row t r)) (O m c (row t r)) fun k => W m c k l

/-- the first result: the rows that the norm takes. -/
theorem final7 (c : Dev nD) : (dats m 0 c).arrAt 7 (cfgs 0).N = (fun i : S8192x1024.Idx => out m c (i 0) (i 1)) := by
  refine (dats m 0 c).arrAt_eq_of_covers 7 _ (by decide +kernel) fun t hf y => ?_
  blk_simp
  obtain ⟨r, l, rfl⟩ : ∃ (r : Fin 1024) (l : Fin 1024), y = ix2 r l := ⟨y 0, y 1, by funext a; fin_cases a <;> rfl⟩
  rw [point7]
  have e0 : (((cfg0.win 7).blk t).view.emb (ix2 r l)) 0 = row t r := by
    apply Fin.ext
    blk_simp [idx t]
  have e1 : (((cfg0.win 7).blk t).view.emb (ix2 r l)) 1 = l := by
    apply Fin.ext
    blk_simp [idx t]
  rw [e0, e1]

theorem point8 (c : Dev nD) (t : Fin cfg0.N) (r : Fin 1024) (l : Fin 1024) :
    (dats m 0 c).after 8 t (ix2 r l) = (err m c (row t r) l * Ideal.ofBits .f32 0x3A800000#32 : EReal) := by
  rw [after0_8]
  by_cases h : (t : ℕ) % 8 = 0
  · rw [outsAt0_A m c t h]
    frame_out
    pointwise [k0_pay1, k0_pay2, k0_pay5, k0_pay6, k0_pay7, dot_S1024x512_S512x1024_S1024x1024_1_0_0_1_n_n]
    simp only [b0, b1, b2, b3, b4, b5, b6]
    have hs := fun l => sum3 m c (row t r) l
    simp only [colA, colB, colO] at hs
    simp only [hs]
    rfl
  · rw [outsAt0_B m c t h]
    frame_out
    pointwise [k0_pay1, k0_pay2, k0_pay5, k0_pay6, k0_pay7, dot_S1024x512_S512x1024_S1024x1024_1_0_0_1_n_n]
    simp only [b0, b1, b2, b3, b4, b5, b6]
    have hs := fun l => sum3 m c (row t r) l
    simp only [colA, colB, colO] at hs
    simp only [hs]
    rfl

/-- the second result: the gradient of the loss. -/
theorem final8 (c : Dev nD) : (dats m 0 c).arrAt 8 (cfgs 0).N = (fun i : S8192x1024.Idx => err m c (i 0) (i 1) * Ideal.ofBits .f32 0x3A800000#32) := by
  refine (dats m 0 c).arrAt_eq_of_covers 8 _ (by decide +kernel) fun t hf y => ?_
  blk_simp
  obtain ⟨r, l, rfl⟩ : ∃ (r : Fin 1024) (l : Fin 1024), y = ix2 r l := ⟨y 0, y 1, by funext a; fin_cases a <;> rfl⟩
  rw [point8]
  have e0 : (((cfg0.win 8).blk t).view.emb (ix2 r l)) 0 = row t r := by
    apply Fin.ext
    blk_simp [idx t]
  have e1 : (((cfg0.win 8).blk t).view.emb (ix2 r l)) 1 = l := by
    apply Fin.ext
    blk_simp [idx t]
  rw [e0, e1]

/-- what one point adds to the loss. -/
def part (c : Dev nD) (t : Fin cfg0.N) : EReal :=
  (∑ r : Fin 1024, ∑ l : Fin 1024, err m c (row t r) l * err m c (row t r) l) * Ideal.ofBits .f32 0x3A000000#32

/-- the third result: the loss in its corner, zeros elsewhere. -/
theorem final9 (c : Dev nD) : (dats m 0 c).arrAt 9 (cfgs 0).N =
    (fun i : S8x128.Idx => if (i 0 : ℕ) = 0 ∧ (i 1 : ℕ) = 0 then ∑ t : Fin cfg0.N, part m c t else 0) := by
  refine (dats m 0 c).arrAt_eq_of_after_last 9 t0_7 (by decide +kernel) _ fun j => ?_
  blk_simp
  rw [after0_9, Pipeline.eq_sum_fin_of_reset_step_apply_last (fun n h => (outsAt0 m c n h).2.2) 8 (fun _ => 0)
    (fun t (j : S8x128.Idx) => if (j 0 : ℕ) = 0 ∧ (j 1 : ℕ) = 0 then part m c t else (0 : EReal))
    (fun t h j => by
      rw [outsAt0_A m c t h]
      obtain ⟨q, k, rfl⟩ : ∃ (q : Fin 8) (k : Fin 128), j = ix2 q k := ⟨j 0, j 1, by funext a; fin_cases a <;> rfl⟩
      frame_out
      pointwise [k0_pay1, k0_pay3, k0_pay4, k0_pay5, k0_pay6, k0_pay7, dot_S1024x512_S512x1024_S1024x1024_1_0_0_1_n_n]
      simp only [b0, b1, b2, b3, b4, b5, b6, Step.select_corner]
      have hs := fun r l => sum3 m c (row t r) l
      simp only [colA, colB, colO] at hs
      simp only [hs]
      rfl)
    (fun t h j => by
      rw [outsAt0_B m c t h]
      obtain ⟨q, k, rfl⟩ : ∃ (q : Fin 8) (k : Fin 128), j = ix2 q k := ⟨j 0, j 1, by funext a; fin_cases a <;> rfl⟩
      frame_out
      pointwise [k0_pay1, k0_pay3, k0_pay4, k0_pay5, k0_pay6, k0_pay7, dot_S1024x512_S512x1024_S1024x1024_1_0_0_1_n_n]
      simp only [b0, b1, b2, b3, b4, b5, b6, Step.select_corner]
      have hs := fun r l => sum3 m c (row t r) l
      simp only [colA, colB, colO] at hs
      simp only [hs]
      rfl)
    (le_of_eq N_0) t0_7 rfl j, zero_add]
  by_cases h : (j 0 : ℕ) = 0 ∧ (j 1 : ℕ) = 0
  · simp only [if_pos h]
    exact (if_pos h).symm
  · simp only [if_neg h]
    exact (Finset.sum_const_zero (M := EReal)).trans (if_neg h).symm

end Cert.OlKernelIdeal.Ol

end
-- ==== Proof.Ol.Reference.lean ====
module

public import proofs.«01_k».proof.Proof.Gen.OlReferenceIdeal.Run
public import proofs.«01_k».proof.Proof.Ob.Columns
public import proofs.«01_k».proof.Proof.Rms
public import Idealize.ShloMosaic.Lib.Pointwise
public import Idealize.ShloMosaic.Lib.Pipeline.ValueKit

/-! The three results of the reference of `outproj_loss`, entry by entry, in its arguments. -/

@[expose] public section

set_option maxRecDepth 16384

noncomputable section

open Idealize.ShloMosaic Idealize.ShloMosaic.TcCoe Idealize.SL.Sem
open Idealize.ShloMosaic.Pipeline (Dat)
open scoped BigOperators

namespace Cert.OlReferenceIdeal.Ol

open Cert.OlReferenceIdeal Cert.OlReferenceIdeal.Gen
open Step (ms mix sitofp_zero)

variable (m : (ℓ : Loc nD τ sig) → Buf (Elt Ideal) ℓ) (ρ : Dev nD → PrngReg)

abbrev X (c : Dev nD) (r : Fin 8192) (l : Fin 1024) : EReal := (m ((c : Thread nD τ).loc main_arg0) : FVec Ideal S8192x1024 .f32) (ix2 r l)
abbrev A (c : Dev nD) (r : Fin 8192) (k : Fin 512) : EReal := (m ((c : Thread nD τ).loc main_arg1) : FVec Ideal S8192x512 .f32) (ix2 r k)
abbrev B (c : Dev nD) (r : Fin 8192) (k : Fin 1024) : EReal := (m ((c : Thread nD τ).loc main_arg2) : FVec Ideal S8192x1024 .f32) (ix2 r k)
abbrev O (c : Dev nD) (r : Fin 8192) (k : Fin 512) : EReal := (m ((c : Thread nD τ).loc main_arg3) : FVec Ideal S8192x512 .f32) (ix2 r k)
abbrev W (c : Dev nD) (k : Fin 2048) (l : Fin 1024) : EReal := (m ((c : Thread nD τ).loc main_arg4) : FVec Ideal S2048x1024 .f32) (ix2 k l)
abbrev PN (c : Dev nD) (l : Fin 1024) : EReal := (m ((c : Thread nD τ).loc main_arg5) : FVec Ideal S1024 .f32) (ix1 l)
abbrev T (c : Dev nD) (r : Fin 8192) (l : Fin 1024) : EReal := (m ((c : Thread nD τ).loc main_arg6) : FVec Ideal S8192x1024 .f32) (ix2 r l)

/-- the mixers' results side by side. -/
def mixed (c : Dev nD) (r : Fin 8192) : Fin 2048 → EReal := mix (A m c r) (B m c r) (O m c r)

/-- the rows that the norm takes. -/
def out (c : Dev nD) (r : Fin 8192) (l : Fin 1024) : EReal := ∑ k, mixed m c r k * W m c k l

/-- what the layer's result differs by from its target. -/
def err (c : Dev nD) (r : Fin 8192) (l : Fin 1024) : EReal :=
  X m c r l + out m c r l * Ideal.rsqrt (ms (out m c r)) * PN m c l - T m c r l

/-- the loss: half the sum over the rows of the mean square. -/
def loss (c : Dev nD) : EReal :=
  Ideal.ofBits .f32 0x3F000000#32 * ∑ r : Fin 8192, Ideal.div (∑ l : Fin 1024, err m c r l * err m c r l) (Ideal.ofBits .f32 0x44800000#32)

/-- its gradient in the layer's result. -/
def dy (c : Dev nD) (r : Fin 8192) (l : Fin 1024) : EReal :=
  Ideal.div (Ideal.ofBits .f32 0x3F000000#32) (Ideal.ofBits .f32 0x44800000#32) * (Ideal.ofBits .f32 0x40000000#32 * err m c r l)

theorem result2 (c : Dev nD) : (Value.res_main_v32 m c : FVec Ideal S8x128 .f32) = fun i : S8x128.Idx => if (i 0 : ℕ) = 0 ∧ (i 1 : ℕ) = 0 then loss m c else 0 := by
  funext i
  obtain ⟨q, k, rfl⟩ : ∃ (q : Fin 8) (k : Fin 128), i = ix2 q k := ⟨i 0, i 1, by funext a; fin_cases a <;> rfl⟩
  unfold Value.res_main_v32
  pointwise
  by_cases h : (q : ℕ) = 0 ∧ (k : ℕ) = 0
  · refine (dif_pos (show (q : ℕ) < 1 ∧ (k : ℕ) < 1 by omega)).trans (Eq.trans ?_ (if_pos h).symm)
    rfl
  · exact (dif_neg (show ¬ ((q : ℕ) < 1 ∧ (k : ℕ) < 1) by omega)).trans ((sitofp_zero _).trans (if_neg h).symm)

theorem run : θ_run (defs (F := Ideal)) (onTc (τ := τ) (main (F := Ideal))) ⟨m, fun _ => 0, ρ⟩ fun r => ∀ c : Dev nD,
    r.2.mem ((c.tc : Thread nD τ).loc main_v1) = (fun i : S8192x1024.Idx => out m c (i 0) (i 1))
    ∧ r.2.mem ((c.tc : Thread nD τ).loc main_v30) = (fun i : S8192x1024.Idx => dy m c (i 0) (i 1))
    ∧ r.2.mem ((c.tc : Thread nD τ).loc main_v32) = (fun i : S8x128.Idx => if (i 0 : ℕ) = 0 ∧ (i 1 : ℕ) = 0 then loss m c else 0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run _ _ _).mono (fun r h c => ?_) (Value.run m ρ)
  obtain ⟨h0, h1, h2, hargs⟩ := h c
  refine ⟨h0.trans ?_, h1.trans ?_, h2.trans (result2 m c), hargs⟩
  · funext i
    obtain ⟨r, l, rfl⟩ : ∃ (r : Fin 8192) (l : Fin 1024), i = ix2 r l := ⟨i 0, i 1, by funext a; fin_cases a <;> rfl⟩
    pointwise
    rfl
  · funext i
    obtain ⟨r, l, rfl⟩ : ∃ (r : Fin 8192) (l : Fin 1024), i = ix2 r l := ⟨i 0, i 1, by funext a; fin_cases a <;> rfl⟩
    pointwise
    rfl

end Cert.OlReferenceIdeal.Ol

end
-- ==== Proof.Ol.Equal.lean ====
module

public import proofs.«01_k».proof.Defs
public import proofs.«01_k».proof.Proof.Ol.Kernel
public import proofs.«01_k».proof.Proof.Ol.Reference

/-! The kernel of `outproj_loss` and its reference leave the same three arrays. -/

@[expose] public section

set_option maxRecDepth 16384

noncomputable section

open Idealize.ShloMosaic Idealize.ShloMosaic.TcCoe Idealize.SL.Sem
open scoped BigOperators

namespace Step

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_inv2048 : Ideal.ofBits .f32 0x3A000000#32 = ((1 / 2048 : ℝ) : EReal) := by
  simp [Ideal.ofBits, Ideal.ieee, -EReal.coe_mul]; norm_num

/-- a square is not negative, infinite or not. -/
theorem square_nonneg (x : EReal) : 0 ≤ x * x := by
  induction x with
  | coe r => exact (EReal.coe_mul r r) ▸ EReal.coe_nonneg.2 (mul_self_nonneg r)
  | top => simp
  | bot => simp

/-- a factor goes into a sum of terms none of which is negative. -/
theorem sum_mul_nonneg {n : ℕ} (f : Fin n → EReal) (h : ∀ i, 0 ≤ f i) (c : EReal) : (∑ i, f i) * c = ∑ i, f i * c := by
  classical
  suffices H : ∀ s : Finset (Fin n), (∑ i ∈ s, f i) * c = ∑ i ∈ s, f i * c from H _
  intro s
  induction s using Finset.induction_on with
  | empty => simp
  | insert a s ha ih =>
    rw [Finset.sum_insert ha, Finset.sum_insert ha, EReal.right_distrib_of_nonneg (h a) (Finset.sum_nonneg fun i _ => h i), ih]

end Step

namespace Ol

open Cert.OlKernelIdeal Cert.OlKernelIdeal.Gen
open Step (rs ms mix)

variable (m : (ℓ : Loc nD τ sig) → Buf (Elt Ideal) ℓ)

/-- the squares of one row's differences, summed. -/
def sq (c : Dev nD) (R : Fin 8192) : EReal := ∑ l : Fin 1024, Ol.err m c R l * Ol.err m c R l

theorem sq_nonneg (c : Dev nD) (R : Fin 8192) : 0 ≤ sq m c R := Finset.sum_nonneg fun _ _ => Step.square_nonneg _

/-- the points' parts of the loss together. -/
theorem parts (c : Dev nD) : ∑ t : Fin cfg0.N, Ol.part m c t = (∑ R : Fin 8192, sq m c R) * ((1 / 2048 : ℝ) : EReal) := by
  rw [Step.sum_mul_nonneg _ (sq_nonneg m c)]
  have hp : ∀ t, Ol.part m c t = ∑ r : Fin 1024, sq m c (Ol.row t r) * ((1 / 2048 : ℝ) : EReal) := fun t => by
    unfold Ol.part
    rw [Step.lit_inv2048]
    exact Step.sum_mul_nonneg (fun r => sq m c (Ol.row t r)) (fun r => sq_nonneg m c _) _
  simp only [hp]
  exact Fin.sum_mul_add_congr (F := fun t r => sq m c (Ol.row t r) * ((1 / 2048 : ℝ) : EReal)) (f := fun R => sq m c R * ((1 / 2048 : ℝ) : EReal)) fun s k hl => rfl

/-- on the same arguments the reference's pieces are the kernel's. -/
theorem same (m' : (ℓ : Loc Cert.OlReferenceIdeal.nD Cert.OlReferenceIdeal.τ Cert.OlReferenceIdeal.sig) → Buf (Elt Ideal) ℓ) (c : Dev nD)
    (e0 : m' ((c.tc : Thread Cert.OlReferenceIdeal.nD Cert.OlReferenceIdeal.τ).loc Cert.OlReferenceIdeal.main_arg0) = m ((c.tc : Thread nD τ).loc main_arg0))
    (e1 : m' ((c.tc : Thread Cert.OlReferenceIdeal.nD Cert.OlReferenceIdeal.τ).loc Cert.OlReferenceIdeal.main_arg1) = m ((c.tc : Thread nD τ).loc main_arg1))
    (e2 : m' ((c.tc : Thread Cert.OlReferenceIdeal.nD Cert.OlReferenceIdeal.τ).loc Cert.OlReferenceIdeal.main_arg2) = m ((c.tc : Thread nD τ).loc main_arg2))
    (e3 : m' ((c.tc : Thread Cert.OlReferenceIdeal.nD Cert.OlReferenceIdeal.τ).loc Cert.OlReferenceIdeal.main_arg3) = m ((c.tc : Thread nD τ).loc main_arg3))
    (e4 : m' ((c.tc : Thread Cert.OlReferenceIdeal.nD Cert.OlReferenceIdeal.τ).loc Cert.OlReferenceIdeal.main_arg4) = m ((c.tc : Thread nD τ).loc main_arg4))
    (e5 : m' ((c.tc : Thread Cert.OlReferenceIdeal.nD Cert.OlReferenceIdeal.τ).loc Cert.OlReferenceIdeal.main_arg5) = m ((c.tc : Thread nD τ).loc main_arg5))
    (e6 : m' ((c.tc : Thread Cert.OlReferenceIdeal.nD Cert.OlReferenceIdeal.τ).loc Cert.OlReferenceIdeal.main_arg6) = m ((c.tc : Thread nD τ).loc main_arg6)) :
    Cert.OlReferenceIdeal.Ol.out m' c = Ol.out m c ∧ Cert.OlReferenceIdeal.Ol.err m' c = Ol.err m c := by
  have hX : Cert.OlReferenceIdeal.Ol.X m' c = Ol.X m c := funext fun r => funext fun l => congrFun e0 (ix2 r l)
  have hA : Cert.OlReferenceIdeal.Ol.A m' c = Ol.A m c := funext fun r => funext fun l => congrFun e1 (ix2 r l)
  have hB : Cert.OlReferenceIdeal.Ol.B m' c = Ol.B m c := funext fun r => funext fun l => congrFun e2 (ix2 r l)
  have hO : Cert.OlReferenceIdeal.Ol.O m' c = Ol.O m c := funext fun r => funext fun l => congrFun e3 (ix2 r l)
  have hW : Cert.OlReferenceIdeal.Ol.W m' c = Ol.W m c := funext fun r => funext fun l => congrFun e4 (ix2 r l)
  have hP : Cert.OlReferenceIdeal.Ol.PN m' c = Ol.PN m c := funext fun l => congrFun e5 (ix1 l)
  have hT : Cert.OlReferenceIdeal.Ol.T m' c = Ol.T m c := funext fun r => funext fun l => congrFun e6 (ix2 r l)
  have hM : Cert.OlReferenceIdeal.Ol.mixed m' c = Ol.mixed m c := funext fun r => by
    unfold Cert.OlReferenceIdeal.Ol.mixed Ol.mixed
    rw [hA, hB, hO]
  have hU : Cert.OlReferenceIdeal.Ol.out m' c = Ol.out m c := funext fun r => funext fun l => by
    unfold Cert.OlReferenceIdeal.Ol.out Ol.out
    rw [hM, hW]
  refine ⟨hU, funext fun r => funext fun l => ?_⟩
  unfold Cert.OlReferenceIdeal.Ol.err Ol.err
  rw [hX, hU, hP, hT, Step.rs_eq]

/-- the loss as the reference takes it. -/
theorem loss_eq (m' : (ℓ : Loc Cert.OlReferenceIdeal.nD Cert.OlReferenceIdeal.τ Cert.OlReferenceIdeal.sig) → Buf (Elt Ideal) ℓ) (c : Dev nD) (h : Cert.OlReferenceIdeal.Ol.err m' c = Ol.err m c) :
    Cert.OlReferenceIdeal.Ol.loss m' c = ∑ t : Fin cfg0.N, Ol.part m c t := by
  rw [parts]
  have hd : ∀ R, Ideal.div (∑ l : Fin 1024, Ol.err m c R l * Ol.err m c R l) (Ideal.ofBits .f32 0x44800000#32) = sq m c R * ((1 / 1024 : ℝ) : EReal) := fun R => by
    rw [Step.lit_1024, Ideal.div_coe (by norm_num)]
    rfl
  unfold Cert.OlReferenceIdeal.Ol.loss
  rw [h]
  simp only [hd]
  rw [← Step.sum_mul_nonneg _ (sq_nonneg m c), Step.lit_half, mul_left_comm, ← EReal.coe_mul]
  norm_num

/-- the gradient as the reference takes it. -/
theorem dy_eq (m' : (ℓ : Loc Cert.OlReferenceIdeal.nD Cert.OlReferenceIdeal.τ Cert.OlReferenceIdeal.sig) → Buf (Elt Ideal) ℓ) (c : Dev nD) (h : Cert.OlReferenceIdeal.Ol.err m' c = Ol.err m c) (r : Fin 8192) (l : Fin 1024) :
    Cert.OlReferenceIdeal.Ol.dy m' c r l = Ol.err m c r l * Ideal.ofBits .f32 0x3A800000#32 := by
  unfold Cert.OlReferenceIdeal.Ol.dy
  rw [h, Step.lit_half, Step.lit_1024, Step.lit_two, Step.lit_inv1024, Step.div_real _ _ (by norm_num), ← mul_assoc, ← EReal.coe_mul, mul_comm]
  norm_num

theorem algebraic [Cert.OlKernelIdeal.Facts] [Cert.OlReferenceIdeal.Facts] : Cert.algebraic_OlKernelIdeal_OlReferenceIdeal := by
  intro m g m' g' _ hm
  refine ⟨_, _, _, Cert.OlKernelIdeal.Value.run_blocks m g, ?_⟩
  refine (θ_run _ _ _).mono (fun r h c => ?_) (Cert.OlReferenceIdeal.Ol.run m' g')
  obtain ⟨h0, h1, h2, hargs⟩ := h c
  obtain ⟨a0, a1, a2, a3, a4, a5, a6⟩ := hm c
  obtain ⟨eU, eE⟩ := same m m' c a0 a1 a2 a3 a4 a5 a6
  refine ⟨h0.trans ?_, h1.trans ?_, h2.trans ?_, hargs⟩
  · rw [eU]
    exact (Ol.final7 m c).symm
  · refine Eq.trans ?_ (Ol.final8 m c).symm
    funext i
    exact dy_eq m m' c eE (i 0) (i 1)
  · rw [loss_eq m m' c eE]
    exact (Ol.final9 m c).symm

/-- the reference leaves its arguments as they were. -/
theorem reference_frame [Cert.OlReferenceIdeal.Facts] : Cert.quiescent_OlReferenceIdeal := fun m g _ =>
  (θ_run Cert.OlReferenceIdeal.defs _ _).mono (fun r h => ⟨fun c => (h c).2.2.2, sem_eq_zero_of_no_sems (by decide) r.2⟩) (Cert.OlReferenceIdeal.Ol.run m g)

end Ol

end
-- ==== Proof.Ip.Kernel.lean ====
module

public import proofs.«01_k».proof.Proof.Gen.IpKernelIdeal.Frame
public import proofs.«01_k».proof.Proof.Gen.IpKernelIdeal.Value
public import proofs.«01_k».proof.Proof.Rms
public import proofs.«01_k».proof.Proof.Pad8
public import Idealize.ShloMosaic.Lib.Pointwise
public import Idealize.ShloMosaic.Lib.Claim
public import Idealize.ShloMosaic.Lib.StableHlo.RunRead
public import Idealize.ShloMosaic.Lib.Pipeline.ValueKit

/-! What the call `inproj` reads and leaves, entry by entry, in the arguments of the program. -/

@[expose] public section

set_option maxRecDepth 16384

noncomputable section

open Idealize.ShloMosaic Idealize.ShloMosaic.TcCoe Idealize.SL.Sem
open Idealize.ShloMosaic.Pipeline (Dat)
open scoped BigOperators

namespace Cert.IpKernelIdeal.Ip

open Cert.IpKernelIdeal Cert.IpKernelIdeal.Gen
open Step (rs)

variable (m : (ℓ : Loc nD τ sig) → Buf (Elt Ideal) ℓ)

/-- every window's block index, in the point's number. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, t.val] :=
  (by decide +kernel : ∀ t : Fin grid0.N, _)

theorem tlt (t : Fin cfg0.N) : t.val < 16 := lt_of_lt_of_eq t.isLt N_0

/-- the row of the whole array that row `r` of point `t`'s block is. -/
abbrev row (t : Fin cfg0.N) (r : Fin 512) : Fin 8192 := ⟨t.val * 512 + r, by have := tlt t; omega⟩

/-! The program's arguments, entry by entry. -/

abbrev X (c : Dev nD) (r : Fin 8192) (l : Fin 1024) : EReal := (m ((c : Thread nD τ).loc main_arg0) : FVec Ideal S8192x1024 .f32) (ix2 r l)
abbrev PN (c : Dev nD) (l : Fin 1024) : EReal := (m ((c : Thread nD τ).loc main_arg1) : FVec Ideal S1024 .f32) (ix1 l)
abbrev W (c : Dev nD) (l : Fin 1024) (k : Fin 6680) : EReal := (m ((c : Thread nD τ).loc main_arg2) : FVec Ideal S1024x6680 .f32) (ix2 l k)

/-- the normed rows. -/
def h (c : Dev nD) (r : Fin 8192) (l : Fin 1024) : EReal := X m c r l * rs (X m c r) * PN m c l

/-- one column of the projection. -/
def proj (c : Dev nD) (r : Fin 8192) (k : Fin 6680) : EReal := ∑ l, h m c r l * W m c l k

/-! The five groups of columns, the last two with zeros behind. -/

def g0 (c : Dev nD) (r : Fin 8192) (k : Fin 2048) : EReal := proj m c r ⟨k, by omega⟩
def g1 (c : Dev nD) (r : Fin 8192) (k : Fin 2560) : EReal := proj m c r ⟨2056 + k, by omega⟩
def g2 (c : Dev nD) (r : Fin 8192) (k : Fin 2048) : EReal := proj m c r ⟨4632 + k, by omega⟩
def g3 (c : Dev nD) (r : Fin 8192) (k : Fin 128) : EReal := if hk : (k : ℕ) < 8 then proj m c r ⟨2048 + k, by omega⟩ else 0
def g4 (c : Dev nD) (r : Fin 8192) (k : Fin 128) : EReal := if hk : (k : ℕ) < 16 then proj m c r ⟨4616 + k, by omega⟩ else 0

/-! What the host lines leave in the call's operands. -/

theorem v12 (c : Dev nD) : V m c main_v12 = truncf (F := Ideal) .bf16 (concatenate S1024x6912 1 [
    ⟨S1024x2048, extractStridedSlice S1024x2048 ![0, 0] (m ((c : Thread nD τ).loc main_arg2)) slices_S1024x6680_S1024x2048_0_0⟩,
    ⟨S1024x2560, extractStridedSlice S1024x2560 ![0, 2056] (m ((c : Thread nD τ).loc main_arg2)) slices_S1024x6680_S1024x2560_0_2056⟩,
    ⟨S1024x2048, extractStridedSlice S1024x2048 ![0, 4632] (m ((c : Thread nD τ).loc main_arg2)) slices_S1024x6680_S1024x2048_0_4632⟩,
    ⟨S1024x128, pad S1024x128 ![0, 0] ![0, 120] ![0, 0] (extractStridedSlice S1024x8 ![0, 2048] (m ((c : Thread nD τ).loc main_arg2)) slices_S1024x6680_S1024x8_0_2048) (sitofp .f32 (constantI S_ 32 0#32)) pads_S1024x8_S1024x128_000_01200 h_S_⟩,
    ⟨S1024x128, pad S1024x128 ![0, 0] ![0, 112] ![0, 0] (extractStridedSlice S1024x16 ![0, 4616] (m ((c : Thread nD τ).loc main_arg2)) slices_S1024x6680_S1024x16_0_4616) (sitofp .f32 (constantI S_ 32 0#32)) pads_S1024x16_S1024x128_000_01120 h_S_⟩]
    concatenates_S1024x2048_S1024x2560_S1024x2048_S1024x128_S1024x128_S1024x6912_d1) bitsLt_bf16_f32 := by
  show StableHlo.after _ _ _ = _
  after_reads_simp
  congr 7

theorem v11 (c : Dev nD) : V m c main_v11 = Host.scatter scatter_S8x1024_S1_S1x1024_01_n_0_0 (fun _ b => b)
      (broadcastInDim S8x1024 ![] bcast_S_S8x1024 (constant (F := Ideal) S_ FTy.f32 0x00000000#32))
      (broadcastInDim S1 ![] bcast_S_S1 (constantI S_ 32 0#32)) (shapeCast S1x1024 (m ((c : Thread nD τ).loc main_arg1)) shapeCasts_S1024_S1x1024) := by
  show StableHlo.after _ _ _ = _
  after_reads_simp
  rfl

theorem arg0 (c : Dev nD) : V m c main_arg0 = m ((c : Thread nD τ).loc main_arg0) := by
  show StableHlo.after _ _ _ = _
  after_reads_simp

/-! The blocks a point reads. -/

theorem b0 (c : Dev nD) (t : Fin cfg0.N) (r : Fin 512) (k : Fin 1024) : iblk m c 0 t (ix2 r k) = X m c (row t r) k := by
  blk_simp [iblk, idx t]
  rw [arg0]
  blk_ext [idx t]

theorem b1 (c : Dev nD) (t : Fin cfg0.N) (k : Fin 1024) : iblk m c 1 t (ix2 (0 : Fin 8) k) = PN m c k := by
  have e : iblk m c 1 t (ix2 (0 : Fin 8) k) = (V m c main_v11 : FVec Ideal S8x1024 .f32) (ix2 (0 : Fin 8) k) := by
    blk_simp [iblk, idx t]
    blk_ext [idx t]
  rw [e, v11]
  refine (Step.scatter_rows scatter_S8x1024_S1_S1x1024_01_n_0_0 rfl rfl rfl _ (fun _ => rfl) _ _ (0 : Fin 1) _ _ rfl).trans ?_
  pointwise

theorem b2_eq (c : Dev nD) (t : Fin cfg0.N) (l : Fin 1024) (k : Fin 6912) : iblk m c 2 t (ix2 l k) = (V m c main_v12 : FVec Ideal S1024x6912 .bf16) (ix2 l k) := by
  blk_simp [iblk, idx t]
  blk_ext [idx t]

theorem b2_0 (c : Dev nD) (t : Fin cfg0.N) (l : Fin 1024) (k : Fin 2048) : iblk m c 2 t (ix2 l ⟨k, by omega⟩) = W m c l ⟨k, by omega⟩ := by
  rw [b2_eq, v12]
  pointwise

theorem b2_1 (c : Dev nD) (t : Fin cfg0.N) (l : Fin 1024) (k : Fin 2560) : iblk m c 2 t (ix2 l ⟨2048 + k, by omega⟩) = W m c l ⟨2056 + k, by omega⟩ := by
  rw [b2_eq, v12]
  pointwise

theorem b2_2 (c : Dev nD) (t : Fin cfg0.N) (l : Fin 1024) (k : Fin 2048) : iblk m c 2 t (ix2 l ⟨4608 + k, by omega⟩) = W m c l ⟨4632 + k, by omega⟩ := by
  rw [b2_eq, v12]
  pointwise
  rw [dif_neg (by omega), dif_neg (by omega), dif_pos (by omega)]
  blk_ext

theorem v12_3 (c : Dev nD) (l : Fin 1024) (k : Fin 128) :
    (V m c main_v12 : FVec Ideal S1024x6912 .bf16) (ix2 l ⟨6656 + k, by omega⟩) = if h : (k : ℕ) < 8 then W m c l ⟨2048 + k, by omega⟩ else 0 := by
  rw [v12]
  pointwise
  rw [dif_neg (show ¬ 6656 + (k : ℕ) < 2048 by omega), dif_neg (show ¬ 6656 + (k : ℕ) - 2048 < 2560 by omega),
    dif_neg (show ¬ 6656 + (k : ℕ) - 2048 - 2560 < 2048 by omega), dif_pos (show 6656 + (k : ℕ) - 2048 - 2560 - 2048 < 128 by omega)]
  by_cases h : (k : ℕ) < 8
  · refine (dif_pos (show 6656 + (k : ℕ) - 2048 - 2560 - 2048 < 8 by omega)).trans (Eq.trans ?_ (dif_pos h).symm)
    blk_ext
  · exact (dif_neg (show ¬ 6656 + (k : ℕ) - 2048 - 2560 - 2048 < 8 by omega)).trans ((Step.sitofp_zero _).trans (dif_neg (e := fun _ => (0 : EReal)) h).symm)

theorem b2_3 (c : Dev nD) (t : Fin cfg0.N) (l : Fin 1024) (k : Fin 128) : iblk m c 2 t (ix2 l ⟨6656 + k, by omega⟩) = if h : (k : ℕ) < 8 then W m c l ⟨2048 + k, by omega⟩ else (0 : EReal) := by
  rw [← v12_3, b2_eq]

theorem v12_4 (c : Dev nD) (l : Fin 1024) (k : Fin 128) :
    (V m c main_v12 : FVec Ideal S1024x6912 .bf16) (ix2 l ⟨6784 + k, by omega⟩) = if h : (k : ℕ) < 16 then W m c l ⟨4616 + k, by omega⟩ else 0 := by
  rw [v12]
  pointwise
  rw [dif_neg (show ¬ 6784 + (k : ℕ) < 2048 by omega), dif_neg (show ¬ 6784 + (k : ℕ) - 2048 < 2560 by omega),
    dif_neg (show ¬ 6784 + (k : ℕ) - 2048 - 2560 < 2048 by omega), dif_neg (show ¬ 6784 + (k : ℕ) - 2048 - 2560 - 2048 < 128 by omega)]
  by_cases h : (k : ℕ) < 16
  · refine (dif_pos (show 6784 + (k : ℕ) - 2048 - 2560 - 2048 - 128 < 16 by omega)).trans (Eq.trans ?_ (dif_pos h).symm)
    blk_ext
  · exact (dif_neg (show ¬ 6784 + (k : ℕ) - 2048 - 2560 - 2048 - 128 < 16 by omega)).trans ((Step.sitofp_zero _).trans (dif_neg (e := fun _ => (0 : EReal)) h).symm)

theorem b2_4 (c : Dev nD) (t : Fin cfg0.N) (l : Fin 1024) (k : Fin 128) : iblk m c 2 t (ix2 l ⟨6784 + k, by omega⟩) = if h : (k : ℕ) < 16 then W m c l ⟨4616 + k, by omega⟩ else (0 : EReal) := by
  rw [← v12_4, b2_eq]

/-! The blocks a point leaves. -/

theorem point3 (c : Dev nD) (t : Fin cfg0.N) (r : Fin 512) (k : Fin 2048) : (dats m 0 c).after 3 t (ix2 r k) = g0 m c (row t r) k := by
  rw [after0_3]
  unfold_out out0_3
  frame_out
  pointwise [k0_pay6, k0_pay3, k0_pay4, dot_S512x1024_S1024x2048_S512x2048_1_0_0_1_n_n]
  simp only [b0, b1, b2_0]
  rfl

theorem point4 (c : Dev nD) (t : Fin cfg0.N) (r : Fin 512) (k : Fin 2560) : (dats m 0 c).after 4 t (ix2 r k) = g1 m c (row t r) k := by
  rw [after0_4]
  unfold_out out0_4
  frame_out
  pointwise [k0_pay7, k0_pay3, k0_pay4, dot_S512x1024_S1024x2560_S512x2560_1_0_0_1_n_n]
  simp only [b0, b1, b2_1]
  rfl

theorem point5 (c : Dev nD) (t : Fin cfg0.N) (r : Fin 512) (k : Fin 2048) : (dats m 0 c).after 5 t (ix2 r k) = g2 m c (row t r) k := by
  rw [after0_5]
  unfold_out out0_5
  frame_out
  pointwise [k0_pay8, k0_pay3, k0_pay4, dot_S512x1024_S1024x2048_S512x2048_1_0_0_1_n_n]
  simp only [b0, b1, b2_2]
  rfl

theorem point6 (c : Dev nD) (t : Fin cfg0.N) (r : Fin 512) (k : Fin 128) : (dats m 0 c).after 6 t (ix2 r k) = g3 m c (row t r) k := by
  rw [after0_6]
  unfold_out out0_6
  frame_out
  pointwise [k0_pay1, k0_pay3, k0_pay4, dot_S512x1024_S1024x128_S512x128_1_0_0_1_n_n]
  simp only [b0, b1, b2_3]
  unfold g3
  by_cases hk : (k : ℕ) < 8
  · simp only [dif_pos hk]
    rfl
  · simp only [dif_neg hk, mul_zero, Finset.sum_const_zero]

theorem point7 (c : Dev nD) (t : Fin cfg0.N) (r : Fin 512) (k : Fin 128) : (dats m 0 c).after 7 t (ix2 r k) = g4 m c (row t r) k := by
  rw [after0_7]
  unfold_out out0_7
  frame_out
  pointwise [k0_pay2, k0_pay3, k0_pay4, dot_S512x1024_S1024x128_S512x128_1_0_0_1_n_n]
  simp only [b0, b1, b2_4]
  unfold g4
  by_cases hk : (k : ℕ) < 16
  · simp only [dif_pos hk]
    rfl
  · simp only [dif_neg hk, mul_zero, Finset.sum_const_zero]

theorem point8 (c : Dev nD) (t : Fin cfg0.N) (l : Fin 1024) (r : Fin 512) : (dats m 0 c).after 8 t (ix2 l r) = h m c (row t r) l := by
  rw [after0_8]
  unfold_out out0_8
  frame_out
  pointwise [k0_pay5, k0_pay3]
  simp only [b0, b1]
  rfl

/-! The arrays when the call is done. -/

theorem final3 (c : Dev nD) : (dats m 0 c).arrAt 3 (cfgs 0).N = (fun i : S8192x2048.Idx => g0 m c (i 0) (i 1)) := by
  refine (dats m 0 c).arrAt_eq_of_covers 3 _ (by decide +kernel) fun t hf y => ?_
  blk_simp
  obtain ⟨r, k, rfl⟩ : ∃ (r : Fin 512) (k : Fin 2048), y = ix2 r k := ⟨y 0, y 1, by funext a; fin_cases a <;> rfl⟩
  rw [point3]
  have e0 : (((cfg0.win 3).blk t).view.emb (ix2 r k)) 0 = row t r := by
    apply Fin.ext
    blk_simp [idx t]
  have e1 : (((cfg0.win 3).blk t).view.emb (ix2 r k)) 1 = k := by
    apply Fin.ext
    blk_simp [idx t]
  rw [e0, e1]

theorem final4 (c : Dev nD) : (dats m 0 c).arrAt 4 (cfgs 0).N = (fun i : S8192x2560.Idx => g1 m c (i 0) (i 1)) := by
  refine (dats m 0 c).arrAt_eq_of_covers 4 _ (by decide +kernel) fun t hf y => ?_
  blk_simp
  obtain ⟨r, k, rfl⟩ : ∃ (r : Fin 512) (k : Fin 2560), y = ix2 r k := ⟨y 0, y 1, by funext a; fin_cases a <;> rfl⟩
  rw [point4]
  have e0 : (((cfg0.win 4).blk t).view.emb (ix2 r k)) 0 = row t r := by
    apply Fin.ext
    blk_simp [idx t]
  have e1 : (((cfg0.win 4).blk t).view.emb (ix2 r k)) 1 = k := by
    apply Fin.ext
    blk_simp [idx t]
  rw [e0, e1]

theorem final5 (c : Dev nD) : (dats m 0 c).arrAt 5 (cfgs 0).N = (fun i : S8192x2048.Idx => g2 m c (i 0) (i 1)) := by
  refine (dats m 0 c).arrAt_eq_of_covers 5 _ (by decide +kernel) fun t hf y => ?_
  blk_simp
  obtain ⟨r, k, rfl⟩ : ∃ (r : Fin 512) (k : Fin 2048), y = ix2 r k := ⟨y 0, y 1, by funext a; fin_cases a <;> rfl⟩
  rw [point5]
  have e0 : (((cfg0.win 5).blk t).view.emb (ix2 r k)) 0 = row t r := by
    apply Fin.ext
    blk_simp [idx t]
  have e1 : (((cfg0.win 5).blk t).view.emb (ix2 r k)) 1 = k := by
    apply Fin.ext
    blk_simp [idx t]
  rw [e0, e1]

theorem final6 (c : Dev nD) : (dats m 0 c).arrAt 6 (cfgs 0).N = (fun i : S8192x128.Idx => g3 m c (i 0) (i 1)) := by
  refine (dats m 0 c).arrAt_eq_of_covers 6 _ (by decide +kernel) fun t hf y => ?_
  blk_simp
  obtain ⟨r, k, rfl⟩ : ∃ (r : Fin 512) (k : Fin 128), y = ix2 r k := ⟨y 0, y 1, by funext a; fin_cases a <;> rfl⟩
  rw [point6]
  have e0 : (((cfg0.win 6).blk t).view.emb (ix2 r k)) 0 = row t r := by
    apply Fin.ext
    blk_simp [idx t]
  have e1 : (((cfg0.win 6).blk t).view.emb (ix2 r k)) 1 = k := by
    apply Fin.ext
    blk_simp [idx t]
  rw [e0, e1]

theorem final7 (c : Dev nD) : (dats m 0 c).arrAt 7 (cfgs 0).N = (fun i : S8192x128.Idx => g4 m c (i 0) (i 1)) := by
  refine (dats m 0 c).arrAt_eq_of_covers 7 _ (by decide +kernel) fun t hf y => ?_
  blk_simp
  obtain ⟨r, k, rfl⟩ : ∃ (r : Fin 512) (k : Fin 128), y = ix2 r k := ⟨y 0, y 1, by funext a; fin_cases a <;> rfl⟩
  rw [point7]
  have e0 : (((cfg0.win 7).blk t).view.emb (ix2 r k)) 0 = row t r := by
    apply Fin.ext
    blk_simp [idx t]
  have e1 : (((cfg0.win 7).blk t).view.emb (ix2 r k)) 1 = k := by
    apply Fin.ext
    blk_simp [idx t]
  rw [e0, e1]

theorem final8 (c : Dev nD) : (dats m 0 c).arrAt 8 (cfgs 0).N = (fun i : S1024x8192.Idx => h m c (i 1) (i 0)) := by
  refine (dats m 0 c).arrAt_eq_of_covers 8 _ (by decide +kernel) fun t hf y => ?_
  blk_simp
  obtain ⟨l, r, rfl⟩ : ∃ (l : Fin 1024) (r : Fin 512), y = ix2 l r := ⟨y 0, y 1, by funext a; fin_cases a <;> rfl⟩
  rw [point8]
  have e0 : (((cfg0.win 8).blk t).view.emb (ix2 l r)) 0 = l := by
    apply Fin.ext
    blk_simp [idx t]
  have e1 : (((cfg0.win 8).blk t).view.emb (ix2 l r)) 1 = row t r := by
    apply Fin.ext
    blk_simp [idx t]
  rw [e0, e1]

end Cert.IpKernelIdeal.Ip

end
-- ==== Proof.Ip.Reference.lean ====
module

public import proofs.«01_k».proof.Proof.Gen.IpReferenceIdeal.Run
public import proofs.«01_k».proof.Proof.Rms
public import Idealize.ShloMosaic.Lib.Pointwise
public import Idealize.ShloMosaic.Lib.Pipeline.ValueKit

/-! The six results of the reference of `inproj`, entry by entry, in its arguments. -/

@[expose] public section

set_option maxRecDepth 16384

noncomputable section

open Idealize.ShloMosaic Idealize.ShloMosaic.TcCoe Idealize.SL.Sem
open Idealize.ShloMosaic.Pipeline (Dat)
open scoped BigOperators

namespace Cert.IpReferenceIdeal.Ip

open Cert.IpReferenceIdeal Cert.IpReferenceIdeal.Gen
open Step (ms sitofp_zero)

variable (m : (ℓ : Loc nD τ sig) → Buf (Elt Ideal) ℓ) (ρ : Dev nD → PrngReg)

abbrev X (c : Dev nD) (r : Fin 8192) (l : Fin 1024) : EReal := (m ((c : Thread nD τ).loc main_arg0) : FVec Ideal S8192x1024 .f32) (ix2 r l)
abbrev PN (c : Dev nD) (l : Fin 1024) : EReal := (m ((c : Thread nD τ).loc main_arg1) : FVec Ideal S1024 .f32) (ix1 l)
abbrev W (c : Dev nD) (l : Fin 1024) (k : Fin 6680) : EReal := (m ((c : Thread nD τ).loc main_arg2) : FVec Ideal S1024x6680 .f32) (ix2 l k)

/-- the normed rows. -/
def h (c : Dev nD) (r : Fin 8192) (l : Fin 1024) : EReal := X m c r l * Ideal.rsqrt (ms (X m c r)) * PN m c l

/-- one column of the projection. -/
def proj (c : Dev nD) (r : Fin 8192) (k : Fin 6680) : EReal := ∑ l, h m c r l * W m c l k

/-! The five groups of columns, the last two with zeros behind. -/

def g0 (c : Dev nD) (r : Fin 8192) (k : Fin 2048) : EReal := proj m c r ⟨k, by omega⟩
def g1 (c : Dev nD) (r : Fin 8192) (k : Fin 2560) : EReal := proj m c r ⟨2056 + k, by omega⟩
def g2 (c : Dev nD) (r : Fin 8192) (k : Fin 2048) : EReal := proj m c r ⟨4632 + k, by omega⟩
def g3 (c : Dev nD) (r : Fin 8192) (k : Fin 128) : EReal := if hk : (k : ℕ) < 8 then proj m c r ⟨2048 + k, by omega⟩ else 0
def g4 (c : Dev nD) (r : Fin 8192) (k : Fin 128) : EReal := if hk : (k : ℕ) < 16 then proj m c r ⟨4616 + k, by omega⟩ else 0

theorem run : θ_run (defs (F := Ideal)) (onTc (τ := τ) (main (F := Ideal))) ⟨m, fun _ => 0, ρ⟩ fun r => ∀ c : Dev nD,
    r.2.mem ((c.tc : Thread nD τ).loc main_v14) = (fun i : S8192x2048.Idx => g0 m c (i 0) (i 1))
    ∧ r.2.mem ((c.tc : Thread nD τ).loc main_v15) = (fun i : S8192x2560.Idx => g1 m c (i 0) (i 1))
    ∧ r.2.mem ((c.tc : Thread nD τ).loc main_v16) = (fun i : S8192x2048.Idx => g2 m c (i 0) (i 1))
    ∧ r.2.mem ((c.tc : Thread nD τ).loc main_v18) = (fun i : S8192x128.Idx => g3 m c (i 0) (i 1))
    ∧ r.2.mem ((c.tc : Thread nD τ).loc main_v20) = (fun i : S8192x128.Idx => g4 m c (i 0) (i 1))
    ∧ r.2.mem ((c.tc : Thread nD τ).loc main_v22) = (fun i : S1024x8192.Idx => h m c (i 1) (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run _ _ _).mono (fun r hr c => ?_) (Value.run m ρ)
  obtain ⟨h0, h1, h2, h3, h4, h5, hargs⟩ := hr c
  refine ⟨h0.trans ?_, h1.trans ?_, h2.trans ?_, h3.trans ?_, h4.trans ?_, h5.trans ?_, hargs⟩
  · funext i
    obtain ⟨r, k, rfl⟩ : ∃ (r : Fin 8192) (k : Fin 2048), i = ix2 r k := ⟨i 0, i 1, by funext a; fin_cases a <;> rfl⟩
    pointwise
    rfl
  · funext i
    obtain ⟨r, k, rfl⟩ : ∃ (r : Fin 8192) (k : Fin 2560), i = ix2 r k := ⟨i 0, i 1, by funext a; fin_cases a <;> rfl⟩
    pointwise
    rfl
  · funext i
    obtain ⟨r, k, rfl⟩ : ∃ (r : Fin 8192) (k : Fin 2048), i = ix2 r k := ⟨i 0, i 1, by funext a; fin_cases a <;> rfl⟩
    pointwise
    rfl
  · funext i
    obtain ⟨r, k, rfl⟩ : ∃ (r : Fin 8192) (k : Fin 128), i = ix2 r k := ⟨i 0, i 1, by funext a; fin_cases a <;> rfl⟩
    pointwise
    by_cases hk : (k : ℕ) < 8
    · refine (dif_pos hk).trans (Eq.trans ?_ (dif_pos hk).symm)
      rfl
    · exact (dif_neg hk).trans ((sitofp_zero _).trans (dif_neg (e := fun _ => (0 : EReal)) hk).symm)
  · funext i
    obtain ⟨r, k, rfl⟩ : ∃ (r : Fin 8192) (k : Fin 128), i = ix2 r k := ⟨i 0, i 1, by funext a; fin_cases a <;> rfl⟩
    pointwise
    by_cases hk : (k : ℕ) < 16
    · refine (dif_pos hk).trans (Eq.trans ?_ (dif_pos hk).symm)
      rfl
    · exact (dif_neg hk).trans ((sitofp_zero _).trans (dif_neg (e := fun _ => (0 : EReal)) hk).symm)
  · funext i
    obtain ⟨l, r, rfl⟩ : ∃ (l : Fin 1024) (r : Fin 8192), i = ix2 l r := ⟨i 0, i 1, by funext a; fin_cases a <;> rfl⟩
    pointwise
    rfl

end Cert.IpReferenceIdeal.Ip

end
-- ==== Proof.Ip.Equal.lean ====
module

public import proofs.«01_k».proof.Defs
public import proofs.«01_k».proof.Proof.Ip.Kernel
public import proofs.«01_k».proof.Proof.Ip.Reference

/-! The kernel of `inproj` and its reference leave the same six arrays. -/

@[expose] public section

set_option maxRecDepth 16384

noncomputable section

open Idealize.ShloMosaic Idealize.ShloMosaic.TcCoe Idealize.SL.Sem
open scoped BigOperators

namespace Ip

open Cert.IpKernelIdeal Cert.IpKernelIdeal.Gen

variable (m : (ℓ : Loc nD τ sig) → Buf (Elt Ideal) ℓ)

/-- on the same arguments the reference's normed rows and projection are the kernel's. -/
theorem same (m' : (ℓ : Loc Cert.IpReferenceIdeal.nD Cert.IpReferenceIdeal.τ Cert.IpReferenceIdeal.sig) → Buf (Elt Ideal) ℓ) (c : Dev nD)
    (e0 : m' ((c.tc : Thread Cert.IpReferenceIdeal.nD Cert.IpReferenceIdeal.τ).loc Cert.IpReferenceIdeal.main_arg0) = m ((c.tc : Thread nD τ).loc main_arg0))
    (e1 : m' ((c.tc : Thread Cert.IpReferenceIdeal.nD Cert.IpReferenceIdeal.τ).loc Cert.IpReferenceIdeal.main_arg1) = m ((c.tc : Thread nD τ).loc main_arg1))
    (e2 : m' ((c.tc : Thread Cert.IpReferenceIdeal.nD Cert.IpReferenceIdeal.τ).loc Cert.IpReferenceIdeal.main_arg2) = m ((c.tc : Thread nD τ).loc main_arg2)) :
    Cert.IpReferenceIdeal.Ip.h m' c = Ip.h m c ∧ Cert.IpReferenceIdeal.Ip.proj m' c = Ip.proj m c := by
  have hX : Cert.IpReferenceIdeal.Ip.X m' c = Ip.X m c := funext fun r => funext fun l => congrFun e0 (ix2 r l)
  have hP : Cert.IpReferenceIdeal.Ip.PN m' c = Ip.PN m c := funext fun l => congrFun e1 (ix1 l)
  have hW : Cert.IpReferenceIdeal.Ip.W m' c = Ip.W m c := funext fun l => funext fun k => congrFun e2 (ix2 l k)
  have hH : Cert.IpReferenceIdeal.Ip.h m' c = Ip.h m c := funext fun r => funext fun l => by
    unfold Cert.IpReferenceIdeal.Ip.h Ip.h
    rw [hX, hP, Step.rs_eq]
  refine ⟨hH, funext fun r => funext fun k => ?_⟩
  unfold Cert.IpReferenceIdeal.Ip.proj Ip.proj
  rw [hH, hW]

theorem algebraic [Cert.IpKernelIdeal.Facts] [Cert.IpReferenceIdeal.Facts] : Cert.algebraic_IpKernelIdeal_IpReferenceIdeal := by
  intro m g m' g' _ hm
  refine ⟨_, _, _, _, _, _, Cert.IpKernelIdeal.Value.run_blocks m g, ?_⟩
  refine (θ_run _ _ _).mono (fun r hr c => ?_) (Cert.IpReferenceIdeal.Ip.run m' g')
  obtain ⟨h0, h1, h2, h3, h4, h5, hargs⟩ := hr c
  obtain ⟨a0, a1, a2⟩ := hm c
  obtain ⟨eH, eP⟩ := same m m' c a0 a1 a2
  refine ⟨h0.trans (Eq.trans ?_ (Ip.final3 m c).symm), h1.trans (Eq.trans ?_ (Ip.final4 m c).symm), h2.trans (Eq.trans ?_ (Ip.final5 m c).symm),
    h3.trans (Eq.trans ?_ (Ip.final6 m c).symm), h4.trans (Eq.trans ?_ (Ip.final7 m c).symm), h5.trans (Eq.trans ?_ (Ip.final8 m c).symm), hargs⟩
  · unfold Cert.IpReferenceIdeal.Ip.g0 Ip.g0
    rw [eP]
  · unfold Cert.IpReferenceIdeal.Ip.g1 Ip.g1
    rw [eP]
  · unfold Cert.IpReferenceIdeal.Ip.g2 Ip.g2
    rw [eP]
  · unfold Cert.IpReferenceIdeal.Ip.g3 Ip.g3
    rw [eP]
  · unfold Cert.IpReferenceIdeal.Ip.g4 Ip.g4
    rw [eP]
  · rw [eH]

/-- the reference leaves its arguments as they were. -/
theorem reference_frame [Cert.IpReferenceIdeal.Facts] : Cert.quiescent_IpReferenceIdeal := fun m g _ =>
  (θ_run Cert.IpReferenceIdeal.defs _ _).mono (fun r h => ⟨fun c => (h c).2.2.2.2.2.2, sem_eq_zero_of_no_sems (by decide) r.2⟩) (Cert.IpReferenceIdeal.Ip.run m g)

end Ip

end
-- ==== Proof.Op.Kernel.lean ====
module

public import proofs.«01_k».proof.Proof.Gen.OpKernelIdeal.Frame
public import proofs.«01_k».proof.Proof.Gen.OpKernelIdeal.Value
public import proofs.«01_k».proof.Proof.Ob.Columns
public import proofs.«01_k».proof.Proof.Rms
public import proofs.«01_k».proof.Proof.Pad8
public import proofs.«01_k».proof.Proof.Dx.Kernel
public import Idealize.ShloMosaic.Lib.Pointwise
public import Idealize.ShloMosaic.Lib.Claim
public import Idealize.ShloMosaic.Lib.StableHlo.RunRead
public import Idealize.ShloMosaic.Lib.Pipeline.ValueKit

/-! What the call `outproj` reads and leaves, entry by entry, in the arguments of the program. -/

@[expose] public section

set_option maxRecDepth 16384

noncomputable section

open Idealize.ShloMosaic Idealize.ShloMosaic.TcCoe Idealize.SL.Sem
open Idealize.ShloMosaic.Pipeline (Dat)
open scoped BigOperators

namespace Cert.OpKernelIdeal.Op

open Cert.OpKernelIdeal Cert.OpKernelIdeal.Gen
open Step (rs mix colA colB colO)

variable (m : (ℓ : Loc nD τ sig) → Buf (Elt Ideal) ℓ)

/-- every window's block index, in the point's number. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0] :=
  (by decide +kernel : ∀ t : Fin grid0.N, _)

theorem tlt (t : Fin cfg0.N) : t.val < 8 := lt_of_lt_of_eq t.isLt N_0

/-- the row of the whole array that row `r` of point `t`'s block is. -/
abbrev row (t : Fin cfg0.N) (r : Fin 1024) : Fin 8192 := ⟨t.val * 1024 + r, by have := tlt t; omega⟩

/-! The program's arguments, entry by entry. -/

abbrev X (c : Dev nD) (r : Fin 8192) (l : Fin 1024) : EReal := (m ((c : Thread nD τ).loc main_arg0) : FVec Ideal S8192x1024 .f32) (ix2 r l)
abbrev A (c : Dev nD) (r : Fin 8192) (k : Fin 512) : EReal := (m ((c : Thread nD τ).loc main_arg1) : FVec Ideal S8192x512 .f32) (ix2 r k)
abbrev B (c : Dev nD) (r : Fin 8192) (k : Fin 1024) : EReal := (m ((c : Thread nD τ).loc main_arg2) : FVec Ideal S8192x1024 .f32) (ix2 r k)
abbrev O (c : Dev nD) (r : Fin 8192) (k : Fin 512) : EReal := (m ((c : Thread nD τ).loc main_arg3) : FVec Ideal S8192x512 .f32) (ix2 r k)
abbrev W (c : Dev nD) (k : Fin 2048) (l : Fin 1024) : EReal := (m ((c : Thread nD τ).loc main_arg4) : FVec Ideal S2048x1024 .f32) (ix2 k l)
abbrev PN (c : Dev nD) (l : Fin 1024) : EReal := (m ((c : Thread nD τ).loc main_arg5) : FVec Ideal S1024 .f32) (ix1 l)

/-- the mixers' results side by side. -/
def mixed (c : Dev nD) (r : Fin 8192) : Fin 2048 → EReal := mix (A m c r) (B m c r) (O m c r)

/-- the rows that the norm takes. -/
def out (c : Dev nD) (r : Fin 8192) (l : Fin 1024) : EReal := ∑ k, mixed m c r k * W m c k l

/-- the layer's result. -/
def y (c : Dev nD) (r : Fin 8192) (l : Fin 1024) : EReal := X m c r l + out m c r l * rs (out m c r) * PN m c l

/-! What the host lines leave in the call's operands. -/

theorem v0 (c : Dev nD) : V m c main_v0 = truncf (F := Ideal) .bf16 (m ((c : Thread nD τ).loc main_arg1)) bitsLt_bf16_f32 := by
  show StableHlo.after _ _ _ = _
  after_reads_simp

theorem v1 (c : Dev nD) : V m c main_v1 = truncf (F := Ideal) .bf16 (m ((c : Thread nD τ).loc main_arg2)) bitsLt_bf16_f32 := by
  show StableHlo.after _ _ _ = _
  after_reads_simp

theorem v2 (c : Dev nD) : V m c main_v2 = truncf (F := Ideal) .bf16 (m ((c : Thread nD τ).loc main_arg3)) bitsLt_bf16_f32 := by
  show StableHlo.after _ _ _ = _
  after_reads_simp

theorem v3 (c : Dev nD) : V m c main_v3 = truncf (F := Ideal) .bf16 (m ((c : Thread nD τ).loc main_arg4)) bitsLt_bf16_f32 := by
  show StableHlo.after _ _ _ = _
  after_reads_simp

theorem v7 (c : Dev nD) : V m c main_v7 = Host.scatter scatter_S8x1024_S1_S1x1024_01_n_0_0 (fun _ b => b)
      (broadcastInDim S8x1024 ![] bcast_S_S8x1024 (constant (F := Ideal) S_ FTy.f32 0x00000000#32))
      (broadcastInDim S1 ![] bcast_S_S1 (constantI S_ 32 0#32)) (shapeCast S1x1024 (m ((c : Thread nD τ).loc main_arg5)) shapeCasts_S1024_S1x1024) := by
  show StableHlo.after _ _ _ = _
  after_reads_simp
  rfl

theorem arg0 (c : Dev nD) : V m c main_arg0 = m ((c : Thread nD τ).loc main_arg0) := by
  show StableHlo.after _ _ _ = _
  after_reads_simp

/-! The blocks a point reads. -/

theorem b0 (c : Dev nD) (t : Fin cfg0.N) (r : Fin 1024) (k : Fin 512) : iblk m c 0 t (ix2 r k) = A m c (row t r) k := by
  blk_simp [iblk, idx t]
  rw [v0]
  pointwise
  blk_ext [idx t]

theorem b1 (c : Dev nD) (t : Fin cfg0.N) (r : Fin 1024) (k : Fin 1024) : iblk m c 1 t (ix2 r k) = B m c (row t r) k := by
  blk_simp [iblk, idx t]
  rw [v1]
  pointwise
  blk_ext [idx t]

theorem b2 (c : Dev nD) (t : Fin cfg0.N) (r : Fin 1024) (k : Fin 512) : iblk m c 2 t (ix2 r k) = O m c (row t r) k := by
  blk_simp [iblk, idx t]
  rw [v2]
  pointwise
  blk_ext [idx t]

theorem b3 (c : Dev nD) (t : Fin cfg0.N) (k : Fin 2048) (l : Fin 1024) : iblk m c 3 t (ix2 k l) = W m c k l := by
  blk_simp [iblk, idx t]
  rw [v3]
  pointwise
  blk_ext [idx t]

theorem b4 (c : Dev nD) (t : Fin cfg0.N) (r : Fin 1024) (l : Fin 1024) : iblk m c 4 t (ix2 r l) = X m c (row t r) l := by
  blk_simp [iblk, idx t]
  rw [arg0]
  blk_ext [idx t]

theorem v7_at (c : Dev nD) (l : Fin 1024) : (V m c main_v7 : FVec Ideal S8x1024 .f32) (ix2 0 l) = PN m c l := by
  rw [v7]
  refine (Step.scatter_rows scatter_S8x1024_S1_S1x1024_01_n_0_0 rfl rfl rfl _ (fun _ => rfl) _ _ (0 : Fin 1) _ _ rfl).trans ?_
  pointwise

theorem b5 (c : Dev nD) (t : Fin cfg0.N) (l : Fin 1024) : iblk m c 5 t (ix2 0 l) = PN m c l := by
  rw [← v7_at m c l]
  blk_simp [iblk, idx t]
  blk_ext [idx t]

/-! What a point leaves. -/

theorem sum3 (c : Dev nD) (r : Fin 8192) (l : Fin 1024) :
    (∑ k, A m c r k * W m c (colA k) l) + (∑ k, B m c r k * W m c (colB k) l) + (∑ k, O m c r k * W m c (colO k) l) = out m c r l :=
  Step.sum_mix (A m c r) (B m c r) (O m c r) fun k => W m c k l

theorem point6 (c : Dev nD) (t : Fin cfg0.N) (r : Fin 1024) (l : Fin 1024) :
    (dats m 0 c).after 6 t (ix2 r l) = (out m c (row t r) l : EReal) := by
  rw [after0_6]
  unfold out0_6
  frame_out
  pointwise [k0_pay1, k0_pay2, dot_S1024x512_S512x1024_S1024x1024_1_0_0_1_n_n]
  simp only [b0, b1, b2, b3, b4, b5]
  exact Step.sum_mix (A m c (row t r)) (B m c (row t r)) (O m c (row t r)) fun k => W m c k l

/-- the first result: the rows that the norm takes. -/
theorem final6 (c : Dev nD) : (dats m 0 c).arrAt 6 (cfgs 0).N = (fun i : S8192x1024.Idx => out m c (i 0) (i 1)) := by
  refine (dats m 0 c).arrAt_eq_of_covers 6 _ (by decide +kernel) fun t hf y => ?_
  blk_simp
  obtain ⟨r, l, rfl⟩ : ∃ (r : Fin 1024) (l : Fin 1024), y = ix2 r l := ⟨y 0, y 1, by funext a; fin_cases a <;> rfl⟩
  rw [point6]
  have e0 : (((cfg0.win 6).blk t).view.emb (ix2 r l)) 0 = row t r := by
    apply Fin.ext
    blk_simp [idx t]
  have e1 : (((cfg0.win 6).blk t).view.emb (ix2 r l)) 1 = l := by
    apply Fin.ext
    blk_simp [idx t]
  rw [e0, e1]

theorem point7 (c : Dev nD) (t : Fin cfg0.N) (r : Fin 1024) (l : Fin 1024) :
    (dats m 0 c).after 7 t (ix2 r l) = (y m c (row t r) l : EReal) := by
  rw [after0_7]
  unfold out0_7
  frame_out
  pointwise [k0_pay1, k0_pay2, dot_S1024x512_S512x1024_S1024x1024_1_0_0_1_n_n]
  simp only [b0, b1, b2, b3, b4, b5]
  have hs := fun l => sum3 m c (row t r) l
  simp only [colA, colB, colO] at hs
  simp only [hs]
  rfl

/-- the second result: the layer's. -/
theorem final7 (c : Dev nD) : (dats m 0 c).arrAt 7 (cfgs 0).N = (fun i : S8192x1024.Idx => y m c (i 0) (i 1)) := by
  refine (dats m 0 c).arrAt_eq_of_covers 7 _ (by decide +kernel) fun t hf y => ?_
  blk_simp
  obtain ⟨r, l, rfl⟩ : ∃ (r : Fin 1024) (l : Fin 1024), y = ix2 r l := ⟨y 0, y 1, by funext a; fin_cases a <;> rfl⟩
  rw [point7]
  have e0 : (((cfg0.win 7).blk t).view.emb (ix2 r l)) 0 = row t r := by
    apply Fin.ext
    blk_simp [idx t]
  have e1 : (((cfg0.win 7).blk t).view.emb (ix2 r l)) 1 = l := by
    apply Fin.ext
    blk_simp [idx t]
  rw [e0, e1]

end Cert.OpKernelIdeal.Op

end
-- ==== Proof.Op.Reference.lean ====
module

public import proofs.«01_k».proof.Proof.Gen.OpReferenceIdeal.Run
public import proofs.«01_k».proof.Proof.Ob.Columns
public import proofs.«01_k».proof.Proof.Rms
public import Idealize.ShloMosaic.Lib.Pointwise
public import Idealize.ShloMosaic.Lib.Pipeline.ValueKit

/-! The two results of the reference of `outproj`, entry by entry, in its arguments. -/

@[expose] public section

set_option maxRecDepth 16384

noncomputable section

open Idealize.ShloMosaic Idealize.ShloMosaic.TcCoe Idealize.SL.Sem
open Idealize.ShloMosaic.Pipeline (Dat)
open scoped BigOperators

namespace Cert.OpReferenceIdeal.Op

open Cert.OpReferenceIdeal Cert.OpReferenceIdeal.Gen
open Step (ms mix)

variable (m : (ℓ : Loc nD τ sig) → Buf (Elt Ideal) ℓ) (ρ : Dev nD → PrngReg)

abbrev X (c : Dev nD) (r : Fin 8192) (l : Fin 1024) : EReal := (m ((c : Thread nD τ).loc main_arg0) : FVec Ideal S8192x1024 .f32) (ix2 r l)
abbrev A (c : Dev nD) (r : Fin 8192) (k : Fin 512) : EReal := (m ((c : Thread nD τ).loc main_arg1) : FVec Ideal S8192x512 .f32) (ix2 r k)
abbrev B (c : Dev nD) (r : Fin 8192) (k : Fin 1024) : EReal := (m ((c : Thread nD τ).loc main_arg2) : FVec Ideal S8192x1024 .f32) (ix2 r k)
abbrev O (c : Dev nD) (r : Fin 8192) (k : Fin 512) : EReal := (m ((c : Thread nD τ).loc main_arg3) : FVec Ideal S8192x512 .f32) (ix2 r k)
abbrev W (c : Dev nD) (k : Fin 2048) (l : Fin 1024) : EReal := (m ((c : Thread nD τ).loc main_arg4) : FVec Ideal S2048x1024 .f32) (ix2 k l)
abbrev PN (c : Dev nD) (l : Fin 1024) : EReal := (m ((c : Thread nD τ).loc main_arg5) : FVec Ideal S1024 .f32) (ix1 l)

/-- the mixers' results side by side. -/
def mixed (c : Dev nD) (r : Fin 8192) : Fin 2048 → EReal := mix (A m c r) (B m c r) (O m c r)

/-- the rows that the norm takes. -/
def out (c : Dev nD) (r : Fin 8192) (l : Fin 1024) : EReal := ∑ k, mixed m c r k * W m c k l

/-- the layer's result. -/
def y (c : Dev nD) (r : Fin 8192) (l : Fin 1024) : EReal := X m c r l + out m c r l * Ideal.rsqrt (ms (out m c r)) * PN m c l

theorem run : θ_run (defs (F := Ideal)) (onTc (τ := τ) (main (F := Ideal))) ⟨m, fun _ => 0, ρ⟩ fun r => ∀ c : Dev nD,
    r.2.mem ((c.tc : Thread nD τ).loc main_v1) = (fun i : S8192x1024.Idx => out m c (i 0) (i 1))
    ∧ r.2.mem ((c.tc : Thread nD τ).loc main_v15) = (fun i : S8192x1024.Idx => y m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run _ _ _).mono (fun r h c => ?_) (Value.run m ρ)
  obtain ⟨h0, h1, hargs⟩ := h c
  refine ⟨h0.trans ?_, h1.trans ?_, hargs⟩
  · funext i
    obtain ⟨r, l, rfl⟩ : ∃ (r : Fin 8192) (l : Fin 1024), i = ix2 r l := ⟨i 0, i 1, by funext a; fin_cases a <;> rfl⟩
    pointwise
    rfl
  · funext i
    obtain ⟨r, l, rfl⟩ : ∃ (r : Fin 8192) (l : Fin 1024), i = ix2 r l := ⟨i 0, i 1, by funext a; fin_cases a <;> rfl⟩
    pointwise
    rfl

end Cert.OpReferenceIdeal.Op

end
-- ==== Proof.Op.Equal.lean ====
module

public import proofs.«01_k».proof.Defs
public import proofs.«01_k».proof.Proof.Op.Kernel
public import proofs.«01_k».proof.Proof.Op.Reference

/-! The kernel of `outproj` and its reference leave the same two arrays. -/

@[expose] public section

set_option maxRecDepth 16384

noncomputable section

open Idealize.ShloMosaic Idealize.ShloMosaic.TcCoe Idealize.SL.Sem
open scoped BigOperators

namespace Op

open Cert.OpKernelIdeal Cert.OpKernelIdeal.Gen

variable (m : (ℓ : Loc nD τ sig) → Buf (Elt Ideal) ℓ)

/-- on the same arguments the reference's pieces are the kernel's. -/
theorem same (m' : (ℓ : Loc Cert.OpReferenceIdeal.nD Cert.OpReferenceIdeal.τ Cert.OpReferenceIdeal.sig) → Buf (Elt Ideal) ℓ) (c : Dev nD)
    (e0 : m' ((c.tc : Thread Cert.OpReferenceIdeal.nD Cert.OpReferenceIdeal.τ).loc Cert.OpReferenceIdeal.main_arg0) = m ((c.tc : Thread nD τ).loc main_arg0))
    (e1 : m' ((c.tc : Thread Cert.OpReferenceIdeal.nD Cert.OpReferenceIdeal.τ).loc Cert.OpReferenceIdeal.main_arg1) = m ((c.tc : Thread nD τ).loc main_arg1))
    (e2 : m' ((c.tc : Thread Cert.OpReferenceIdeal.nD Cert.OpReferenceIdeal.τ).loc Cert.OpReferenceIdeal.main_arg2) = m ((c.tc : Thread nD τ).loc main_arg2))
    (e3 : m' ((c.tc : Thread Cert.OpReferenceIdeal.nD Cert.OpReferenceIdeal.τ).loc Cert.OpReferenceIdeal.main_arg3) = m ((c.tc : Thread nD τ).loc main_arg3))
    (e4 : m' ((c.tc : Thread Cert.OpReferenceIdeal.nD Cert.OpReferenceIdeal.τ).loc Cert.OpReferenceIdeal.main_arg4) = m ((c.tc : Thread nD τ).loc main_arg4))
    (e5 : m' ((c.tc : Thread Cert.OpReferenceIdeal.nD Cert.OpReferenceIdeal.τ).loc Cert.OpReferenceIdeal.main_arg5) = m ((c.tc : Thread nD τ).loc main_arg5)) :
    Cert.OpReferenceIdeal.Op.out m' c = Op.out m c ∧ Cert.OpReferenceIdeal.Op.y m' c = Op.y m c := by
  have hX : Cert.OpReferenceIdeal.Op.X m' c = Op.X m c := funext fun r => funext fun l => congrFun e0 (ix2 r l)
  have hA : Cert.OpReferenceIdeal.Op.A m' c = Op.A m c := funext fun r => funext fun l => congrFun e1 (ix2 r l)
  have hB : Cert.OpReferenceIdeal.Op.B m' c = Op.B m c := funext fun r => funext fun l => congrFun e2 (ix2 r l)
  have hO : Cert.OpReferenceIdeal.Op.O m' c = Op.O m c := funext fun r => funext fun l => congrFun e3 (ix2 r l)
  have hW : Cert.OpReferenceIdeal.Op.W m' c = Op.W m c := funext fun r => funext fun l => congrFun e4 (ix2 r l)
  have hP : Cert.OpReferenceIdeal.Op.PN m' c = Op.PN m c := funext fun l => congrFun e5 (ix1 l)
  have hM : Cert.OpReferenceIdeal.Op.mixed m' c = Op.mixed m c := funext fun r => by
    unfold Cert.OpReferenceIdeal.Op.mixed Op.mixed
    rw [hA, hB, hO]
  have hU : Cert.OpReferenceIdeal.Op.out m' c = Op.out m c := funext fun r => funext fun l => by
    unfold Cert.OpReferenceIdeal.Op.out Op.out
    rw [hM, hW]
  refine ⟨hU, funext fun r => funext fun l => ?_⟩
  unfold Cert.OpReferenceIdeal.Op.y Op.y
  rw [hX, hU, hP, Step.rs_eq]

theorem algebraic [Cert.OpKernelIdeal.Facts] [Cert.OpReferenceIdeal.Facts] : Cert.algebraic_OpKernelIdeal_OpReferenceIdeal := by
  intro m g m' g' _ hm
  refine ⟨_, _, Cert.OpKernelIdeal.Value.run_blocks m g, ?_⟩
  refine (θ_run _ _ _).mono (fun r h c => ?_) (Cert.OpReferenceIdeal.Op.run m' g')
  obtain ⟨h0, h1, hargs⟩ := h c
  obtain ⟨a0, a1, a2, a3, a4, a5⟩ := hm c
  obtain ⟨eU, eY⟩ := same m m' c a0 a1 a2 a3 a4 a5
  refine ⟨h0.trans ?_, h1.trans ?_, hargs⟩
  · rw [eU]
    exact (Op.final6 m c).symm
  · rw [eY]
    exact (Op.final7 m c).symm

/-- the reference leaves its arguments as they were. -/
theorem reference_frame [Cert.OpReferenceIdeal.Facts] : Cert.quiescent_OpReferenceIdeal := fun m g _ =>
  (θ_run Cert.OpReferenceIdeal.defs _ _).mono (fun r h => ⟨fun c => (h c).2.2, sem_eq_zero_of_no_sems (by decide) r.2⟩) (Cert.OpReferenceIdeal.Op.run m g)

end Op

end
-- ==== Proof.lean ====
module

public import proofs.«01_k».proof.Defs
public import proofs.«01_k».proof.Proof.Gen.DxKernel.Frame
public import proofs.«01_k».proof.Proof.Gen.DxKernelIdeal.Frame
public import proofs.«01_k».proof.Proof.Gen.DxKernelIdeal.Value
public import proofs.«01_k».proof.Proof.Gen.DxReferenceIdeal.Run
public import proofs.«01_k».proof.Proof.Gen.Pre_dx_finite
public import proofs.«01_k».proof.Proof.Dx.Equal
public import proofs.«01_k».proof.Proof.Gen.ObKernel.Frame
public import proofs.«01_k».proof.Proof.Gen.ObKernelIdeal.Frame
public import proofs.«01_k».proof.Proof.Gen.ObReferenceIdeal.Run
public import proofs.«01_k».proof.Proof.Gen.Pre_ob_finite
public import proofs.«01_k».proof.Proof.Ob.Equal
public import proofs.«01_k».proof.Proof.Gen.RfKernel.Frame
public import proofs.«01_k».proof.Proof.Gen.RfKernelIdeal.Frame
public import proofs.«01_k».proof.Proof.Gen.RfKernelIdeal.Value
public import proofs.«01_k».proof.Proof.Gen.RfReferenceIdeal.Run
public import proofs.«01_k».proof.Proof.Gen.RfReferenceIdeal.Step
public import proofs.«01_k».proof.Proof.Rf.Equal
public import proofs.«01_k».proof.Proof.Gen.SfKernel.Frame
public import proofs.«01_k».proof.Proof.Gen.SfKernelIdeal.Frame
public import proofs.«01_k».proof.Proof.Gen.SfKernelIdeal.Value
public import proofs.«01_k».proof.Proof.Gen.SfReferenceIdeal.Run
public import proofs.«01_k».proof.Proof.Gen.SfReferenceIdeal.Step
public import proofs.«01_k».proof.Proof.Sf.Equal
public import proofs.«01_k».proof.Proof.Gen.OlKernel.Frame
public import proofs.«01_k».proof.Proof.Gen.OlKernelIdeal.Frame
public import proofs.«01_k».proof.Proof.Gen.OlKernelIdeal.Value
public import proofs.«01_k».proof.Proof.Gen.OlReferenceIdeal.Run
public import proofs.«01_k».proof.Proof.Ol.Equal
public import proofs.«01_k».proof.Proof.Gen.IpKernel.Frame
public import proofs.«01_k».proof.Proof.Gen.IpKernelIdeal.Frame
public import proofs.«01_k».proof.Proof.Gen.IpKernelIdeal.Value
public import proofs.«01_k».proof.Proof.Gen.IpReferenceIdeal.Run
public import proofs.«01_k».proof.Proof.Ip.Equal
public import proofs.«01_k».proof.Proof.Gen.OpKernel.Frame
public import proofs.«01_k».proof.Proof.Gen.OpKernelIdeal.Frame
public import proofs.«01_k».proof.Proof.Gen.OpKernelIdeal.Value
public import proofs.«01_k».proof.Proof.Gen.OpReferenceIdeal.Run
public import proofs.«01_k».proof.Proof.Op.Equal
public import proofs.«01_k».proof.Proof.Gen.RetKernel.Frame
public import proofs.«01_k».proof.Proof.Gen.RetKernelIdeal.Frame
public import proofs.«01_k».proof.Proof.Gen.SbKernel.Frame
public import proofs.«01_k».proof.Proof.Gen.SbKernelIdeal.Frame
public import proofs.«01_k».proof.Proof.Gen.GbKernel.Frame
public import proofs.«01_k».proof.Proof.Gen.GbKernelIdeal.Frame
public import proofs.«01_k».proof.Proof.Gen.GfKernel.Frame
public import proofs.«01_k».proof.Proof.Gen.GfKernelIdeal.Frame

/-! The claims of the statement, put together from the modules that prove them. -/

@[expose] public section

open Idealize.ShloMosaic Idealize.SL.Sem

namespace Cert.Proof

/-- the reference of `inproj_bwd_dx` leaves its arguments as they were. -/
theorem dx_reference_frame [Cert.DxReferenceIdeal.Facts] : Cert.quiescent_DxReferenceIdeal := fun m g _ =>
  (θ_run Cert.DxReferenceIdeal.defs _ _).mono (fun r h => ⟨fun c => (h c).2.2, sem_eq_zero_of_no_sems (by decide) r.2⟩) (Cert.DxReferenceIdeal.Dx.run m g)

/-- the reference of `outproj_bwd` leaves its arguments as they were. -/
theorem ob_reference_frame [Cert.ObReferenceIdeal.Facts] : Cert.quiescent_ObReferenceIdeal := fun m g _ =>
  (θ_run Cert.ObReferenceIdeal.defs _ _).mono (fun r h => ⟨fun c => (h c).2.2.2.2.2.2, sem_eq_zero_of_no_sems (by decide) r.2⟩) (Cert.ObReferenceIdeal.Ob.run m g)

theorem claim : Cert.Claim := ⟨Cert.DxKernel.Gen.facts, Cert.DxKernelIdeal.Gen.facts, Cert.DxReferenceIdeal.Gen.facts,
  Cert.ObKernel.Gen.facts, Cert.ObKernelIdeal.Gen.facts, Cert.ObReferenceIdeal.Gen.facts,
  Cert.RfKernel.Gen.facts, Cert.RfKernelIdeal.Gen.facts, Cert.RfReferenceIdeal.Gen.facts,
  Cert.SfKernel.Gen.facts, Cert.SfKernelIdeal.Gen.facts, Cert.SfReferenceIdeal.Gen.facts,
  Cert.OlKernel.Gen.facts, Cert.OlKernelIdeal.Gen.facts, Cert.OlReferenceIdeal.Gen.facts,
  Cert.IpKernel.Gen.facts, Cert.IpKernelIdeal.Gen.facts, Cert.IpReferenceIdeal.Gen.facts,
  Cert.OpKernel.Gen.facts, Cert.OpKernelIdeal.Gen.facts, Cert.OpReferenceIdeal.Gen.facts,
  Cert.RetKernel.Gen.facts, Cert.RetKernelIdeal.Gen.facts, Cert.SbKernel.Gen.facts, Cert.SbKernelIdeal.Gen.facts,
  Cert.GbKernel.Gen.facts, Cert.GbKernelIdeal.Gen.facts, Cert.GfKernel.Gen.facts, Cert.GfKernelIdeal.Gen.facts, Cert.Pre_dx_finite.Gen.facts, Cert.Pre_ob_finite.Gen.facts,
  fun m ρ _ => Cert.DxKernel.Gen.frame m ρ, fun m ρ _ => Cert.DxKernelIdeal.Gen.frame m ρ, fun m ρ _ => Cert.DxKernelIdeal.Gen.frame m ρ,
  dx_reference_frame, fun m ρ _ => dx_reference_frame m ρ trivial,
  fun m ρ _ => Cert.ObKernel.Gen.frame m ρ, fun m ρ _ => Cert.ObKernelIdeal.Gen.frame m ρ, fun m ρ _ => Cert.ObKernelIdeal.Gen.frame m ρ,
  ob_reference_frame, fun m ρ _ => ob_reference_frame m ρ trivial,
  fun m ρ _ => Cert.RfKernel.Gen.frame m ρ, fun m ρ _ => Cert.RfKernelIdeal.Gen.frame m ρ, Rf.reference_frame,
  fun m ρ _ => Cert.SfKernel.Gen.frame m ρ, fun m ρ _ => Cert.SfKernelIdeal.Gen.frame m ρ, Sf.reference_frame,
  fun m ρ _ => Cert.OlKernel.Gen.frame m ρ, fun m ρ _ => Cert.OlKernelIdeal.Gen.frame m ρ, Ol.reference_frame,
  fun m ρ _ => Cert.IpKernel.Gen.frame m ρ, fun m ρ _ => Cert.IpKernelIdeal.Gen.frame m ρ, Ip.reference_frame,
  fun m ρ _ => Cert.OpKernel.Gen.frame m ρ, fun m ρ _ => Cert.OpKernelIdeal.Gen.frame m ρ, Op.reference_frame,
  fun m ρ _ => Cert.RetKernel.Gen.frame m ρ, fun m ρ _ => Cert.RetKernelIdeal.Gen.frame m ρ,
  fun m ρ _ => Cert.SbKernel.Gen.frame m ρ, fun m ρ _ => Cert.SbKernelIdeal.Gen.frame m ρ,
  fun m ρ _ => Cert.GbKernel.Gen.frame m ρ, fun m ρ _ => Cert.GbKernelIdeal.Gen.frame m ρ,
  fun m ρ _ => Cert.GfKernel.Gen.frame m ρ, fun m ρ _ => Cert.GfKernelIdeal.Gen.frame m ρ,
  trivial, Dx.algebraic, trivial, Ob.algebraic, Rf.preserves, Rf.algebraic, Sf.preserves, Sf.algebraic,
  trivial, Ol.algebraic, trivial, Ip.algebraic, trivial, Op.algebraic, trivial, trivial, trivial, trivial⟩

end Cert.Proof

end
